-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))).1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))).2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))).2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))).2.2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))).2.2.2.2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))).1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))).2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))).2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))).2.2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))).2.2.2.2 = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite5 [hPre_finite5 : Cert.Pre_finite5.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8))).1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8))).2.1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8))).2.2.1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8))).2.2.2.1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8))).2.2.2.2.1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8))).2.2.2.2.2.1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8))).2.2.2.2.2.2.1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8))).2.2.2.2.2.2.2.1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8))).2.2.2.2.2.2.2.2 = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite5 [hPre_finite5 : Cert.Pre_finite5.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8))).1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8))).2.1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8))).2.2.1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8))).2.2.2.1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8))).2.2.2.2.1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8))).2.2.2.2.2.1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8))).2.2.2.2.2.2.1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8))).2.2.2.2.2.2.2.1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8))).2.2.2.2.2.2.2.2 = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Kernel8Ideal_finite8 [hPre_finite8 : Cert.Pre_finite8.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_finite8.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6))).1 = (fun _ => 1#1)
    ∧ (Cert.Pre_finite8.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6))).2.1 = (fun _ => 1#1)
    ∧ (Cert.Pre_finite8.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6))).2.2.1 = (fun _ => 1#1)
    ∧ (Cert.Pre_finite8.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6))).2.2.2.1 = (fun _ => 1#1)
    ∧ (Cert.Pre_finite8.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6))).2.2.2.2.1 = (fun _ => 1#1)
    ∧ (Cert.Pre_finite8.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6))).2.2.2.2.2.1 = (fun _ => 1#1)
    ∧ (Cert.Pre_finite8.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6))).2.2.2.2.2.2 = (fun _ => 1#1)

def Pre_Reference8Ideal (m : (ℓ : Loc Cert.Reference8Ideal.nD Cert.Reference8Ideal.τ Cert.Reference8Ideal.sig) → Buf (Elt Ideal) ℓ) : Prop :=
  True

def Pre_Reference8Ideal_finite8 [hPre_finite8 : Cert.Pre_finite8.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_finite8.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5)) (m ((c.tc : Thread Cert.Reference8Ideal.nD Cert.Reference8Ideal.τ).loc Cert.Reference8Ideal.main_arg6))).1 = (fun _ => 1#1)
    ∧ (Cert.Pre_finite8.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5)) (m ((c.tc : Thread Cert.Reference8Ideal.nD Cert.Reference8Ideal.τ).loc Cert.Reference8Ideal.main_arg6))).2.1 = (fun _ => 1#1)
    ∧ (Cert.Pre_finite8.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5)) (m ((c.tc : Thread Cert.Reference8Ideal.nD Cert.Reference8Ideal.τ).loc Cert.Reference8Ideal.main_arg6))).2.2.1 = (fun _ => 1#1)
    ∧ (Cert.Pre_finite8.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5)) (m ((c.tc : Thread Cert.Reference8Ideal.nD Cert.Reference8Ideal.τ).loc Cert.Reference8Ideal.main_arg6))).2.2.2.1 = (fun _ => 1#1)
    ∧ (Cert.Pre_finite8.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5)) (m ((c.tc : Thread Cert.Reference8Ideal.nD Cert.Reference8Ideal.τ).loc Cert.Reference8Ideal.main_arg6))).2.2.2.2.1 = (fun _ => 1#1)
    ∧ (Cert.Pre_finite8.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5)) (m ((c.tc : Thread Cert.Reference8Ideal.nD Cert.Reference8Ideal.τ).loc Cert.Reference8Ideal.main_arg6))).2.2.2.2.2.1 = (fun _ => 1#1)
    ∧ (Cert.Pre_finite8.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5)) (m ((c.tc : Thread Cert.Reference8Ideal.nD Cert.Reference8Ideal.τ).loc Cert.Reference8Ideal.main_arg6))).2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ r.2.sem = fun _ => 0)

def quiescent_Kernel5Ideal_pre_finite5 [hKernel5Ideal : Cert.Kernel5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite5 m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8))
      ∧ r.2.sem = fun _ => 0)

def quiescent_Reference5Ideal_pre_finite5 [hReference5Ideal : Cert.Reference5Ideal.Facts] [hPre_finite5 : Cert.Pre_finite5.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite5 m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7)
      ∧ r.2.mem ((c.tc : Thread Cert.Kernel7.nD Cert.Kernel7.τ).loc Cert.Kernel7.main_arg8) = m ((c.tc : Thread Cert.Kernel7.nD Cert.Kernel7.τ).loc Cert.Kernel7.main_arg8))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6))
      ∧ r.2.sem = fun _ => 0)

def quiescent_Kernel8Ideal_pre_finite8 [hKernel8Ideal : Cert.Kernel8Ideal.Facts] [hPre_finite8 : Cert.Pre_finite8.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal_finite8 m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6))
      ∧ r.2.sem = fun _ => 0)

def quiescent_Reference8Ideal_pre_finite8 [hReference8Ideal : Cert.Reference8Ideal.Facts] [hPre_finite8 : Cert.Pre_finite8.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal_finite8 m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v30_0)) (v1 : (c : Dev Cert.KernelIdeal.nD) → Buf (Elt Ideal) ((c.tc : Thread Cert.KernelIdeal.nD Cert.KernelIdeal.τ).loc Cert.KernelIdeal.main_v30_1)) (v2 : (c : Dev Cert.KernelIdeal.nD) → Buf (Elt Ideal) ((c.tc : Thread Cert.KernelIdeal.nD Cert.KernelIdeal.τ).loc Cert.KernelIdeal.main_v30_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30_0) = v0 c
          ∧ r.2.mem ((c.tc : Thread Cert.KernelIdeal.nD Cert.KernelIdeal.τ).loc Cert.KernelIdeal.main_v30_1) = v1 c
          ∧ r.2.mem ((c.tc : Thread Cert.KernelIdeal.nD Cert.KernelIdeal.τ).loc Cert.KernelIdeal.main_v30_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_v38) = v1 c
          ∧ r.2.mem ((c.tc : Thread Cert.ReferenceIdeal.nD Cert.ReferenceIdeal.τ).loc Cert.ReferenceIdeal.main_v67) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)) →
    ∃ (v0 : (c : Dev Cert.Kernel4Ideal.nD) → Buf (Elt Ideal) ((c.tc : Thread Cert.Kernel4Ideal.nD Cert.Kernel4Ideal.τ).loc Cert.Kernel4Ideal.main_v28)) (v1 : (c : Dev Cert.Kernel4Ideal.nD) → Buf (Elt Ideal) ((c.tc : Thread Cert.Kernel4Ideal.nD Cert.Kernel4Ideal.τ).loc Cert.Kernel4Ideal.main_v30)) (v2 : (c : Dev Cert.Kernel4Ideal.nD) → Buf (Elt Ideal) ((c.tc : Thread Cert.Kernel4Ideal.nD Cert.Kernel4Ideal.τ).loc Cert.Kernel4Ideal.main_v21)) (v3 : (c : Dev Cert.Kernel4Ideal.nD) → Buf (Elt Ideal) ((c.tc : Thread Cert.Kernel4Ideal.nD Cert.Kernel4Ideal.τ).loc Cert.Kernel4Ideal.main_v20)) (v4 : (c : Dev Cert.Kernel4Ideal.nD) → Buf (Elt Ideal) ((c.tc : Thread Cert.Kernel4Ideal.nD Cert.Kernel4Ideal.τ).loc Cert.Kernel4Ideal.main_v32)) (v5 : (c : Dev Cert.Kernel4Ideal.nD) → Buf (Elt Ideal) ((c.tc : Thread Cert.Kernel4Ideal.nD Cert.Kernel4Ideal.τ).loc Cert.Kernel4Ideal.main_v18)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v28) = v0 c
          ∧ r.2.mem ((c.tc : Thread Cert.Kernel4Ideal.nD Cert.Kernel4Ideal.τ).loc Cert.Kernel4Ideal.main_v30) = v1 c
          ∧ r.2.mem ((c.tc : Thread Cert.Kernel4Ideal.nD Cert.Kernel4Ideal.τ).loc Cert.Kernel4Ideal.main_v21) = v2 c
          ∧ r.2.mem ((c.tc : Thread Cert.Kernel4Ideal.nD Cert.Kernel4Ideal.τ).loc Cert.Kernel4Ideal.main_v20) = v3 c
          ∧ r.2.mem ((c.tc : Thread Cert.Kernel4Ideal.nD Cert.Kernel4Ideal.τ).loc Cert.Kernel4Ideal.main_v32) = v4 c
          ∧ r.2.mem ((c.tc : Thread Cert.Kernel4Ideal.nD Cert.Kernel4Ideal.τ).loc Cert.Kernel4Ideal.main_v18) = v5 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v3) = v0 c
          ∧ r.2.mem ((c.tc : Thread Cert.Reference4Ideal.nD Cert.Reference4Ideal.τ).loc Cert.Reference4Ideal.main_v6) = v1 c
          ∧ r.2.mem ((c.tc : Thread Cert.Reference4Ideal.nD Cert.Reference4Ideal.τ).loc Cert.Reference4Ideal.main_v9) = v2 c
          ∧ r.2.mem ((c.tc : Thread Cert.Reference4Ideal.nD Cert.Reference4Ideal.τ).loc Cert.Reference4Ideal.main_v12) = v3 c
          ∧ r.2.mem ((c.tc : Thread Cert.Reference4Ideal.nD Cert.Reference4Ideal.τ).loc Cert.Reference4Ideal.main_v15) = v4 c
          ∧ r.2.mem ((c.tc : Thread Cert.Reference4Ideal.nD Cert.Reference4Ideal.τ).loc Cert.Reference4Ideal.main_v18) = v5 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v5_0)) (v1 : (c : Dev Cert.Kernel2Ideal.nD) → Buf (Elt Ideal) ((c.tc : Thread Cert.Kernel2Ideal.nD Cert.Kernel2Ideal.τ).loc Cert.Kernel2Ideal.main_v5_1)) (v2 : (c : Dev Cert.Kernel2Ideal.nD) → Buf (Elt Ideal) ((c.tc : Thread Cert.Kernel2Ideal.nD Cert.Kernel2Ideal.τ).loc Cert.Kernel2Ideal.main_v5_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5_0) = v0 c
          ∧ r.2.mem ((c.tc : Thread Cert.Kernel2Ideal.nD Cert.Kernel2Ideal.τ).loc Cert.Kernel2Ideal.main_v5_1) = v1 c
          ∧ r.2.mem ((c.tc : Thread Cert.Kernel2Ideal.nD Cert.Kernel2Ideal.τ).loc Cert.Kernel2Ideal.main_v5_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v36) = v0 c
          ∧ r.2.mem ((c.tc : Thread Cert.Reference2Ideal.nD Cert.Reference2Ideal.τ).loc Cert.Reference2Ideal.main_v37) = v1 c
          ∧ r.2.mem ((c.tc : Thread Cert.Reference2Ideal.nD Cert.Reference2Ideal.τ).loc Cert.Reference2Ideal.main_v19) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v16_0)) (v1 : (c : Dev Cert.Kernel3Ideal.nD) → Buf (Elt Ideal) ((c.tc : Thread Cert.Kernel3Ideal.nD Cert.Kernel3Ideal.τ).loc Cert.Kernel3Ideal.main_v16_1)) (v2 : (c : Dev Cert.Kernel3Ideal.nD) → Buf (Elt Ideal) ((c.tc : Thread Cert.Kernel3Ideal.nD Cert.Kernel3Ideal.τ).loc Cert.Kernel3Ideal.main_v16_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v16_0) = v0 c
          ∧ r.2.mem ((c.tc : Thread Cert.Kernel3Ideal.nD Cert.Kernel3Ideal.τ).loc Cert.Kernel3Ideal.main_v16_1) = v1 c
          ∧ r.2.mem ((c.tc : Thread Cert.Kernel3Ideal.nD Cert.Kernel3Ideal.τ).loc Cert.Kernel3Ideal.main_v16_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v36) = v0 c
          ∧ r.2.mem ((c.tc : Thread Cert.Reference3Ideal.nD Cert.Reference3Ideal.τ).loc Cert.Reference3Ideal.main_v37) = v1 c
          ∧ r.2.mem ((c.tc : Thread Cert.Reference3Ideal.nD Cert.Reference3Ideal.τ).loc Cert.Reference3Ideal.main_v19) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel5_Kernel5Ideal : Prop :=
  True

def algebraic_Kernel5Ideal_Reference5Ideal_pre_finite5 [hKernel5Ideal : Cert.Kernel5Ideal.Facts] [hReference5Ideal : Cert.Reference5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite5 m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)) →
    ∃ (v0 : (c : Dev Cert.Kernel5Ideal.nD) → Buf (Elt Ideal) ((c.tc : Thread Cert.Kernel5Ideal.nD Cert.Kernel5Ideal.τ).loc Cert.Kernel5Ideal.main_v38)) (v1 : (c : Dev Cert.Kernel5Ideal.nD) → Buf (Elt Ideal) ((c.tc : Thread Cert.Kernel5Ideal.nD Cert.Kernel5Ideal.τ).loc Cert.Kernel5Ideal.main_v37_1)) (v2 : (c : Dev Cert.Kernel5Ideal.nD) → Buf (Elt Ideal) ((c.tc : Thread Cert.Kernel5Ideal.nD Cert.Kernel5Ideal.τ).loc Cert.Kernel5Ideal.main_v37_2)) (v3 : (c : Dev Cert.Kernel5Ideal.nD) → Buf (Elt Ideal) ((c.tc : Thread Cert.Kernel5Ideal.nD Cert.Kernel5Ideal.τ).loc Cert.Kernel5Ideal.main_v37_3)) (v4 : (c : Dev Cert.Kernel5Ideal.nD) → Buf (Elt Ideal) ((c.tc : Thread Cert.Kernel5Ideal.nD Cert.Kernel5Ideal.τ).loc Cert.Kernel5Ideal.main_v37_4)) (v5 : (c : Dev Cert.Kernel5Ideal.nD) → Buf (Elt Ideal) ((c.tc : Thread Cert.Kernel5Ideal.nD Cert.Kernel5Ideal.τ).loc Cert.Kernel5Ideal.main_v37_5)) (v6 : (c : Dev Cert.Kernel5Ideal.nD) → Buf (Elt Ideal) ((c.tc : Thread Cert.Kernel5Ideal.nD Cert.Kernel5Ideal.τ).loc Cert.Kernel5Ideal.main_v37_6)) (v7 : (c : Dev Cert.Kernel5Ideal.nD) → Buf (Elt Ideal) ((c.tc : Thread Cert.Kernel5Ideal.nD Cert.Kernel5Ideal.τ).loc Cert.Kernel5Ideal.main_v37_7)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v38) = v0 c
          ∧ r.2.mem ((c.tc : Thread Cert.Kernel5Ideal.nD Cert.Kernel5Ideal.τ).loc Cert.Kernel5Ideal.main_v37_1) = v1 c
          ∧ r.2.mem ((c.tc : Thread Cert.Kernel5Ideal.nD Cert.Kernel5Ideal.τ).loc Cert.Kernel5Ideal.main_v37_2) = v2 c
          ∧ r.2.mem ((c.tc : Thread Cert.Kernel5Ideal.nD Cert.Kernel5Ideal.τ).loc Cert.Kernel5Ideal.main_v37_3) = v3 c
          ∧ r.2.mem ((c.tc : Thread Cert.Kernel5Ideal.nD Cert.Kernel5Ideal.τ).loc Cert.Kernel5Ideal.main_v37_4) = v4 c
          ∧ r.2.mem ((c.tc : Thread Cert.Kernel5Ideal.nD Cert.Kernel5Ideal.τ).loc Cert.Kernel5Ideal.main_v37_5) = v5 c
          ∧ r.2.mem ((c.tc : Thread Cert.Kernel5Ideal.nD Cert.Kernel5Ideal.τ).loc Cert.Kernel5Ideal.main_v37_6) = v6 c
          ∧ r.2.mem ((c.tc : Thread Cert.Kernel5Ideal.nD Cert.Kernel5Ideal.τ).loc Cert.Kernel5Ideal.main_v37_7) = v7 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v86) = v0 c
          ∧ r.2.mem ((c.tc : Thread Cert.Reference5Ideal.nD Cert.Reference5Ideal.τ).loc Cert.Reference5Ideal.main_v87) = v1 c
          ∧ r.2.mem ((c.tc : Thread Cert.Reference5Ideal.nD Cert.Reference5Ideal.τ).loc Cert.Reference5Ideal.main_v88) = v2 c
          ∧ r.2.mem ((c.tc : Thread Cert.Reference5Ideal.nD Cert.Reference5Ideal.τ).loc Cert.Reference5Ideal.main_v89) = v3 c
          ∧ r.2.mem ((c.tc : Thread Cert.Reference5Ideal.nD Cert.Reference5Ideal.τ).loc Cert.Reference5Ideal.main_v90) = v4 c
          ∧ r.2.mem ((c.tc : Thread Cert.Reference5Ideal.nD Cert.Reference5Ideal.τ).loc Cert.Reference5Ideal.main_v91) = v5 c
          ∧ r.2.mem ((c.tc : Thread Cert.Reference5Ideal.nD Cert.Reference5Ideal.τ).loc Cert.Reference5Ideal.main_v57) = v6 c
          ∧ r.2.mem ((c.tc : Thread Cert.Reference5Ideal.nD Cert.Reference5Ideal.τ).loc Cert.Reference5Ideal.main_v70) = v7 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v5)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v5) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v1) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)
      ∧ m' ((c.tc : Thread Cert.Reference7Ideal.nD Cert.Reference7Ideal.τ).loc Cert.Reference7Ideal.main_arg8) = m ((c.tc : Thread Cert.Kernel7Ideal.nD Cert.Kernel7Ideal.τ).loc Cert.Kernel7Ideal.main_arg8)) →
    ∃ (v0 : (c : Dev Cert.Kernel7Ideal.nD) → Buf (Elt Ideal) ((c.tc : Thread Cert.Kernel7Ideal.nD Cert.Kernel7Ideal.τ).loc Cert.Kernel7Ideal.main_v15_0)) (v1 : (c : Dev Cert.Kernel7Ideal.nD) → Buf (Elt Ideal) ((c.tc : Thread Cert.Kernel7Ideal.nD Cert.Kernel7Ideal.τ).loc Cert.Kernel7Ideal.main_v15_1)) (v2 : (c : Dev Cert.Kernel7Ideal.nD) → Buf (Elt Ideal) ((c.tc : Thread Cert.Kernel7Ideal.nD Cert.Kernel7Ideal.τ).loc Cert.Kernel7Ideal.main_v15_2)) (v3 : (c : Dev Cert.Kernel7Ideal.nD) → Buf (Elt Ideal) ((c.tc : Thread Cert.Kernel7Ideal.nD Cert.Kernel7Ideal.τ).loc Cert.Kernel7Ideal.main_v15_3)) (v4 : (c : Dev Cert.Kernel7Ideal.nD) → Buf (Elt Ideal) ((c.tc : Thread Cert.Kernel7Ideal.nD Cert.Kernel7Ideal.τ).loc Cert.Kernel7Ideal.main_v15_4)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v15_0) = v0 c
          ∧ r.2.mem ((c.tc : Thread Cert.Kernel7Ideal.nD Cert.Kernel7Ideal.τ).loc Cert.Kernel7Ideal.main_v15_1) = v1 c
          ∧ r.2.mem ((c.tc : Thread Cert.Kernel7Ideal.nD Cert.Kernel7Ideal.τ).loc Cert.Kernel7Ideal.main_v15_2) = v2 c
          ∧ r.2.mem ((c.tc : Thread Cert.Kernel7Ideal.nD Cert.Kernel7Ideal.τ).loc Cert.Kernel7Ideal.main_v15_3) = v3 c
          ∧ r.2.mem ((c.tc : Thread Cert.Kernel7Ideal.nD Cert.Kernel7Ideal.τ).loc Cert.Kernel7Ideal.main_v15_4) = v4 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
          ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v20) = v0 c
          ∧ r.2.mem ((c.tc : Thread Cert.Reference7Ideal.nD Cert.Reference7Ideal.τ).loc Cert.Reference7Ideal.main_v21) = v1 c
          ∧ r.2.mem ((c.tc : Thread Cert.Reference7Ideal.nD Cert.Reference7Ideal.τ).loc Cert.Reference7Ideal.main_v22) = v2 c
          ∧ r.2.mem ((c.tc : Thread Cert.Reference7Ideal.nD Cert.Reference7Ideal.τ).loc Cert.Reference7Ideal.main_v23) = v3 c
          ∧ r.2.mem ((c.tc : Thread Cert.Reference7Ideal.nD Cert.Reference7Ideal.τ).loc Cert.Reference7Ideal.main_v36) = v4 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7)
          ∧ r.2.mem ((c.tc : Thread Cert.Reference7Ideal.nD Cert.Reference7Ideal.τ).loc Cert.Reference7Ideal.main_arg8) = m' ((c.tc : Thread Cert.Reference7Ideal.nD Cert.Reference7Ideal.τ).loc Cert.Reference7Ideal.main_arg8))

def preserves_Kernel8_Kernel8Ideal : Prop :=
  True

def algebraic_Kernel8Ideal_Reference8Ideal_pre_finite8 [hKernel8Ideal : Cert.Kernel8Ideal.Facts] [hReference8Ideal : Cert.Reference8Ideal.Facts] [hPre_finite8 : Cert.Pre_finite8.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal_finite8 m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)) →
    ∃ (v0 : (c : Dev Cert.Kernel8Ideal.nD) → Buf (Elt Ideal) ((c.tc : Thread Cert.Kernel8Ideal.nD Cert.Kernel8Ideal.τ).loc Cert.Kernel8Ideal.main_v2_0)) (v1 : (c : Dev Cert.Kernel8Ideal.nD) → Buf (Elt Ideal) ((c.tc : Thread Cert.Kernel8Ideal.nD Cert.Kernel8Ideal.τ).loc Cert.Kernel8Ideal.main_v2_1)) (v2 : (c : Dev Cert.Kernel8Ideal.nD) → Buf (Elt Ideal) ((c.tc : Thread Cert.Kernel8Ideal.nD Cert.Kernel8Ideal.τ).loc Cert.Kernel8Ideal.main_v2_2)) (v3 : (c : Dev Cert.Kernel8Ideal.nD) → Buf (Elt Ideal) ((c.tc : Thread Cert.Kernel8Ideal.nD Cert.Kernel8Ideal.τ).loc Cert.Kernel8Ideal.main_v2_3)) (v4 : (c : Dev Cert.Kernel8Ideal.nD) → Buf (Elt Ideal) ((c.tc : Thread Cert.Kernel8Ideal.nD Cert.Kernel8Ideal.τ).loc Cert.Kernel8Ideal.main_v2_4)) (v5 : (c : Dev Cert.Kernel8Ideal.nD) → Buf (Elt Ideal) ((c.tc : Thread Cert.Kernel8Ideal.nD Cert.Kernel8Ideal.τ).loc Cert.Kernel8Ideal.main_v2_5)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2_0) = v0 c
          ∧ r.2.mem ((c.tc : Thread Cert.Kernel8Ideal.nD Cert.Kernel8Ideal.τ).loc Cert.Kernel8Ideal.main_v2_1) = v1 c
          ∧ r.2.mem ((c.tc : Thread Cert.Kernel8Ideal.nD Cert.Kernel8Ideal.τ).loc Cert.Kernel8Ideal.main_v2_2) = v2 c
          ∧ r.2.mem ((c.tc : Thread Cert.Kernel8Ideal.nD Cert.Kernel8Ideal.τ).loc Cert.Kernel8Ideal.main_v2_3) = v3 c
          ∧ r.2.mem ((c.tc : Thread Cert.Kernel8Ideal.nD Cert.Kernel8Ideal.τ).loc Cert.Kernel8Ideal.main_v2_4) = v4 c
          ∧ r.2.mem ((c.tc : Thread Cert.Kernel8Ideal.nD Cert.Kernel8Ideal.τ).loc Cert.Kernel8Ideal.main_v2_5) = v5 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v81) = v0 c
          ∧ r.2.mem ((c.tc : Thread Cert.Reference8Ideal.nD Cert.Reference8Ideal.τ).loc Cert.Reference8Ideal.main_v82) = v1 c
          ∧ r.2.mem ((c.tc : Thread Cert.Reference8Ideal.nD Cert.Reference8Ideal.τ).loc Cert.Reference8Ideal.main_v80) = v2 c
          ∧ r.2.mem ((c.tc : Thread Cert.Reference8Ideal.nD Cert.Reference8Ideal.τ).loc Cert.Reference8Ideal.main_v83) = v3 c
          ∧ r.2.mem ((c.tc : Thread Cert.Reference8Ideal.nD Cert.Reference8Ideal.τ).loc Cert.Reference8Ideal.main_v84) = v4 c
          ∧ r.2.mem ((c.tc : Thread Cert.Reference8Ideal.nD Cert.Reference8Ideal.τ).loc Cert.Reference8Ideal.main_v64) = v5 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6))

def Claim : Prop :=
  ∃ (hKernel : Cert.Kernel.Facts) (hKernelIdeal : Cert.KernelIdeal.Facts) (hReferenceIdeal : Cert.ReferenceIdeal.Facts) (hKernel4 : Cert.Kernel4.Facts) (hKernel4Ideal : Cert.Kernel4Ideal.Facts) (hReference4Ideal : Cert.Reference4Ideal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hPre_finite : Cert.Pre_finite.Facts) (hPre_finite2 : Cert.Pre_finite2.Facts) (hPre_finite3 : Cert.Pre_finite3.Facts) (hPre_finite5 : Cert.Pre_finite5.Facts) (hPre_finite8 : Cert.Pre_finite8.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel5 (hKernel5 := hKernel5)
    ∧ quiescent_Kernel5Ideal (hKernel5Ideal := hKernel5Ideal)
    ∧ quiescent_Kernel5Ideal_pre_finite5 (hKernel5Ideal := hKernel5Ideal) (hPre_finite5 := hPre_finite5)
    ∧ quiescent_Reference5Ideal (hReference5Ideal := hReference5Ideal)
    ∧ quiescent_Reference5Ideal_pre_finite5 (hReference5Ideal := hReference5Ideal) (hPre_finite5 := hPre_finite5)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Kernel8Ideal_pre_finite8 (hKernel8Ideal := hKernel8Ideal) (hPre_finite8 := hPre_finite8)
    ∧ quiescent_Reference8Ideal (hReference8Ideal := hReference8Ideal)
    ∧ quiescent_Reference8Ideal_pre_finite8 (hReference8Ideal := hReference8Ideal) (hPre_finite8 := hPre_finite8)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel4_Kernel4Ideal
    ∧ algebraic_Kernel4Ideal_Reference4Ideal (hKernel4Ideal := hKernel4Ideal) (hReference4Ideal := hReference4Ideal)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel5_Kernel5Ideal
    ∧ algebraic_Kernel5Ideal_Reference5Ideal_pre_finite5 (hKernel5Ideal := hKernel5Ideal) (hReference5Ideal := hReference5Ideal) (hPre_finite5 := hPre_finite5)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal_pre_finite8 (hKernel8Ideal := hKernel8Ideal) (hReference8Ideal := hReference8Ideal) (hPre_finite8 := hPre_finite8)
-- ==== Pre_finite.lean ====
abbrev S2048x1024 : Shape := ⟨2, ![2048, 1024]⟩
abbrev S2048x5632 : Shape := ⟨2, ![2048, 5632]⟩
abbrev S3x5632 : Shape := ⟨2, ![3, 5632]⟩
abbrev S1x5632 : Shape := ⟨2, ![1, 5632]⟩
abbrev S2816x1024 : Shape := ⟨2, ![2816, 1024]⟩
abbrev S_ : Shape := ⟨0, ![]⟩

class Facts : Prop where
  bcast_S_S2048x1024 : S_.BroadcastsInDim S2048x1024 (![] : Fin 0 → Fin S2048x1024.rank)
  bcast_S_S2048x5632 : S_.BroadcastsInDim S2048x5632 (![] : Fin 0 → Fin S2048x5632.rank)
  bcast_S_S3x5632 : S_.BroadcastsInDim S3x5632 (![] : Fin 0 → Fin S3x5632.rank)
  bcast_S_S1x5632 : S_.BroadcastsInDim S1x5632 (![] : Fin 0 → Fin S1x5632.rank)
  bcast_S_S2816x1024 : S_.BroadcastsInDim S2816x1024 (![] : Fin 0 → Fin S2816x1024.rank)

variable [Facts]

def fn {F : FTy → Type} [FloatOps F] (main_arg0 : FVec F S2048x1024 .f32) (main_arg1 : FVec F S2048x5632 .f32) (main_arg2 : FVec F S3x5632 .f32) (main_arg3 : FVec F S1x5632 .f32) (main_arg4 : FVec F S2816x1024 .f32) : IVec S2048x1024 1 × IVec S2048x5632 1 × IVec S3x5632 1 × IVec S1x5632 1 × IVec S2816x1024 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_v3 : FVec F S2048x5632 .f32 := Host.absf main_arg1
  let main_cst_0 : FVec F S_ .f32 := constant S_ .f32 0x7F800000#32
  let main_v4 : FVec F S2048x5632 .f32 := broadcastInDim S2048x5632 ![] bcast_S_S2048x5632 main_cst_0
  let main_v5 : IVec S2048x5632 1 := cmpf .olt main_v3 main_v4
  let main_v6 : FVec F S3x5632 .f32 := Host.absf main_arg2
  let main_cst_1 : FVec F S_ .f32 := constant S_ .f32 0x7F800000#32
  let main_v7 : FVec F S3x5632 .f32 := broadcastInDim S3x5632 ![] bcast_S_S3x5632 main_cst_1
  let main_v8 : IVec S3x5632 1 := cmpf .olt main_v6 main_v7
  let main_v9 : FVec F S1x5632 .f32 := Host.absf main_arg3
  let main_cst_2 : FVec F S_ .f32 := constant S_ .f32 0x7F800000#32
  let main_v10 : FVec F S1x5632 .f32 := broadcastInDim S1x5632 ![] bcast_S_S1x5632 main_cst_2
  let main_v11 : IVec S1x5632 1 := cmpf .olt main_v9 main_v10
  let main_v12 : FVec F S2816x1024 .f32 := Host.absf main_arg4
  let main_cst_3 : FVec F S_ .f32 := constant S_ .f32 0x7F800000#32
  let main_v13 : FVec F S2816x1024 .f32 := broadcastInDim S2816x1024 ![] bcast_S_S2816x1024 main_cst_3
  let main_v14 : IVec S2816x1024 1 := cmpf .olt main_v12 main_v13
  (main_v2, main_v5, main_v8, main_v11, main_v14)
-- ==== Pre_finite2.lean ====
abbrev S2048x5632 : Shape := ⟨2, ![2048, 5632]⟩
abbrev S1024x5632 : Shape := ⟨2, ![1024, 5632]⟩
abbrev S2048x1024 : Shape := ⟨2, ![2048, 1024]⟩
abbrev S1x1024 : Shape := ⟨2, ![1, 1024]⟩
abbrev S_ : Shape := ⟨0, ![]⟩

class Facts : Prop where
  bcast_S_S2048x5632 : S_.BroadcastsInDim S2048x5632 (![] : Fin 0 → Fin S2048x5632.rank)
  bcast_S_S1024x5632 : S_.BroadcastsInDim S1024x5632 (![] : Fin 0 → Fin S1024x5632.rank)
  bcast_S_S2048x1024 : S_.BroadcastsInDim S2048x1024 (![] : Fin 0 → Fin S2048x1024.rank)
  bcast_S_S1x1024 : S_.BroadcastsInDim S1x1024 (![] : Fin 0 → Fin S1x1024.rank)

variable [Facts]

def fn {F : FTy → Type} [FloatOps F] (main_arg0 : FVec F S2048x5632 .f32) (main_arg1 : FVec F S1024x5632 .f32) (main_arg2 : FVec F S2048x1024 .f32) (main_arg3 : FVec F S1x1024 .f32) (main_arg4 : FVec F S2048x1024 .f32) : IVec S2048x5632 1 × IVec S1024x5632 1 × IVec S2048x1024 1 × IVec S1x1024 1 × IVec S2048x1024 1 :=
  let main_v0 : FVec F S2048x5632 .f32 := Host.absf main_arg0
  let main_cst : FVec F S_ .f32 := constant S_ .f32 0x7F800000#32
  let main_v1 : FVec F S2048x5632 .f32 := broadcastInDim S2048x5632 ![] bcast_S_S2048x5632 main_cst
  let main_v2 : IVec S2048x5632 1 := cmpf .olt main_v0 main_v1
  let main_v3 : FVec F S1024x5632 .f32 := Host.absf main_arg1
  let main_cst_0 : FVec F S_ .f32 := constant S_ .f32 0x7F800000#32
  let main_v4 : FVec F S1024x5632 .f32 := broadcastInDim S1024x5632 ![] bcast_S_S1024x5632 main_cst_0
  let main_v5 : IVec S1024x5632 1 := cmpf .olt main_v3 main_v4
  let main_v6 : FVec F S2048x1024 .f32 := Host.absf main_arg2
  let main_cst_1 : FVec F S_ .f32 := constant S_ .f32 0x7F800000#32
  let main_v7 : FVec F S2048x1024 .f32 := broadcastInDim S2048x1024 ![] bcast_S_S2048x1024 main_cst_1
  let main_v8 : IVec S2048x1024 1 := cmpf .olt main_v6 main_v7
  let main_v9 : FVec F S1x1024 .f32 := Host.absf main_arg3
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_v12 : FVec F S2048x1024 .f32 := Host.absf main_arg4
  let main_cst_3 : FVec F S_ .f32 := constant S_ .f32 0x7F800000#32
  let main_v13 : FVec F S2048x1024 .f32 := broadcastInDim S2048x1024 ![] bcast_S_S2048x1024 main_cst_3
  let main_v14 : IVec S2048x1024 1 := cmpf .olt main_v12 main_v13
  (main_v2, main_v5, main_v8, main_v11, main_v14)
-- ==== Pre_finite3.lean ====
abbrev S2048x5648 : Shape := ⟨2, ![2048, 5648]⟩
abbrev S1024x5648 : Shape := ⟨2, ![1024, 5648]⟩
abbrev S2048x1024 : Shape := ⟨2, ![2048, 1024]⟩
abbrev S1x1024 : Shape := ⟨2, ![1, 1024]⟩
abbrev S_ : Shape := ⟨0, ![]⟩

class Facts : Prop where
  bcast_S_S2048x5648 : S_.BroadcastsInDim S2048x5648 (![] : Fin 0 → Fin S2048x5648.rank)
  bcast_S_S1024x5648 : S_.BroadcastsInDim S1024x5648 (![] : Fin 0 → Fin S1024x5648.rank)
  bcast_S_S2048x1024 : S_.BroadcastsInDim S2048x1024 (![] : Fin 0 → Fin S2048x1024.rank)
  bcast_S_S1x1024 : S_.BroadcastsInDim S1x1024 (![] : Fin 0 → Fin S1x1024.rank)

variable [Facts]

def fn {F : FTy → Type} [FloatOps F] (main_arg0 : FVec F S2048x5648 .f32) (main_arg1 : FVec F S1024x5648 .f32) (main_arg2 : FVec F S2048x1024 .f32) (main_arg3 : FVec F S1x1024 .f32) (main_arg4 : FVec F S2048x1024 .f32) : IVec S2048x5648 1 × IVec S1024x5648 1 × IVec S2048x1024 1 × IVec S1x1024 1 × IVec S2048x1024 1 :=
  let main_v0 : FVec F S2048x5648 .f32 := Host.absf main_arg0
  let main_cst : FVec F S_ .f32 := constant S_ .f32 0x7F800000#32
  let main_v1 : FVec F S2048x5648 .f32 := broadcastInDim S2048x5648 ![] bcast_S_S2048x5648 main_cst
  let main_v2 : IVec S2048x5648 1 := cmpf .olt main_v0 main_v1
  let main_v3 : FVec F S1024x5648 .f32 := Host.absf main_arg1
  let main_cst_0 : FVec F S_ .f32 := constant S_ .f32 0x7F800000#32
  let main_v4 : FVec F S1024x5648 .f32 := broadcastInDim S1024x5648 ![] bcast_S_S1024x5648 main_cst_0
  let main_v5 : IVec S1024x5648 1 := cmpf .olt main_v3 main_v4
  let main_v6 : FVec F S2048x1024 .f32 := Host.absf main_arg2
  let main_cst_1 : FVec F S_ .f32 := constant S_ .f32 0x7F800000#32
  let main_v7 : FVec F S2048x1024 .f32 := broadcastInDim S2048x1024 ![] bcast_S_S2048x1024 main_cst_1
  let main_v8 : IVec S2048x1024 1 := cmpf .olt main_v6 main_v7
  let main_v9 : FVec F S1x1024 .f32 := Host.absf main_arg3
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_v12 : FVec F S2048x1024 .f32 := Host.absf main_arg4
  let main_cst_3 : FVec F S_ .f32 := constant S_ .f32 0x7F800000#32
  let main_v13 : FVec F S2048x1024 .f32 := broadcastInDim S2048x1024 ![] bcast_S_S2048x1024 main_cst_3
  let main_v14 : IVec S2048x1024 1 := cmpf .olt main_v12 main_v13
  (main_v2, main_v5, main_v8, main_v11, main_v14)
-- ==== Pre_finite5.lean ====
abbrev S2048x1024 : Shape := ⟨2, ![2048, 1024]⟩
abbrev S2048x5648 : Shape := ⟨2, ![2048, 5648]⟩
abbrev S2048x512 : Shape := ⟨2, ![2048, 512]⟩
abbrev S1x2048 : Shape := ⟨2, ![1, 2048]⟩
abbrev S1x256 : Shape := ⟨2, ![1, 256]⟩
abbrev S512x1024 : Shape := ⟨2, ![512, 1024]⟩
abbrev S1024x1024 : Shape := ⟨2, ![1024, 1024]⟩
abbrev S_ : Shape := ⟨0, ![]⟩

class Facts : Prop where
  bcast_S_S2048x1024 : S_.BroadcastsInDim S2048x1024 (![] : Fin 0 → Fin S2048x1024.rank)
  bcast_S_S2048x5648 : S_.BroadcastsInDim S2048x5648 (![] : Fin 0 → Fin S2048x5648.rank)
  bcast_S_S2048x512 : S_.BroadcastsInDim S2048x512 (![] : Fin 0 → Fin S2048x512.rank)
  bcast_S_S1x2048 : S_.BroadcastsInDim S1x2048 (![] : Fin 0 → Fin S1x2048.rank)
  bcast_S_S1x256 : S_.BroadcastsInDim S1x256 (![] : Fin 0 → Fin S1x256.rank)
  bcast_S_S512x1024 : S_.BroadcastsInDim S512x1024 (![] : Fin 0 → Fin S512x1024.rank)
  bcast_S_S1024x1024 : S_.BroadcastsInDim S1024x1024 (![] : Fin 0 → Fin S1024x1024.rank)

variable [Facts]

def fn_part1 {F : FTy → Type} [FloatOps F] (main_arg6 : FVec F S512x1024 .f32) (main_arg7 : FVec F S1024x1024 .f32) (main_arg8 : FVec F S1024x1024 .f32) (main_v2 : IVec S2048x1024 1) (main_v5 : IVec S2048x5648 1) (main_v8 : IVec S2048x512 1) (main_v11 : IVec S2048x1024 1) (main_v14 : IVec S1x2048 1) (main_v17 : IVec S1x256 1) : IVec S2048x1024 1 × IVec S2048x5648 1 × IVec S2048x512 1 × IVec S2048x1024 1 × IVec S1x2048 1 × IVec S1x256 1 × IVec S512x1024 1 × IVec S1024x1024 1 × IVec S1024x1024 1 :=
  let main_v18 : FVec F S512x1024 .f32 := Host.absf main_arg6
  let main_cst_5 : FVec F S_ .f32 := constant S_ .f32 0x7F800000#32
  let main_v19 : FVec F S512x1024 .f32 := broadcastInDim S512x1024 ![] bcast_S_S512x1024 main_cst_5
  let main_v20 : IVec S512x1024 1 := cmpf .olt main_v18 main_v19
  let main_v21 : FVec F S1024x1024 .f32 := Host.absf main_arg7
  let main_cst_6 : FVec F S_ .f32 := constant S_ .f32 0x7F800000#32
  let main_v22 : FVec F S1024x1024 .f32 := broadcastInDim S1024x1024 ![] bcast_S_S1024x1024 main_cst_6
  let main_v23 : IVec S1024x1024 1 := cmpf .olt main_v21 main_v22
  let main_v24 : FVec F S1024x1024 .f32 := Host.absf main_arg8
  let main_cst_7 : FVec F S_ .f32 := constant S_ .f32 0x7F800000#32
  let main_v25 : FVec F S1024x1024 .f32 := broadcastInDim S1024x1024 ![] bcast_S_S1024x1024 main_cst_7
  let main_v26 : IVec S1024x1024 1 := cmpf .olt main_v24 main_v25
  (main_v2, main_v5, main_v8, main_v11, main_v14, main_v17, main_v20, main_v23, main_v26)

def fn {F : FTy → Type} [FloatOps F] (main_arg0 : FVec F S2048x1024 .f32) (main_arg1 : FVec F S2048x5648 .f32) (main_arg2 : FVec F S2048x512 .f32) (main_arg3 : FVec F S2048x1024 .f32) (main_arg4 : FVec F S1x2048 .f32) (main_arg5 : FVec F S1x256 .f32) (main_arg6 : FVec F S512x1024 .f32) (main_arg7 : FVec F S1024x1024 .f32) (main_arg8 : FVec F S1024x1024 .f32) : IVec S2048x1024 1 × IVec S2048x5648 1 × IVec S2048x512 1 × IVec S2048x1024 1 × IVec S1x2048 1 × IVec S1x256 1 × IVec S512x1024 1 × IVec S1024x1024 1 × IVec S1024x1024 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_v3 : FVec F S2048x5648 .f32 := Host.absf main_arg1
  let main_cst_0 : FVec F S_ .f32 := constant S_ .f32 0x7F800000#32
  let main_v4 : FVec F S2048x5648 .f32 := broadcastInDim S2048x5648 ![] bcast_S_S2048x5648 main_cst_0
  let main_v5 : IVec S2048x5648 1 := cmpf .olt main_v3 main_v4
  let main_v6 : FVec F S2048x512 .f32 := Host.absf main_arg2
  let main_cst_1 : FVec F S_ .f32 := constant S_ .f32 0x7F800000#32
  let main_v7 : FVec F S2048x512 .f32 := broadcastInDim S2048x512 ![] bcast_S_S2048x512 main_cst_1
  let main_v8 : IVec S2048x512 1 := cmpf .olt main_v6 main_v7
  let main_v9 : FVec F S2048x1024 .f32 := Host.absf main_arg3
  let main_cst_2 : FVec F S_ .f32 := constant S_ .f32 0x7F800000#32
  let main_v10 : FVec F S2048x1024 .f32 := broadcastInDim S2048x1024 ![] bcast_S_S2048x1024 main_cst_2
  let main_v11 : IVec S2048x1024 1 := cmpf .olt main_v9 main_v10
  let main_v12 : FVec F S1x2048 .f32 := Host.absf main_arg4
  let main_cst_3 : FVec F S_ .f32 := constant S_ .f32 0x7F800000#32
  let main_v13 : FVec F S1x2048 .f32 := broadcastInDim S1x2048 ![] bcast_S_S1x2048 main_cst_3
  let main_v14 : IVec S1x2048 1 := cmpf .olt main_v12 main_v13
  let main_v15 : FVec F S1x256 .f32 := Host.absf main_arg5
  let main_cst_4 : FVec F S_ .f32 := constant S_ .f32 0x7F800000#32
  let main_v16 : FVec F S1x256 .f32 := broadcastInDim S1x256 ![] bcast_S_S1x256 main_cst_4
  let main_v17 : IVec S1x256 1 := cmpf .olt main_v15 main_v16
  fn_part1 (F := F) main_arg6 main_arg7 main_arg8 main_v2 main_v5 main_v8 main_v11 main_v14 main_v17
-- ==== Pre_finite8.lean ====
abbrev S2048x5632 : Shape := ⟨2, ![2048, 5632]⟩
abbrev S2048x1024 : Shape := ⟨2, ![2048, 1024]⟩
abbrev S3x5632 : Shape := ⟨2, ![3, 5632]⟩
abbrev S1x5632 : Shape := ⟨2, ![1, 5632]⟩
abbrev S2816x1024 : Shape := ⟨2, ![2816, 1024]⟩
abbrev S1x1024 : Shape := ⟨2, ![1, 1024]⟩
abbrev S_ : Shape := ⟨0, ![]⟩

class Facts : Prop where
  bcast_S_S2048x5632 : S_.BroadcastsInDim S2048x5632 (![] : Fin 0 → Fin S2048x5632.rank)
  bcast_S_S2048x1024 : S_.BroadcastsInDim S2048x1024 (![] : Fin 0 → Fin S2048x1024.rank)
  bcast_S_S3x5632 : S_.BroadcastsInDim S3x5632 (![] : Fin 0 → Fin S3x5632.rank)
  bcast_S_S1x5632 : S_.BroadcastsInDim S1x5632 (![] : Fin 0 → Fin S1x5632.rank)
  bcast_S_S2816x1024 : S_.BroadcastsInDim S2816x1024 (![] : Fin 0 → Fin S2816x1024.rank)
  bcast_S_S1x1024 : S_.BroadcastsInDim S1x1024 (![] : Fin 0 → Fin S1x1024.rank)

variable [Facts]

def fn_part1 {F : FTy → Type} [FloatOps F] (main_arg6 : FVec F S1x1024 .f32) (main_v2 : IVec S2048x5632 1) (main_v5 : IVec S2048x1024 1) (main_v8 : IVec S2048x1024 1) (main_v11 : IVec S3x5632 1) (main_v14 : IVec S1x5632 1) (main_v17 : IVec S2816x1024 1) : IVec S2048x5632 1 × IVec S2048x1024 1 × IVec S2048x1024 1 × IVec S3x5632 1 × IVec S1x5632 1 × IVec S2816x1024 1 × IVec S1x1024 1 :=
  let main_v18 : FVec F S1x1024 .f32 := Host.absf main_arg6
  let main_cst_5 : FVec F S_ .f32 := constant S_ .f32 0x7F800000#32
  let main_v19 : FVec F S1x1024 .f32 := broadcastInDim S1x1024 ![] bcast_S_S1x1024 main_cst_5
  let main_v20 : IVec S1x1024 1 := cmpf .olt main_v18 main_v19
  (main_v2, main_v5, main_v8, main_v11, main_v14, main_v17, main_v20)

def fn {F : FTy → Type} [FloatOps F] (main_arg0 : FVec F S2048x5632 .f32) (main_arg1 : FVec F S2048x1024 .f32) (main_arg2 : FVec F S2048x1024 .f32) (main_arg3 : FVec F S3x5632 .f32) (main_arg4 : FVec F S1x5632 .f32) (main_arg5 : FVec F S2816x1024 .f32) (main_arg6 : FVec F S1x1024 .f32) : IVec S2048x5632 1 × IVec S2048x1024 1 × IVec S2048x1024 1 × IVec S3x5632 1 × IVec S1x5632 1 × IVec S2816x1024 1 × IVec S1x1024 1 :=
  let main_v0 : FVec F S2048x5632 .f32 := Host.absf main_arg0
  let main_cst : FVec F S_ .f32 := constant S_ .f32 0x7F800000#32
  let main_v1 : FVec F S2048x5632 .f32 := broadcastInDim S2048x5632 ![] bcast_S_S2048x5632 main_cst
  let main_v2 : IVec S2048x5632 1 := cmpf .olt main_v0 main_v1
  let main_v3 : FVec F S2048x1024 .f32 := Host.absf main_arg1
  let main_cst_0 : FVec F S_ .f32 := constant S_ .f32 0x7F800000#32
  let main_v4 : FVec F S2048x1024 .f32 := broadcastInDim S2048x1024 ![] bcast_S_S2048x1024 main_cst_0
  let main_v5 : IVec S2048x1024 1 := cmpf .olt main_v3 main_v4
  let main_v6 : FVec F S2048x1024 .f32 := Host.absf main_arg2
  let main_cst_1 : FVec F S_ .f32 := constant S_ .f32 0x7F800000#32
  let main_v7 : FVec F S2048x1024 .f32 := broadcastInDim S2048x1024 ![] bcast_S_S2048x1024 main_cst_1
  let main_v8 : IVec S2048x1024 1 := cmpf .olt main_v6 main_v7
  let main_v9 : FVec F S3x5632 .f32 := Host.absf main_arg3
  let main_cst_2 : FVec F S_ .f32 := constant S_ .f32 0x7F800000#32
  let main_v10 : FVec F S3x5632 .f32 := broadcastInDim S3x5632 ![] bcast_S_S3x5632 main_cst_2
  let main_v11 : IVec S3x5632 1 := cmpf .olt main_v9 main_v10
  let main_v12 : FVec F S1x5632 .f32 := Host.absf main_arg4
  let main_cst_3 : FVec F S_ .f32 := constant S_ .f32 0x7F800000#32
  let main_v13 : FVec F S1x5632 .f32 := broadcastInDim S1x5632 ![] bcast_S_S1x5632 main_cst_3
  let main_v14 : IVec S1x5632 1 := cmpf .olt main_v12 main_v13
  let main_v15 : FVec F S2816x1024 .f32 := Host.absf main_arg5
  let main_cst_4 : FVec F S_ .f32 := constant S_ .f32 0x7F800000#32
  let main_v16 : FVec F S2816x1024 .f32 := broadcastInDim S2816x1024 ![] bcast_S_S2816x1024 main_cst_4
  let main_v17 : IVec S2816x1024 1 := cmpf .olt main_v15 main_v16
  fn_part1 (F := F) main_arg6 main_v2 main_v5 main_v8 main_v11 main_v14 main_v17
-- ==== Kernel.lean ====
abbrev S2048x1024 : Shape := ⟨2, ![2048, 1024]⟩
abbrev S2048x5632 : Shape := ⟨2, ![2048, 5632]⟩
abbrev S3x5632 : Shape := ⟨2, ![3, 5632]⟩
abbrev S1x5632 : Shape := ⟨2, ![1, 5632]⟩
abbrev S2816x1024 : Shape := ⟨2, ![2816, 1024]⟩
abbrev S_ : Shape := ⟨0, ![]⟩
abbrev S2x5632 : Shape := ⟨2, ![2, 5632]⟩
abbrev S2050x5632 : Shape := ⟨2, ![2050, 5632]⟩
abbrev S5632 : Shape := ⟨1, ![5632]⟩
abbrev S256x1024 : Shape := ⟨2, ![256, 1024]⟩
abbrev S256x5632 : Shape := ⟨2, ![256, 5632]⟩
abbrev S8x5632 : Shape := ⟨2, ![8, 5632]⟩
abbrev S8x1408 : Shape := ⟨2, ![8, 1408]⟩
abbrev S1408x1024 : Shape := ⟨2, ![1408, 1024]⟩
abbrev S256x1408 : Shape := ⟨2, ![256, 1408]⟩
abbrev S1x1408 : Shape := ⟨2, ![1, 1408]⟩
abbrev S248x1408 : Shape := ⟨2, ![248, 1408]⟩
abbrev S1408 : Shape := ⟨1, ![1408]⟩

abbrev nBuf : Space → Nat
  | .hbm => 40
  | .vmem => 13
  | .smem => 0
  | _ => 0

abbrev bufTy : (tb : Table) → Fin (tcTables nBuf tb) → BufTy
  | .hbm, ⟨0, _⟩ => ⟨S2048x1024, .f32⟩
  | .hbm, ⟨1, _⟩ => ⟨S2048x5632, .f32⟩
  | .hbm, ⟨2, _⟩ => ⟨S3x5632, .f32⟩
  | .hbm, ⟨3, _⟩ => ⟨S1x5632, .f32⟩
  | .hbm, ⟨4, _⟩ => ⟨S2816x1024, .f32⟩
  | .hbm, ⟨5, _⟩ => ⟨S_, .f32⟩
  | .hbm, ⟨6, _⟩ => ⟨S2x5632, .f32⟩
  | .hbm, ⟨7, _⟩ => ⟨S2050x5632, .f32⟩
  | .hbm, ⟨8, _⟩ => ⟨S2048x5632, .f32⟩
  | .hbm, ⟨9, _⟩ => ⟨S1x5632, .f32⟩
  | .hbm, ⟨10, _⟩ => ⟨S5632, .f32⟩
  | .hbm, ⟨11, _⟩ => ⟨S1x5632, .f32⟩
  | .hbm, ⟨12, _⟩ => ⟨S2048x5632, .f32⟩
  | .hbm, ⟨13, _⟩ => ⟨S2048x5632, .f32⟩
  | .hbm, ⟨14, _⟩ => ⟨S_, .f32⟩
  | .hbm, ⟨15, _⟩ => ⟨S2048x5632, .f32⟩
  | .hbm, ⟨16, _⟩ => ⟨S2048x5632, .f32⟩
  | .hbm, ⟨17, _⟩ => ⟨S2048x5632, .f32⟩
  | .hbm, ⟨18, _⟩ => ⟨S1x5632, .f32⟩
  | .hbm, ⟨19, _⟩ => ⟨S5632, .f32⟩
  | .hbm, ⟨20, _⟩ => ⟨S1x5632, .f32⟩
  | .hbm, ⟨21, _⟩ => ⟨S2048x5632, .f32⟩
  | .hbm, ⟨22, _⟩ => ⟨S2048x5632, .f32⟩
  | .hbm, ⟨23, _⟩ => ⟨S2048x5632, .f32⟩
  | .hbm, ⟨24, _⟩ => ⟨S2048x5632, .f32⟩
  | .hbm, ⟨25, _⟩ => ⟨S1x5632, .f32⟩
  | .hbm, ⟨26, _⟩ => ⟨S5632, .f32⟩
  | .hbm, ⟨27, _⟩ => ⟨S1x5632, .f32⟩
  | .hbm, ⟨28, _⟩ => ⟨S2048x5632, .f32⟩
  | .hbm, ⟨29, _⟩ => ⟨S2048x5632, .f32⟩
  | .hbm, ⟨30, _⟩ => ⟨S2048x5632, .f32⟩
  | .hbm, ⟨31, _⟩ => ⟨S2048x5632, .f32⟩
  | .hbm, ⟨32, _⟩ => ⟨S2048x5632, .f32⟩
  | .hbm, ⟨33, _⟩ => ⟨S2048x1024, .bf16⟩
  | .hbm, ⟨34, _⟩ => ⟨S2048x5632, .bf16⟩
  | .hbm, ⟨35, _⟩ => ⟨S2048x5632, .bf16⟩
  | .hbm, ⟨36, _⟩ => ⟨S2816x1024, .bf16⟩
  | .hbm, ⟨37, _⟩ => ⟨S2048x5632, .bf16⟩
  | .hbm, ⟨38, _⟩ => ⟨S1x5632, .f32⟩
  | .hbm, ⟨39, _⟩ => ⟨S3x5632, .f32⟩
  | .local _ .vmem, ⟨0, _⟩ => ⟨S256x1024, .bf16⟩
  | .local _ .vmem, ⟨1, _⟩ => ⟨S256x1024, .bf16⟩
  | .local _ .vmem, ⟨2, _⟩ => ⟨S256x5632, .bf16⟩
  | .local _ .vmem, ⟨3, _⟩ => ⟨S256x5632, .bf16⟩
  | .local _ .vmem, ⟨4, _⟩ => ⟨S256x5632, .bf16⟩
  | .local _ .vmem, ⟨5, _⟩ => ⟨S256x5632, .bf16⟩
  | .local _ .vmem, ⟨6, _⟩ => ⟨S3x5632, .f32⟩
  | .local _ .vmem, ⟨7, _⟩ => ⟨S2816x1024, .bf16⟩
  | .local _ .vmem, ⟨8, _⟩ => ⟨S256x5632, .bf16⟩
  | .local _ .vmem, ⟨9, _⟩ => ⟨S256x5632, .bf16⟩
  | .local _ .vmem, ⟨10, _⟩ => ⟨S1x5632, .f32⟩
  | .local _ .vmem, ⟨11, _⟩ => ⟨S3x5632, .f32⟩
  | .local _ .vmem, ⟨12, _⟩ => ⟨S8x5632, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30_0 : Ref sig .tc := ⟨.hbm, 37, rfl⟩
abbrev main_v30_1 : Ref sig .tc := ⟨.hbm, 38, rfl⟩
abbrev main_v30_2 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x5632 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x5632 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S3x5632 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x5632 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x5632 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S3x5632 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceIdeal.lean ====
abbrev S2048x1024 : Shape := ⟨2, ![2048, 1024]⟩
abbrev S2048x5632 : Shape := ⟨2, ![2048, 5632]⟩
abbrev S3x5632 : Shape := ⟨2, ![3, 5632]⟩
abbrev S1x5632 : Shape := ⟨2, ![1, 5632]⟩
abbrev S2816x1024 : Shape := ⟨2, ![2816, 1024]⟩
abbrev S_ : Shape := ⟨0, ![]⟩
abbrev S2x5632 : Shape := ⟨2, ![2, 5632]⟩
abbrev S2050x5632 : Shape := ⟨2, ![2050, 5632]⟩
abbrev S5632 : Shape := ⟨1, ![5632]⟩
abbrev S2048x2816 : Shape := ⟨2, ![2048, 2816]⟩

abbrev nBuf : Space → Nat
  | .hbm => 109
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x5632, .f32⟩
  | .hbm, ⟨2, _⟩ => ⟨S3x5632, .f32⟩
  | .hbm, ⟨3, _⟩ => ⟨S1x5632, .f32⟩
  | .hbm, ⟨4, _⟩ => ⟨S2816x1024, .f32⟩
  | .hbm, ⟨5, _⟩ => ⟨S_, .f32⟩
  | .hbm, ⟨6, _⟩ => ⟨S2x5632, .f32⟩
  | .hbm, ⟨7, _⟩ => ⟨S2050x5632, .f32⟩
  | .hbm, ⟨8, _⟩ => ⟨S_, .f32⟩
  | .hbm, ⟨9, _⟩ => ⟨S2x5632, .f32⟩
  | .hbm, ⟨10, _⟩ => ⟨S2048x5632, .f32⟩
  | .hbm, ⟨11, _⟩ => ⟨S1x5632, .f32⟩
  | .hbm, ⟨12, _⟩ => ⟨S5632, .f32⟩
  | .hbm, ⟨13, _⟩ => ⟨S1x5632, .f32⟩
  | .hbm, ⟨14, _⟩ => ⟨S2048x5632, .f32⟩
  | .hbm, ⟨15, _⟩ => ⟨S2048x5632, .f32⟩
  | .hbm, ⟨16, _⟩ => ⟨S_, .f32⟩
  | .hbm, ⟨17, _⟩ => ⟨S2048x5632, .f32⟩
  | .hbm, ⟨18, _⟩ => ⟨S2048x5632, .f32⟩
  | .hbm, ⟨19, _⟩ => ⟨S2048x5632, .f32⟩
  | .hbm, ⟨20, _⟩ => ⟨S1x5632, .f32⟩
  | .hbm, ⟨21, _⟩ => ⟨S5632, .f32⟩
  | .hbm, ⟨22, _⟩ => ⟨S1x5632, .f32⟩
  | .hbm, ⟨23, _⟩ => ⟨S2048x5632, .f32⟩
  | .hbm, ⟨24, _⟩ => ⟨S2048x5632, .f32⟩
  | .hbm, ⟨25, _⟩ => ⟨S2048x5632, .f32⟩
  | .hbm, ⟨26, _⟩ => ⟨S2048x5632, .f32⟩
  | .hbm, ⟨27, _⟩ => ⟨S1x5632, .f32⟩
  | .hbm, ⟨28, _⟩ => ⟨S5632, .f32⟩
  | .hbm, ⟨29, _⟩ => ⟨S1x5632, .f32⟩
  | .hbm, ⟨30, _⟩ => ⟨S2048x5632, .f32⟩
  | .hbm, ⟨31, _⟩ => ⟨S2048x5632, .f32⟩
  | .hbm, ⟨32, _⟩ => ⟨S2048x5632, .f32⟩
  | .hbm, ⟨33, _⟩ => ⟨S2048x5632, .f32⟩
  | .hbm, ⟨34, _⟩ => ⟨S2048x5632, .f32⟩
  | .hbm, ⟨35, _⟩ => ⟨S2048x2816, .f32⟩
  | .hbm, ⟨36, _⟩ => ⟨S2048x2816, .f32⟩
  | .hbm, ⟨37, _⟩ => ⟨S2048x2816, .f32⟩
  | .hbm, ⟨38, _⟩ => ⟨S2048x2816, .f32⟩
  | .hbm, ⟨39, _⟩ => ⟨S_, .f32⟩
  | .hbm, ⟨40, _⟩ => ⟨S2048x2816, .f32⟩
  | .hbm, ⟨41, _⟩ => ⟨S2048x2816, .f32⟩
  | .hbm, ⟨42, _⟩ => ⟨S_, .f32⟩
  | .hbm, ⟨43, _⟩ => ⟨S2048x2816, .f32⟩
  | .hbm, ⟨44, _⟩ => ⟨S2048x2816, .f32⟩
  | .hbm, ⟨45, _⟩ => ⟨S_, .f32⟩
  | .hbm, ⟨46, _⟩ => ⟨S2048x2816, .f32⟩
  | .hbm, ⟨47, _⟩ => ⟨S2048x2816, .f32⟩
  | .hbm, ⟨48, _⟩ => ⟨S2048x2816, .f32⟩
  | .hbm, ⟨49, _⟩ => ⟨S2048x2816, .f32⟩
  | .hbm, ⟨50, _⟩ => ⟨S2048x2816, .f32⟩
  | .hbm, ⟨51, _⟩ => ⟨S2048x1024, .f32⟩
  | .hbm, ⟨52, _⟩ => ⟨S2048x2816, .f32⟩
  | .hbm, ⟨53, _⟩ => ⟨S2048x2816, .f32⟩
  | .hbm, ⟨54, _⟩ => ⟨S2048x2816, .f32⟩
  | .hbm, ⟨55, _⟩ => ⟨S2048x2816, .f32⟩
  | .hbm, ⟨56, _⟩ => ⟨S2048x2816, .f32⟩
  | .hbm, ⟨57, _⟩ => ⟨S2048x2816, .f32⟩
  | .hbm, ⟨58, _⟩ => ⟨S2048x2816, .f32⟩
  | .hbm, ⟨59, _⟩ => ⟨S2048x5632, .f32⟩
  | .hbm, ⟨60, _⟩ => ⟨S_, .f32⟩
  | .hbm, ⟨61, _⟩ => ⟨S5632, .f32⟩
  | .hbm, ⟨62, _⟩ => ⟨S1x5632, .f32⟩
  | .hbm, ⟨63, _⟩ => ⟨S2048x5632, .f32⟩
  | .hbm, ⟨64, _⟩ => ⟨S_, .f32⟩
  | .hbm, ⟨65, _⟩ => ⟨S5632, .f32⟩
  | .hbm, ⟨66, _⟩ => ⟨S1x5632, .f32⟩
  | .hbm, ⟨67, _⟩ => ⟨S2048x5632, .f32⟩
  | .hbm, ⟨68, _⟩ => ⟨S2048x5632, .f32⟩
  | .hbm, ⟨69, _⟩ => ⟨S_, .f32⟩
  | .hbm, ⟨70, _⟩ => ⟨S5632, .f32⟩
  | .hbm, ⟨71, _⟩ => ⟨S1x5632, .f32⟩
  | .hbm, ⟨72, _⟩ => ⟨S_, .f32⟩
  | .hbm, ⟨73, _⟩ => ⟨S3x5632, .f32⟩
  | .hbm, ⟨74, _⟩ => ⟨S_, .f32⟩
  | .hbm, ⟨75, _⟩ => ⟨S2050x5632, .f32⟩
  | .hbm, ⟨76, _⟩ => ⟨S2048x5632, .f32⟩
  | .hbm, ⟨77, _⟩ => ⟨S_, .f32⟩
  | .hbm, ⟨78, _⟩ => ⟨S5632, .f32⟩
  | .hbm, ⟨79, _⟩ => ⟨S1x5632, .f32⟩
  | .hbm, ⟨80, _⟩ => ⟨S2048x5632, .f32⟩
  | .hbm, ⟨81, _⟩ => ⟨S2048x5632, .f32⟩
  | .hbm, ⟨82, _⟩ => ⟨S_, .f32⟩
  | .hbm, ⟨83, _⟩ => ⟨S5632, .f32⟩
  | .hbm, ⟨84, _⟩ => ⟨S1x5632, .f32⟩
  | .hbm, ⟨85, _⟩ => ⟨S_, .f32⟩
  | .hbm, ⟨86, _⟩ => ⟨S3x5632, .f32⟩
  | .hbm, ⟨87, _⟩ => ⟨S3x5632, .f32⟩
  | .hbm, ⟨88, _⟩ => ⟨S_, .f32⟩
  | .hbm, ⟨89, _⟩ => ⟨S2050x5632, .f32⟩
  | .hbm, ⟨90, _⟩ => ⟨S2050x5632, .f32⟩
  | .hbm, ⟨91, _⟩ => ⟨S2048x5632, .f32⟩
  | .hbm, ⟨92, _⟩ => ⟨S_, .f32⟩
  | .hbm, ⟨93, _⟩ => ⟨S5632, .f32⟩
  | .hbm, ⟨94, _⟩ => ⟨S1x5632, .f32⟩
  | .hbm, ⟨95, _⟩ => ⟨S2048x5632, .f32⟩
  | .hbm, ⟨96, _⟩ => ⟨S2048x5632, .f32⟩
  | .hbm, ⟨97, _⟩ => ⟨S_, .f32⟩
  | .hbm, ⟨98, _⟩ => ⟨S5632, .f32⟩
  | .hbm, ⟨99, _⟩ => ⟨S1x5632, .f32⟩
  | .hbm, ⟨100, _⟩ => ⟨S_, .f32⟩
  | .hbm, ⟨101, _⟩ => ⟨S3x5632, .f32⟩
  | .hbm, ⟨102, _⟩ => ⟨S3x5632, .f32⟩
  | .hbm, ⟨103, _⟩ => ⟨S_, .f32⟩
  | .hbm, ⟨104, _⟩ => ⟨S2050x5632, .f32⟩
  | .hbm, ⟨105, _⟩ => ⟨S2050x5632, .f32⟩
  | .hbm, ⟨106, _⟩ => ⟨S2x5632, .f32⟩
  | .hbm, ⟨107, _⟩ => ⟨S2048x5632, .f32⟩
  | .hbm, ⟨108, _⟩ => ⟨S2048x5632, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_call0_v0 : Ref sig .tc := ⟨.hbm, 37, rfl⟩
abbrev main_call0_v1 : Ref sig .tc := ⟨.hbm, 38, rfl⟩
abbrev main_call0_cst : Ref sig .tc := ⟨.hbm, 39, rfl⟩
abbrev main_call0_v2 : Ref sig .tc := ⟨.hbm, 40, rfl⟩
abbrev main_call0_v3 : Ref sig .tc := ⟨.hbm, 41, rfl⟩
abbrev main_call0_cst_0 : Ref sig .tc := ⟨.hbm, 42, rfl⟩
abbrev main_call0_v4 : Ref sig .tc := ⟨.hbm, 43, rfl⟩
abbrev main_v29_2 : Ref sig .tc := ⟨.hbm, 44, rfl⟩
abbrev main_call0_cst_1 : Ref sig .tc := ⟨.hbm, 45, rfl⟩
abbrev main_call0_v6 : Ref sig .tc := ⟨.hbm, 46, rfl⟩
abbrev main_call0_v7 : Ref sig .tc := ⟨.hbm, 47, rfl⟩
abbrev main_v29_1 : Ref sig .tc := ⟨.hbm, 48, rfl⟩
abbrev main_v29_0 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_call1_v0 : Ref sig .tc := ⟨.hbm, 55, rfl⟩
abbrev main_call1_v1 : Ref sig .tc := ⟨.hbm, 56, rfl⟩
abbrev main_call1_v2 : Ref sig .tc := ⟨.hbm, 57, rfl⟩
abbrev main_v35 : Ref sig .tc := ⟨.hbm, 58, rfl⟩
abbrev main_v36 : Ref sig .tc := ⟨.hbm, 59, rfl⟩
abbrev main_cst_2 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_cst_3 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_cst_4 : Ref sig .tc := ⟨.hbm, 69, rfl⟩
abbrev main_v44 : Ref sig .tc := ⟨.hbm, 70, rfl⟩
abbrev main_v45 : Ref sig .tc := ⟨.hbm, 71, rfl⟩
abbrev main_cst_5 : Ref sig .tc := ⟨.hbm, 72, rfl⟩
abbrev main_v46 : Ref sig .tc := ⟨.hbm, 73, rfl⟩
abbrev main_cst_6 : Ref sig .tc := ⟨.hbm, 74, rfl⟩
abbrev main_v47 : Ref sig .tc := ⟨.hbm, 75, rfl⟩
abbrev main_v48 : Ref sig .tc := ⟨.hbm, 76, rfl⟩
abbrev main_cst_7 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_cst_8 : Ref sig .tc := ⟨.hbm, 82, rfl⟩
abbrev main_v53 : Ref sig .tc := ⟨.hbm, 83, rfl⟩
abbrev main_v54 : Ref sig .tc := ⟨.hbm, 84, rfl⟩
abbrev main_cst_9 : Ref sig .tc := ⟨.hbm, 85, rfl⟩
abbrev main_v55 : Ref sig .tc := ⟨.hbm, 86, rfl⟩
abbrev main_v56 : Ref sig .tc := ⟨.hbm, 87, rfl⟩
abbrev main_cst_10 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_cst_11 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_cst_12 : Ref sig .tc := ⟨.hbm, 97, rfl⟩
abbrev main_v64 : Ref sig .tc := ⟨.hbm, 98, rfl⟩
abbrev main_v65 : Ref sig .tc := ⟨.hbm, 99, rfl⟩
abbrev main_cst_13 : Ref sig .tc := ⟨.hbm, 100, rfl⟩
abbrev main_v66 : Ref sig .tc := ⟨.hbm, 101, rfl⟩
abbrev main_v67 : Ref sig .tc := ⟨.hbm, 102, rfl⟩
abbrev main_cst_14 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩

abbrev nD : Nat := 1
abbrev τ : Topo := Topo.v7x

variable {F : FTy → Type} [FloatOps F]
-- ==== Kernel4.lean ====
abbrev S2048x2816 : Shape := ⟨2, ![2048, 2816]⟩
abbrev S2048x1024 : Shape := ⟨2, ![2048, 1024]⟩
abbrev S2048x5632 : Shape := ⟨2, ![2048, 5632]⟩
abbrev S2048x512 : Shape := ⟨2, ![2048, 512]⟩
abbrev S2048x5648 : Shape := ⟨2, ![2048, 5648]⟩
abbrev S2048x2048 : Shape := ⟨2, ![2048, 2048]⟩
abbrev S2048x1536 : Shape := ⟨2, ![2048, 1536]⟩
abbrev S2048x16 : Shape := ⟨2, ![2048, 16]⟩
abbrev S_ : Shape := ⟨0, ![]⟩
abbrev S2048x112 : Shape := ⟨2, ![2048, 112]⟩
abbrev S2048x5760 : Shape := ⟨2, ![2048, 5760]⟩
abbrev S2816x1024 : Shape := ⟨2, ![2816, 1024]⟩
abbrev S2048x1408 : Shape := ⟨2, ![2048, 1408]⟩
abbrev S1408x1024 : Shape := ⟨2, ![1408, 1024]⟩
abbrev S4x1024x1408 : Shape := ⟨3, ![4, 1024, 1408]⟩
abbrev S1x1024x1408 : Shape := ⟨3, ![1, 1024, 1408]⟩
abbrev S1024x1408 : Shape := ⟨2, ![1024, 1408]⟩
abbrev S1024x1024 : Shape := ⟨2, ![1024, 1024]⟩
abbrev S512x1024 : Shape := ⟨2, ![512, 1024]⟩
abbrev S4x512x256 : Shape := ⟨3, ![4, 512, 256]⟩
abbrev S2048x256 : Shape := ⟨2, ![2048, 256]⟩
abbrev S1x512x256 : Shape := ⟨3, ![1, 512, 256]⟩
abbrev S512x256 : Shape := ⟨2, ![512, 256]⟩
abbrev S5760x1024 : Shape := ⟨2, ![5760, 1024]⟩
abbrev S2048x1152 : Shape := ⟨2, ![2048, 1152]⟩
abbrev S1152x1024 : Shape := ⟨2, ![1152, 1024]⟩
abbrev S1536x1024 : Shape := ⟨2, ![1536, 1024]⟩
abbrev S16x1024 : Shape := ⟨2, ![16, 1024]⟩
abbrev S5648x1024 : Shape := ⟨2, ![5648, 1024]⟩
abbrev S512x4x256 : Shape := ⟨3, ![512, 4, 256]⟩
abbrev S1024x4x1408 : Shape := ⟨3, ![1024, 4, 1408]⟩
abbrev S1024x5632 : Shape := ⟨2, ![1024, 5632]⟩

abbrev nBuf : Space → Nat
  | .hbm => 46
  | .vmem => 30
  | .smem => 0
  | _ => 0

abbrev bufTy : (tb : Table) → Fin (tcTables nBuf tb) → BufTy
  | .hbm, ⟨0, _⟩ => ⟨S2048x2816, .f32⟩
  | .hbm, ⟨1, _⟩ => ⟨S2048x1024, .f32⟩
  | .hbm, ⟨2, _⟩ => ⟨S2048x1024, .f32⟩
  | .hbm, ⟨3, _⟩ => ⟨S2048x5632, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S2048x512, .f32⟩
  | .hbm, ⟨9, _⟩ => ⟨S2048x1024, .f32⟩
  | .hbm, ⟨10, _⟩ => ⟨S2048x5648, .f32⟩
  | .hbm, ⟨11, _⟩ => ⟨S2048x1024, .f32⟩
  | .hbm, ⟨12, _⟩ => ⟨S2048x2816, .bf16⟩
  | .hbm, ⟨13, _⟩ => ⟨S2048x1024, .bf16⟩
  | .hbm, ⟨14, _⟩ => ⟨S2048x1024, .bf16⟩
  | .hbm, ⟨15, _⟩ => ⟨S2048x5632, .bf16⟩
  | .hbm, ⟨16, _⟩ => ⟨S2048x1024, .bf16⟩
  | .hbm, ⟨17, _⟩ => ⟨S2048x1024, .bf16⟩
  | .hbm, ⟨18, _⟩ => ⟨S2048x1024, .bf16⟩
  | .hbm, ⟨19, _⟩ => ⟨S2048x1024, .bf16⟩
  | .hbm, ⟨20, _⟩ => ⟨S2048x512, .bf16⟩
  | .hbm, ⟨21, _⟩ => ⟨S2048x1024, .bf16⟩
  | .hbm, ⟨22, _⟩ => ⟨S2048x5648, .bf16⟩
  | .hbm, ⟨23, _⟩ => ⟨S2048x1024, .bf16⟩
  | .hbm, ⟨24, _⟩ => ⟨S2048x2048, .bf16⟩
  | .hbm, ⟨25, _⟩ => ⟨S2048x2048, .bf16⟩
  | .hbm, ⟨26, _⟩ => ⟨S2048x1536, .bf16⟩
  | .hbm, ⟨27, _⟩ => ⟨S2048x16, .bf16⟩
  | .hbm, ⟨28, _⟩ => ⟨S_, .bf16⟩
  | .hbm, ⟨29, _⟩ => ⟨S2048x112, .bf16⟩
  | .hbm, ⟨30, _⟩ => ⟨S2048x5760, .bf16⟩
  | .hbm, ⟨31, _⟩ => ⟨S2816x1024, .bf16⟩
  | .hbm, ⟨32, _⟩ => ⟨S4x1024x1408, .bf16⟩
  | .hbm, ⟨33, _⟩ => ⟨S1024x1024, .bf16⟩
  | .hbm, ⟨34, _⟩ => ⟨S1024x1024, .bf16⟩
  | .hbm, ⟨35, _⟩ => ⟨S4x512x256, .bf16⟩
  | .hbm, ⟨36, _⟩ => ⟨S5760x1024, .bf16⟩
  | .hbm, ⟨37, _⟩ => ⟨S1536x1024, .bf16⟩
  | .hbm, ⟨38, _⟩ => ⟨S2048x1024, .bf16⟩
  | .hbm, ⟨39, _⟩ => ⟨S16x1024, .bf16⟩
  | .hbm, ⟨40, _⟩ => ⟨S2048x1024, .bf16⟩
  | .hbm, ⟨41, _⟩ => ⟨S5648x1024, .bf16⟩
  | .hbm, ⟨42, _⟩ => ⟨S512x4x256, .bf16⟩
  | .hbm, ⟨43, _⟩ => ⟨S512x1024, .bf16⟩
  | .hbm, ⟨44, _⟩ => ⟨S1024x4x1408, .bf16⟩
  | .hbm, ⟨45, _⟩ => ⟨S1024x5632, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S1408x1024, .bf16⟩
  | .local _ .vmem, ⟨4, _⟩ => ⟨S1408x1024, .bf16⟩
  | .local _ .vmem, ⟨5, _⟩ => ⟨S2048x1024, .bf16⟩
  | .local _ .vmem, ⟨6, _⟩ => ⟨S2048x1408, .bf16⟩
  | .local _ .vmem, ⟨7, _⟩ => ⟨S2048x1408, .bf16⟩
  | .local _ .vmem, ⟨8, _⟩ => ⟨S1x1024x1408, .bf16⟩
  | .local _ .vmem, ⟨9, _⟩ => ⟨S1x1024x1408, .bf16⟩
  | .local _ .vmem, ⟨10, _⟩ => ⟨S2048x512, .bf16⟩
  | .local _ .vmem, ⟨11, _⟩ => ⟨S2048x512, .bf16⟩
  | .local _ .vmem, ⟨12, _⟩ => ⟨S2048x1024, .bf16⟩
  | .local _ .vmem, ⟨13, _⟩ => ⟨S512x1024, .bf16⟩
  | .local _ .vmem, ⟨14, _⟩ => ⟨S512x1024, .bf16⟩
  | .local _ .vmem, ⟨15, _⟩ => ⟨S2048x512, .bf16⟩
  | .local _ .vmem, ⟨16, _⟩ => ⟨S2048x512, .bf16⟩
  | .local _ .vmem, ⟨17, _⟩ => ⟨S2048x1024, .bf16⟩
  | .local _ .vmem, ⟨18, _⟩ => ⟨S512x1024, .bf16⟩
  | .local _ .vmem, ⟨19, _⟩ => ⟨S512x1024, .bf16⟩
  | .local _ .vmem, ⟨20, _⟩ => ⟨S2048x512, .bf16⟩
  | .local _ .vmem, ⟨21, _⟩ => ⟨S2048x256, .bf16⟩
  | .local _ .vmem, ⟨22, _⟩ => ⟨S2048x256, .bf16⟩
  | .local _ .vmem, ⟨23, _⟩ => ⟨S1x512x256, .bf16⟩
  | .local _ .vmem, ⟨24, _⟩ => ⟨S1x512x256, .bf16⟩
  | .local _ .vmem, ⟨25, _⟩ => ⟨S2048x1152, .bf16⟩
  | .local _ .vmem, ⟨26, _⟩ => ⟨S2048x1152, .bf16⟩
  | .local _ .vmem, ⟨27, _⟩ => ⟨S2048x1024, .bf16⟩
  | .local _ .vmem, ⟨28, _⟩ => ⟨S1152x1024, .bf16⟩
  | .local _ .vmem, ⟨29, _⟩ => ⟨S1152x1024, .bf16⟩
  | _, _ => ⟨S2048x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg1_0 : Ref sig .tc := ⟨.vmem, 21, rfl⟩
abbrev cc4_stg1_1 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem1_0 : DmaSem sig := 6
abbrev cc1_sem1_1 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem1_0 : DmaSem sig := 21
abbrev cc4_sem1_1 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![1, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage1_0 : Fin 1 → Memref sig .tc .vmem S2048x1024 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, false]

abbrev stage1_1 : Fin 2 → Memref sig .tc .vmem S2048x1408 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1x1024x1408 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![2, 1], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S2048x512 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 1 → Memref sig .tc .vmem S2048x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true]

abbrev stage2_2 : Fin 2 → Memref sig .tc .vmem S512x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev grid3 : Pipeline.Grid := ⟨2, ![2, 1], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 2 → Memref sig .tc .vmem S2048x512 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 1 → Memref sig .tc .vmem S2048x1024 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, true]

abbrev stage3_2 : Fin 2 → Memref sig .tc .vmem S512x1024 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev grid4 : Pipeline.Grid := ⟨2, ![1, 4], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc4_transform_2 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage4_0 : Fin 1 → Memref sig .tc .vmem S2048x512 .bf16 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![true, false]

abbrev stage4_1 : Fin 2 → Memref sig .tc .vmem S2048x256 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true]

abbrev stage4_2 : Fin 2 → Memref sig .tc .vmem S1x512x256 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]

abbrev grid5 : Pipeline.Grid := ⟨2, ![5, 1], ![false, false]⟩

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage5_0 : Fin 2 → Memref sig .tc .vmem S2048x1152 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false]

abbrev stage5_1 : Fin 1 → Memref sig .tc .vmem S2048x1024 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false, true]

abbrev stage5_2 : Fin 2 → Memref sig .tc .vmem S1152x1024 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true]
-- ==== Reference4Ideal.lean ====
abbrev S2048x2816 : Shape := ⟨2, ![2048, 2816]⟩
abbrev S2048x1024 : Shape := ⟨2, ![2048, 1024]⟩
abbrev S2048x5632 : Shape := ⟨2, ![2048, 5632]⟩
abbrev S2048x512 : Shape := ⟨2, ![2048, 512]⟩
abbrev S2048x5648 : Shape := ⟨2, ![2048, 5648]⟩
abbrev S5648x1024 : Shape := ⟨2, ![5648, 1024]⟩
abbrev S1024x5648 : Shape := ⟨2, ![1024, 5648]⟩
abbrev S1024x512 : Shape := ⟨2, ![1024, 512]⟩
abbrev S512x1024 : Shape := ⟨2, ![512, 1024]⟩
abbrev S1024x1024 : Shape := ⟨2, ![1024, 1024]⟩
abbrev S5632x1024 : Shape := ⟨2, ![5632, 1024]⟩
abbrev S1024x5632 : Shape := ⟨2, ![1024, 5632]⟩
abbrev S1024x2816 : Shape := ⟨2, ![1024, 2816]⟩
abbrev S2816x1024 : Shape := ⟨2, ![2816, 1024]⟩

abbrev nBuf : Space → Nat
  | .hbm => 31
  | .vmem => 0
  | .smem => 0
  | _ => 0

abbrev bufTy : (tb : Table) → Fin (tcTables nBuf tb) → BufTy
  | .hbm, ⟨0, _⟩ => ⟨S2048x2816, .f32⟩
  | .hbm, ⟨1, _⟩ => ⟨S2048x1024, .f32⟩
  | .hbm, ⟨2, _⟩ => ⟨S2048x1024, .f32⟩
  | .hbm, ⟨3, _⟩ => ⟨S2048x5632, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S2048x512, .f32⟩
  | .hbm, ⟨9, _⟩ => ⟨S2048x1024, .f32⟩
  | .hbm, ⟨10, _⟩ => ⟨S2048x5648, .f32⟩
  | .hbm, ⟨11, _⟩ => ⟨S2048x1024, .f32⟩
  | .hbm, ⟨12, _⟩ => ⟨S5648x1024, .f32⟩
  | .hbm, ⟨13, _⟩ => ⟨S1024x5648, .f32⟩
  | .hbm, ⟨14, _⟩ => ⟨S1024x5648, .bf16⟩
  | .hbm, ⟨15, _⟩ => ⟨S5648x1024, .bf16⟩
  | .hbm, ⟨16, _⟩ => ⟨S1024x512, .f32⟩
  | .hbm, ⟨17, _⟩ => ⟨S512x1024, .f32⟩
  | .hbm, ⟨18, _⟩ => ⟨S512x1024, .bf16⟩
  | .hbm, ⟨19, _⟩ => ⟨S1024x1024, .f32⟩
  | .hbm, ⟨20, _⟩ => ⟨S1024x1024, .f32⟩
  | .hbm, ⟨21, _⟩ => ⟨S1024x1024, .bf16⟩
  | .hbm, ⟨22, _⟩ => ⟨S1024x1024, .f32⟩
  | .hbm, ⟨23, _⟩ => ⟨S1024x1024, .f32⟩
  | .hbm, ⟨24, _⟩ => ⟨S1024x1024, .bf16⟩
  | .hbm, ⟨25, _⟩ => ⟨S5632x1024, .f32⟩
  | .hbm, ⟨26, _⟩ => ⟨S1024x5632, .f32⟩
  | .hbm, ⟨27, _⟩ => ⟨S1024x5632, .bf16⟩
  | .hbm, ⟨28, _⟩ => ⟨S1024x2816, .f32⟩
  | .hbm, ⟨29, _⟩ => ⟨S2816x1024, .f32⟩
  | .hbm, ⟨30, _⟩ => ⟨S2816x1024, .bf16⟩
  | _, _ => ⟨S2048x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩

abbrev nD : Nat := 1
abbrev τ : Topo := Topo.v7x

variable {F : FTy → Type} [FloatOps F]
-- ==== Kernel2.lean ====
abbrev S2048x5632 : Shape := ⟨2, ![2048, 5632]⟩
abbrev S1024x5632 : Shape := ⟨2, ![1024, 5632]⟩
abbrev S2048x1024 : Shape := ⟨2, ![2048, 1024]⟩
abbrev S1x1024 : Shape := ⟨2, ![1, 1024]⟩
abbrev S1024x4x1408 : Shape := ⟨3, ![1024, 4, 1408]⟩
abbrev S4x1024x1408 : Shape := ⟨3, ![4, 1024, 1408]⟩
abbrev S_ : Shape := ⟨0, ![]⟩
abbrev S8x128 : Shape := ⟨2, ![8, 128]⟩
abbrev S512x5632 : Shape := ⟨2, ![512, 5632]⟩
abbrev S512x1024 : Shape := ⟨2, ![512, 1024]⟩
abbrev S4 : Shape := ⟨1, ![4]⟩
abbrev S1 : Shape := ⟨1, ![1]⟩
abbrev S1024x1408 : Shape := ⟨2, ![1024, 1408]⟩
abbrev S1x1024x1408 : Shape := ⟨3, ![1, 1024, 1408]⟩
abbrev S512 : Shape := ⟨1, ![512]⟩
abbrev S512x1 : Shape := ⟨2, ![512, 1]⟩
abbrev S1024 : Shape := ⟨1, ![1024]⟩

abbrev nBuf : Space → Nat
  | .hbm => 14
  | .vmem => 13
  | .smem => 0
  | _ => 0

abbrev bufTy : (tb : Table) → Fin (tcTables nBuf tb) → BufTy
  | .hbm, ⟨0, _⟩ => ⟨S2048x5632, .f32⟩
  | .hbm, ⟨1, _⟩ => ⟨S1024x5632, .f32⟩
  | .hbm, ⟨2, _⟩ => ⟨S2048x1024, .f32⟩
  | .hbm, ⟨3, _⟩ => ⟨S1x1024, .f32⟩
  | .hbm, ⟨4, _⟩ => ⟨S2048x1024, .f32⟩
  | .hbm, ⟨5, _⟩ => ⟨S1024x4x1408, .f32⟩
  | .hbm, ⟨6, _⟩ => ⟨S4x1024x1408, .f32⟩
  | .hbm, ⟨7, _⟩ => ⟨S4x1024x1408, .bf16⟩
  | .hbm, ⟨8, _⟩ => ⟨S_, .f32⟩
  | .hbm, ⟨9, _⟩ => ⟨S8x128, .f32⟩
  | .hbm, ⟨10, _⟩ => ⟨S2048x5632, .bf16⟩
  | .hbm, ⟨11, _⟩ => ⟨S2048x1024, .f32⟩
  | .hbm, ⟨12, _⟩ => ⟨S2048x1024, .bf16⟩
  | .hbm, ⟨13, _⟩ => ⟨S1x1024, .f32⟩
  | .local _ .vmem, ⟨0, _⟩ => ⟨S512x5632, .bf16⟩
  | .local _ .vmem, ⟨1, _⟩ => ⟨S512x5632, .bf16⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S1x1024, .f32⟩
  | .local _ .vmem, ⟨12, _⟩ => ⟨S1024x5632, .bf16⟩
  | _, _ => ⟨S2048x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference2Ideal.lean ====
abbrev S2048x5632 : Shape := ⟨2, ![2048, 5632]⟩
abbrev S1024x5632 : Shape := ⟨2, ![1024, 5632]⟩
abbrev S2048x1024 : Shape := ⟨2, ![2048, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S1024 : Shape := ⟨1, ![1024]⟩

abbrev nBuf : Space → Nat
  | .hbm => 51
  | .vmem => 0
  | .smem => 0
  | _ => 0

abbrev bufTy : (tb : Table) → Fin (tcTables nBuf tb) → BufTy
  | .hbm, ⟨0, _⟩ => ⟨S2048x5632, .f32⟩
  | .hbm, ⟨1, _⟩ => ⟨S1024x5632, .f32⟩
  | .hbm, ⟨2, _⟩ => ⟨S2048x1024, .f32⟩
  | .hbm, ⟨3, _⟩ => ⟨S1x1024, .f32⟩
  | .hbm, ⟨4, _⟩ => ⟨S2048x1024, .f32⟩
  | .hbm, ⟨5, _⟩ => ⟨S2048x1024, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S2048x5632, .f32⟩
  | .hbm, ⟨25, _⟩ => ⟨S2048x1024, .f32⟩
  | .hbm, ⟨26, _⟩ => ⟨S2048x1024, .f32⟩
  | .hbm, ⟨27, _⟩ => ⟨S_, .f32⟩
  | .hbm, ⟨28, _⟩ => ⟨S1024, .f32⟩
  | .hbm, ⟨29, _⟩ => ⟨S1x1024, .f32⟩
  | .hbm, ⟨30, _⟩ => ⟨S2048x1024, .f32⟩
  | .hbm, ⟨31, _⟩ => ⟨S2048x1024, .f32⟩
  | .hbm, ⟨32, _⟩ => ⟨S2048x1024, .f32⟩
  | .hbm, ⟨33, _⟩ => ⟨S_, .f32⟩
  | .hbm, ⟨34, _⟩ => ⟨S2048, .f32⟩
  | .hbm, ⟨35, _⟩ => ⟨S2048x1, .f32⟩
  | .hbm, ⟨36, _⟩ => ⟨S2048x1024, .f32⟩
  | .hbm, ⟨37, _⟩ => ⟨S2048x1024, .f32⟩
  | .hbm, ⟨38, _⟩ => ⟨S2048x1024, .f32⟩
  | .hbm, ⟨39, _⟩ => ⟨S2048x1, .f32⟩
  | .hbm, ⟨40, _⟩ => ⟨S_, .f32⟩
  | .hbm, ⟨41, _⟩ => ⟨S2048x1, .f32⟩
  | .hbm, ⟨42, _⟩ => ⟨S2048x1, .f32⟩
  | .hbm, ⟨43, _⟩ => ⟨S_, .f32⟩
  | .hbm, ⟨44, _⟩ => ⟨S2048, .f32⟩
  | .hbm, ⟨45, _⟩ => ⟨S2048x1024, .f32⟩
  | .hbm, ⟨46, _⟩ => ⟨S2048x1024, .f32⟩
  | .hbm, ⟨47, _⟩ => ⟨S2048x1024, .f32⟩
  | .hbm, ⟨48, _⟩ => ⟨S2048x1024, .f32⟩
  | .hbm, ⟨49, _⟩ => ⟨S2048x1024, .f32⟩
  | .hbm, ⟨50, _⟩ => ⟨S2048x1024, .bf16⟩
  | _, _ => ⟨S2048x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]
-- ==== Kernel3.lean ====
abbrev S2048x5648 : Shape := ⟨2, ![2048, 5648]⟩
abbrev S1024x5648 : Shape := ⟨2, ![1024, 5648]⟩
abbrev S2048x1024 : Shape := ⟨2, ![2048, 1024]⟩
abbrev S1x1024 : Shape := ⟨2, ![1, 1024]⟩
abbrev S2048x2048 : Shape := ⟨2, ![2048, 2048]⟩
abbrev S2048x1536 : Shape := ⟨2, ![2048, 1536]⟩
abbrev S2048x16 : Shape := ⟨2, ![2048, 16]⟩
abbrev S_ : Shape := ⟨0, ![]⟩
abbrev S2048x112 : Shape := ⟨2, ![2048, 112]⟩
abbrev S2048x5760 : Shape := ⟨2, ![2048, 5760]⟩
abbrev S5648x1024 : Shape := ⟨2, ![5648, 1024]⟩
abbrev S1536x1024 : Shape := ⟨2, ![1536, 1024]⟩
abbrev S16x1024 : Shape := ⟨2, ![16, 1024]⟩
abbrev S112x1024 : Shape := ⟨2, ![112, 1024]⟩
abbrev S5760x1024 : Shape := ⟨2, ![5760, 1024]⟩
abbrev S8x128 : Shape := ⟨2, ![8, 128]⟩
abbrev S512x5760 : Shape := ⟨2, ![512, 5760]⟩
abbrev S512x1024 : Shape := ⟨2, ![512, 1024]⟩
abbrev S1 : Shape := ⟨1, ![1]⟩
abbrev S512 : Shape := ⟨1, ![512]⟩
abbrev S512x1 : Shape := ⟨2, ![512, 1]⟩
abbrev S1024 : Shape := ⟨1, ![1024]⟩

abbrev nBuf : Space → Nat
  | .hbm => 27
  | .vmem => 13
  | .smem => 0
  | _ => 0

abbrev bufTy : (tb : Table) → Fin (tcTables nBuf tb) → BufTy
  | .hbm, ⟨0, _⟩ => ⟨S2048x5648, .f32⟩
  | .hbm, ⟨1, _⟩ => ⟨S1024x5648, .f32⟩
  | .hbm, ⟨2, _⟩ => ⟨S2048x1024, .f32⟩
  | .hbm, ⟨3, _⟩ => ⟨S1x1024, .f32⟩
  | .hbm, ⟨4, _⟩ => ⟨S2048x1024, .f32⟩
  | .hbm, ⟨5, _⟩ => ⟨S2048x5648, .bf16⟩
  | .hbm, ⟨6, _⟩ => ⟨S2048x2048, .bf16⟩
  | .hbm, ⟨7, _⟩ => ⟨S2048x2048, .bf16⟩
  | .hbm, ⟨8, _⟩ => ⟨S2048x1536, .bf16⟩
  | .hbm, ⟨9, _⟩ => ⟨S2048x16, .bf16⟩
  | .hbm, ⟨10, _⟩ => ⟨S_, .bf16⟩
  | .hbm, ⟨11, _⟩ => ⟨S2048x112, .bf16⟩
  | .hbm, ⟨12, _⟩ => ⟨S2048x5760, .bf16⟩
  | .hbm, ⟨13, _⟩ => ⟨S5648x1024, .f32⟩
  | .hbm, ⟨14, _⟩ => ⟨S5648x1024, .bf16⟩
  | .hbm, ⟨15, _⟩ => ⟨S2048x1024, .bf16⟩
  | .hbm, ⟨16, _⟩ => ⟨S2048x1024, .bf16⟩
  | .hbm, ⟨17, _⟩ => ⟨S1536x1024, .bf16⟩
  | .hbm, ⟨18, _⟩ => ⟨S16x1024, .bf16⟩
  | .hbm, ⟨19, _⟩ => ⟨S_, .bf16⟩
  | .hbm, ⟨20, _⟩ => ⟨S112x1024, .bf16⟩
  | .hbm, ⟨21, _⟩ => ⟨S5760x1024, .bf16⟩
  | .hbm, ⟨22, _⟩ => ⟨S_, .f32⟩
  | .hbm, ⟨23, _⟩ => ⟨S8x128, .f32⟩
  | .hbm, ⟨24, _⟩ => ⟨S2048x1024, .f32⟩
  | .hbm, ⟨25, _⟩ => ⟨S2048x1024, .bf16⟩
  | .hbm, ⟨26, _⟩ => ⟨S1x1024, .f32⟩
  | .local _ .vmem, ⟨0, _⟩ => ⟨S512x5760, .bf16⟩
  | .local _ .vmem, ⟨1, _⟩ => ⟨S512x5760, .bf16⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S1x1024, .f32⟩
  | .local _ .vmem, ⟨12, _⟩ => ⟨S5760x1024, .bf16⟩
  | _, _ => ⟨S2048x5648, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16_0 : Ref sig .tc := ⟨.hbm, 24, rfl⟩
abbrev main_v16_1 : Ref sig .tc := ⟨.hbm, 25, rfl⟩
abbrev main_v16_2 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x5760 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference3Ideal.lean ====
abbrev S2048x5648 : Shape := ⟨2, ![2048, 5648]⟩
abbrev S1024x5648 : Shape := ⟨2, ![1024, 5648]⟩
abbrev S2048x1024 : Shape := ⟨2, ![2048, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S1024 : Shape := ⟨1, ![1024]⟩

abbrev nBuf : Space → Nat
  | .hbm => 51
  | .vmem => 0
  | .smem => 0
  | _ => 0

abbrev bufTy : (tb : Table) → Fin (tcTables nBuf tb) → BufTy
  | .hbm, ⟨0, _⟩ => ⟨S2048x5648, .f32⟩
  | .hbm, ⟨1, _⟩ => ⟨S1024x5648, .f32⟩
  | .hbm, ⟨2, _⟩ => ⟨S2048x1024, .f32⟩
  | .hbm, ⟨3, _⟩ => ⟨S1x1024, .f32⟩
  | .hbm, ⟨4, _⟩ => ⟨S2048x1024, .f32⟩
  | .hbm, ⟨5, _⟩ => ⟨S2048x1024, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S2048x5648, .f32⟩
  | .hbm, ⟨25, _⟩ => ⟨S2048x1024, .f32⟩
  | .hbm, ⟨26, _⟩ => ⟨S2048x1024, .f32⟩
  | .hbm, ⟨27, _⟩ => ⟨S_, .f32⟩
  | .hbm, ⟨28, _⟩ => ⟨S1024, .f32⟩
  | .hbm, ⟨29, _⟩ => ⟨S1x1024, .f32⟩
  | .hbm, ⟨30, _⟩ => ⟨S2048x1024, .f32⟩
  | .hbm, ⟨31, _⟩ => ⟨S2048x1024, .f32⟩
  | .hbm, ⟨32, _⟩ => ⟨S2048x1024, .f32⟩
  | .hbm, ⟨33, _⟩ => ⟨S_, .f32⟩
  | .hbm, ⟨34, _⟩ => ⟨S2048, .f32⟩
  | .hbm, ⟨35, _⟩ => ⟨S2048x1, .f32⟩
  | .hbm, ⟨36, _⟩ => ⟨S2048x1024, .f32⟩
  | .hbm, ⟨37, _⟩ => ⟨S2048x1024, .f32⟩
  | .hbm, ⟨38, _⟩ => ⟨S2048x1024, .f32⟩
  | .hbm, ⟨39, _⟩ => ⟨S2048x1, .f32⟩
  | .hbm, ⟨40, _⟩ => ⟨S_, .f32⟩
  | .hbm, ⟨41, _⟩ => ⟨S2048x1, .f32⟩
  | .hbm, ⟨42, _⟩ => ⟨S2048x1, .f32⟩
  | .hbm, ⟨43, _⟩ => ⟨S_, .f32⟩
  | .hbm, ⟨44, _⟩ => ⟨S2048, .f32⟩
  | .hbm, ⟨45, _⟩ => ⟨S2048x1024, .f32⟩
  | .hbm, ⟨46, _⟩ => ⟨S2048x1024, .f32⟩
  | .hbm, ⟨47, _⟩ => ⟨S2048x1024, .f32⟩
  | .hbm, ⟨48, _⟩ => ⟨S2048x1024, .f32⟩
  | .hbm, ⟨49, _⟩ => ⟨S2048x1024, .f32⟩
  | .hbm, ⟨50, _⟩ => ⟨S2048x1024, .bf16⟩
  | _, _ => ⟨S2048x5648, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]
-- ==== Kernel5.lean ====
abbrev S2048x1024 : Shape := ⟨2, ![2048, 1024]⟩
abbrev S2048x5648 : Shape := ⟨2, ![2048, 5648]⟩
abbrev S2048x512 : Shape := ⟨2, ![2048, 512]⟩
abbrev S1x2048 : Shape := ⟨2, ![1, 2048]⟩
abbrev S1x256 : Shape := ⟨2, ![1, 256]⟩
abbrev S512x1024 : Shape := ⟨2, ![512, 1024]⟩
abbrev S1024x1024 : Shape := ⟨2, ![1024, 1024]⟩
abbrev S2048x4x256 : Shape := ⟨3, ![2048, 4, 256]⟩
abbrev S_ : Shape := ⟨0, ![]⟩
abbrev S2048x4 : Shape := ⟨2, ![2048, 4]⟩
abbrev S2048x4x1 : Shape := ⟨3, ![2048, 4, 1]⟩
abbrev S1x1x256 : Shape := ⟨3, ![1, 1, 256]⟩
abbrev S2048x2048 : Shape := ⟨2, ![2048, 2048]⟩
abbrev S2048x1536 : Shape := ⟨2, ![2048, 1536]⟩
abbrev S2048x16 : Shape := ⟨2, ![2048, 16]⟩
abbrev S2048x112 : Shape := ⟨2, ![2048, 112]⟩
abbrev S2048x5760 : Shape := ⟨2, ![2048, 5760]⟩
abbrev S512x4x256 : Shape := ⟨3, ![512, 4, 256]⟩
abbrev S4x512x256 : Shape := ⟨3, ![4, 512, 256]⟩
abbrev S8x128 : Shape := ⟨2, ![8, 128]⟩
abbrev S512x2048 : Shape := ⟨2, ![512, 2048]⟩
abbrev S512x512 : Shape := ⟨2, ![512, 512]⟩
abbrev S1x1024 : Shape := ⟨2, ![1, 1024]⟩
abbrev S1024 : Shape := ⟨1, ![1024]⟩
abbrev S512x256 : Shape := ⟨2, ![512, 256]⟩
abbrev S1x512x256 : Shape := ⟨3, ![1, 512, 256]⟩
abbrev S512 : Shape := ⟨1, ![512]⟩
abbrev S512x1 : Shape := ⟨2, ![512, 1]⟩
abbrev S256 : Shape := ⟨1, ![256]⟩

abbrev nBuf : Space → Nat
  | .hbm => 68
  | .vmem => 33
  | .smem => 0
  | _ => 0

abbrev bufTy : (tb : Table) → Fin (tcTables nBuf tb) → BufTy
  | .hbm, ⟨0, _⟩ => ⟨S2048x1024, .f32⟩
  | .hbm, ⟨1, _⟩ => ⟨S2048x5648, .f32⟩
  | .hbm, ⟨2, _⟩ => ⟨S2048x512, .f32⟩
  | .hbm, ⟨3, _⟩ => ⟨S2048x1024, .f32⟩
  | .hbm, ⟨4, _⟩ => ⟨S1x2048, .f32⟩
  | .hbm, ⟨5, _⟩ => ⟨S1x256, .f32⟩
  | .hbm, ⟨6, _⟩ => ⟨S512x1024, .f32⟩
  | .hbm, ⟨7, _⟩ => ⟨S1024x1024, .f32⟩
  | .hbm, ⟨8, _⟩ => ⟨S1024x1024, .f32⟩
  | .hbm, ⟨9, _⟩ => ⟨S2048x1024, .f32⟩
  | .hbm, ⟨10, _⟩ => ⟨S2048x1024, .f32⟩
  | .hbm, ⟨11, _⟩ => ⟨S2048x4x256, .f32⟩
  | .hbm, ⟨12, _⟩ => ⟨S2048x4x256, .f32⟩
  | .hbm, ⟨13, _⟩ => ⟨S_, .f32⟩
  | .hbm, ⟨14, _⟩ => ⟨S2048x4, .f32⟩
  | .hbm, ⟨15, _⟩ => ⟨S2048x4x1, .f32⟩
  | .hbm, ⟨16, _⟩ => ⟨S_, .f32⟩
  | .hbm, ⟨17, _⟩ => ⟨S2048x4x1, .f32⟩
  | .hbm, ⟨18, _⟩ => ⟨S2048x4x1, .f32⟩
  | .hbm, ⟨19, _⟩ => ⟨S_, .f32⟩
  | .hbm, ⟨20, _⟩ => ⟨S2048x4x1, .f32⟩
  | .hbm, ⟨21, _⟩ => ⟨S2048x4x1, .f32⟩
  | .hbm, ⟨22, _⟩ => ⟨S2048x4x1, .f32⟩
  | .hbm, ⟨23, _⟩ => ⟨S2048x4x256, .f32⟩
  | .hbm, ⟨24, _⟩ => ⟨S2048x4x256, .f32⟩
  | .hbm, ⟨25, _⟩ => ⟨S1x1x256, .f32⟩
  | .hbm, ⟨26, _⟩ => ⟨S2048x4x256, .f32⟩
  | .hbm, ⟨27, _⟩ => ⟨S2048x4x256, .f32⟩
  | .hbm, ⟨28, _⟩ => ⟨S2048x1024, .f32⟩
  | .hbm, ⟨29, _⟩ => ⟨S2048x1024, .f32⟩
  | .hbm, ⟨30, _⟩ => ⟨S2048x1024, .f32⟩
  | .hbm, ⟨31, _⟩ => ⟨S_, .f32⟩
  | .hbm, ⟨32, _⟩ => ⟨S2048x1024, .f32⟩
  | .hbm, ⟨33, _⟩ => ⟨S2048x1024, .f32⟩
  | .hbm, ⟨34, _⟩ => ⟨S_, .f32⟩
  | .hbm, ⟨35, _⟩ => ⟨S2048x1024, .f32⟩
  | .hbm, ⟨36, _⟩ => ⟨S2048x1024, .f32⟩
  | .hbm, ⟨37, _⟩ => ⟨S2048x1024, .f32⟩
  | .hbm, ⟨38, _⟩ => ⟨S2048x1024, .f32⟩
  | .hbm, ⟨39, _⟩ => ⟨S2048x1024, .f32⟩
  | .hbm, ⟨40, _⟩ => ⟨S2048x5648, .bf16⟩
  | .hbm, ⟨41, _⟩ => ⟨S2048x2048, .bf16⟩
  | .hbm, ⟨42, _⟩ => ⟨S2048x2048, .bf16⟩
  | .hbm, ⟨43, _⟩ => ⟨S2048x1536, .bf16⟩
  | .hbm, ⟨44, _⟩ => ⟨S2048x16, .bf16⟩
  | .hbm, ⟨45, _⟩ => ⟨S_, .bf16⟩
  | .hbm, ⟨46, _⟩ => ⟨S2048x112, .bf16⟩
  | .hbm, ⟨47, _⟩ => ⟨S2048x5760, .bf16⟩
  | .hbm, ⟨48, _⟩ => ⟨S512x4x256, .f32⟩
  | .hbm, ⟨49, _⟩ => ⟨S4x512x256, .f32⟩
  | .hbm, ⟨50, _⟩ => ⟨S4x512x256, .bf16⟩
  | .hbm, ⟨51, _⟩ => ⟨S_, .f32⟩
  | .hbm, ⟨52, _⟩ => ⟨S8x128, .f32⟩
  | .hbm, ⟨53, _⟩ => ⟨S2048x1024, .bf16⟩
  | .hbm, ⟨54, _⟩ => ⟨S2048x1024, .bf16⟩
  | .hbm, ⟨55, _⟩ => ⟨S2048x1024, .bf16⟩
  | .hbm, ⟨56, _⟩ => ⟨S2048x1024, .bf16⟩
  | .hbm, ⟨57, _⟩ => ⟨S1024x1024, .bf16⟩
  | .hbm, ⟨58, _⟩ => ⟨S1024x1024, .bf16⟩
  | .hbm, ⟨59, _⟩ => ⟨S2048x5760, .bf16⟩
  | .hbm, ⟨60, _⟩ => ⟨S2048x1024, .bf16⟩
  | .hbm, ⟨61, _⟩ => ⟨S2048x1024, .bf16⟩
  | .hbm, ⟨62, _⟩ => ⟨S2048x512, .bf16⟩
  | .hbm, ⟨63, _⟩ => ⟨S2048x1024, .bf16⟩
  | .hbm, ⟨64, _⟩ => ⟨S2048x1024, .bf16⟩
  | .hbm, ⟨65, _⟩ => ⟨S1x2048, .f32⟩
  | .hbm, ⟨66, _⟩ => ⟨S1x256, .f32⟩
  | .hbm, ⟨67, _⟩ => ⟨S2048x2048, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S1x2048, .f32⟩
  | .local _ .vmem, ⟨15, _⟩ => ⟨S1x256, .f32⟩
  | .local _ .vmem, ⟨16, _⟩ => ⟨S4x512x256, .bf16⟩
  | .local _ .vmem, ⟨17, _⟩ => ⟨S1024x1024, .bf16⟩
  | .local _ .vmem, ⟨18, _⟩ => ⟨S1024x1024, .bf16⟩
  | .local _ .vmem, ⟨19, _⟩ => ⟨S512x2048, .bf16⟩
  | .local _ .vmem, ⟨20, _⟩ => ⟨S512x2048, .bf16⟩
  | .local _ .vmem, ⟨21, _⟩ => ⟨S512x1024, .bf16⟩
  | .local _ .vmem, ⟨22, _⟩ => ⟨S512x1024, .bf16⟩
  | .local _ .vmem, ⟨23, _⟩ => ⟨S512x1024, .bf16⟩
  | .local _ .vmem, ⟨24, _⟩ => ⟨S512x1024, .bf16⟩
  | .local _ .vmem, ⟨25, _⟩ => ⟨S512x512, .bf16⟩
  | .local _ .vmem, ⟨26, _⟩ => ⟨S512x512, .bf16⟩
  | .local _ .vmem, ⟨27, _⟩ => ⟨S512x1024, .bf16⟩
  | .local _ .vmem, ⟨28, _⟩ => ⟨S512x1024, .bf16⟩
  | .local _ .vmem, ⟨29, _⟩ => ⟨S512x1024, .bf16⟩
  | .local _ .vmem, ⟨30, _⟩ => ⟨S512x1024, .bf16⟩
  | .local _ .vmem, ⟨31, _⟩ => ⟨S1x2048, .f32⟩
  | .local _ .vmem, ⟨32, _⟩ => ⟨S1x256, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_call0_v5 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_cst_2 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_cst_3 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37_0 : Ref sig .tc := ⟨.hbm, 59, rfl⟩
abbrev main_v37_1 : Ref sig .tc := ⟨.hbm, 60, rfl⟩
abbrev main_v37_2 : Ref sig .tc := ⟨.hbm, 61, rfl⟩
abbrev main_v37_3 : Ref sig .tc := ⟨.hbm, 62, rfl⟩
abbrev main_v37_4 : Ref sig .tc := ⟨.hbm, 63, rfl⟩
abbrev main_v37_5 : Ref sig .tc := ⟨.hbm, 64, rfl⟩
abbrev main_v37_6 : Ref sig .tc := ⟨.hbm, 65, rfl⟩
abbrev main_v37_7 : Ref sig .tc := ⟨.hbm, 66, rfl⟩
abbrev main_v38 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_stg17_0 : Ref sig .tc := ⟨.vmem, 29, rfl⟩
abbrev cc0_stg17_1 : Ref sig .tc := ⟨.vmem, 30, rfl⟩
abbrev cc0_stg18_0 : Ref sig .tc := ⟨.vmem, 31, rfl⟩
abbrev cc0_stg19_0 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem16_1 : DmaSem sig := 28
abbrev cc0_sem17_0 : DmaSem sig := 29
abbrev cc0_sem17_1 : DmaSem sig := 30
abbrev cc0_sem18_0 : DmaSem sig := 31
abbrev cc0_sem19_0 : DmaSem sig := 32

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4x512x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 1 → Memref sig .tc .vmem S1x2048 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x256 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]
-- ==== Reference5Ideal.lean ====
abbrev S2048x1024 : Shape := ⟨2, ![2048, 1024]⟩
abbrev S2048x5648 : Shape := ⟨2, ![2048, 5648]⟩
abbrev S2048x512 : Shape := ⟨2, ![2048, 512]⟩
abbrev S1x2048 : Shape := ⟨2, ![1, 2048]⟩
abbrev S1x256 : Shape := ⟨2, ![1, 256]⟩
abbrev S512x1024 : Shape := ⟨2, ![512, 1024]⟩
abbrev S1024x1024 : Shape := ⟨2, ![1024, 1024]⟩
abbrev S2048x2048 : Shape := ⟨2, ![2048, 2048]⟩
abbrev S2048x4x256 : Shape := ⟨3, ![2048, 4, 256]⟩
abbrev S_ : Shape := ⟨0, ![]⟩
abbrev S2048x4 : Shape := ⟨2, ![2048, 4]⟩
abbrev S2048x4x1 : Shape := ⟨3, ![2048, 4, 1]⟩
abbrev S1x1x256 : Shape := ⟨3, ![1, 1, 256]⟩
abbrev S2048x2x1024 : Shape := ⟨3, ![2048, 2, 1024]⟩
abbrev S2048x1x1024 : Shape := ⟨3, ![2048, 1, 1024]⟩
abbrev S2048 : Shape := ⟨1, ![2048]⟩
abbrev S256 : Shape := ⟨1, ![256]⟩

abbrev nBuf : Space → Nat
  | .hbm => 131
  | .vmem => 0
  | .smem => 0
  | _ => 0

abbrev hbmTy0_0 (i : Nat) : BufTy := match i % 128 with
  | 0 => ⟨S2048x1024, .f32⟩
  | 1 => ⟨S2048x5648, .f32⟩
  | 2 => ⟨S2048x512, .f32⟩
  | 3 => ⟨S2048x1024, .f32⟩
  | 4 => ⟨S1x2048, .f32⟩
  | 5 => ⟨S1x256, .f32⟩
  | 6 => ⟨S512x1024, .f32⟩
  | 7 => ⟨S1024x1024, .f32⟩
  | 8 => ⟨S1024x1024, .f32⟩
  | 9 => ⟨S2048x1024, .f32⟩
  | 10 => ⟨S2048x2048, .f32⟩
  | 11 => ⟨S2048x1024, .f32⟩
  | 12 => ⟨S2048x4x256, .f32⟩
  | 13 => ⟨S2048x4x256, .f32⟩
  | 14 => ⟨S_, .f32⟩
  | 15 => ⟨S2048x4, .f32⟩
  | 16 => ⟨S2048x4x1, .f32⟩
  | 17 => ⟨S_, .f32⟩
  | 18 => ⟨S2048x4x1, .f32⟩
  | 19 => ⟨S2048x4x1, .f32⟩
  | 20 => ⟨S_, .f32⟩
  | 21 => ⟨S2048x4x1, .f32⟩
  | 22 => ⟨S2048x4x1, .f32⟩
  | 23 => ⟨S2048x4x1, .f32⟩
  | 24 => ⟨S2048x4x1, .f32⟩
  | 25 => ⟨S_, .f32⟩
  | 26 => ⟨S2048x4x1, .f32⟩
  | 27 => ⟨S2048x4x1, .f32⟩
  | 28 => ⟨S2048x4x256, .f32⟩
  | 29 => ⟨S2048x4x256, .f32⟩
  | 30 => ⟨S1x1x256, .f32⟩
  | 31 => ⟨S2048x4x256, .f32⟩
  | 32 => ⟨S2048x4x256, .f32⟩
  | 33 => ⟨S2048x1024, .f32⟩
  | 34 => ⟨S2048x1024, .f32⟩
  | 35 => ⟨S2048x1024, .f32⟩
  | 36 => ⟨S_, .f32⟩
  | 37 => ⟨S2048x1024, .f32⟩
  | 38 => ⟨S2048x1024, .f32⟩
  | 39 => ⟨S_, .f32⟩
  | 40 => ⟨S2048x1024, .f32⟩
  | 41 => ⟨S2048x1024, .f32⟩
  | 42 => ⟨S_, .f32⟩
  | 43 => ⟨S2048x1024, .f32⟩
  | 44 => ⟨S2048x1024, .f32⟩
  | 45 => ⟨S2048x1024, .f32⟩
  | 46 => ⟨S2048x1024, .f32⟩
  | 47 => ⟨S2048x1024, .f32⟩
  | 48 => ⟨S2048x1024, .f32⟩
  | 49 => ⟨S2048x2048, .f32⟩
  | 50 => ⟨S2048x2048, .f32⟩
  | 51 => ⟨S2048x2048, .f32⟩
  | 52 => ⟨S2048x2048, .f32⟩
  | 53 => ⟨S_, .f32⟩
  | 54 => ⟨S2048x2048, .f32⟩
  | 55 => ⟨S2048x2048, .f32⟩
  | 56 => ⟨S_, .f32⟩
  | 57 => ⟨S2048x2048, .f32⟩
  | 58 => ⟨S2048x2048, .f32⟩
  | 59 => ⟨S_, .f32⟩
  | 60 => ⟨S2048x2048, .f32⟩
  | 61 => ⟨S2048x2048, .f32⟩
  | 62 => ⟨S2048x2048, .f32⟩
  | 63 => ⟨S2048x2x1024, .f32⟩
  | 64 => ⟨S2048x1x1024, .f32⟩
  | 65 => ⟨S2048x1024, .f32⟩
  | 66 => ⟨S2048x1024, .f32⟩
  | 67 => ⟨S2048x1x1024, .f32⟩
  | 68 => ⟨S2048x1024, .f32⟩
  | 69 => ⟨S2048x1024, .f32⟩
  | 70 => ⟨S2048x1024, .f32⟩
  | 71 => ⟨S2048x1024, .f32⟩
  | 72 => ⟨S2048x1024, .f32⟩
  | 73 => ⟨S2048x1024, .f32⟩
  | 74 => ⟨S2048x1024, .f32⟩
  | 75 => ⟨S2048x1x1024, .f32⟩
  | 76 => ⟨S_, .f32⟩
  | 77 => ⟨S2048x2x1024, .f32⟩
  | 78 => ⟨S2048x1024, .f32⟩
  | 79 => ⟨S2048x1024, .f32⟩
  | 80 => ⟨S2048x1x1024, .f32⟩
  | 81 => ⟨S_, .f32⟩
  | 82 => ⟨S2048x2x1024, .f32⟩
  | 83 => ⟨S2048x2x1024, .f32⟩
  | 84 => ⟨S2048x2048, .f32⟩
  | 85 => ⟨S2048x2048, .f32⟩
  | 86 => ⟨S_, .f32⟩
  | 87 => ⟨S2048, .f32⟩
  | 88 => ⟨S1x2048, .f32⟩
  | 89 => ⟨S2048x512, .f32⟩
  | 90 => ⟨S2048x1024, .f32⟩
  | 91 => ⟨S2048x1024, .f32⟩
  | 92 => ⟨S2048x1024, .f32⟩
  | 93 => ⟨S2048x1024, .f32⟩
  | 94 => ⟨S2048x1024, .f32⟩
  | 95 => ⟨S2048x1024, .f32⟩
  | 96 => ⟨S2048x1024, .f32⟩
  | 97 => ⟨S2048x4x256, .f32⟩
  | 98 => ⟨S2048x4x256, .f32⟩
  | 99 => ⟨S_, .f32⟩
  | 100 => ⟨S256, .f32⟩
  | 101 => ⟨S1x1x256, .f32⟩
  | 102 => ⟨S2048x4x256, .f32⟩
  | 103 => ⟨S2048x4x256, .f32⟩
  | 104 => ⟨S_, .f32⟩
  | 105 => ⟨S256, .f32⟩
  | 106 => ⟨S1x256, .f32⟩
  | 107 => ⟨S2048x4x256, .f32⟩
  | 108 => ⟨S_, .f32⟩
  | 109 => ⟨S2048x4, .f32⟩
  | 110 => ⟨S2048x4x1, .f32⟩
  | 111 => ⟨S2048x4x256, .f32⟩
  | 112 => ⟨S2048x4x256, .f32⟩
  | 113 => ⟨S2048x4x1, .f32⟩
  | 114 => ⟨S_, .f32⟩
  | 115 => ⟨S2048x4x1, .f32⟩
  | 116 => ⟨S2048x4x1, .f32⟩
  | 117 => ⟨S_, .f32⟩
  | 118 => ⟨S2048x4, .f32⟩
  | 119 => ⟨S2048x4x256, .f32⟩
  | 120 => ⟨S2048x4x256, .f32⟩
  | 121 => ⟨S2048x4x256, .f32⟩
  | 122 => ⟨S2048x4x256, .f32⟩
  | 123 => ⟨S2048x4x256, .f32⟩
  | 124 => ⟨S2048x1024, .f32⟩
  | 125 => ⟨S2048x2048, .bf16⟩
  | 126 => ⟨S2048x1024, .bf16⟩
  | 127 => ⟨S2048x1024, .bf16⟩
  | _ => ⟨S2048x1024, .f32⟩

abbrev hbmTy0_1 (i : Nat) : BufTy := match i % 128 with
  | 0 => ⟨S2048x512, .bf16⟩
  | 1 => ⟨S2048x1024, .bf16⟩
  | 2 => ⟨S2048x1024, .bf16⟩
  | _ => ⟨S2048x1024, .f32⟩

abbrev hbmTy (i : Nat) : BufTy := match i / 128 with
  | 0 => hbmTy0_0 i
  | 1 => hbmTy0_1 i
  | _ => ⟨S2048x1024, .f32⟩

abbrev bufTy : (tb : Table) → Fin (tcTables nBuf tb) → BufTy
  | .hbm, ⟨i, _⟩ => hbmTy i
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_call0_v0 : Ref sig .tc := ⟨.hbm, 34, rfl⟩
abbrev main_call0_v1 : Ref sig .tc := ⟨.hbm, 35, rfl⟩
abbrev main_call0_cst : Ref sig .tc := ⟨.hbm, 36, rfl⟩
abbrev main_call0_v2 : Ref sig .tc := ⟨.hbm, 37, rfl⟩
abbrev main_call0_v3 : Ref sig .tc := ⟨.hbm, 38, rfl⟩
abbrev main_call0_cst_0 : Ref sig .tc := ⟨.hbm, 39, rfl⟩
abbrev main_call0_v4 : Ref sig .tc := ⟨.hbm, 40, rfl⟩
abbrev main_v21_2 : Ref sig .tc := ⟨.hbm, 41, rfl⟩
abbrev main_call0_cst_1 : Ref sig .tc := ⟨.hbm, 42, rfl⟩
abbrev main_call0_v6 : Ref sig .tc := ⟨.hbm, 43, rfl⟩
abbrev main_call0_v7 : Ref sig .tc := ⟨.hbm, 44, rfl⟩
abbrev main_v21_1 : Ref sig .tc := ⟨.hbm, 45, rfl⟩
abbrev main_v21_0 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_cst_3 : Ref sig .tc := ⟨.hbm, 53, rfl⟩
abbrev main_v28 : Ref sig .tc := ⟨.hbm, 54, rfl⟩
abbrev main_v29 : Ref sig .tc := ⟨.hbm, 55, rfl⟩
abbrev main_cst_4 : Ref sig .tc := ⟨.hbm, 56, rfl⟩
abbrev main_v30 : Ref sig .tc := ⟨.hbm, 57, rfl⟩
abbrev main_v31 : Ref sig .tc := ⟨.hbm, 58, rfl⟩
abbrev main_cst_5 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_cst_6 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_cst_7 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_cst_8 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_call1_v0 : Ref sig .tc := ⟨.hbm, 93, rfl⟩
abbrev main_call1_v1 : Ref sig .tc := ⟨.hbm, 94, rfl⟩
abbrev main_call1_v2 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_cst_9 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_cst_10 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_cst_11 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_cst_12 : Ref sig .tc := ⟨.hbm, 114, rfl⟩
abbrev main_v77 : Ref sig .tc := ⟨.hbm, 115, rfl⟩
abbrev main_v78 : Ref sig .tc := ⟨.hbm, 116, rfl⟩
abbrev main_cst_13 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩

abbrev nD : Nat := 1
abbrev τ : Topo := Topo.v7x

variable {F : FTy → Type} [FloatOps F]
-- ==== Kernel6.lean ====
abbrev S2048x1024 : Shape := ⟨2, ![2048, 1024]⟩
abbrev S1024x5632 : Shape := ⟨2, ![1024, 5632]⟩
abbrev S1024x4x1408 : Shape := ⟨3, ![1024, 4, 1408]⟩
abbrev S4x1024x1408 : Shape := ⟨3, ![4, 1024, 1408]⟩
abbrev S_ : Shape := ⟨0, ![]⟩
abbrev S8x128 : Shape := ⟨2, ![8, 128]⟩
abbrev S2048x5632 : Shape := ⟨2, ![2048, 5632]⟩
abbrev S1x1024x1408 : Shape := ⟨3, ![1, 1024, 1408]⟩
abbrev S2048x1408 : Shape := ⟨2, ![2048, 1408]⟩
abbrev S512x1024 : Shape := ⟨2, ![512, 1024]⟩
abbrev S1024x1408 : Shape := ⟨2, ![1024, 1408]⟩
abbrev S512x1408 : Shape := ⟨2, ![512, 1408]⟩

abbrev nBuf : Space → Nat
  | .hbm => 9
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S1024x5632, .f32⟩
  | .hbm, ⟨2, _⟩ => ⟨S1024x4x1408, .f32⟩
  | .hbm, ⟨3, _⟩ => ⟨S4x1024x1408, .f32⟩
  | .hbm, ⟨4, _⟩ => ⟨S4x1024x1408, .bf16⟩
  | .hbm, ⟨5, _⟩ => ⟨S_, .f32⟩
  | .hbm, ⟨6, _⟩ => ⟨S8x128, .f32⟩
  | .hbm, ⟨7, _⟩ => ⟨S2048x1024, .bf16⟩
  | .hbm, ⟨8, _⟩ => ⟨S2048x5632, .bf16⟩
  | .local _ .vmem, ⟨0, _⟩ => ⟨S2048x1024, .bf16⟩
  | .local _ .vmem, ⟨1, _⟩ => ⟨S1x1024x1408, .bf16⟩
  | .local _ .vmem, ⟨2, _⟩ => ⟨S1x1024x1408, .bf16⟩
  | .local _ .vmem, ⟨3, _⟩ => ⟨S2048x1408, .bf16⟩
  | .local _ .vmem, ⟨4, _⟩ => ⟨S2048x1408, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference6Ideal.lean ====
abbrev S2048x1024 : Shape := ⟨2, ![2048, 1024]⟩
abbrev S1024x5632 : Shape := ⟨2, ![1024, 5632]⟩
abbrev S2048x5632 : Shape := ⟨2, ![2048, 5632]⟩

abbrev nBuf : Space → Nat
  | .hbm => 4
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x5632, .f32⟩
  | .hbm, ⟨2, _⟩ => ⟨S2048x5632, .f32⟩
  | .hbm, ⟨3, _⟩ => ⟨S2048x5632, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel7.lean ====
abbrev S2048x1024 : Shape := ⟨2, ![2048, 1024]⟩
abbrev S2048x5648 : Shape := ⟨2, ![2048, 5648]⟩
abbrev S2048x512 : Shape := ⟨2, ![2048, 512]⟩
abbrev S1x2048 : Shape := ⟨2, ![1, 2048]⟩
abbrev S512x1024 : Shape := ⟨2, ![512, 1024]⟩
abbrev S1024x1024 : Shape := ⟨2, ![1024, 1024]⟩
abbrev S1x1024 : Shape := ⟨2, ![1, 1024]⟩
abbrev S2048x2048 : Shape := ⟨2, ![2048, 2048]⟩
abbrev S2048x1536 : Shape := ⟨2, ![2048, 1536]⟩
abbrev S2048x16 : Shape := ⟨2, ![2048, 16]⟩
abbrev S_ : Shape := ⟨0, ![]⟩
abbrev S2048x112 : Shape := ⟨2, ![2048, 112]⟩
abbrev S2048x5760 : Shape := ⟨2, ![2048, 5760]⟩
abbrev S512x4x256 : Shape := ⟨3, ![512, 4, 256]⟩
abbrev S4x512x256 : Shape := ⟨3, ![4, 512, 256]⟩
abbrev S8x128 : Shape := ⟨2, ![8, 128]⟩
abbrev S512x512 : Shape := ⟨2, ![512, 512]⟩
abbrev S1x512x256 : Shape := ⟨3, ![1, 512, 256]⟩
abbrev S512x256 : Shape := ⟨2, ![512, 256]⟩
abbrev S512 : Shape := ⟨1, ![512]⟩
abbrev S512x1 : Shape := ⟨2, ![512, 1]⟩

abbrev nBuf : Space → Nat
  | .hbm => 31
  | .vmem => 25
  | .smem => 0
  | _ => 0

abbrev bufTy : (tb : Table) → Fin (tcTables nBuf tb) → BufTy
  | .hbm, ⟨0, _⟩ => ⟨S2048x1024, .f32⟩
  | .hbm, ⟨1, _⟩ => ⟨S2048x5648, .f32⟩
  | .hbm, ⟨2, _⟩ => ⟨S2048x512, .f32⟩
  | .hbm, ⟨3, _⟩ => ⟨S2048x1024, .f32⟩
  | .hbm, ⟨4, _⟩ => ⟨S1x2048, .f32⟩
  | .hbm, ⟨5, _⟩ => ⟨S512x1024, .f32⟩
  | .hbm, ⟨6, _⟩ => ⟨S1024x1024, .f32⟩
  | .hbm, ⟨7, _⟩ => ⟨S1024x1024, .f32⟩
  | .hbm, ⟨8, _⟩ => ⟨S1x1024, .f32⟩
  | .hbm, ⟨9, _⟩ => ⟨S2048x5648, .bf16⟩
  | .hbm, ⟨10, _⟩ => ⟨S2048x2048, .bf16⟩
  | .hbm, ⟨11, _⟩ => ⟨S2048x2048, .bf16⟩
  | .hbm, ⟨12, _⟩ => ⟨S2048x1536, .bf16⟩
  | .hbm, ⟨13, _⟩ => ⟨S2048x16, .bf16⟩
  | .hbm, ⟨14, _⟩ => ⟨S_, .bf16⟩
  | .hbm, ⟨15, _⟩ => ⟨S2048x112, .bf16⟩
  | .hbm, ⟨16, _⟩ => ⟨S2048x5760, .bf16⟩
  | .hbm, ⟨17, _⟩ => ⟨S512x4x256, .f32⟩
  | .hbm, ⟨18, _⟩ => ⟨S4x512x256, .f32⟩
  | .hbm, ⟨19, _⟩ => ⟨S4x512x256, .bf16⟩
  | .hbm, ⟨20, _⟩ => ⟨S_, .f32⟩
  | .hbm, ⟨21, _⟩ => ⟨S8x128, .f32⟩
  | .hbm, ⟨22, _⟩ => ⟨S2048x512, .bf16⟩
  | .hbm, ⟨23, _⟩ => ⟨S2048x1024, .bf16⟩
  | .hbm, ⟨24, _⟩ => ⟨S1024x1024, .bf16⟩
  | .hbm, ⟨25, _⟩ => ⟨S1024x1024, .bf16⟩
  | .hbm, ⟨26, _⟩ => ⟨S2048x1024, .f32⟩
  | .hbm, ⟨27, _⟩ => ⟨S2048x1024, .bf16⟩
  | .hbm, ⟨28, _⟩ => ⟨S2048x1024, .bf16⟩
  | .hbm, ⟨29, _⟩ => ⟨S2048x1024, .bf16⟩
  | .hbm, ⟨30, _⟩ => ⟨S2048x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x512, .bf16⟩
  | .local _ .vmem, ⟨7, _⟩ => ⟨S512x512, .bf16⟩
  | .local _ .vmem, ⟨8, _⟩ => ⟨S512x1024, .bf16⟩
  | .local _ .vmem, ⟨9, _⟩ => ⟨S512x1024, .bf16⟩
  | .local _ .vmem, ⟨10, _⟩ => ⟨S1x2048, .f32⟩
  | .local _ .vmem, ⟨11, _⟩ => ⟨S4x512x256, .bf16⟩
  | .local _ .vmem, ⟨12, _⟩ => ⟨S1024x1024, .bf16⟩
  | .local _ .vmem, ⟨13, _⟩ => ⟨S1024x1024, .bf16⟩
  | .local _ .vmem, ⟨14, _⟩ => ⟨S1x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S512x1024, .bf16⟩
  | .local _ .vmem, ⟨22, _⟩ => ⟨S512x1024, .bf16⟩
  | .local _ .vmem, ⟨23, _⟩ => ⟨S512x1024, .bf16⟩
  | .local _ .vmem, ⟨24, _⟩ => ⟨S512x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15_0 : Ref sig .tc := ⟨.hbm, 26, rfl⟩
abbrev main_v15_1 : Ref sig .tc := ⟨.hbm, 27, rfl⟩
abbrev main_v15_2 : Ref sig .tc := ⟨.hbm, 28, rfl⟩
abbrev main_v15_3 : Ref sig .tc := ⟨.hbm, 29, rfl⟩
abbrev main_v15_4 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x512x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Reference7Ideal.lean ====
abbrev S2048x1024 : Shape := ⟨2, ![2048, 1024]⟩
abbrev S2048x5648 : Shape := ⟨2, ![2048, 5648]⟩
abbrev S2048x512 : Shape := ⟨2, ![2048, 512]⟩
abbrev S1x2048 : Shape := ⟨2, ![1, 2048]⟩
abbrev S512x1024 : Shape := ⟨2, ![512, 1024]⟩
abbrev S1024x1024 : Shape := ⟨2, ![1024, 1024]⟩
abbrev S1x1024 : Shape := ⟨2, ![1, 1024]⟩
abbrev S2048x2048 : Shape := ⟨2, ![2048, 2048]⟩
abbrev S_ : Shape := ⟨0, ![]⟩
abbrev S2048x2x1024 : Shape := ⟨3, ![2048, 2, 1024]⟩
abbrev S2048x1x1024 : Shape := ⟨3, ![2048, 1, 1024]⟩
abbrev S2048 : Shape := ⟨1, ![2048]⟩
abbrev S2048x1 : Shape := ⟨2, ![2048, 1]⟩

abbrev nBuf : Space → Nat
  | .hbm => 51
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x5648, .f32⟩
  | .hbm, ⟨2, _⟩ => ⟨S2048x512, .f32⟩
  | .hbm, ⟨3, _⟩ => ⟨S2048x1024, .f32⟩
  | .hbm, ⟨4, _⟩ => ⟨S1x2048, .f32⟩
  | .hbm, ⟨5, _⟩ => ⟨S512x1024, .f32⟩
  | .hbm, ⟨6, _⟩ => ⟨S1024x1024, .f32⟩
  | .hbm, ⟨7, _⟩ => ⟨S1024x1024, .f32⟩
  | .hbm, ⟨8, _⟩ => ⟨S1x1024, .f32⟩
  | .hbm, ⟨9, _⟩ => ⟨S2048x1024, .f32⟩
  | .hbm, ⟨10, _⟩ => ⟨S2048x1024, .f32⟩
  | .hbm, ⟨11, _⟩ => ⟨S2048x2048, .f32⟩
  | .hbm, ⟨12, _⟩ => ⟨S2048x2048, .f32⟩
  | .hbm, ⟨13, _⟩ => ⟨S2048x2048, .f32⟩
  | .hbm, ⟨14, _⟩ => ⟨S2048x2048, .f32⟩
  | .hbm, ⟨15, _⟩ => ⟨S2048x2048, .f32⟩
  | .hbm, ⟨16, _⟩ => ⟨S_, .f32⟩
  | .hbm, ⟨17, _⟩ => ⟨S2048x2048, .f32⟩
  | .hbm, ⟨18, _⟩ => ⟨S2048x2048, .f32⟩
  | .hbm, ⟨19, _⟩ => ⟨S_, .f32⟩
  | .hbm, ⟨20, _⟩ => ⟨S2048x2048, .f32⟩
  | .hbm, ⟨21, _⟩ => ⟨S2048x2048, .f32⟩
  | .hbm, ⟨22, _⟩ => ⟨S2048x2x1024, .f32⟩
  | .hbm, ⟨23, _⟩ => ⟨S2048x1x1024, .f32⟩
  | .hbm, ⟨24, _⟩ => ⟨S2048x1024, .f32⟩
  | .hbm, ⟨25, _⟩ => ⟨S2048x1024, .f32⟩
  | .hbm, ⟨26, _⟩ => ⟨S2048x1x1024, .f32⟩
  | .hbm, ⟨27, _⟩ => ⟨S2048x1024, .f32⟩
  | .hbm, ⟨28, _⟩ => ⟨S2048x1024, .f32⟩
  | .hbm, ⟨29, _⟩ => ⟨S2048x1024, .f32⟩
  | .hbm, ⟨30, _⟩ => ⟨S2048x1024, .f32⟩
  | .hbm, ⟨31, _⟩ => ⟨S2048x1024, .f32⟩
  | .hbm, ⟨32, _⟩ => ⟨S2048x1024, .bf16⟩
  | .hbm, ⟨33, _⟩ => ⟨S2048x1024, .bf16⟩
  | .hbm, ⟨34, _⟩ => ⟨S2048x1024, .bf16⟩
  | .hbm, ⟨35, _⟩ => ⟨S2048x1024, .f32⟩
  | .hbm, ⟨36, _⟩ => ⟨S_, .f32⟩
  | .hbm, ⟨37, _⟩ => ⟨S2048, .f32⟩
  | .hbm, ⟨38, _⟩ => ⟨S2048x1, .f32⟩
  | .hbm, ⟨39, _⟩ => ⟨S_, .f32⟩
  | .hbm, ⟨40, _⟩ => ⟨S2048x1, .f32⟩
  | .hbm, ⟨41, _⟩ => ⟨S2048x1, .f32⟩
  | .hbm, ⟨42, _⟩ => ⟨S_, .f32⟩
  | .hbm, ⟨43, _⟩ => ⟨S2048x1, .f32⟩
  | .hbm, ⟨44, _⟩ => ⟨S2048x1, .f32⟩
  | .hbm, ⟨45, _⟩ => ⟨S2048x1, .f32⟩
  | .hbm, ⟨46, _⟩ => ⟨S2048x1024, .f32⟩
  | .hbm, ⟨47, _⟩ => ⟨S2048x1024, .f32⟩
  | .hbm, ⟨48, _⟩ => ⟨S2048x1024, .f32⟩
  | .hbm, ⟨49, _⟩ => ⟨S2048x1024, .f32⟩
  | .hbm, ⟨50, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_1 : Ref sig .tc := ⟨.hbm, 36, rfl⟩
abbrev main_v25 : Ref sig .tc := ⟨.hbm, 37, rfl⟩
abbrev main_v26 : Ref sig .tc := ⟨.hbm, 38, rfl⟩
abbrev main_cst_2 : Ref sig .tc := ⟨.hbm, 39, rfl⟩
abbrev main_v27 : Ref sig .tc := ⟨.hbm, 40, rfl⟩
abbrev main_v28 : Ref sig .tc := ⟨.hbm, 41, rfl⟩
abbrev main_cst_3 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩

abbrev nD : Nat := 1
abbrev τ : Topo := Topo.v7x

variable {F : FTy → Type} [FloatOps F]
-- ==== Kernel8.lean ====
abbrev S2048x5632 : Shape := ⟨2, ![2048, 5632]⟩
abbrev S2048x1024 : Shape := ⟨2, ![2048, 1024]⟩
abbrev S3x5632 : Shape := ⟨2, ![3, 5632]⟩
abbrev S1x5632 : Shape := ⟨2, ![1, 5632]⟩
abbrev S2816x1024 : Shape := ⟨2, ![2816, 1024]⟩
abbrev S1x1024 : Shape := ⟨2, ![1, 1024]⟩
abbrev S2048x2816 : Shape := ⟨2, ![2048, 2816]⟩
abbrev S1x128 : Shape := ⟨2, ![1, 128]⟩
abbrev S256x5632 : Shape := ⟨2, ![256, 5632]⟩
abbrev S16x5632 : Shape := ⟨2, ![16, 5632]⟩
abbrev S256x1024 : Shape := ⟨2, ![256, 1024]⟩
abbrev S256x2816 : Shape := ⟨2, ![256, 2816]⟩
abbrev S256x1408 : Shape := ⟨2, ![256, 1408]⟩
abbrev S16x1408 : Shape := ⟨2, ![16, 1408]⟩
abbrev S1408 : Shape := ⟨1, ![1408]⟩
abbrev S1x1408 : Shape := ⟨2, ![1, 1408]⟩
abbrev S8x1408 : Shape := ⟨2, ![8, 1408]⟩
abbrev S248x1408 : Shape := ⟨2, ![248, 1408]⟩
abbrev S1408x1024 : Shape := ⟨2, ![1408, 1024]⟩
abbrev S256 : Shape := ⟨1, ![256]⟩
abbrev S256x1 : Shape := ⟨2, ![256, 1]⟩
abbrev S1 : Shape := ⟨1, ![1]⟩
abbrev S1x1 : Shape := ⟨2, ![1, 1]⟩
abbrev S1024 : Shape := ⟨1, ![1024]⟩

abbrev nBuf : Space → Nat
  | .hbm => 15
  | .vmem => 22
  | .smem => 0
  | _ => 0

abbrev bufTy : (tb : Table) → Fin (tcTables nBuf tb) → BufTy
  | .hbm, ⟨0, _⟩ => ⟨S2048x5632, .f32⟩
  | .hbm, ⟨1, _⟩ => ⟨S2048x1024, .f32⟩
  | .hbm, ⟨2, _⟩ => ⟨S2048x1024, .f32⟩
  | .hbm, ⟨3, _⟩ => ⟨S3x5632, .f32⟩
  | .hbm, ⟨4, _⟩ => ⟨S1x5632, .f32⟩
  | .hbm, ⟨5, _⟩ => ⟨S2816x1024, .f32⟩
  | .hbm, ⟨6, _⟩ => ⟨S1x1024, .f32⟩
  | .hbm, ⟨7, _⟩ => ⟨S2048x5632, .bf16⟩
  | .hbm, ⟨8, _⟩ => ⟨S2816x1024, .bf16⟩
  | .hbm, ⟨9, _⟩ => ⟨S2048x2816, .bf16⟩
  | .hbm, ⟨10, _⟩ => ⟨S2048x5632, .bf16⟩
  | .hbm, ⟨11, _⟩ => ⟨S2048x1024, .f32⟩
  | .hbm, ⟨12, _⟩ => ⟨S2048x1024, .bf16⟩
  | .hbm, ⟨13, _⟩ => ⟨S1x128, .f32⟩
  | .hbm, ⟨14, _⟩ => ⟨S1x1024, .f32⟩
  | .local _ .vmem, ⟨0, _⟩ => ⟨S256x5632, .bf16⟩
  | .local _ .vmem, ⟨1, _⟩ => ⟨S256x5632, .bf16⟩
  | .local _ .vmem, ⟨2, _⟩ => ⟨S16x5632, .bf16⟩
  | .local _ .vmem, ⟨3, _⟩ => ⟨S16x5632, .bf16⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S3x5632, .f32⟩
  | .local _ .vmem, ⟨9, _⟩ => ⟨S1x5632, .f32⟩
  | .local _ .vmem, ⟨10, _⟩ => ⟨S2816x1024, .bf16⟩
  | .local _ .vmem, ⟨11, _⟩ => ⟨S1x1024, .f32⟩
  | .local _ .vmem, ⟨12, _⟩ => ⟨S256x2816, .bf16⟩
  | .local _ .vmem, ⟨13, _⟩ => ⟨S256x2816, .bf16⟩
  | .local _ .vmem, ⟨14, _⟩ => ⟨S256x5632, .bf16⟩
  | .local _ .vmem, ⟨15, _⟩ => ⟨S256x5632, .bf16⟩
  | .local _ .vmem, ⟨16, _⟩ => ⟨S256x1024, .f32⟩
  | .local _ .vmem, ⟨17, _⟩ => ⟨S256x1024, .f32⟩
  | .local _ .vmem, ⟨18, _⟩ => ⟨S256x1024, .bf16⟩
  | .local _ .vmem, ⟨19, _⟩ => ⟨S256x1024, .bf16⟩
  | .local _ .vmem, ⟨20, _⟩ => ⟨S1x128, .f32⟩
  | .local _ .vmem, ⟨21, _⟩ => ⟨S1x1024, .f32⟩
  | _, _ => ⟨S2048x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v2_2 : Ref sig .tc := ⟨.hbm, 11, rfl⟩
abbrev main_v2_3 : Ref sig .tc := ⟨.hbm, 12, rfl⟩
abbrev main_v2_4 : Ref sig .tc := ⟨.hbm, 13, rfl⟩
abbrev main_v2_5 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg13_0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem13_0 : DmaSem sig := 21

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x5632 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S3x5632 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x5632 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x2816 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x5632 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== Reference8Ideal.lean ====
abbrev S2048x5632 : Shape := ⟨2, ![2048, 5632]⟩
abbrev S2048x1024 : Shape := ⟨2, ![2048, 1024]⟩
abbrev S3x5632 : Shape := ⟨2, ![3, 5632]⟩
abbrev S1x5632 : Shape := ⟨2, ![1, 5632]⟩
abbrev S2816x1024 : Shape := ⟨2, ![2816, 1024]⟩
abbrev S1x1024 : Shape := ⟨2, ![1, 1024]⟩
abbrev S_ : Shape := ⟨0, ![]⟩
abbrev S2x5632 : Shape := ⟨2, ![2, 5632]⟩
abbrev S2050x5632 : Shape := ⟨2, ![2050, 5632]⟩
abbrev S5632 : Shape := ⟨1, ![5632]⟩
abbrev S2048x2816 : Shape := ⟨2, ![2048, 2816]⟩
abbrev S2048 : Shape := ⟨1, ![2048]⟩
abbrev S2048x1 : Shape := ⟨2, ![2048, 1]⟩
abbrev S1024 : Shape := ⟨1, ![1024]⟩
abbrev S1x128 : Shape := ⟨2, ![1, 128]⟩

abbrev nBuf : Space → Nat
  | .hbm => 118
  | .vmem => 0
  | .smem => 0
  | _ => 0

abbrev bufTy : (tb : Table) → Fin (tcTables nBuf tb) → BufTy
  | .hbm, ⟨0, _⟩ => ⟨S2048x5632, .f32⟩
  | .hbm, ⟨1, _⟩ => ⟨S2048x1024, .f32⟩
  | .hbm, ⟨2, _⟩ => ⟨S2048x1024, .f32⟩
  | .hbm, ⟨3, _⟩ => ⟨S3x5632, .f32⟩
  | .hbm, ⟨4, _⟩ => ⟨S1x5632, .f32⟩
  | .hbm, ⟨5, _⟩ => ⟨S2816x1024, .f32⟩
  | .hbm, ⟨6, _⟩ => ⟨S1x1024, .f32⟩
  | .hbm, ⟨7, _⟩ => ⟨S_, .f32⟩
  | .hbm, ⟨8, _⟩ => ⟨S2x5632, .f32⟩
  | .hbm, ⟨9, _⟩ => ⟨S2050x5632, .f32⟩
  | .hbm, ⟨10, _⟩ => ⟨S2048x5632, .f32⟩
  | .hbm, ⟨11, _⟩ => ⟨S1x5632, .f32⟩
  | .hbm, ⟨12, _⟩ => ⟨S5632, .f32⟩
  | .hbm, ⟨13, _⟩ => ⟨S1x5632, .f32⟩
  | .hbm, ⟨14, _⟩ => ⟨S2048x5632, .f32⟩
  | .hbm, ⟨15, _⟩ => ⟨S2048x5632, .f32⟩
  | .hbm, ⟨16, _⟩ => ⟨S_, .f32⟩
  | .hbm, ⟨17, _⟩ => ⟨S2048x5632, .f32⟩
  | .hbm, ⟨18, _⟩ => ⟨S2048x5632, .f32⟩
  | .hbm, ⟨19, _⟩ => ⟨S2048x5632, .f32⟩
  | .hbm, ⟨20, _⟩ => ⟨S1x5632, .f32⟩
  | .hbm, ⟨21, _⟩ => ⟨S5632, .f32⟩
  | .hbm, ⟨22, _⟩ => ⟨S1x5632, .f32⟩
  | .hbm, ⟨23, _⟩ => ⟨S2048x5632, .f32⟩
  | .hbm, ⟨24, _⟩ => ⟨S2048x5632, .f32⟩
  | .hbm, ⟨25, _⟩ => ⟨S2048x5632, .f32⟩
  | .hbm, ⟨26, _⟩ => ⟨S2048x5632, .f32⟩
  | .hbm, ⟨27, _⟩ => ⟨S1x5632, .f32⟩
  | .hbm, ⟨28, _⟩ => ⟨S5632, .f32⟩
  | .hbm, ⟨29, _⟩ => ⟨S1x5632, .f32⟩
  | .hbm, ⟨30, _⟩ => ⟨S2048x5632, .f32⟩
  | .hbm, ⟨31, _⟩ => ⟨S2048x5632, .f32⟩
  | .hbm, ⟨32, _⟩ => ⟨S2048x5632, .f32⟩
  | .hbm, ⟨33, _⟩ => ⟨S2048x5632, .f32⟩
  | .hbm, ⟨34, _⟩ => ⟨S2048x5632, .f32⟩
  | .hbm, ⟨35, _⟩ => ⟨S2048x2816, .f32⟩
  | .hbm, ⟨36, _⟩ => ⟨S2048x2816, .f32⟩
  | .hbm, ⟨37, _⟩ => ⟨S2048x2816, .f32⟩
  | .hbm, ⟨38, _⟩ => ⟨S2048x2816, .f32⟩
  | .hbm, ⟨39, _⟩ => ⟨S_, .f32⟩
  | .hbm, ⟨40, _⟩ => ⟨S2048x2816, .f32⟩
  | .hbm, ⟨41, _⟩ => ⟨S2048x2816, .f32⟩
  | .hbm, ⟨42, _⟩ => ⟨S_, .f32⟩
  | .hbm, ⟨43, _⟩ => ⟨S2048x2816, .f32⟩
  | .hbm, ⟨44, _⟩ => ⟨S2048x2816, .f32⟩
  | .hbm, ⟨45, _⟩ => ⟨S2048x2816, .f32⟩
  | .hbm, ⟨46, _⟩ => ⟨S2048x2816, .f32⟩
  | .hbm, ⟨47, _⟩ => ⟨S2048x1024, .f32⟩
  | .hbm, ⟨48, _⟩ => ⟨S2048x1024, .f32⟩
  | .hbm, ⟨49, _⟩ => ⟨S2048x1024, .f32⟩
  | .hbm, ⟨50, _⟩ => ⟨S_, .f32⟩
  | .hbm, ⟨51, _⟩ => ⟨S2048, .f32⟩
  | .hbm, ⟨52, _⟩ => ⟨S2048x1, .f32⟩
  | .hbm, ⟨53, _⟩ => ⟨S_, .f32⟩
  | .hbm, ⟨54, _⟩ => ⟨S2048x1, .f32⟩
  | .hbm, ⟨55, _⟩ => ⟨S2048x1, .f32⟩
  | .hbm, ⟨56, _⟩ => ⟨S_, .f32⟩
  | .hbm, ⟨57, _⟩ => ⟨S2048x1, .f32⟩
  | .hbm, ⟨58, _⟩ => ⟨S2048x1, .f32⟩
  | .hbm, ⟨59, _⟩ => ⟨S2048x1, .f32⟩
  | .hbm, ⟨60, _⟩ => ⟨S2048x1, .f32⟩
  | .hbm, ⟨61, _⟩ => ⟨S_, .f32⟩
  | .hbm, ⟨62, _⟩ => ⟨S2048x1, .f32⟩
  | .hbm, ⟨63, _⟩ => ⟨S2048x1, .f32⟩
  | .hbm, ⟨64, _⟩ => ⟨S2048x1024, .f32⟩
  | .hbm, ⟨65, _⟩ => ⟨S2048x1024, .f32⟩
  | .hbm, ⟨66, _⟩ => ⟨S2048x1024, .f32⟩
  | .hbm, ⟨67, _⟩ => ⟨S2048x1024, .f32⟩
  | .hbm, ⟨68, _⟩ => ⟨S2048x1024, .f32⟩
  | .hbm, ⟨69, _⟩ => ⟨S2048x1024, .f32⟩
  | .hbm, ⟨70, _⟩ => ⟨S_, .f32⟩
  | .hbm, ⟨71, _⟩ => ⟨S2048x1024, .f32⟩
  | .hbm, ⟨72, _⟩ => ⟨S2048x1024, .f32⟩
  | .hbm, ⟨73, _⟩ => ⟨S_, .f32⟩
  | .hbm, ⟨74, _⟩ => ⟨S2048, .f32⟩
  | .hbm, ⟨75, _⟩ => ⟨S_, .f32⟩
  | .hbm, ⟨76, _⟩ => ⟨S2048, .f32⟩
  | .hbm, ⟨77, _⟩ => ⟨S2048, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S2048, .f32⟩
  | .hbm, ⟨86, _⟩ => ⟨S_, .f32⟩
  | .hbm, ⟨87, _⟩ => ⟨S2048, .f32⟩
  | .hbm, ⟨88, _⟩ => ⟨S2048, .f32⟩
  | .hbm, ⟨89, _⟩ => ⟨S2048x1024, .f32⟩
  | .hbm, ⟨90, _⟩ => ⟨S2048x1024, .f32⟩
  | .hbm, ⟨91, _⟩ => ⟨S2048x1024, .f32⟩
  | .hbm, ⟨92, _⟩ => ⟨S_, .f32⟩
  | .hbm, ⟨93, _⟩ => ⟨S1024, .f32⟩
  | .hbm, ⟨94, _⟩ => ⟨S1x1024, .f32⟩
  | .hbm, ⟨95, _⟩ => ⟨S2048x1024, .f32⟩
  | .hbm, ⟨96, _⟩ => ⟨S2048x1024, .f32⟩
  | .hbm, ⟨97, _⟩ => ⟨S2048x1024, .f32⟩
  | .hbm, ⟨98, _⟩ => ⟨S_, .f32⟩
  | .hbm, ⟨99, _⟩ => ⟨S2048, .f32⟩
  | .hbm, ⟨100, _⟩ => ⟨S2048x1, .f32⟩
  | .hbm, ⟨101, _⟩ => ⟨S2048x1024, .f32⟩
  | .hbm, ⟨102, _⟩ => ⟨S2048x1024, .f32⟩
  | .hbm, ⟨103, _⟩ => ⟨S2048x1, .f32⟩
  | .hbm, ⟨104, _⟩ => ⟨S_, .f32⟩
  | .hbm, ⟨105, _⟩ => ⟨S2048x1, .f32⟩
  | .hbm, ⟨106, _⟩ => ⟨S2048x1, .f32⟩
  | .hbm, ⟨107, _⟩ => ⟨S_, .f32⟩
  | .hbm, ⟨108, _⟩ => ⟨S2048, .f32⟩
  | .hbm, ⟨109, _⟩ => ⟨S2048x1024, .f32⟩
  | .hbm, ⟨110, _⟩ => ⟨S2048x1024, .f32⟩
  | .hbm, ⟨111, _⟩ => ⟨S2048x1024, .f32⟩
  | .hbm, ⟨112, _⟩ => ⟨S2048x1024, .f32⟩
  | .hbm, ⟨113, _⟩ => ⟨S2048x1024, .f32⟩
  | .hbm, ⟨114, _⟩ => ⟨S2048x2816, .bf16⟩
  | .hbm, ⟨115, _⟩ => ⟨S2048x5632, .bf16⟩
  | .hbm, ⟨116, _⟩ => ⟨S2048x1024, .bf16⟩
  | .hbm, ⟨117, _⟩ => ⟨S1x128, .f32⟩
  | _, _ => ⟨S2048x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_call0_v0 : Ref sig .tc := ⟨.hbm, 37, rfl⟩
abbrev main_call0_v1 : Ref sig .tc := ⟨.hbm, 38, rfl⟩
abbrev main_call0_cst : Ref sig .tc := ⟨.hbm, 39, rfl⟩
abbrev main_call0_v2 : Ref sig .tc := ⟨.hbm, 40, rfl⟩
abbrev main_call0_v3 : Ref sig .tc := ⟨.hbm, 41, rfl⟩
abbrev main_call0_cst_0 : Ref sig .tc := ⟨.hbm, 42, rfl⟩
abbrev main_call0_v4 : Ref sig .tc := ⟨.hbm, 43, rfl⟩
abbrev main_call0_v5 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_1 : Ref sig .tc := ⟨.hbm, 50, rfl⟩
abbrev main_v33 : Ref sig .tc := ⟨.hbm, 51, rfl⟩
abbrev main_v34 : Ref sig .tc := ⟨.hbm, 52, rfl⟩
abbrev main_cst_2 : Ref sig .tc := ⟨.hbm, 53, rfl⟩
abbrev main_v35 : Ref sig .tc := ⟨.hbm, 54, rfl⟩
abbrev main_v36 : Ref sig .tc := ⟨.hbm, 55, rfl⟩
abbrev main_cst_3 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_4 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_5 : Ref sig .tc := ⟨.hbm, 70, rfl⟩
abbrev main_v49 : Ref sig .tc := ⟨.hbm, 71, rfl⟩
abbrev main_v50 : Ref sig .tc := ⟨.hbm, 72, rfl⟩
abbrev main_cst_6 : Ref sig .tc := ⟨.hbm, 73, rfl⟩
abbrev main_v51 : Ref sig .tc := ⟨.hbm, 74, rfl⟩
abbrev main_cst_7 : Ref sig .tc := ⟨.hbm, 75, rfl⟩
abbrev main_v52 : Ref sig .tc := ⟨.hbm, 76, rfl⟩
abbrev main_v53 : Ref sig .tc := ⟨.hbm, 77, rfl⟩
abbrev main_cst_8 : Ref sig .tc := ⟨.hbm, 78, rfl⟩
abbrev main_v54 : Ref sig .tc := ⟨.hbm, 79, rfl⟩
abbrev main_cst_9 : Ref sig .tc := ⟨.hbm, 80, rfl⟩
abbrev main_v55 : Ref sig .tc := ⟨.hbm, 81, rfl⟩
abbrev main_cst_10 : Ref sig .tc := ⟨.hbm, 82, rfl⟩
abbrev main_cst_11 : Ref sig .tc := ⟨.hbm, 83, rfl⟩
abbrev main_v56 : Ref sig .tc := ⟨.hbm, 84, rfl⟩
abbrev main_v57 : Ref sig .tc := ⟨.hbm, 85, rfl⟩
abbrev main_cst_12 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_cst_13 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_cst_14 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_cst_15 : Ref sig .tc := ⟨.hbm, 104, rfl⟩
abbrev main_v73 : Ref sig .tc := ⟨.hbm, 105, rfl⟩
abbrev main_v74 : Ref sig .tc := ⟨.hbm, 106, rfl⟩
abbrev main_cst_16 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩

abbrev nD : Nat := 1
abbrev τ : Topo := Topo.v7x

variable {F : FTy → Type} [FloatOps F]
-- ==== Proof.FfnPay.lean ====
/- What one grid point of the gated convolution's backward kernel computes with, read at an index: the gradient of the
   convolution's output on each of the four column chunks, and that gradient moved up one and two rows. -/
module

public import proofs.«01_k».proof.Proof.Gen.KernelIdeal.Skeleton
public import Idealize.ShloMosaic.Lib.Pointwise
public import Idealize.ShloMosaic.Lib.Pipeline.ValueKit

@[expose] public section
set_option maxRecDepth 16384
noncomputable section
namespace Cert.KernelIdeal.Ffn
open Idealize.ShloMosaic Idealize.ShloMosaic.TcCoe Idealize.ShloMosaic.Tactic Gen

local notation "𝕀" => Idealize.ShloMosaic.Ideal

variable (x0 : Vec 𝕀 S256x1024 .bf16) (x2 : Vec 𝕀 S256x5632 .bf16) (x4 : Vec 𝕀 S2816x1024 .bf16)

/-- The logistic function as the kernel spells it. -/
def sg (g : EReal) : EReal := Ideal.div 1 (1 + Ideal.exp (0 - g))

/-- The gradient of the convolution's output at one row: `xr` is the row's cotangent, `cr` the convolution's row. Of the gate
    on the first 2816 columns, of the value on the others. -/
def dcRow (xr : Fin 1024 → EReal) (cr : Fin 5632 → EReal) (W : Vec 𝕀 S2816x1024 .bf16) (y : Fin 5632) : EReal :=
  if h : y.val < 2816 then
    (∑ k : Fin 1024, xr k * W (ix2 ⟨y.val, h⟩ k)) * cr ⟨2816 + y.val, by omega⟩ * sg (cr y) * (1 + cr y * (1 - sg (cr y)))
  else
    (∑ k : Fin 1024, xr k * W (ix2 ⟨y.val - 2816, by omega⟩ k)) * cr ⟨y.val - 2816, by omega⟩ * sg (cr ⟨y.val - 2816, by omega⟩)

/-- The same gradient at a row of the tile. -/
def dcB (r : Fin 256) (y : Fin 5632) : EReal := dcRow (fun k => x0 (ix2 r k)) (fun z => x2 (ix2 r z)) x4 y

/-- The gate half, with the two other places named by the caller. -/
theorem dcB_gate (r : Fin 256) (y v : Fin 5632) (j : Fin 2816) (hj : j.val = y.val) (hv : v.val = 2816 + y.val) :
    dcB x0 x2 x4 r y = (∑ k : Fin 1024, x0 (ix2 r k) * x4 (ix2 j k)) * x2 (ix2 r v) * Ideal.div 1 (1 + Ideal.exp (0 - x2 (ix2 r y)))
      * (1 + x2 (ix2 r y) * (1 - Ideal.div 1 (1 + Ideal.exp (0 - x2 (ix2 r y))))) := by
  have h : y.val < 2816 := hj ▸ j.isLt
  have ev : (⟨2816 + y.val, by omega⟩ : Fin 5632) = v := Fin.ext hv.symm
  have ej : (⟨y.val, h⟩ : Fin 2816) = j := Fin.ext hj.symm
  rw [dcB, dcRow, dif_pos h, ev, ej]; rfl

/-- The value half, with the two other places named by the caller. -/
theorem dcB_val (r : Fin 256) (y g : Fin 5632) (j : Fin 2816) (hj : y.val = 2816 + j.val) (hg : g.val = j.val) :
    dcB x0 x2 x4 r y = (∑ k : Fin 1024, x0 (ix2 r k) * x4 (ix2 j k)) * x2 (ix2 r g)
      * Ideal.div 1 (1 + Ideal.exp (0 - x2 (ix2 r g))) := by
  have h : ¬ y.val < 2816 := by omega
  have ej : (⟨y.val - 2816, by omega⟩ : Fin 2816) = j := Fin.ext (by simp only; omega)
  have eg : (⟨y.val - 2816, by omega⟩ : Fin 5632) = g := Fin.ext (by simp only; omega)
  rw [dcB, dcRow, dif_neg h, eg, ej]; rfl

variable (r : Fin 256) (x : Fin 1408)

/-- The kernel's gradient on columns 0 … 1407. -/
theorem dc_c0 : k0_pay10 x0 (View.ld x4 (Rect.unit ![0, 0] ![1408, 1024] inb_S2816x1024_S1408x1024_0_0))
      (View.ld x2 (Rect.unit ![0, 0] ![256, 1408] inb_S256x5632_S256x1408_0_0))
      (View.ld x2 (Rect.unit ![0, 2816] ![256, 1408] inb_S256x5632_S256x1408_0_2816)) (ix2 r x)
    = dcB x0 x2 x4 r ⟨x.val, by omega⟩ := by
  unfold_payloads
  pointwise [dot_S256x1024_S1408x1024_S256x1408_1_1_0_0_n_n]
  exact (dcB_gate x0 x2 x4 r _ _ _ rfl rfl).symm

/-- The kernel's gradient on columns 2816 … 4223. -/
theorem dc_c2 : k0_pay11 x0 (View.ld x4 (Rect.unit ![0, 0] ![1408, 1024] inb_S2816x1024_S1408x1024_0_0))
      (View.ld x2 (Rect.unit ![0, 0] ![256, 1408] inb_S256x5632_S256x1408_0_0)) (ix2 r x)
    = dcB x0 x2 x4 r ⟨2816 + x.val, by omega⟩ := by
  unfold_payloads
  pointwise [dot_S256x1024_S1408x1024_S256x1408_1_1_0_0_n_n]
  exact (dcB_val x0 x2 x4 r _ _ _ rfl rfl).symm

/-- The kernel's gradient on columns 1408 … 2815. -/
theorem dc_c1 : k0_pay42 (k0_pay39 (k0_pay6 x0) (View.ld x4 (Rect.unit ![1408, 0] ![1408, 1024] inb_S2816x1024_S1408x1024_1408_0)))
      (k0_pay40 (View.ld x2 (Rect.unit ![0, 1408] ![256, 1408] inb_S256x5632_S256x1408_0_1408)))
      (View.ld x2 (Rect.unit ![0, 4224] ![256, 1408] inb_S256x5632_S256x1408_0_4224)) (ix2 r x)
    = dcB x0 x2 x4 r ⟨1408 + x.val, by omega⟩ := by
  unfold_payloads
  pointwise [dot_S256x1024_S1408x1024_S256x1408_1_1_0_0_n_n]
  exact (dcB_gate x0 x2 x4 r _ _ _ rfl (by simp only; omega)).symm

/-- The kernel's gradient on columns 4224 … 5631. -/
theorem dc_c3 : k0_pay43 (k0_pay39 (k0_pay6 x0) (View.ld x4 (Rect.unit ![1408, 0] ![1408, 1024] inb_S2816x1024_S1408x1024_1408_0)))
      (k0_pay40 (View.ld x2 (Rect.unit ![0, 1408] ![256, 1408] inb_S256x5632_S256x1408_0_1408))) (ix2 r x)
    = dcB x0 x2 x4 r ⟨4224 + x.val, by omega⟩ := by
  unfold_payloads
  pointwise [dot_S256x1024_S1408x1024_S256x1408_1_1_0_0_n_n]
  exact (dcB_val x0 x2 x4 r _ _ _ (by simp only; omega) rfl).symm

variable (d : FVec 𝕀 S256x1408 .f32) (n1 n2 : Vec 𝕀 S1x1408 .f32)

/-- A tile moved up one row, the row below the tile entering at the bottom. -/
def up1 : FVec 𝕀 S256x1408 .f32 := fun i =>
  if h : (i 0).val + 1 < 256 then d (ix2 ⟨(i 0).val + 1, h⟩ (i 1)) else n1 (ix2 0 (i 1))

/-- A tile moved up two rows, the two rows below the tile entering at the bottom. -/
def up2 : FVec 𝕀 S256x1408 .f32 := fun i =>
  if h : (i 0).val + 2 < 256 then d (ix2 ⟨(i 0).val + 2, h⟩ (i 1))
  else if (i 0).val + 2 = 256 then n1 (ix2 0 (i 1)) else n2 (ix2 0 (i 1))

/-- A rotation by one row, its last row replaced, at one column. -/
theorem rot1 (f : Fin 256 → EReal) (n : EReal) (r : Fin 256) :
    (if h : r.val < 248 then f ⟨(r.val + 256 - 255) % 256, by omega⟩
      else Scalar.select (IntOp.cmpi CmpIPredicate.eq (BitVec.ofNat 32 (r.val - 248)) 7#32) n
        (f ⟨(248 + (r.val - 248) + 256 - 255) % 256, by omega⟩))
      = if h : r.val + 1 < 256 then f ⟨r.val + 1, h⟩ else n := by
  by_cases h : r.val < 248
  · rw [dif_pos h, dif_pos (by omega)]
    exact congrArg f (Fin.ext (by simp only; omega))
  rw [dif_neg h]
  by_cases h1 : r.val + 1 < 256
  · rw [dif_pos h1]
    have hr : IntOp.cmpi CmpIPredicate.eq (BitVec.ofNat 32 (r.val - 248)) 7#32 = 0#1 := by
      have : ∀ a : Fin 7, IntOp.cmpi CmpIPredicate.eq (BitVec.ofNat 32 a.val) 7#32 = 0#1 := by decide
      exact this ⟨r.val - 248, by omega⟩
    rw [hr]
    exact congrArg f (Fin.ext (by simp only; omega))
  · rw [dif_neg h1]
    have hr : IntOp.cmpi CmpIPredicate.eq (BitVec.ofNat 32 (r.val - 248)) 7#32 = 1#1 := by
      rw [show r.val - 248 = 7 by omega]; decide
    rw [hr]; rfl

/-- A rotation by two rows, its last two rows replaced, at one column. -/
theorem rot2 (f : Fin 256 → EReal) (n1 n2 : EReal) (r : Fin 256) :
    (if h : r.val < 248 then f ⟨(r.val + 256 - 254) % 256, by omega⟩
      else Scalar.select (IntOp.cmpi CmpIPredicate.eq (BitVec.ofNat 32 (r.val - 248)) 7#32) n2
        (Scalar.select (IntOp.cmpi CmpIPredicate.eq (BitVec.ofNat 32 (r.val - 248)) 6#32) n1
        (f ⟨(248 + (r.val - 248) + 256 - 254) % 256, by omega⟩)))
      = if h : r.val + 2 < 256 then f ⟨r.val + 2, h⟩ else if r.val + 2 = 256 then n1 else n2 := by
  by_cases h : r.val < 248
  · rw [dif_pos h, dif_pos (by omega)]
    exact congrArg f (Fin.ext (by simp only; omega))
  rw [dif_neg h]
  by_cases h1 : r.val + 2 < 256
  · rw [dif_pos h1]
    have hr : ∀ a : Fin 6, IntOp.cmpi CmpIPredicate.eq (BitVec.ofNat 32 a.val) 7#32 = 0#1
        ∧ IntOp.cmpi CmpIPredicate.eq (BitVec.ofNat 32 a.val) 6#32 = 0#1 := by decide
    obtain ⟨e1, e2⟩ := hr ⟨r.val - 248, by omega⟩
    simp only at e1 e2
    rw [e1, e2]
    exact congrArg f (Fin.ext (by simp only; omega))
  rw [dif_neg h1]
  by_cases h2 : r.val + 2 = 256
  · have e1 : IntOp.cmpi CmpIPredicate.eq (BitVec.ofNat 32 (r.val - 248)) 7#32 = 0#1 := by
      rw [show r.val - 248 = 6 by omega]; decide
    have e2 : IntOp.cmpi CmpIPredicate.eq (BitVec.ofNat 32 (r.val - 248)) 6#32 = 1#1 := by
      rw [show r.val - 248 = 6 by omega]; decide
    rw [if_pos h2, e1, e2]; rfl
  · have e1 : IntOp.cmpi CmpIPredicate.eq (BitVec.ofNat 32 (r.val - 248)) 7#32 = 1#1 := by
      rw [show r.val - 248 = 7 by omega]; decide
    rw [if_neg h2, e1]; rfl

/-- The kernel's rotation by one row with the bottom row replaced moves the tile up one row. -/
theorem up1_eq : k0_pay54 (iota .tc S8x1408 32 [0] iota_S8x1408_d0_w32) d n1 = up1 d n1 := by
  funext i
  obtain ⟨r, x, rfl⟩ : ∃ (r : Fin 256) (x : Fin 1408), i = ix2 r x := ⟨i 0, i 1, by funext a; match a with | 0 => rfl | 1 => rfl⟩
  unfold_payloads
  pointwise
  exact rot1 (fun a => d (ix2 a x)) (n1 (ix2 0 x)) r

/-- The kernel's rotation by two rows with the two bottom rows replaced moves the tile up two rows. -/
theorem up2_eq : k0_pay55 (iota .tc S8x1408 32 [0] iota_S8x1408_d0_w32) d n1 n2 = up2 d n1 n2 := by
  funext i
  obtain ⟨r, x, rfl⟩ : ∃ (r : Fin 256) (x : Fin 1408), i = ix2 r x := ⟨i 0, i 1, by funext a; match a with | 0 => rfl | 1 => rfl⟩
  unfold_payloads
  pointwise
  exact rot2 (fun a => d (ix2 a x)) (n1 (ix2 0 x)) (n2 (ix2 0 x)) r

variable (xs : Vec 𝕀 S8x5632 .f32)

/-- The gradient of the convolution's output one row below: in the tile, or the first carried row. -/
def nx1 (r : Fin 256) (y : Fin 5632) : EReal :=
  if h : r.val + 1 < 256 then dcB x0 x2 x4 ⟨r.val + 1, h⟩ y else xs (ix2 0 y)

/-- The gradient of the convolution's output two rows below: in the tile, or one of the two first carried rows. -/
def nx2 (r : Fin 256) (y : Fin 5632) : EReal :=
  if h : r.val + 2 < 256 then dcB x0 x2 x4 ⟨r.val + 2, h⟩ y else if r.val + 2 = 256 then xs (ix2 0 y) else xs (ix2 1 y)

/-- A chunk of the gradient moved up one row, the carried row entering, is the gradient one row below on that chunk. -/
theorem up1_nx {y : Fin 5632} (hd : ∀ r, d (ix2 r x) = dcB x0 x2 x4 r y) (h1 : n1 (ix2 0 x) = xs (ix2 0 y)) :
    up1 d n1 (ix2 r x) = nx1 x0 x2 x4 xs r y := by
  show (if h : r.val + 1 < 256 then d (ix2 ⟨r.val + 1, h⟩ x) else n1 (ix2 0 x)) = _
  rw [h1, nx1]
  simp only [hd]

/-- A chunk of the gradient moved up two rows, the carried rows entering, is the gradient two rows below on that chunk. -/
theorem up2_nx {y : Fin 5632} (hd : ∀ r, d (ix2 r x) = dcB x0 x2 x4 r y) (h1 : n1 (ix2 0 x) = xs (ix2 0 y))
    (h2 : n2 (ix2 0 x) = xs (ix2 1 y)) : up2 d n1 n2 (ix2 r x) = nx2 x0 x2 x4 xs r y := by
  show (if h : r.val + 2 < 256 then d (ix2 ⟨r.val + 2, h⟩ x) else if r.val + 2 = 256 then n1 (ix2 0 x) else n2 (ix2 0 x)) = _
  rw [h1, h2, nx2]
  simp only [hd]

/-! The two moves as the kernel writes them on each of the four chunks. -/

/-- The block of the next token, in one block of columns, is `nx1` there. -/
theorem up1_c0 : k0_pay14 (iota .tc S8x1408 32 [0] iota_S8x1408_d0_w32) (View.ld xs (Rect.unit ![0, 0] ![1, 1408] inb_S8x5632_S1x1408_0_0)) (k0_pay12 x0 (View.ld x4 (Rect.unit ![0, 0] ![1408, 1024] inb_S2816x1024_S1408x1024_0_0)) (View.ld x2 (Rect.unit ![0, 0] ![256, 1408] inb_S256x5632_S256x1408_0_0)) (View.ld x2 (Rect.unit ![0, 2816] ![256, 1408] inb_S256x5632_S256x1408_0_2816))) (ix2 r x)
    = nx1 x0 x2 x4 xs r ⟨x.val, by omega⟩ :=
  (congrFun (up1_eq (k0_pay10 x0 (View.ld x4 (Rect.unit ![0, 0] ![1408, 1024] inb_S2816x1024_S1408x1024_0_0)) (View.ld x2 (Rect.unit ![0, 0] ![256, 1408] inb_S256x5632_S256x1408_0_0)) (View.ld x2 (Rect.unit ![0, 2816] ![256, 1408] inb_S256x5632_S256x1408_0_2816))) (View.ld xs (Rect.unit ![0, 0] ![1, 1408] inb_S8x5632_S1x1408_0_0))) (ix2 r x)).trans
    (up1_nx x0 x2 x4 r x _ _ xs (fun r => dc_c0 x0 x2 x4 r x) (by pointwise))

/-- The block of the token after the next, in one block of columns, is `nx2` there. -/
theorem up2_c0 : k0_pay15 (iota .tc S8x1408 32 [0] iota_S8x1408_d0_w32) (View.ld xs (Rect.unit ![0, 0] ![1, 1408] inb_S8x5632_S1x1408_0_0)) (View.ld xs (Rect.unit ![1, 0] ![1, 1408] inb_S8x5632_S1x1408_1_0)) (k0_pay13 x0 (View.ld x4 (Rect.unit ![0, 0] ![1408, 1024] inb_S2816x1024_S1408x1024_0_0)) (View.ld x2 (Rect.unit ![0, 0] ![256, 1408] inb_S256x5632_S256x1408_0_0)) (View.ld x2 (Rect.unit ![0, 2816] ![256, 1408] inb_S256x5632_S256x1408_0_2816))) (ix2 r x)
    = nx2 x0 x2 x4 xs r ⟨x.val, by omega⟩ :=
  (congrFun (up2_eq (k0_pay10 x0 (View.ld x4 (Rect.unit ![0, 0] ![1408, 1024] inb_S2816x1024_S1408x1024_0_0)) (View.ld x2 (Rect.unit ![0, 0] ![256, 1408] inb_S256x5632_S256x1408_0_0)) (View.ld x2 (Rect.unit ![0, 2816] ![256, 1408] inb_S256x5632_S256x1408_0_2816))) (View.ld xs (Rect.unit ![0, 0] ![1, 1408] inb_S8x5632_S1x1408_0_0)) (View.ld xs (Rect.unit ![1, 0] ![1, 1408] inb_S8x5632_S1x1408_1_0))) (ix2 r x)).trans
    (up2_nx x0 x2 x4 r x _ _ _ xs (fun r => dc_c0 x0 x2 x4 r x) (by pointwise) (by pointwise))

/-- The block of the next token, in one block of columns, is `nx1` there. -/
theorem up1_c2 : k0_pay28 (iota .tc S8x1408 32 [0] iota_S8x1408_d0_w32) (View.ld xs (Rect.unit ![0, 2816] ![1, 1408] inb_S8x5632_S1x1408_0_2816)) (k0_pay25 (k0_pay11 x0 (View.ld x4 (Rect.unit ![0, 0] ![1408, 1024] inb_S2816x1024_S1408x1024_0_0)) (View.ld x2 (Rect.unit ![0, 0] ![256, 1408] inb_S256x5632_S256x1408_0_0)))) (k0_pay27 (k0_pay11 x0 (View.ld x4 (Rect.unit ![0, 0] ![1408, 1024] inb_S2816x1024_S1408x1024_0_0)) (View.ld x2 (Rect.unit ![0, 0] ![256, 1408] inb_S256x5632_S256x1408_0_0)))) (ix2 r x)
    = nx1 x0 x2 x4 xs r ⟨2816 + x.val, by omega⟩ :=
  (congrFun (up1_eq (k0_pay11 x0 (View.ld x4 (Rect.unit ![0, 0] ![1408, 1024] inb_S2816x1024_S1408x1024_0_0)) (View.ld x2 (Rect.unit ![0, 0] ![256, 1408] inb_S256x5632_S256x1408_0_0))) (View.ld xs (Rect.unit ![0, 2816] ![1, 1408] inb_S8x5632_S1x1408_0_2816))) (ix2 r x)).trans
    (up1_nx x0 x2 x4 r x _ _ xs (fun r => dc_c2 x0 x2 x4 r x) (by pointwise))

/-- The block of the token after the next, in one block of columns, is `nx2` there. -/
theorem up2_c2 : k0_pay29 (iota .tc S8x1408 32 [0] iota_S8x1408_d0_w32) (View.ld xs (Rect.unit ![0, 2816] ![1, 1408] inb_S8x5632_S1x1408_0_2816)) (View.ld xs (Rect.unit ![1, 2816] ![1, 1408] inb_S8x5632_S1x1408_1_2816)) (k0_pay26 (k0_pay11 x0 (View.ld x4 (Rect.unit ![0, 0] ![1408, 1024] inb_S2816x1024_S1408x1024_0_0)) (View.ld x2 (Rect.unit ![0, 0] ![256, 1408] inb_S256x5632_S256x1408_0_0)))) (ix2 r x)
    = nx2 x0 x2 x4 xs r ⟨2816 + x.val, by omega⟩ :=
  (congrFun (up2_eq (k0_pay11 x0 (View.ld x4 (Rect.unit ![0, 0] ![1408, 1024] inb_S2816x1024_S1408x1024_0_0)) (View.ld x2 (Rect.unit ![0, 0] ![256, 1408] inb_S256x5632_S256x1408_0_0))) (View.ld xs (Rect.unit ![0, 2816] ![1, 1408] inb_S8x5632_S1x1408_0_2816)) (View.ld xs (Rect.unit ![1, 2816] ![1, 1408] inb_S8x5632_S1x1408_1_2816))) (ix2 r x)).trans
    (up2_nx x0 x2 x4 r x _ _ _ xs (fun r => dc_c2 x0 x2 x4 r x) (by pointwise) (by pointwise))

/-- The block of the next token, in one block of columns, is `nx1` there. -/
theorem up1_c1 : k0_pay44 (iota .tc S8x1408 32 [0] iota_S8x1408_d0_w32) (k0_pay39 (k0_pay6 x0) (View.ld x4 (Rect.unit ![1408, 0] ![1408, 1024] inb_S2816x1024_S1408x1024_1408_0))) (k0_pay40 (View.ld x2 (Rect.unit ![0, 1408] ![256, 1408] inb_S256x5632_S256x1408_0_1408))) (View.ld x2 (Rect.unit ![0, 4224] ![256, 1408] inb_S256x5632_S256x1408_0_4224)) (View.ld xs (Rect.unit ![0, 1408] ![1, 1408] inb_S8x5632_S1x1408_0_1408)) (ix2 r x)
    = nx1 x0 x2 x4 xs r ⟨1408 + x.val, by omega⟩ :=
  (congrFun (up1_eq (k0_pay42 (k0_pay39 (k0_pay6 x0) (View.ld x4 (Rect.unit ![1408, 0] ![1408, 1024] inb_S2816x1024_S1408x1024_1408_0))) (k0_pay40 (View.ld x2 (Rect.unit ![0, 1408] ![256, 1408] inb_S256x5632_S256x1408_0_1408))) (View.ld x2 (Rect.unit ![0, 4224] ![256, 1408] inb_S256x5632_S256x1408_0_4224))) (View.ld xs (Rect.unit ![0, 1408] ![1, 1408] inb_S8x5632_S1x1408_0_1408))) (ix2 r x)).trans
    (up1_nx x0 x2 x4 r x _ _ xs (fun r => dc_c1 x0 x2 x4 r x) (by pointwise))

/-- The block of the token after the next, in one block of columns, is `nx2` there. -/
theorem up2_c1 : k0_pay45 (iota .tc S8x1408 32 [0] iota_S8x1408_d0_w32) (k0_pay39 (k0_pay6 x0) (View.ld x4 (Rect.unit ![1408, 0] ![1408, 1024] inb_S2816x1024_S1408x1024_1408_0))) (k0_pay40 (View.ld x2 (Rect.unit ![0, 1408] ![256, 1408] inb_S256x5632_S256x1408_0_1408))) (View.ld x2 (Rect.unit ![0, 4224] ![256, 1408] inb_S256x5632_S256x1408_0_4224)) (View.ld xs (Rect.unit ![0, 1408] ![1, 1408] inb_S8x5632_S1x1408_0_1408)) (View.ld xs (Rect.unit ![1, 1408] ![1, 1408] inb_S8x5632_S1x1408_1_1408)) (ix2 r x)
    = nx2 x0 x2 x4 xs r ⟨1408 + x.val, by omega⟩ :=
  (congrFun (up2_eq (k0_pay42 (k0_pay39 (k0_pay6 x0) (View.ld x4 (Rect.unit ![1408, 0] ![1408, 1024] inb_S2816x1024_S1408x1024_1408_0))) (k0_pay40 (View.ld x2 (Rect.unit ![0, 1408] ![256, 1408] inb_S256x5632_S256x1408_0_1408))) (View.ld x2 (Rect.unit ![0, 4224] ![256, 1408] inb_S256x5632_S256x1408_0_4224))) (View.ld xs (Rect.unit ![0, 1408] ![1, 1408] inb_S8x5632_S1x1408_0_1408)) (View.ld xs (Rect.unit ![1, 1408] ![1, 1408] inb_S8x5632_S1x1408_1_1408))) (ix2 r x)).trans
    (up2_nx x0 x2 x4 r x _ _ _ xs (fun r => dc_c1 x0 x2 x4 r x) (by pointwise) (by pointwise))

/-- The block of the next token, in one block of columns, is `nx1` there. -/
theorem up1_c3 : k0_pay54 (iota .tc S8x1408 32 [0] iota_S8x1408_d0_w32) (k0_pay43 (k0_pay39 (k0_pay6 x0) (View.ld x4 (Rect.unit ![1408, 0] ![1408, 1024] inb_S2816x1024_S1408x1024_1408_0))) (k0_pay40 (View.ld x2 (Rect.unit ![0, 1408] ![256, 1408] inb_S256x5632_S256x1408_0_1408)))) (View.ld xs (Rect.unit ![0, 4224] ![1, 1408] inb_S8x5632_S1x1408_0_4224)) (ix2 r x)
    = nx1 x0 x2 x4 xs r ⟨4224 + x.val, by omega⟩ :=
  (congrFun (up1_eq (k0_pay43 (k0_pay39 (k0_pay6 x0) (View.ld x4 (Rect.unit ![1408, 0] ![1408, 1024] inb_S2816x1024_S1408x1024_1408_0))) (k0_pay40 (View.ld x2 (Rect.unit ![0, 1408] ![256, 1408] inb_S256x5632_S256x1408_0_1408)))) (View.ld xs (Rect.unit ![0, 4224] ![1, 1408] inb_S8x5632_S1x1408_0_4224))) (ix2 r x)).trans
    (up1_nx x0 x2 x4 r x _ _ xs (fun r => dc_c3 x0 x2 x4 r x) (by pointwise))

/-- The block of the token after the next, in one block of columns, is `nx2` there. -/
theorem up2_c3 : k0_pay55 (iota .tc S8x1408 32 [0] iota_S8x1408_d0_w32) (k0_pay43 (k0_pay39 (k0_pay6 x0) (View.ld x4 (Rect.unit ![1408, 0] ![1408, 1024] inb_S2816x1024_S1408x1024_1408_0))) (k0_pay40 (View.ld x2 (Rect.unit ![0, 1408] ![256, 1408] inb_S256x5632_S256x1408_0_1408)))) (View.ld xs (Rect.unit ![0, 4224] ![1, 1408] inb_S8x5632_S1x1408_0_4224)) (View.ld xs (Rect.unit ![1, 4224] ![1, 1408] inb_S8x5632_S1x1408_1_4224)) (ix2 r x)
    = nx2 x0 x2 x4 xs r ⟨4224 + x.val, by omega⟩ :=
  (congrFun (up2_eq (k0_pay43 (k0_pay39 (k0_pay6 x0) (View.ld x4 (Rect.unit ![1408, 0] ![1408, 1024] inb_S2816x1024_S1408x1024_1408_0))) (k0_pay40 (View.ld x2 (Rect.unit ![0, 1408] ![256, 1408] inb_S256x5632_S256x1408_0_1408)))) (View.ld xs (Rect.unit ![0, 4224] ![1, 1408] inb_S8x5632_S1x1408_0_4224)) (View.ld xs (Rect.unit ![1, 4224] ![1, 1408] inb_S8x5632_S1x1408_1_4224))) (ix2 r x)).trans
    (up2_nx x0 x2 x4 r x _ _ _ xs (fun r => dc_c3 x0 x2 x4 r x) (by pointwise) (by pointwise))

end Cert.KernelIdeal.Ffn
-- ==== Proof.TakePieces.lean ====
/- Reading an array that a block's stores left, at an index which the latest of them cover. -/
module

public import Idealize.ShloMosaic.Lib.Pointwise
public import Idealize.ShloMosaic.Lib.Pipeline.ValueKit
public import Idealize.ShloMosaic.Lib.Pipeline.ReadBack

@[expose] public section
noncomputable section
namespace Cert.Take
open Idealize.ShloMosaic

local notation "𝕀" => Idealize.ShloMosaic.Ideal

/-- At an index that one of the `k` latest stores covers, the earlier stores do not show. -/
theorem canon_take {S : Shape} {e : EltTy} : ∀ (k : ℕ) (L : List (View.Piece (Elt 𝕀) S e)) (y : S.Idx)
    (_ : ∃ p ∈ L.take k, y ∈ p.1.set), View.canon L y = View.canon (L.take k) y
  | 0, _, _, h => by obtain ⟨p, hp, _⟩ := h; simp at hp
  | _ + 1, [], _, h => by obtain ⟨p, hp, _⟩ := h; simp at hp
  | k + 1, p :: L, y, h => by
    rw [List.take_succ_cons]
    by_cases hm : y ∈ p.1.set
    · obtain ⟨x, rfl⟩ := p.1.exists_idx_of_mem hm
      rw [show p.1.idx x = p.1.emb x from rfl, View.canon_cons_emb, View.canon_cons_emb]
    · rw [View.canon_cons_of_not_mem _ _ hm, View.canon_cons_of_not_mem _ _ hm]
      refine canon_take k L y ?_
      obtain ⟨q, hq, hyq⟩ := h
      rw [List.take_succ_cons] at hq
      rcases List.mem_cons.mp hq with rfl | hq'
      · exact absurd hyq hm
      · exact ⟨q, hq', hyq⟩

end Cert.Take
-- ==== Proof.FfnPoint.lean ====
/- What each case of the gated convolution's backward kernel leaves in its outputs and its scratch at one grid point. -/
module

public import proofs.«01_k».proof.Proof.Gen.KernelIdeal.Frame
public import proofs.«01_k».proof.Proof.FfnPay
public import proofs.«01_k».proof.Proof.TakePieces
public import Idealize.ShloMosaic.Lib.Pipeline.ReadBack

@[expose] public section
set_option maxRecDepth 16384
noncomputable section
namespace Cert.KernelIdeal.Ffn
open Idealize.ShloMosaic Idealize.ShloMosaic.TcCoe Idealize.ShloMosaic.Tactic Gen Cert.Take

local notation "𝕀" => Idealize.ShloMosaic.Ideal

variable (x0 : Vec 𝕀 S256x1024 .bf16) (x1 : Vec 𝕀 S256x5632 .bf16) (x2 : Vec 𝕀 S256x5632 .bf16) (x3 : Vec 𝕀 S3x5632 .f32)
  (x4 : Vec 𝕀 S2816x1024 .bf16) (xo6 : Vec 𝕀 S1x5632 .f32) (xo7 : Vec 𝕀 S3x5632 .f32) (xs : Vec 𝕀 S8x5632 .f32)

/-- The gradient of the convolution's input: the three taps over the gradient rows they met. -/
def duB (r : Fin 256) (y : Fin 5632) : EReal :=
  x3 (ix2 2 y) * dcB x0 x2 x4 r y + x3 (ix2 1 y) * nx1 x0 x2 x4 xs r y + x3 (ix2 0 y) * nx2 x0 x2 x4 xs r y

/-- What tap `j` of the convolution met at a row: the gradient two rows below, one row below, or at the row. -/
def tapB (j : Fin 3) (r : Fin 256) (y : Fin 5632) : EReal :=
  if j.val = 0 then nx2 x0 x2 x4 xs r y else if j.val = 1 then nx1 x0 x2 x4 xs r y else dcB x0 x2 x4 r y

variable (c : Dev nD) (i : grid0.Coords)
  (arg1 : Memref sig .tc .vmem S256x1024 .bf16) (harg1 : arg1.IsWhole) (arg2 : Memref sig .tc .vmem S256x5632 .bf16) (harg2 : arg2.IsWhole)
  (arg3 : Memref sig .tc .vmem S256x5632 .bf16) (harg3 : arg3.IsWhole) (arg4 : Memref sig .tc .vmem S3x5632 .f32) (harg4 : arg4.IsWhole)
  (arg5 : Memref sig .tc .vmem S2816x1024 .bf16) (harg5 : arg5.IsWhole) (arg6 : Memref sig .tc .vmem S256x5632 .bf16) (harg6 : arg6.IsWhole)
  (arg7 : Memref sig .tc .vmem S1x5632 .f32) (harg7 : arg7.IsWhole) (arg8 : Memref sig .tc .vmem S3x5632 .f32) (harg8 : arg8.IsWhole)
  (arg9 : Memref sig .tc .vmem S8x5632 .f32) (harg9 : arg9.IsWhole)

/-- The block of the input's gradient after a later point. -/
theorem out5_B (hc0 : ¬cond0_0 i) (r : Fin 256) (y : Fin 5632) :
    out0_B_5 c i arg1 harg1 arg2 harg2 arg3 harg3 arg4 harg4 arg5 harg5 arg6 harg6 arg7 harg7 arg8 harg8 arg9 harg9 hc0 x0 x1 x2 x3 x4 xo6 xo7 xs (ix2 r y)
      = duB x0 x2 x3 x4 xs r y := by
  frame_out
  canon_tiles x h
  all_goals obtain rfl : r = x 0 := Fin.ext h0
  all_goals (obtain ⟨y, hy⟩ := y; obtain rfl : y = _ := h1)
  all_goals (obtain ⟨p, q, rfl⟩ : ∃ (p : Fin 256) (q : Fin 1408), x = ix2 p q := ⟨x 0, x 1, eq_ix2 x⟩)
  all_goals try simp only [k0_pay1, k0_pay2, k0_pay3, k0_pay4, k0_pay7, k0_pay8, k0_pay9, k0_pay16, k0_pay17, k0_pay18, k0_pay19, k0_pay20, k0_pay21, k0_pay22, k0_pay23, k0_pay24, k0_pay30, k0_pay31, k0_pay32, k0_pay33, k0_pay34, k0_pay35, k0_pay36, k0_pay37, k0_pay38, k0_pay41, k0_pay46, k0_pay47, k0_pay48, k0_pay49, k0_pay50, k0_pay51, k0_pay52, k0_pay53, k0_pay56, k0_pay57, k0_pay58, k0_pay59, k0_pay60, k0_pay61]
  all_goals pointwise [up1_c0 x0 x2 x4 _ _ xs, up2_c0 x0 x2 x4 _ _ xs, up1_c1 x0 x2 x4 _ _ xs, up2_c1 x0 x2 x4 _ _ xs, up1_c2 x0 x2 x4 _ _ xs, up2_c2 x0 x2 x4 _ _ xs, up1_c3 x0 x2 x4 _ _ xs, up2_c3 x0 x2 x4 _ _ xs, dc_c0, dc_c1, dc_c2, dc_c3]
  all_goals rfl

/-- The bias gradient accumulated after a later point. -/
theorem out6_B (hc0 : ¬cond0_0 i) (y : Fin 5632) :
    out0_B_6 c i arg1 harg1 arg2 harg2 arg3 harg3 arg4 harg4 arg5 harg5 arg6 harg6 arg7 harg7 arg8 harg8 arg9 harg9 hc0 x0 x1 x2 x3 x4 xo6 xo7 xs (ix2 0 y)
      = xo6 (ix2 0 y) + ∑ r, dcB x0 x2 x4 r y := by
  frame_out
  canon_tiles x h
  all_goals (obtain ⟨y, hy⟩ := y; obtain rfl : y = _ := h1)
  all_goals try simp only [k0_pay1, k0_pay2, k0_pay3, k0_pay4, k0_pay7, k0_pay8, k0_pay9, k0_pay16, k0_pay17, k0_pay18, k0_pay19, k0_pay20, k0_pay21, k0_pay22, k0_pay23, k0_pay24, k0_pay30, k0_pay31, k0_pay32, k0_pay33, k0_pay34, k0_pay35, k0_pay36, k0_pay37, k0_pay38, k0_pay41, k0_pay46, k0_pay47, k0_pay48, k0_pay49, k0_pay50, k0_pay51, k0_pay52, k0_pay53, k0_pay56, k0_pay57, k0_pay58, k0_pay59, k0_pay60, k0_pay61]
  all_goals pointwise [up1_c0 x0 x2 x4 _ _ xs, up2_c0 x0 x2 x4 _ _ xs, up1_c1 x0 x2 x4 _ _ xs, up2_c1 x0 x2 x4 _ _ xs, up1_c2 x0 x2 x4 _ _ xs, up2_c2 x0 x2 x4 _ _ xs, up1_c3 x0 x2 x4 _ _ xs, up2_c3 x0 x2 x4 _ _ xs, dc_c0, dc_c1, dc_c2, dc_c3]
  all_goals rfl

/-- The taps' gradient accumulated after a later point. -/
theorem out7_B (hc0 : ¬cond0_0 i) (j : Fin 3) (y : Fin 5632) :
    out0_B_7 c i arg1 harg1 arg2 harg2 arg3 harg3 arg4 harg4 arg5 harg5 arg6 harg6 arg7 harg7 arg8 harg8 arg9 harg9 hc0 x0 x1 x2 x3 x4 xo6 xo7 xs (ix2 j y)
      = xo7 (ix2 j y) + ∑ r, tapB x0 x2 x4 xs j r y * x1 (ix2 r y) := by
  frame_out
  canon_tiles x h
  all_goals (obtain ⟨j, hj⟩ := j; obtain rfl : j = _ := h0)
  all_goals (obtain ⟨y, hy⟩ := y; obtain rfl : y = _ := h1)
  all_goals try simp only [k0_pay1, k0_pay2, k0_pay3, k0_pay4, k0_pay7, k0_pay8, k0_pay9, k0_pay16, k0_pay17, k0_pay18, k0_pay19, k0_pay20, k0_pay21, k0_pay22, k0_pay23, k0_pay24, k0_pay30, k0_pay31, k0_pay32, k0_pay33, k0_pay34, k0_pay35, k0_pay36, k0_pay37, k0_pay38, k0_pay41, k0_pay46, k0_pay47, k0_pay48, k0_pay49, k0_pay50, k0_pay51, k0_pay52, k0_pay53, k0_pay56, k0_pay57, k0_pay58, k0_pay59, k0_pay60, k0_pay61]
  all_goals pointwise [up1_c0 x0 x2 x4 _ _ xs, up2_c0 x0 x2 x4 _ _ xs, up1_c1 x0 x2 x4 _ _ xs, up2_c1 x0 x2 x4 _ _ xs, up1_c2 x0 x2 x4 _ _ xs, up2_c2 x0 x2 x4 _ _ xs, up1_c3 x0 x2 x4 _ _ xs, up2_c3 x0 x2 x4 _ _ xs, dc_c0, dc_c1, dc_c2, dc_c3]
  all_goals rfl

/-- The first eight gradient rows, carried to the next point, after a later point. -/
theorem sout_B (hc0 : ¬cond0_0 i) (a : Fin 8) (y : Fin 5632) :
    sout0_B_0 c i arg1 harg1 arg2 harg2 arg3 harg3 arg4 harg4 arg5 harg5 arg6 harg6 arg7 harg7 arg8 harg8 arg9 harg9 hc0 x0 x1 x2 x3 x4 xo6 xo7 xs (ix2 a y)
      = dcB x0 x2 x4 ⟨a.val, by omega⟩ y := by
  frame_out
  canon_tiles x h
  all_goals obtain rfl : a = x 0 := Fin.ext h0
  all_goals (obtain ⟨y, hy⟩ := y; obtain rfl : y = _ := h1)
  all_goals try simp only [k0_pay1, k0_pay2, k0_pay3, k0_pay4, k0_pay7, k0_pay8, k0_pay9, k0_pay16, k0_pay17, k0_pay18, k0_pay19, k0_pay20, k0_pay21, k0_pay22, k0_pay23, k0_pay24, k0_pay30, k0_pay31, k0_pay32, k0_pay33, k0_pay34, k0_pay35, k0_pay36, k0_pay37, k0_pay38, k0_pay41, k0_pay46, k0_pay47, k0_pay48, k0_pay49, k0_pay50, k0_pay51, k0_pay52, k0_pay53, k0_pay56, k0_pay57, k0_pay58, k0_pay59, k0_pay60, k0_pay61]
  all_goals pointwise [up1_c0 x0 x2 x4 _ _ xs, up2_c0 x0 x2 x4 _ _ xs, up1_c1 x0 x2 x4 _ _ xs, up2_c1 x0 x2 x4 _ _ xs, up1_c2 x0 x2 x4 _ _ xs, up2_c2 x0 x2 x4 _ _ xs, up1_c3 x0 x2 x4 _ _ xs, up2_c3 x0 x2 x4 _ _ xs, dc_c0, dc_c1, dc_c2, dc_c3]
  all_goals rfl

/-- The block of the input's gradient after the first point. -/
theorem out5_A (hc0 : cond0_0 i) (r : Fin 256) (y : Fin 5632) :
    out0_A_5 c i arg1 harg1 arg2 harg2 arg3 harg3 arg4 harg4 arg5 harg5 arg6 harg6 arg7 harg7 arg8 harg8 arg9 harg9 hc0 x0 x1 x2 x3 x4 (ix2 r y)
      = duB x0 x2 x3 x4 (k0_pay5 (F := 𝕀)) r y := by
  frame_open
  simp (disch := decide) only [↓ View.readCov_skip, ↓ View.readCov_cons_toLoadRect, ↓ View.readCov_fill]
  frame_out
  canon_tiles x h
  all_goals obtain rfl : r = x 0 := Fin.ext h0
  all_goals (obtain ⟨y, hy⟩ := y; obtain rfl : y = _ := h1)
  all_goals (obtain ⟨p, q, rfl⟩ : ∃ (p : Fin 256) (q : Fin 1408), x = ix2 p q := ⟨x 0, x 1, eq_ix2 x⟩)
  all_goals try simp only [k0_pay1, k0_pay2, k0_pay3, k0_pay4, k0_pay7, k0_pay8, k0_pay9, k0_pay16, k0_pay17, k0_pay18, k0_pay19, k0_pay20, k0_pay21, k0_pay22, k0_pay23, k0_pay24, k0_pay30, k0_pay31, k0_pay32, k0_pay33, k0_pay34, k0_pay35, k0_pay36, k0_pay37, k0_pay38, k0_pay41, k0_pay46, k0_pay47, k0_pay48, k0_pay49, k0_pay50, k0_pay51, k0_pay52, k0_pay53, k0_pay56, k0_pay57, k0_pay58, k0_pay59, k0_pay60, k0_pay61]
  all_goals pointwise [up1_c0 x0 x2 x4 _ _ (k0_pay5 (F := 𝕀)), up2_c0 x0 x2 x4 _ _ (k0_pay5 (F := 𝕀)), up1_c1 x0 x2 x4 _ _ (k0_pay5 (F := 𝕀)), up2_c1 x0 x2 x4 _ _ (k0_pay5 (F := 𝕀)), up1_c2 x0 x2 x4 _ _ (k0_pay5 (F := 𝕀)), up2_c2 x0 x2 x4 _ _ (k0_pay5 (F := 𝕀)), up1_c3 x0 x2 x4 _ _ (k0_pay5 (F := 𝕀)), up2_c3 x0 x2 x4 _ _ (k0_pay5 (F := 𝕀)), dc_c0, dc_c1, dc_c2, dc_c3]
  all_goals rfl

/-- The bias gradient accumulated after the first point. -/
theorem out6_A (hc0 : cond0_0 i) (y : Fin 5632) :
    out0_A_6 c i arg1 harg1 arg2 harg2 arg3 harg3 arg4 harg4 arg5 harg5 arg6 harg6 arg7 harg7 arg8 harg8 arg9 harg9 hc0 x0 x1 x2 x3 x4 (ix2 0 y)
      = 0 + ∑ r, dcB x0 x2 x4 r y := by
  frame_open
  simp (disch := decide) only [↓ View.readCov_skip, ↓ View.readCov_cons_toLoadRect, ↓ View.readCov_fill]
  frame_out
  refine (canon_take (S := S1x5632) (e := .f32) 4 _ _ ?cov).trans ?_
  case cov =>
    refine View.cover_of_tiledL (List.take (α := View.Piece (Elt 𝕀) S1x5632 .f32) 4 _) S1x1408.size ?_ _
    rfl
  simp only [List.take_succ_cons, List.take_zero]
  canon_tiles x h
  all_goals (obtain ⟨y, hy⟩ := y; obtain rfl : y = _ := h1)
  all_goals try simp only [k0_pay1, k0_pay2, k0_pay3, k0_pay4, k0_pay7, k0_pay8, k0_pay9, k0_pay16, k0_pay17, k0_pay18, k0_pay19, k0_pay20, k0_pay21, k0_pay22, k0_pay23, k0_pay24, k0_pay30, k0_pay31, k0_pay32, k0_pay33, k0_pay34, k0_pay35, k0_pay36, k0_pay37, k0_pay38, k0_pay41, k0_pay46, k0_pay47, k0_pay48, k0_pay49, k0_pay50, k0_pay51, k0_pay52, k0_pay53, k0_pay56, k0_pay57, k0_pay58, k0_pay59, k0_pay60, k0_pay61]
  all_goals pointwise [up1_c0 x0 x2 x4 _ _ (k0_pay5 (F := 𝕀)), up2_c0 x0 x2 x4 _ _ (k0_pay5 (F := 𝕀)), up1_c1 x0 x2 x4 _ _ (k0_pay5 (F := 𝕀)), up2_c1 x0 x2 x4 _ _ (k0_pay5 (F := 𝕀)), up1_c2 x0 x2 x4 _ _ (k0_pay5 (F := 𝕀)), up2_c2 x0 x2 x4 _ _ (k0_pay5 (F := 𝕀)), up1_c3 x0 x2 x4 _ _ (k0_pay5 (F := 𝕀)), up2_c3 x0 x2 x4 _ _ (k0_pay5 (F := 𝕀)), dc_c0, dc_c1, dc_c2, dc_c3]
  all_goals rfl

/-- The taps' gradient accumulated after the first point. -/
theorem out7_A (hc0 : cond0_0 i) (j : Fin 3) (y : Fin 5632) :
    out0_A_7 c i arg1 harg1 arg2 harg2 arg3 harg3 arg4 harg4 arg5 harg5 arg6 harg6 arg7 harg7 arg8 harg8 arg9 harg9 hc0 x0 x1 x2 x3 x4 (ix2 j y)
      = 0 + ∑ r, tapB x0 x2 x4 (k0_pay5 (F := 𝕀)) j r y * x1 (ix2 r y) := by
  frame_open
  simp (disch := decide) only [↓ View.readCov_skip, ↓ View.readCov_cons_toLoadRect, ↓ View.readCov_fill]
  frame_out
  refine (canon_take (S := S3x5632) (e := .f32) 12 _ _ ?cov).trans ?_
  case cov =>
    refine View.cover_of_tiledL (List.take (α := View.Piece (Elt 𝕀) S3x5632 .f32) 12 _) S1x1408.size ?_ _
    rfl
  simp only [List.take_succ_cons, List.take_zero]
  canon_tiles x h
  all_goals (obtain ⟨j, hj⟩ := j; obtain rfl : j = _ := h0)
  all_goals (obtain ⟨y, hy⟩ := y; obtain rfl : y = _ := h1)
  all_goals try simp only [k0_pay1, k0_pay2, k0_pay3, k0_pay4, k0_pay7, k0_pay8, k0_pay9, k0_pay16, k0_pay17, k0_pay18, k0_pay19, k0_pay20, k0_pay21, k0_pay22, k0_pay23, k0_pay24, k0_pay30, k0_pay31, k0_pay32, k0_pay33, k0_pay34, k0_pay35, k0_pay36, k0_pay37, k0_pay38, k0_pay41, k0_pay46, k0_pay47, k0_pay48, k0_pay49, k0_pay50, k0_pay51, k0_pay52, k0_pay53, k0_pay56, k0_pay57, k0_pay58, k0_pay59, k0_pay60, k0_pay61]
  all_goals pointwise [up1_c0 x0 x2 x4 _ _ (k0_pay5 (F := 𝕀)), up2_c0 x0 x2 x4 _ _ (k0_pay5 (F := 𝕀)), up1_c1 x0 x2 x4 _ _ (k0_pay5 (F := 𝕀)), up2_c1 x0 x2 x4 _ _ (k0_pay5 (F := 𝕀)), up1_c2 x0 x2 x4 _ _ (k0_pay5 (F := 𝕀)), up2_c2 x0 x2 x4 _ _ (k0_pay5 (F := 𝕀)), up1_c3 x0 x2 x4 _ _ (k0_pay5 (F := 𝕀)), up2_c3 x0 x2 x4 _ _ (k0_pay5 (F := 𝕀)), dc_c0, dc_c1, dc_c2, dc_c3]
  all_goals rfl

/-- The first eight gradient rows, carried to the next point, after the first point. -/
theorem sout_A (hc0 : cond0_0 i) (a : Fin 8) (y : Fin 5632) :
    sout0_A_0 c i arg1 harg1 arg2 harg2 arg3 harg3 arg4 harg4 arg5 harg5 arg6 harg6 arg7 harg7 arg8 harg8 arg9 harg9 hc0 x0 x1 x2 x3 x4 (ix2 a y)
      = dcB x0 x2 x4 ⟨a.val, by omega⟩ y := by
  frame_open
  simp (disch := decide) only [↓ View.readCov_skip, ↓ View.readCov_cons_toLoadRect, ↓ View.readCov_fill]
  frame_out
  refine (canon_take (S := S8x5632) (e := .f32) 4 _ _ ?cov).trans ?_
  case cov =>
    refine View.cover_of_tiledL (List.take (α := View.Piece (Elt 𝕀) S8x5632 .f32) 4 _) S8x1408.size ?_ _
    rfl
  simp only [List.take_succ_cons, List.take_zero]
  canon_tiles x h
  all_goals obtain rfl : a = x 0 := Fin.ext h0
  all_goals (obtain ⟨y, hy⟩ := y; obtain rfl : y = _ := h1)
  all_goals try simp only [k0_pay1, k0_pay2, k0_pay3, k0_pay4, k0_pay7, k0_pay8, k0_pay9, k0_pay16, k0_pay17, k0_pay18, k0_pay19, k0_pay20, k0_pay21, k0_pay22, k0_pay23, k0_pay24, k0_pay30, k0_pay31, k0_pay32, k0_pay33, k0_pay34, k0_pay35, k0_pay36, k0_pay37, k0_pay38, k0_pay41, k0_pay46, k0_pay47, k0_pay48, k0_pay49, k0_pay50, k0_pay51, k0_pay52, k0_pay53, k0_pay56, k0_pay57, k0_pay58, k0_pay59, k0_pay60, k0_pay61]
  all_goals pointwise [up1_c0 x0 x2 x4 _ _ (k0_pay5 (F := 𝕀)), up2_c0 x0 x2 x4 _ _ (k0_pay5 (F := 𝕀)), up1_c1 x0 x2 x4 _ _ (k0_pay5 (F := 𝕀)), up2_c1 x0 x2 x4 _ _ (k0_pay5 (F := 𝕀)), up1_c2 x0 x2 x4 _ _ (k0_pay5 (F := 𝕀)), up2_c2 x0 x2 x4 _ _ (k0_pay5 (F := 𝕀)), up1_c3 x0 x2 x4 _ _ (k0_pay5 (F := 𝕀)), up2_c3 x0 x2 x4 _ _ (k0_pay5 (F := 𝕀)), dc_c0, dc_c1, dc_c2, dc_c3]
  all_goals rfl

end Cert.KernelIdeal.Ffn
-- ==== Proof.FfnSweep.lean ====
/- The gated convolution's backward kernel over its whole grid: each output array in closed form over the arrays that the
   kernel reads. The points run from the last rows to the first, and the scratch carries the gradient of the rows below. -/
module

public import proofs.«01_k».proof.Proof.Gen.KernelIdeal.Value
public import proofs.«01_k».proof.Proof.FfnPoint

@[expose] public section
set_option maxRecDepth 16384
noncomputable section
namespace Cert.KernelIdeal.Ffn
open Idealize.ShloMosaic Idealize.ShloMosaic.TcCoe Idealize.ShloMosaic.Tactic Gen

local notation "𝕀" => Idealize.ShloMosaic.Ideal

/-- The gradient of the convolution's output at a row of the whole array, and zero below the last row. -/
def dcG (X : Vec 𝕀 S2048x1024 .bf16) (C : Vec 𝕀 S2048x5632 .bf16) (W : Vec 𝕀 S2816x1024 .bf16) (T : ℕ) (y : Fin 5632) : EReal :=
  if h : T < 2048 then dcRow (fun k => X (ix2 ⟨T, h⟩ k)) (fun z => C (ix2 ⟨T, h⟩ z)) W y else 0

/-- The gradient of the convolution's input at a row: the three taps over the gradient at the row and at the two below. -/
def duG (K : Vec 𝕀 S3x5632 .f32) (D : ℕ → Fin 5632 → EReal) (T : ℕ) (y : Fin 5632) : EReal :=
  K (ix2 2 y) * D T y + K (ix2 1 y) * D (T + 1) y + K (ix2 0 y) * D (T + 2) y

/-- Which block each point takes of that window. -/
theorem idx0 : ∀ t : Fin cfg0.N, win0_0.index t = ![7 - t.val, 0] := (by decide +kernel : ∀ t : Fin grid0.N, win0_0.index t = ![7 - t.val, 0])
/-- Which block each point takes of that window. -/
theorem idx1 : ∀ t : Fin cfg0.N, win0_1.index t = ![7 - t.val, 0] := (by decide +kernel : ∀ t : Fin grid0.N, win0_1.index t = ![7 - t.val, 0])
/-- Which block each point takes of that window. -/
theorem idx2 : ∀ t : Fin cfg0.N, win0_2.index t = ![7 - t.val, 0] := (by decide +kernel : ∀ t : Fin grid0.N, win0_2.index t = ![7 - t.val, 0])
/-- Which block each point takes of that window. -/
theorem idx3 : ∀ t : Fin cfg0.N, win0_3.index t = ![0, 0] := (by decide +kernel : ∀ t : Fin grid0.N, win0_3.index t = ![0, 0])
/-- Which block each point takes of that window. -/
theorem idx4 : ∀ t : Fin cfg0.N, win0_4.index t = ![0, 0] := (by decide +kernel : ∀ t : Fin grid0.N, win0_4.index t = ![0, 0])
/-- Which block each point takes of that window. -/
theorem idx5 : ∀ t : Fin cfg0.N, win0_5.index t = ![7 - t.val, 0] := (by decide +kernel : ∀ t : Fin grid0.N, win0_5.index t = ![7 - t.val, 0])

variable (m : ∀ l : Loc nD τ sig, Buf (Elt 𝕀) l) (c : Dev nD)

/-- There are eight points. -/
theorem lt8 (t : Fin cfg0.N) : t.val < 8 := N_0 ▸ t.isLt

/-- The row of the whole array at which row `r` of point `t`'s block lies. -/
theorem row_lt (t : Fin cfg0.N) (r : Fin 256) : (7 - t.val) * 256 + r.val < 2048 := by omega

/-- A row of the block is a row of its array. -/
theorem blk0 (t : Fin cfg0.N) (r : Fin 256) (k : Fin 1024) :
    iblk m c 0 t (ix2 r k) = (V m c main_v26 : Vec 𝕀 S2048x1024 .bf16) (ix2 ⟨(7 - t.val) * 256 + r.val, row_lt t r⟩ k) := by
  blk_ext [iblk, idx0 t]

/-- A row of the block is a row of its array. -/
theorem blk1 (t : Fin cfg0.N) (r : Fin 256) (k : Fin 5632) :
    iblk m c 1 t (ix2 r k) = (V m c main_v27 : Vec 𝕀 S2048x5632 .bf16) (ix2 ⟨(7 - t.val) * 256 + r.val, row_lt t r⟩ k) := by
  blk_ext [iblk, idx1 t]

/-- A row of the block is a row of its array. -/
theorem blk2 (t : Fin cfg0.N) (r : Fin 256) (k : Fin 5632) :
    iblk m c 2 t (ix2 r k) = (V m c main_v28 : Vec 𝕀 S2048x5632 .bf16) (ix2 ⟨(7 - t.val) * 256 + r.val, row_lt t r⟩ k) := by
  blk_ext [iblk, idx2 t]

/-- A row of the block is a row of its array. -/
theorem blk3 (t : Fin cfg0.N) (j : Fin 3) (k : Fin 5632) :
    iblk m c 3 t (ix2 j k) = (V m c main_arg2 : Vec 𝕀 S3x5632 .f32) (ix2 j k) := by
  blk_ext [iblk, idx3 t]

/-- The block of the down projection is the whole of it. -/
theorem blk4 (t : Fin cfg0.N) : iblk m c 4 t = (V m c main_v29 : Vec 𝕀 S2816x1024 .bf16) := by
  funext j; blk_ext [iblk, idx4 t]

/-- The gradient at a row of a point's blocks is the one at that row of the arrays. -/
theorem dc_blk (t : Fin cfg0.N) (r : Fin 256) (y : Fin 5632) :
    dcB (iblk m c 0 t) (iblk m c 2 t) (iblk m c 4 t) r y
      = dcG (V m c main_v26) (V m c main_v28) (V m c main_v29) ((7 - t.val) * 256 + r.val) y := by
  rw [dcG, dif_pos (row_lt t r), dcB, blk4]
  simp only [blk0, blk2]

/-- After a point the scratch holds the gradient of the first eight rows of the point's block. -/
theorem scratch (t : Fin cfg0.N) (a : Fin 8) (y : Fin 5632) :
    (outsAt0 m c t.val t.isLt).2.2.2 (ix2 a y)
      = dcG (V m c main_v26) (V m c main_v28) (V m c main_v29) ((7 - t.val) * 256 + a.val) y := by
  refine Eq.trans ?_ (dc_blk m c t ⟨a.val, by omega⟩ y)
  by_cases h0 : t.val % 8 = 0
  · simp only [outsAt0_A m c t h0]
    apply sout_A
  · simp only [outsAt0_B m c t h0]
    apply sout_B

/-- What the scratch holds when a point starts: at the first point zero, later the gradient of the rows just below the block. -/
def Carried (t : Fin cfg0.N) (xs : Vec 𝕀 S8x5632 .f32) : Prop :=
  ∀ (a : Fin 8) (y : Fin 5632), xs (ix2 a y) = dcG (V m c main_v26) (V m c main_v28) (V m c main_v29) ((7 - t.val) * 256 + 256 + a.val) y

/-- At the first point zeros are carried in. -/
theorem carried_first (t : Fin cfg0.N) (h0 : t.val % 8 = 0) : Carried m c t (k0_pay5 (F := 𝕀)) := fun a y => by
  have := lt8 t
  rw [dcG, dif_neg (by omega)]
  unfold_payloads
  pointwise

/-- At a later point what the point before left is carried in. -/
theorem carried_later (t : Fin cfg0.N) (h0 : ¬ t.val % 8 = 0) (hn : t.val - 1 < cfg0.N) : Carried m c t (outsAt0 m c (t.val - 1) hn).2.2.2 := fun a y => by
  have := lt8 t
  refine (scratch m c ⟨t.val - 1, hn⟩ a y).trans ?_
  congr 1; simp only; omega

variable (t : Fin cfg0.N) (xs : Vec 𝕀 S8x5632 .f32) (hs : Carried m c t xs) (r : Fin 256) (y : Fin 5632)
include hs

/-- The gradient shifted by one token, read from the whole arrays. -/
theorem nx1_blk : nx1 (iblk m c 0 t) (iblk m c 2 t) (iblk m c 4 t) xs r y
    = dcG (V m c main_v26) (V m c main_v28) (V m c main_v29) ((7 - t.val) * 256 + r.val + 1) y := by
  rw [nx1]
  split
  · rw [dc_blk]; congr 1
  · rw [hs]; congr 1; simp only [Fin.val_zero]; omega

/-- The gradient shifted by two tokens, read from the whole arrays. -/
theorem nx2_blk : nx2 (iblk m c 0 t) (iblk m c 2 t) (iblk m c 4 t) xs r y
    = dcG (V m c main_v26) (V m c main_v28) (V m c main_v29) ((7 - t.val) * 256 + r.val + 2) y := by
  rw [nx2]
  split
  · rw [dc_blk]; congr 1
  · split
    · rw [hs]; congr 1; simp only [Fin.val_zero]; omega
    · rw [hs]; congr 1; simp only [Fin.val_one]; omega

/-- The gradient of the input, read from the whole arrays. -/
theorem du_blk : duB (iblk m c 0 t) (iblk m c 2 t) (iblk m c 3 t) (iblk m c 4 t) xs r y
    = duG (V m c main_arg2) (dcG (V m c main_v26) (V m c main_v28) (V m c main_v29)) ((7 - t.val) * 256 + r.val) y := by
  rw [duB, dc_blk, nx1_blk m c t xs hs, nx2_blk m c t xs hs, blk3, blk3, blk3, duG]

/-- A tap's products, read from the whole arrays. -/
theorem tap_blk (j : Fin 3) : tapB (iblk m c 0 t) (iblk m c 2 t) (iblk m c 4 t) xs j r y
    = dcG (V m c main_v26) (V m c main_v28) (V m c main_v29) ((7 - t.val) * 256 + r.val + (2 - j.val)) y := by
  rw [tapB]
  split
  · next h => rw [nx2_blk m c t xs hs, h]
  · split
    · next h => rw [nx1_blk m c t xs hs, h]
    · next h1 h2 => rw [dc_blk]; congr 1; omega
-- ==== Proof.FfnArr.lean ====
/- The three output arrays of the gated convolution's backward kernel in closed form. -/
module

public import proofs.«01_k».proof.Proof.FfnSweep

@[expose] public section
set_option maxRecDepth 16384
noncomputable section
namespace Cert.KernelIdeal.Ffn
open Idealize.ShloMosaic Idealize.ShloMosaic.TcCoe Idealize.ShloMosaic.Tactic Gen

local notation "𝕀" => Idealize.ShloMosaic.Ideal

variable (m : ∀ l : Loc nD τ sig, Buf (Elt 𝕀) l) (c : Dev nD)

/-- A point's block of the first output. -/
theorem outs5 (t : Fin cfg0.N) (r : Fin 256) (y : Fin 5632) : (outsAt0 m c t.val t.isLt).1 (ix2 r y)
    = duG (V m c main_arg2) (dcG (V m c main_v26) (V m c main_v28) (V m c main_v29)) ((7 - t.val) * 256 + r.val) y := by
  by_cases h0 : t.val % 8 = 0
  · simp only [outsAt0_A m c t h0]
    refine Eq.trans ?_ (du_blk m c t _ (carried_first m c t h0) r y)
    apply out5_A
  · simp only [outsAt0_B m c t h0]
    refine Eq.trans ?_ (du_blk m c t _ (carried_later m c t h0 (Nat.lt_of_le_of_lt (Nat.sub_le _ _) t.isLt)) r y)
    apply out5_B

/-- The gradient of the convolution's input, as an array. -/
def duA : Vec 𝕀 S2048x5632 .bf16 := fun i =>
  duG (V m c main_arg2) (dcG (V m c main_v26) (V m c main_v28) (V m c main_v29)) (i 0).val (i 1)

/-- The first output is the gradient of the convolution's input. -/
theorem arr5 : (dats m 0 c).arrAt 5 cfg0.N = duA m c := by
  refine (dats m 0 c).arrAt_eq_of_covers 5 _ (by decide +kernel) fun t hf y => ?_
  blk_simp
  rw [after0_5]
  obtain ⟨p, q, rfl⟩ : ∃ (p : Fin 256) (q : Fin 5632), y = ix2 p q := ⟨y 0, y 1, eq_ix2 y⟩
  have e : (win0_5.blk t).view.emb (ix2 p q) = ix2 (⟨(7 - t.val) * 256 + p.val, row_lt t p⟩ : Fin 2048) q := by
    blk_ext [idx5 t]
  rw [e]
  exact outs5 m c t p q

/-- Sums over the points, each over its block's rows, are sums over the whole array's rows. -/
theorem sum_rows (f : ℕ → EReal) : ∑ t : Fin cfg0.N, ∑ r : Fin 256, f ((7 - t.val) * 256 + r.val) = ∑ T : Fin 2048, f T.val := by
  show ∑ t : Fin 8, ∑ r : Fin 256, f ((7 - t.val) * 256 + r.val) = _
  rw [← Equiv.sum_comp Fin.revPerm]
  refine Fin.sum_mul_add_congr (S := 8) (n := 256) (f := fun T : Fin 2048 => f T.val) fun s k hl => ?_
  simp only [Fin.revPerm_apply, Fin.val_rev]
  congr 3; omega

/-- A point's part of the bias gradient. -/
theorem db_blk (t : Fin cfg0.N) (y : Fin 5632) : ∑ r : Fin 256, dcB (iblk m c 0 t) (iblk m c 2 t) (iblk m c 4 t) r y
    = ∑ r : Fin 256, dcG (V m c main_v26) (V m c main_v28) (V m c main_v29) ((7 - t.val) * 256 + r.val) y :=
  Finset.sum_congr rfl fun r _ => dc_blk m c t r y

/-- A point's part of the weight gradient, at a row `T` of the arrays: zero past the last row. -/
def dwG (X : Vec 𝕀 S2048x1024 .bf16) (U C : Vec 𝕀 S2048x5632 .bf16) (W : Vec 𝕀 S2816x1024 .bf16) (j : Fin 3) (y : Fin 5632) (T : ℕ) : EReal :=
  if h : T < 2048 then dcG X C W (T + (2 - j.val)) y * U (ix2 ⟨T, h⟩ y) else 0

/-- What a point adds to the weights' gradient, read from the whole arrays. -/
theorem dw_blk (t : Fin cfg0.N) (xs : Vec 𝕀 S8x5632 .f32) (hs : Carried m c t xs) (j : Fin 3) (y : Fin 5632) :
    ∑ r : Fin 256, tapB (iblk m c 0 t) (iblk m c 2 t) (iblk m c 4 t) xs j r y * (iblk m c 1 t : Vec 𝕀 S256x5632 .bf16) (ix2 r y)
      = ∑ r : Fin 256, dwG (V m c main_v26) (V m c main_v27) (V m c main_v28) (V m c main_v29) j y ((7 - t.val) * 256 + r.val) :=
  Finset.sum_congr rfl fun r _ => by rw [dwG, dif_pos (row_lt t r), tap_blk m c t xs hs, blk1]

/-- After the last point the bias gradient is complete. -/
theorem outs6 (y : Fin 5632) : (outsAt0 m c t0_7.val t0_7.isLt).2.1 (ix2 0 y)
    = ∑ T : Fin 2048, dcG (V m c main_v26) (V m c main_v28) (V m c main_v29) T.val y := by
  refine (Pipeline.eq_sum_fin_of_reset_step_apply_last (fun n h y => (outsAt0 m c n h).2.1 (ix2 0 y)) 8 (fun _ => 0)
    (fun t y => ∑ r : Fin 256, dcG (V m c main_v26) (V m c main_v28) (V m c main_v29) ((7 - t.val) * 256 + r.val) y)
    (fun t h0 y => ?_) (fun t h0 y => ?_) (le_of_eq N_0) t0_7 (by decide +kernel) y).trans ?_
  · simp only [outsAt0_A m c t h0]
    rw [← db_blk m c t y]
    apply out6_A
  · simp only [outsAt0_B m c t h0]
    rw [← db_blk m c t y]
    apply out6_B
  · rw [zero_add]
    exact sum_rows fun T => dcG (V m c main_v26) (V m c main_v28) (V m c main_v29) T y

/-- The gradient of the convolution's bias. -/
theorem arr6 : (dats m 0 c).arrAt 6 cfg0.N = fun i : S1x5632.Idx =>
    ∑ T : Fin 2048, dcG (V m c main_v26) (V m c main_v28) (V m c main_v29) T.val (i 1) := by
  refine (dats m 0 c).arrAt_eq_of_after_last 6 t0_7 (by decide +kernel) _ fun j => ?_
  blk_simp
  rw [after0_6]
  obtain ⟨p, q, rfl⟩ : ∃ (p : Fin 1) (q : Fin 5632), j = ix2 p q := ⟨j 0, j 1, eq_ix2 j⟩
  obtain rfl : p = 0 := Subsingleton.elim _ _
  refine Eq.trans ?_ ((outs6 m c q).trans ?_)
  · congr 1
  · congr 1

/-- After the last point the weight gradient is complete. -/
theorem outs7 (j : Fin 3) (y : Fin 5632) : (outsAt0 m c t0_7.val t0_7.isLt).2.2.1 (ix2 j y)
    = ∑ T : Fin 2048, dwG (V m c main_v26) (V m c main_v27) (V m c main_v28) (V m c main_v29) j y T.val := by
  refine (Pipeline.eq_sum_fin_of_reset_step_apply_last (fun n h y => (outsAt0 m c n h).2.2.1 (ix2 j y)) 8 (fun _ => 0)
    (fun t y => ∑ r : Fin 256, dwG (V m c main_v26) (V m c main_v27) (V m c main_v28) (V m c main_v29) j y ((7 - t.val) * 256 + r.val))
    (fun t h0 y => ?_) (fun t h0 y => ?_) (le_of_eq N_0) t0_7 (by decide +kernel) y).trans ?_
  · simp only [outsAt0_A m c t h0]
    rw [← dw_blk m c t _ (carried_first m c t h0) j y]
    apply out7_A
  · simp only [outsAt0_B m c t h0]
    rw [← dw_blk m c t _ (carried_later m c t h0 (Nat.lt_of_le_of_lt (Nat.sub_le _ _) t.isLt)) j y]
    apply out7_B
  · rw [zero_add]
    exact sum_rows (dwG (V m c main_v26) (V m c main_v27) (V m c main_v28) (V m c main_v29) j y)

/-- The gradient of the convolution's weights. -/
theorem arr7 : (dats m 0 c).arrAt 7 cfg0.N = fun i : S3x5632.Idx =>
    ∑ T : Fin 2048, dwG (V m c main_v26) (V m c main_v27) (V m c main_v28) (V m c main_v29) (i 0) (i 1) T.val := by
  refine (dats m 0 c).arrAt_eq_of_after_last 7 t0_7 (by decide +kernel) _ fun j => ?_
  blk_simp
  rw [after0_7]
  obtain ⟨p, q, rfl⟩ : ∃ (p : Fin 3) (q : Fin 5632), j = ix2 p q := ⟨j 0, j 1, eq_ix2 j⟩
  exact outs7 m c p q
-- ==== Proof.Real.lean ====
/- Extended reals that are real numbers, and the algebra that holds of them. -/
module

public import Idealize.ShloMosaic.Lib.IdealHost
public import Idealize.ShloMosaic.Lib.Pointwise

@[expose] public section
noncomputable section
namespace Cert.Alg
open Idealize.ShloMosaic

/-- The extended real is a real number. -/
def IsReal (x : EReal) : Prop := ∃ r : ℝ, x = (r : EReal)

/-- A real number is real. -/
theorem isReal_coe (r : ℝ) : IsReal (r : EReal) := ⟨r, rfl⟩

/-- Zero is real. -/
theorem isReal_zero : IsReal 0 := ⟨0, rfl⟩

/-- What is below infinity in absolute value is real. -/
theorem isReal_of_abs {x : EReal} (h : max x (-x) < ⊤) : IsReal x := by
  induction x using EReal.rec with
  | bot => simp at h
  | coe r => exact ⟨r, rfl⟩
  | top => simp at h

/-- The test of a value's magnitude against the infinity word. -/
theorem isReal_of_test {x : EReal} (e : BitVec.ofBool (decide (max x (-x) < Ideal.ofBits .f32 0x7F800000#32)) = 1#1) : IsReal x := by
  have ht : Ideal.ofBits .f32 0x7F800000#32 = (⊤ : EReal) := by simp [Ideal.ofBits, Ideal.ieee]
  rw [ht] at e
  by_cases h : max x (-x) < ⊤
  · exact isReal_of_abs h
  · rw [decide_eq_false h] at e; exact absurd e (by decide)

/-- Sums of reals are real. -/
theorem IsReal.add {x y : EReal} : IsReal x → IsReal y → IsReal (x + y) := by
  rintro ⟨a, rfl⟩ ⟨b, rfl⟩; exact ⟨a + b, (EReal.coe_add a b).symm⟩

/-- Products of reals are real. -/
theorem IsReal.mul {x y : EReal} : IsReal x → IsReal y → IsReal (x * y) := by
  rintro ⟨a, rfl⟩ ⟨b, rfl⟩; exact ⟨a * b, (EReal.coe_mul a b).symm⟩

/-- Finite sums of reals are real. -/
theorem isReal_sum {ι : Type*} (s : Finset ι) (f : ι → EReal) (h : ∀ i, IsReal (f i)) : IsReal (∑ i ∈ s, f i) := by
  classical
  induction s using Finset.induction_on with
  | empty => exact ⟨0, by simp⟩
  | insert a s ha ih => rw [Finset.sum_insert ha]; exact (h a).add ih

/-- The logistic function of a real is real. -/
theorem isReal_logistic {g : EReal} : IsReal g → IsReal (Ideal.div 1 (1 + Ideal.exp (-g))) := by
  rintro ⟨r, rfl⟩
  have e : (1 : EReal) + Ideal.exp (-(r : EReal)) = ((1 + Real.exp (-r) : ℝ) : EReal) := by
    rw [← EReal.coe_neg, Ideal.exp_coe, EReal.coe_add, EReal.coe_one]
  have h : (1 + Real.exp (-r)) ≠ 0 := by positivity
  rw [e, Ideal.div_coe h]
  exact (isReal_coe 1).mul (isReal_coe _)

/-- The derivative of the gate's activation, factored. Of infinities it fails: a product with infinity does not distribute. -/
theorem silu_factor {p g s : EReal} (hp : IsReal p) (hg : IsReal g) (hs : IsReal s) :
    p * s * (1 + g * (1 - s)) = p * s + g * p * (s * (1 - s)) := by
  obtain ⟨p, rfl⟩ := hp
  obtain ⟨g, rfl⟩ := hg
  obtain ⟨s, rfl⟩ := hs
  have h : p * s * (1 + g * (1 - s)) = p * s + g * p * (s * (1 - s)) := by ring
  exact_mod_cast congrArg (fun r : ℝ => (r : EReal)) h

/-- A sum over rows of one factor taken `k` rows below is a sum of the other factor taken `k` rows above. -/
theorem sum_shift (n k : ℕ) (f g : ℕ → EReal) :
    ∑ T : Fin n, (if T.val + k < n then f (T.val + k) * g T.val else 0) = ∑ T : Fin n, (if k ≤ T.val then g (T.val - k) * f T.val else 0) := by
  rw [Fin.sum_univ_eq_sum_range (fun T => if T + k < n then f (T + k) * g T else 0),
    Fin.sum_univ_eq_sum_range (fun T => if k ≤ T then g (T - k) * f T else 0), ← Finset.sum_filter, ← Finset.sum_filter]
  refine Finset.sum_nbij' (· + k) (· - k) ?_ ?_ ?_ ?_ ?_
  · intro a ha; simp only [Finset.mem_filter, Finset.mem_range] at ha ⊢; omega
  · intro a ha; simp only [Finset.mem_filter, Finset.mem_range] at ha ⊢; omega
  · intro a ha; simp only [Nat.add_sub_cancel]
  · intro a ha; simp only [Finset.mem_filter, Finset.mem_range] at ha ⊢; omega
  · intro a ha; simp only [Nat.add_sub_cancel]; exact mul_comm _ _

end Cert.Alg
-- ==== Proof.FfnRef.lean ====
/- The reference's gradients of the gated convolution read at an index. -/
module

public import proofs.«01_k».proof.Proof.Gen.ReferenceIdeal.Read
public import proofs.«01_k».proof.Proof.Real
public import Idealize.ShloMosaic.Lib.Pipeline.ValueKit

@[expose] public section
set_option maxRecDepth 16384
noncomputable section
namespace Cert.ReferenceIdeal.Ffn
open Idealize.ShloMosaic Idealize.ShloMosaic.TcCoe Idealize.ShloMosaic.Tactic Read Cert.Alg

local notation "𝕀" => Idealize.ShloMosaic.Ideal

variable (x0 : Vec 𝕀 S2048x1024 .f32) (x1 : Vec 𝕀 S2048x5632 .f32) (x2 : Vec 𝕀 S3x5632 .f32) (x3 : Vec 𝕀 S1x5632 .f32) (x4 : Vec 𝕀 S2816x1024 .f32)
  (T : Fin 2048) (y : Fin 5632)

/-- Over real arguments the convolution is real. -/
theorem conv_real (h1 : ∀ i, IsReal (x1 i)) (h2 : ∀ i, IsReal (x2 i)) (h3 : ∀ i, IsReal (x3 i)) :
    IsReal (val_main_v26 (F := 𝕀) x1 x2 x3 (ix2 T y)) := by
  have hz : val_main_cst_1 (F := 𝕀) ix0 = (0 : EReal) := by pointwise [val_main_cst_1]
  pointwise [val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0]
  rw [hz]
  refine (h3 _).add (((isReal_zero.add (IsReal.mul ?_ (h2 _))).add (IsReal.mul ?_ (h2 _))).add ((h1 _).mul (h2 _)))
  · split
    · exact isReal_zero
    · exact h1 _
  · split
    · exact isReal_zero
    · exact h1 _

/-- The gradient of the gate half, with the two other places named by the caller. -/
theorem dc_gate (h0 : ∀ i, IsReal (x0 i)) (h1 : ∀ i, IsReal (x1 i)) (h2 : ∀ i, IsReal (x2 i)) (h3 : ∀ i, IsReal (x3 i)) (h4 : ∀ i, IsReal (x4 i))
    (h : y.val < 2816) :
    val_main_v36 (F := 𝕀) x0 x1 x2 x3 x4 (ix2 T y)
      = (∑ k : Fin 1024, x0 (ix2 T k) * x4 (ix2 ⟨y.val, h⟩ k)) * val_main_v26 (F := 𝕀) x1 x2 x3 (ix2 T ⟨2816 + y.val, by omega⟩)
        * Ideal.div 1 (1 + Ideal.exp (0 - val_main_v26 (F := 𝕀) x1 x2 x3 (ix2 T y)))
        * (1 + val_main_v26 (F := 𝕀) x1 x2 x3 (ix2 T y) * (1 - Ideal.div 1 (1 + Ideal.exp (0 - val_main_v26 (F := 𝕀) x1 x2 x3 (ix2 T y))))) := by
  have hc := conv_real x1 x2 x3 T y h1 h2 h3
  have hv := conv_real x1 x2 x3 T ⟨2816 + y.val, by omega⟩ h1 h2 h3
  rw [zero_sub, silu_factor (((isReal_sum _ _ fun k => (h0 _).mul (h4 _)).mul hv)) hc (isReal_logistic hc)]
  pointwise [val_main_v36, val_main_v35, val_main_v34, val_main_v33, val_main_v32, val_main_v31, val_main_v30, val_main_v27, val_main_v28, val_main_v29_0, val_main_v29_1, val_main_v29_2, val_main_call0_v0, val_main_call0_v1, val_main_call0_v2, val_main_call0_v3, val_main_call0_v4, val_main_call0_v6, val_main_call0_v7, val_main_call0_cst, val_main_call0_cst_0, val_main_call0_cst_1, val_main_call1_v0, val_main_call1_v1, val_main_call1_v2]
  rw [dif_pos h]

/-- The gradient of the value half. -/
theorem dc_val (h : ¬ y.val < 2816) :
    val_main_v36 (F := 𝕀) x0 x1 x2 x3 x4 (ix2 T y)
      = (∑ k : Fin 1024, x0 (ix2 T k) * x4 (ix2 ⟨y.val - 2816, by omega⟩ k)) * val_main_v26 (F := 𝕀) x1 x2 x3 (ix2 T ⟨y.val - 2816, by omega⟩)
        * Ideal.div 1 (1 + Ideal.exp (0 - val_main_v26 (F := 𝕀) x1 x2 x3 (ix2 T ⟨y.val - 2816, by omega⟩))) := by
  rw [zero_sub]
  pointwise [val_main_v36, val_main_v35, val_main_v34, val_main_v33, val_main_v32, val_main_v31, val_main_v30, val_main_v27, val_main_v28, val_main_v29_0, val_main_v29_1, val_main_v29_2, val_main_call0_v0, val_main_call0_v1, val_main_call0_v2, val_main_call0_v3, val_main_call0_v4, val_main_call0_v6, val_main_call0_v7, val_main_call0_cst, val_main_call0_cst_0, val_main_call0_cst_1, val_main_call1_v0, val_main_call1_v1, val_main_call1_v2]
  rw [dif_neg h, mul_comm, mul_assoc]

/-- The reference's gradient of the convolution's output at a row, and zero below the last row. -/
def dcN (T : ℕ) (y : Fin 5632) : EReal := if h : T < 2048 then val_main_v36 (F := 𝕀) x0 x1 x2 x3 x4 (ix2 ⟨T, h⟩ y) else 0

/-- The gradient of the convolution's input. -/
theorem du_eq : val_main_v72 (F := 𝕀) x0 x1 x2 x3 x4 (ix2 T y)
    = x2 (ix2 2 y) * dcN x0 x1 x2 x3 x4 T.val y + x2 (ix2 1 y) * dcN x0 x1 x2 x3 x4 (T.val + 1) y + x2 (ix2 0 y) * dcN x0 x1 x2 x3 x4 (T.val + 2) y := by
  have z1 : val_main_cst_10 (F := 𝕀) (Shape.Idx.first Gen.h_S_) = (0 : EReal) := by pointwise [val_main_cst_10]
  have z2 : val_main_cst_14 (F := 𝕀) (Shape.Idx.first Gen.h_S_) = (0 : EReal) := by pointwise [val_main_cst_14]
  pointwise [val_main_v72, val_main_v71, val_main_v69, val_main_v58, val_main_v47, val_main_v57, val_main_v68, val_main_v43, val_main_v52, val_main_v63, val_main_v42, val_main_v51, val_main_v62, val_main_v21, val_main_v20, val_main_v19, val_main_v14, val_main_v13, val_main_v12, val_main_v6, val_main_v5, val_main_v4]
  rw [z1, z2]
  refine congrArg₂ (· + ·) (congrArg₂ (· + ·) ?_ ?_) ?_
  · rw [dcN, dif_pos T.isLt, mul_comm]
  · rw [dcN]
    by_cases h : T.val + 1 < 2048
    · rw [dif_pos (by omega), dif_pos h, mul_comm]
      have e : (⟨2 + T.val - 1, by omega⟩ : Fin 2048) = ⟨T.val + 1, h⟩ := Fin.ext (by simp only; omega)
      rw [e]
    · rw [dif_neg (by omega), dif_neg h, mul_zero]
  · rw [dcN]
    by_cases h : T.val + 2 < 2048
    · rw [dif_pos (by omega), dif_pos h, mul_comm]
      have e : (⟨2 + T.val, by omega⟩ : Fin 2048) = ⟨T.val + 2, h⟩ := Fin.ext (by simp only; omega)
      rw [e]
    · rw [dif_neg (by omega), dif_neg h, mul_zero]

/-- The gradient of the convolution's bias. -/
theorem db_eq : val_main_v38 (F := 𝕀) x0 x1 x2 x3 x4 (ix2 0 y) = ∑ T : Fin 2048, dcN x0 x1 x2 x3 x4 T.val y := by
  pointwise [val_main_v38, val_main_v37, val_main_cst_2]
  exact Finset.sum_congr rfl fun T _ => by rw [dcN, dif_pos T.isLt]

/-- The convolution's input at a row, as a function of the row's number. -/
def uN (T : ℕ) (y : Fin 5632) : EReal := if h : T < 2048 then x1 (ix2 ⟨T, h⟩ y) else 0

/-- The row that tap 0 meets. -/
theorem tap0 : val_main_v3 (F := 𝕀) x1 (ix2 T y) = if 2 ≤ T.val then uN x1 (T.val - 2) y else 0 := by
  pointwise [val_main_v3, val_main_v1, val_main_v0, val_main_cst]
  by_cases h : 2 ≤ T.val
  · rw [if_pos h, dif_neg (by omega), uN, dif_pos (by omega)]
  · rw [if_neg h, dif_pos (by omega)]

/-- The row that tap 1 meets. -/
theorem tap1 : val_main_v11 (F := 𝕀) x1 (ix2 T y) = if 1 ≤ T.val then uN x1 (T.val - 1) y else 0 := by
  pointwise [val_main_v11, val_main_v1, val_main_v0, val_main_cst]
  by_cases h : 1 ≤ T.val
  · rw [if_pos h, dif_neg (by omega), uN, dif_pos (by omega)]
    have e : (⟨1 + T.val - 2, by omega⟩ : Fin 2048) = ⟨T.val - 1, by omega⟩ := Fin.ext (by simp only; omega)
    rw [e]
  · rw [if_neg h, dif_pos (by omega)]

/-- The row that tap 2 meets. -/
theorem tap2 : val_main_v18 (F := 𝕀) x1 (ix2 T y) = if 0 ≤ T.val then uN x1 (T.val - 0) y else 0 := by
  have e : val_main_v18 (F := 𝕀) x1 (ix2 T y) = x1 (ix2 T y) := by
    pointwise [val_main_v18, val_main_v1, val_main_v0, val_main_cst]
  rw [e, if_pos (Nat.zero_le _), Nat.sub_zero, uN, dif_pos T.isLt]

/-- Against rows of the input `k` above, or against rows of the gradient `k` below. -/
theorem shifted (k : ℕ) : ∑ T : Fin 2048, (if k ≤ T.val then uN x1 (T.val - k) y else 0) * val_main_v36 (F := 𝕀) x0 x1 x2 x3 x4 (ix2 T y)
    = ∑ T : Fin 2048, dcN x0 x1 x2 x3 x4 (T.val + k) y * x1 (ix2 T y) := by
  refine Eq.trans ?_ ((sum_shift 2048 k (fun T => dcN x0 x1 x2 x3 x4 T y) (fun T => uN x1 T y)).symm.trans ?_)
  · refine Finset.sum_congr rfl fun T _ => ?_
    rw [ite_mul, zero_mul, dcN, dif_pos T.isLt]
  · refine Finset.sum_congr rfl fun T _ => ?_
    rw [uN, dif_pos T.isLt, dcN]
    by_cases h : T.val + k < 2048
    · rw [if_pos h]
    · rw [if_neg h, dif_neg h, zero_mul]

/-- The gradient of the convolution's weights: each row of the input against the gradient `2 - j` rows below it. -/
theorem dw_eq (j : Fin 3) : val_main_v67 (F := 𝕀) x0 x1 x2 x3 x4 (ix2 j y)
    = ∑ T : Fin 2048, dcN x0 x1 x2 x3 x4 (T.val + (2 - j.val)) y * x1 (ix2 T y) := by
  have z3 : val_main_cst_3 (F := 𝕀) (Shape.Idx.first Gen.h_S_) = (0 : EReal) := by pointwise [val_main_cst_3]
  have z4 : val_main_cst_4 (F := 𝕀) (Shape.Idx.first Gen.h_S_) = (0 : EReal) := by pointwise [val_main_cst_4]
  have z5 : val_main_cst_5 (F := 𝕀) (Shape.Idx.first Gen.h_S_) = (0 : EReal) := by pointwise [val_main_cst_5]
  have z7 : val_main_cst_7 (F := 𝕀) (Shape.Idx.first Gen.h_S_) = (0 : EReal) := by pointwise [val_main_cst_7]
  have z8 : val_main_cst_8 (F := 𝕀) (Shape.Idx.first Gen.h_S_) = (0 : EReal) := by pointwise [val_main_cst_8]
  have z9 : val_main_cst_9 (F := 𝕀) (Shape.Idx.first Gen.h_S_) = (0 : EReal) := by pointwise [val_main_cst_9]
  have z11 : val_main_cst_11 (F := 𝕀) (Shape.Idx.first Gen.h_S_) = (0 : EReal) := by pointwise [val_main_cst_11]
  have z12 : val_main_cst_12 (F := 𝕀) (Shape.Idx.first Gen.h_S_) = (0 : EReal) := by pointwise [val_main_cst_12]
  have z13 : val_main_cst_13 (F := 𝕀) (Shape.Idx.first Gen.h_S_) = (0 : EReal) := by pointwise [val_main_cst_13]
  pointwise [val_main_v67, val_main_v66, val_main_v65, val_main_v64, val_main_v61, val_main_v60, val_main_v59, val_main_v56, val_main_v55, val_main_v54, val_main_v53, val_main_v50, val_main_v49, val_main_v48, val_main_v46, val_main_v45, val_main_v44, val_main_v41, val_main_v40, val_main_v39]
  rw [z3, z4, z5, z7, z8, z9, z11, z12, z13]
  simp only [tap0, tap1, tap2, shifted, Fin.sum_univ_one, zero_add]
  obtain h | h | h : j.val = 0 ∨ j.val = 1 ∨ j.val = 2 := by omega
  · rw [dif_neg (by omega), dif_neg (by omega), dif_pos (by omega), zero_add, zero_add, h]
  · rw [dif_neg (by omega), dif_pos (by omega), dif_neg (by omega), zero_add, add_zero, h]
  · rw [dif_pos (by omega), dif_neg (by omega), dif_neg (by omega), add_zero, add_zero, h]
-- ==== Proof.FfnClaim.lean ====
/- The gated convolution's backward kernel and the reference end with equal results over the reals. -/
module

public import proofs.«01_k».proof.Defs
public import proofs.«01_k».proof.Proof.FfnArr
public import proofs.«01_k».proof.Proof.FfnRef
public import proofs.«01_k».proof.Proof.Gen.ReferenceIdeal.Run
public import proofs.«01_k».proof.Proof.Gen.Pre_finite
public import Idealize.ShloMosaic.Lib.Claim

@[expose] public section
set_option maxRecDepth 16384
noncomputable section
namespace Cert.Ffn
open Idealize.ShloMosaic Idealize.ShloMosaic.TcCoe Idealize.ShloMosaic.Tactic Cert.Alg
open Cert.KernelIdeal Cert.KernelIdeal.Gen Cert.KernelIdeal.Ffn Cert.ReferenceIdeal.Read

local notation "𝕀" => Idealize.ShloMosaic.Ideal

variable (m : ∀ l : Loc nD τ sig, Buf (Elt 𝕀) l) (c : Dev nD)

/-- The kernel's arguments as arrays. -/
abbrev a0 : Vec 𝕀 S2048x1024 .f32 := m ((c : Thread nD τ).loc main_arg0)
/-- Argument 1 of the kernel. -/
abbrev a1 : Vec 𝕀 S2048x5632 .f32 := m ((c : Thread nD τ).loc main_arg1)
/-- Argument 2 of the kernel. -/
abbrev a2 : Vec 𝕀 S3x5632 .f32 := m ((c : Thread nD τ).loc main_arg2)
/-- Argument 3 of the kernel. -/
abbrev a3 : Vec 𝕀 S1x5632 .f32 := m ((c : Thread nD τ).loc main_arg3)
/-- Argument 4 of the kernel. -/
abbrev a4 : Vec 𝕀 S2816x1024 .f32 := m ((c : Thread nD τ).loc main_arg4)

/-- The cotangent as the kernel reads it. -/
theorem entry_ct : (V m c main_v26 : Vec 𝕀 S2048x1024 .bf16) = a0 m c := by
  entry_read; rfl
/-- The convolution's input as the kernel reads it. -/
theorem entry_u : (V m c main_v27 : Vec 𝕀 S2048x5632 .bf16) = a1 m c := by
  entry_read; rfl
/-- The convolution as the kernel reads it is the reference's. -/
theorem entry_conv : (V m c main_v28 : Vec 𝕀 S2048x5632 .bf16) = val_main_v26 (F := 𝕀) (a1 m c) (a2 m c) (a3 m c) := by
  entry_read; rfl
/-- The down projection as the kernel reads it. -/
theorem entry_wd : (V m c main_v29 : Vec 𝕀 S2816x1024 .bf16) = a4 m c := by
  entry_read; rfl

/-- Every argument is real. -/
structure Finite : Prop where
  h0 : ∀ i, IsReal (a0 m c i)
  h1 : ∀ i, IsReal (a1 m c i)
  h2 : ∀ i, IsReal (a2 m c i)
  h3 : ∀ i, IsReal (a3 m c i)
  h4 : ∀ i, IsReal (a4 m c i)

/-- The precondition says that every argument is real. -/
theorem finite_of_pre (h : Cert.Pre_KernelIdeal_finite (hPre_finite := Cert.Pre_finite.Gen.facts) m) : Finite m c := by
  obtain ⟨e0, e1, e2, e3, e4⟩ := h c
  constructor
  · intro i
    have e := congrFun e0 i
    simp only [Cert.Pre_finite.fn] at e
    pointwise at e
    exact isReal_of_test e
  · intro i
    have e := congrFun e1 i
    simp only [Cert.Pre_finite.fn] at e
    pointwise at e
    exact isReal_of_test e
  · intro i
    have e := congrFun e2 i
    simp only [Cert.Pre_finite.fn] at e
    pointwise at e
    exact isReal_of_test e
  · intro i
    have e := congrFun e3 i
    simp only [Cert.Pre_finite.fn] at e
    pointwise at e
    exact isReal_of_test e
  · intro i
    have e := congrFun e4 i
    simp only [Cert.Pre_finite.fn] at e
    pointwise at e
    exact isReal_of_test e

section
variable {m c} (hf : Finite m c)
include hf

/-- The gradient of the convolution's output is the reference's. -/
theorem dc_eq (T : ℕ) (y : Fin 5632) : dcG (V m c main_v26) (V m c main_v28) (V m c main_v29) T y
    = Cert.ReferenceIdeal.Ffn.dcN (a0 m c) (a1 m c) (a2 m c) (a3 m c) (a4 m c) T y := by
  rw [dcG, Cert.ReferenceIdeal.Ffn.dcN, entry_ct, entry_conv, entry_wd]
  split
  · next h =>
    by_cases hy : y.val < 2816
    · rw [Cert.ReferenceIdeal.Ffn.dc_gate _ _ _ _ _ _ _ hf.h0 hf.h1 hf.h2 hf.h3 hf.h4 hy, dcRow, dif_pos hy]
      rfl
    · rw [Cert.ReferenceIdeal.Ffn.dc_val _ _ _ _ _ _ _ hy, dcRow, dif_neg hy]
      rfl
  · rfl

/-- The gradient of the convolution's input is the reference's. -/
theorem res5 : (dats m 0 c).arrAt 5 cfg0.N = val_main_v72 (F := 𝕀) (a0 m c) (a1 m c) (a2 m c) (a3 m c) (a4 m c) := by
  rw [arr5]
  funext i
  obtain ⟨p, q, rfl⟩ : ∃ (p : Fin 2048) (q : Fin 5632), i = ix2 p q := ⟨i 0, i 1, eq_ix2 i⟩
  rw [Cert.ReferenceIdeal.Ffn.du_eq, ← dc_eq hf, ← dc_eq hf, ← dc_eq hf]
  rw [show a2 m c = V m c main_arg2 from (V_main_arg2 m c).symm]
  rfl

/-- The gradient of the convolution's bias is the reference's. -/
theorem res6 : (dats m 0 c).arrAt 6 cfg0.N = val_main_v38 (F := 𝕀) (a0 m c) (a1 m c) (a2 m c) (a3 m c) (a4 m c) := by
  rw [arr6]
  funext i
  obtain ⟨p, q, rfl⟩ : ∃ (p : Fin 1) (q : Fin 5632), i = ix2 p q := ⟨i 0, i 1, eq_ix2 i⟩
  obtain rfl : p = 0 := Subsingleton.elim _ _
  rw [Cert.ReferenceIdeal.Ffn.db_eq]
  exact Finset.sum_congr rfl fun T _ => dc_eq hf T.val q

/-- The gradient of the convolution's weights is the reference's. -/
theorem res7 : (dats m 0 c).arrAt 7 cfg0.N = val_main_v67 (F := 𝕀) (a0 m c) (a1 m c) (a2 m c) (a3 m c) (a4 m c) := by
  rw [arr7]
  funext i
  obtain ⟨p, q, rfl⟩ : ∃ (p : Fin 3) (q : Fin 5632), i = ix2 p q := ⟨i 0, i 1, eq_ix2 i⟩
  rw [Cert.ReferenceIdeal.Ffn.dw_eq]
  show ∑ T : Fin 2048, dwG (V m c main_v26) (V m c main_v27) (V m c main_v28) (V m c main_v29) p q T.val = _
  refine Finset.sum_congr rfl fun T _ => ?_
  rw [dwG, dif_pos T.isLt, ← dc_eq hf, entry_u]

end

/-- From equal real arguments the kernel and the reference end with equal results. -/
theorem algebraic : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hpre hargs
  refine ⟨fun c => val_main_v72 (F := 𝕀) (a0 m c) (a1 m c) (a2 m c) (a3 m c) (a4 m c),
    fun c => val_main_v38 (F := 𝕀) (a0 m c) (a1 m c) (a2 m c) (a3 m c) (a4 m c),
    fun c => val_main_v67 (F := 𝕀) (a0 m c) (a1 m c) (a2 m c) (a3 m c) (a4 m c), ?_, ?_⟩
  · refine (θ_run _ _ _).mono (fun r h c => ?_) (Cert.KernelIdeal.Value.run_blocks (F := 𝕀) m g)
    obtain ⟨h5, h6, h7, hk⟩ := h c
    have hf := finite_of_pre m c hpre
    exact ⟨h5.trans (res5 hf), h6.trans (res6 hf), h7.trans (res7 hf), hk⟩
  · refine (θ_run _ _ _).mono (fun r h c => ?_) (Cert.ReferenceIdeal.Value.run (F := 𝕀) m' g')
    obtain ⟨h5, h6, h7, hk⟩ := h c
    obtain ⟨e0, e1, e2, e3, e4⟩ := hargs c
    refine ⟨h5.trans ?_, h6.trans ?_, h7.trans ?_, hk⟩
    · rw [val_main_v72_eq, e0, e1, e2, e3, e4]
    · rw [val_main_v38_eq, e0, e1, e2, e3, e4]
    · rw [val_main_v67_eq, e0, e1, e2, e3, e4]
-- ==== Proof.DwRun.lean ====
/- Every run of the six weight gradient products and of the host lines around them, with what each buffer holds at the end. -/
module

public import proofs.«01_k».proof.Proof.Gen.Kernel4Ideal.Frame

@[expose] public section
set_option maxRecDepth 16384
noncomputable section
namespace Cert.Kernel4Ideal.Dw

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Gen
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
set_option backward.isDefEq.respectTransparency.types false in
/-- Every run ends with each buffer of @main at the contents that the fold through the host lines and the six calls gives it. -/
theorem run_buffers : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h hz => h)

end Cert.Kernel4Ideal.Dw
-- ==== Proof.DwPay.lean ====
/- What one point of each of the six weight gradient products leaves in its output block. -/
module

public import proofs.«01_k».proof.Proof.DwRun
public import Idealize.ShloMosaic.Lib.Pointwise
public import Idealize.ShloMosaic.Lib.Pipeline.ValueKit
public import Idealize.ShloMosaic.Lib.Claim

@[expose] public section
set_option maxRecDepth 16384
noncomputable section
namespace Cert.Kernel4Ideal.Dw
open Idealize.ShloMosaic Idealize.ShloMosaic.TcCoe Idealize.ShloMosaic.Tactic Gen

local notation "𝕀" => Idealize.ShloMosaic.Ideal

/-- The product of a column of `A` with a column of `B`, summed over the tokens. -/
def tn {a b : ℕ} (A : Fin 2048 → Fin a → EReal) (B : Fin 2048 → Fin b → EReal) (i : Fin a) (j : Fin b) : EReal :=
  ∑ k : Fin 2048, A k i * B k j

/-! ## One point of each call -/

/-- The block that a point of the product for `w_down` leaves. -/
theorem out0 (x0 : Vec 𝕀 S2048x1408 .bf16) (x1 : Vec 𝕀 S2048x1024 .bf16) (p : Fin 1408) (q : Fin 1024) :
    out0_2 x0 x1 (ix2 p q) = tn (fun k i => x0 (ix2 k i)) (fun k j => x1 (ix2 k j)) p q := by
  unfold out0_2 tn
  rw [View.canon_cons_unit_zero (by decide), View.ld_unit_zero (by decide), View.ld_unit_zero (by decide)]
  unfold_payloads
  pointwise [dot_S2048x1408_S2048x1024_S1408x1024_0_0_1_1_n_n]

/-- The block that a point of the product for `w_up` leaves. -/
theorem out1 (x0 : Vec 𝕀 S2048x1024 .bf16) (x1 : Vec 𝕀 S2048x1408 .bf16) (p : Fin 1024) (q : Fin 1408) :
    out1_2 x0 x1 (ix3 0 p q) = tn (fun k i => x0 (ix2 k i)) (fun k j => x1 (ix2 k j)) p q := by
  unfold out1_2 tn
  rw [View.canon_cons_unit_zero (by decide), View.ld_unit_zero (by decide), View.ld_unit_zero (by decide)]
  unfold_payloads
  pointwise [dot_S2048x1024_S2048x1408_S1024x1408_0_0_1_1_n_n]

/-- The block that a point of the product for `w_out` leaves. -/
theorem out2 (x0 : Vec 𝕀 S2048x512 .bf16) (x1 : Vec 𝕀 S2048x1024 .bf16) (p : Fin 512) (q : Fin 1024) :
    out2_2 x0 x1 (ix2 p q) = tn (fun k i => x0 (ix2 k i)) (fun k j => x1 (ix2 k j)) p q := by
  unfold out2_2 tn
  rw [View.canon_cons_unit_zero (by decide), View.ld_unit_zero (by decide), View.ld_unit_zero (by decide)]
  unfold_payloads
  pointwise [dot_S2048x512_S2048x1024_S512x1024_0_0_1_1_n_n]

/-- The block that a point of the product for `w_gla_proj` leaves. -/
theorem out3 (x0 : Vec 𝕀 S2048x512 .bf16) (x1 : Vec 𝕀 S2048x1024 .bf16) (p : Fin 512) (q : Fin 1024) :
    out3_2 x0 x1 (ix2 p q) = tn (fun k i => x0 (ix2 k i)) (fun k j => x1 (ix2 k j)) p q := by
  unfold out3_2 tn
  rw [View.canon_cons_unit_zero (by decide), View.ld_unit_zero (by decide), View.ld_unit_zero (by decide)]
  unfold_payloads
  pointwise [dot_S2048x512_S2048x1024_S512x1024_0_0_1_1_n_n]

/-- The block that a point of the product for `w_pool_proj` leaves. -/
theorem out4 (x0 : Vec 𝕀 S2048x512 .bf16) (x1 : Vec 𝕀 S2048x256 .bf16) (p : Fin 512) (q : Fin 256) :
    out4_2 x0 x1 (ix3 0 p q) = tn (fun k i => x0 (ix2 k i)) (fun k j => x1 (ix2 k j)) p q := by
  unfold out4_2 tn
  rw [View.canon_cons_unit_zero (by decide), View.ld_unit_zero (by decide), View.ld_unit_zero (by decide)]
  unfold_payloads
  pointwise [dot_S2048x512_S2048x256_S512x256_0_0_1_1_n_n]

/-- The block that a point of the product for `w_in` leaves. -/
theorem out5 (x0 : Vec 𝕀 S2048x1152 .bf16) (x1 : Vec 𝕀 S2048x1024 .bf16) (p : Fin 1152) (q : Fin 1024) :
    out5_2 x0 x1 (ix2 p q) = tn (fun k i => x0 (ix2 k i)) (fun k j => x1 (ix2 k j)) p q := by
  unfold out5_2 tn
  rw [View.canon_cons_unit_zero (by decide), View.ld_unit_zero (by decide), View.ld_unit_zero (by decide)]
  unfold_payloads
  pointwise [dot_S2048x1152_S2048x1024_S1152x1024_0_0_1_1_n_n]

end Cert.Kernel4Ideal.Dw
-- ==== Proof.DwArr.lean ====
/- What each of the six weight gradient products leaves in its output array. -/
module

public import proofs.«01_k».proof.Proof.DwPay

@[expose] public section
set_option maxRecDepth 16384
noncomputable section
namespace Cert.Kernel4Ideal.Dw
open Idealize.ShloMosaic Idealize.ShloMosaic.TcCoe Idealize.ShloMosaic.Tactic Gen

local notation "𝕀" => Idealize.ShloMosaic.Ideal

variable (V : (c : Dev nD) → (b : Ref sig .tc) → Buf (Elt 𝕀) ((c : Thread nD τ).loc b)) (c : Dev nD)

/-! ## The product for `w_down` -/

/-- The blocks that a point reads and writes. -/
theorem idx0_0 : ∀ t : Fin cfg0.N, win0_0.index t = ![0, t.val] := (by decide +kernel : ∀ t : Fin grid0.N, win0_0.index t = ![0, t.val])
/-- Which block each point takes of that window. -/
theorem idx0_1 : ∀ t : Fin cfg0.N, win0_1.index t = ![0, 0] := (by decide +kernel : ∀ t : Fin grid0.N, win0_1.index t = ![0, 0])
/-- Which block each point takes of that window. -/
theorem idx0_2 : ∀ t : Fin cfg0.N, win0_2.index t = ![t.val, 0] := (by decide +kernel : ∀ t : Fin grid0.N, win0_2.index t = ![t.val, 0])

/-- The output array, from the arrays that the call is entered with. -/
def dA0 : Vec 𝕀 S2816x1024 .bf16 := fun i =>
  tn (fun k i => (V c main_v0 : Vec 𝕀 S2048x2816 .bf16) (ix2 k i)) (fun k j => (V c main_v1 : Vec 𝕀 S2048x1024 .bf16) (ix2 k j)) (i 0) (i 1)

/-- The rows of each block lie in the array. -/
theorem lt0 (t : Fin cfg0.N) (p : Fin 1408) : t.val * 1408 + p.val < 2816 := by have : t.val < 2 := t.isLt; omega

/-- The call leaves that array. -/
theorem arr0 : (dat0 V c).arrAt 2 cfg0.N = dA0 V c := by
  refine (dat0 V c).arrAt_eq_of_covers 2 _ (by decide +kernel) fun t hf y => ?_
  blk_simp
  rw [after0_2]
  obtain ⟨p, q, rfl⟩ : ∃ (p : Fin 1408) (q : Fin 1024), y = ix2 p q := ⟨y 0, y 1, eq_ix2 y⟩
  have e : (win0_2.blk t).view.emb (ix2 p q) = ix2 (⟨t.val * 1408 + p.val, lt0 t p⟩ : Fin 2816) q := by
    blk_ext [idx0_2 t]
  rw [e]
  refine (out0 _ _ p q).trans ?_
  unfold dA0 tn
  refine Finset.sum_congr rfl fun k _ => ?_
  congr 1
  · blk_ext [iblk0, idx0_0 t]
  · blk_ext [iblk0, idx0_1 t]

/-! ## The product for `w_up` -/

/-- The blocks that a point reads and writes. -/
theorem idx1_0 : ∀ t : Fin cfg1.N, win1_0.index t = ![0, 0] := (by decide +kernel : ∀ t : Fin grid1.N, win1_0.index t = ![0, 0])
/-- Which block each point takes of that window. -/
theorem idx1_1 : ∀ t : Fin cfg1.N, win1_1.index t = ![0, t.val] := (by decide +kernel : ∀ t : Fin grid1.N, win1_1.index t = ![0, t.val])
/-- Which block each point takes of that window. -/
theorem idx1_2 : ∀ t : Fin cfg1.N, win1_2.index t = ![t.val, 0, 0] := (by decide +kernel : ∀ t : Fin grid1.N, win1_2.index t = ![t.val, 0, 0])

/-- A column of a slab, in the whole array. -/
def slab1 (t : Fin 4) (j : Fin 1408) : Fin 5632 := ⟨t.val * 1408 + j.val, by omega⟩

/-- The output array, one slab of columns after another, from the arrays that the call is entered with. -/
def dA1 : Vec 𝕀 S4x1024x1408 .bf16 := fun i =>
  tn (fun k i => (V c main_v2 : Vec 𝕀 S2048x1024 .bf16) (ix2 k i))
    (fun k j => (V c main_v3 : Vec 𝕀 S2048x5632 .bf16) (ix2 k (slab1 (i 0) j))) (i 1) (i 2)

/-- The call leaves that array. -/
theorem arr1 : (dat1 V c).arrAt 2 cfg1.N = dA1 V c := by
  refine (dat1 V c).arrAt_eq_of_covers 2 _ (by decide +kernel) fun t hf y => ?_
  blk_simp
  rw [after1_2]
  obtain ⟨p, q, rfl⟩ : ∃ (p : Fin 1024) (q : Fin 1408), y = ix3 0 p q := ⟨y 1, y 2, (eq_ix3 y).trans (congrArg (ix3 · (y 1) (y 2)) (Subsingleton.elim (α := Fin 1) _ _))⟩
  have e : (win1_2.blk t).view.emb (ix3 0 p q) = ix3 (⟨t.val, t.isLt⟩ : Fin 4) p q := by
    blk_ext [idx1_2 t]
  rw [e]
  refine (out1 _ _ p q).trans ?_
  unfold dA1 tn
  refine Finset.sum_congr rfl fun k _ => ?_
  congr 1
  · blk_ext [iblk1, idx1_0 t]
  · blk_ext [iblk1, idx1_1 t, slab1]

/-! ## The product for `w_out` -/

/-- The blocks that a point reads and writes. -/
theorem idx2_0 : ∀ t : Fin cfg2.N, win2_0.index t = ![0, t.val] := (by decide +kernel : ∀ t : Fin grid2.N, win2_0.index t = ![0, t.val])
/-- Which block each point takes of that window. -/
theorem idx2_1 : ∀ t : Fin cfg2.N, win2_1.index t = ![0, 0] := (by decide +kernel : ∀ t : Fin grid2.N, win2_1.index t = ![0, 0])
/-- Which block each point takes of that window. -/
theorem idx2_2 : ∀ t : Fin cfg2.N, win2_2.index t = ![t.val, 0] := (by decide +kernel : ∀ t : Fin grid2.N, win2_2.index t = ![t.val, 0])

/-- The output array, from the arrays that the call is entered with. -/
def dA2 : Vec 𝕀 S1024x1024 .bf16 := fun i =>
  tn (fun k i => (V c main_v4 : Vec 𝕀 S2048x1024 .bf16) (ix2 k i)) (fun k j => (V c main_v5 : Vec 𝕀 S2048x1024 .bf16) (ix2 k j)) (i 0) (i 1)

/-- The rows of each block lie in the array. -/
theorem lt2 (t : Fin cfg2.N) (p : Fin 512) : t.val * 512 + p.val < 1024 := by have : t.val < 2 := t.isLt; omega

/-- The call leaves that array. -/
theorem arr2 : (dat2 V c).arrAt 2 cfg2.N = dA2 V c := by
  refine (dat2 V c).arrAt_eq_of_covers 2 _ (by decide +kernel) fun t hf y => ?_
  blk_simp
  rw [after2_2]
  obtain ⟨p, q, rfl⟩ : ∃ (p : Fin 512) (q : Fin 1024), y = ix2 p q := ⟨y 0, y 1, eq_ix2 y⟩
  have e : (win2_2.blk t).view.emb (ix2 p q) = ix2 (⟨t.val * 512 + p.val, lt2 t p⟩ : Fin 1024) q := by
    blk_ext [idx2_2 t]
  rw [e]
  refine (out2 _ _ p q).trans ?_
  unfold dA2 tn
  refine Finset.sum_congr rfl fun k _ => ?_
  congr 1
  · blk_ext [iblk2, idx2_0 t]
  · blk_ext [iblk2, idx2_1 t]

/-! ## The product for `w_gla_proj` -/

/-- The blocks that a point reads and writes. -/
theorem idx3_0 : ∀ t : Fin cfg3.N, win3_0.index t = ![0, t.val] := (by decide +kernel : ∀ t : Fin grid3.N, win3_0.index t = ![0, t.val])
/-- Which block each point takes of that window. -/
theorem idx3_1 : ∀ t : Fin cfg3.N, win3_1.index t = ![0, 0] := (by decide +kernel : ∀ t : Fin grid3.N, win3_1.index t = ![0, 0])
/-- Which block each point takes of that window. -/
theorem idx3_2 : ∀ t : Fin cfg3.N, win3_2.index t = ![t.val, 0] := (by decide +kernel : ∀ t : Fin grid3.N, win3_2.index t = ![t.val, 0])

/-- The output array, from the arrays that the call is entered with. -/
def dA3 : Vec 𝕀 S1024x1024 .bf16 := fun i =>
  tn (fun k i => (V c main_v6 : Vec 𝕀 S2048x1024 .bf16) (ix2 k i)) (fun k j => (V c main_v7 : Vec 𝕀 S2048x1024 .bf16) (ix2 k j)) (i 0) (i 1)

/-- The rows of each block lie in the array. -/
theorem lt3 (t : Fin cfg3.N) (p : Fin 512) : t.val * 512 + p.val < 1024 := by have : t.val < 2 := t.isLt; omega

/-- The call leaves that array. -/
theorem arr3 : (dat3 V c).arrAt 2 cfg3.N = dA3 V c := by
  refine (dat3 V c).arrAt_eq_of_covers 2 _ (by decide +kernel) fun t hf y => ?_
  blk_simp
  rw [after3_2]
  obtain ⟨p, q, rfl⟩ : ∃ (p : Fin 512) (q : Fin 1024), y = ix2 p q := ⟨y 0, y 1, eq_ix2 y⟩
  have e : (win3_2.blk t).view.emb (ix2 p q) = ix2 (⟨t.val * 512 + p.val, lt3 t p⟩ : Fin 1024) q := by
    blk_ext [idx3_2 t]
  rw [e]
  refine (out3 _ _ p q).trans ?_
  unfold dA3 tn
  refine Finset.sum_congr rfl fun k _ => ?_
  congr 1
  · blk_ext [iblk3, idx3_0 t]
  · blk_ext [iblk3, idx3_1 t]

/-! ## The product for `w_pool_proj` -/

/-- The blocks that a point reads and writes. -/
theorem idx4_0 : ∀ t : Fin cfg4.N, win4_0.index t = ![0, 0] := (by decide +kernel : ∀ t : Fin grid4.N, win4_0.index t = ![0, 0])
/-- Which block each point takes of that window. -/
theorem idx4_1 : ∀ t : Fin cfg4.N, win4_1.index t = ![0, t.val] := (by decide +kernel : ∀ t : Fin grid4.N, win4_1.index t = ![0, t.val])
/-- Which block each point takes of that window. -/
theorem idx4_2 : ∀ t : Fin cfg4.N, win4_2.index t = ![t.val, 0, 0] := (by decide +kernel : ∀ t : Fin grid4.N, win4_2.index t = ![t.val, 0, 0])

/-- A column of a slab, in the whole array. -/
def slab4 (t : Fin 4) (j : Fin 256) : Fin 1024 := ⟨t.val * 256 + j.val, by omega⟩

/-- The output array, one slab of columns after another, from the arrays that the call is entered with. -/
def dA4 : Vec 𝕀 S4x512x256 .bf16 := fun i =>
  tn (fun k i => (V c main_v8 : Vec 𝕀 S2048x512 .bf16) (ix2 k i))
    (fun k j => (V c main_v9 : Vec 𝕀 S2048x1024 .bf16) (ix2 k (slab4 (i 0) j))) (i 1) (i 2)

/-- The call leaves that array. -/
theorem arr4 : (dat4 V c).arrAt 2 cfg4.N = dA4 V c := by
  refine (dat4 V c).arrAt_eq_of_covers 2 _ (by decide +kernel) fun t hf y => ?_
  blk_simp
  rw [after4_2]
  obtain ⟨p, q, rfl⟩ : ∃ (p : Fin 512) (q : Fin 256), y = ix3 0 p q := ⟨y 1, y 2, (eq_ix3 y).trans (congrArg (ix3 · (y 1) (y 2)) (Subsingleton.elim (α := Fin 1) _ _))⟩
  have e : (win4_2.blk t).view.emb (ix3 0 p q) = ix3 (⟨t.val, t.isLt⟩ : Fin 4) p q := by
    blk_ext [idx4_2 t]
  rw [e]
  refine (out4 _ _ p q).trans ?_
  unfold dA4 tn
  refine Finset.sum_congr rfl fun k _ => ?_
  congr 1
  · blk_ext [iblk4, idx4_0 t]
  · blk_ext [iblk4, idx4_1 t, slab4]

/-! ## The product for `w_in` -/

/-- The blocks that a point reads and writes. -/
theorem idx5_0 : ∀ t : Fin cfg5.N, win5_0.index t = ![0, t.val] := (by decide +kernel : ∀ t : Fin grid5.N, win5_0.index t = ![0, t.val])
/-- Which block each point takes of that window. -/
theorem idx5_1 : ∀ t : Fin cfg5.N, win5_1.index t = ![0, 0] := (by decide +kernel : ∀ t : Fin grid5.N, win5_1.index t = ![0, 0])
/-- Which block each point takes of that window. -/
theorem idx5_2 : ∀ t : Fin cfg5.N, win5_2.index t = ![t.val, 0] := (by decide +kernel : ∀ t : Fin grid5.N, win5_2.index t = ![t.val, 0])

/-- The output array, from the arrays that the call is entered with. -/
def dA5 : Vec 𝕀 S5760x1024 .bf16 := fun i =>
  tn (fun k i => (V c main_v17 : Vec 𝕀 S2048x5760 .bf16) (ix2 k i)) (fun k j => (V c main_v11 : Vec 𝕀 S2048x1024 .bf16) (ix2 k j)) (i 0) (i 1)

/-- The rows of each block lie in the array. -/
theorem lt5 (t : Fin cfg5.N) (p : Fin 1152) : t.val * 1152 + p.val < 5760 := by have : t.val < 5 := t.isLt; omega

/-- The call leaves that array. -/
theorem arr5 : (dat5 V c).arrAt 2 cfg5.N = dA5 V c := by
  refine (dat5 V c).arrAt_eq_of_covers 2 _ (by decide +kernel) fun t hf y => ?_
  blk_simp
  rw [after5_2]
  obtain ⟨p, q, rfl⟩ : ∃ (p : Fin 1152) (q : Fin 1024), y = ix2 p q := ⟨y 0, y 1, eq_ix2 y⟩
  have e : (win5_2.blk t).view.emb (ix2 p q) = ix2 (⟨t.val * 1152 + p.val, lt5 t p⟩ : Fin 5760) q := by
    blk_ext [idx5_2 t]
  rw [e]
  refine (out5 _ _ p q).trans ?_
  unfold dA5 tn
  refine Finset.sum_congr rfl fun k _ => ?_
  congr 1
  · blk_ext [iblk5, idx5_0 t]
  · blk_ext [iblk5, idx5_1 t]

end Cert.Kernel4Ideal.Dw
-- ==== Proof.DwHost.lean ====
/- The host lines around the six weight gradient products: what each call is entered with, and the results. -/
module

public import proofs.«01_k».proof.Proof.DwArr
public import Idealize.ShloMosaic.Lib.StableHlo.RunClose

@[expose] public section
set_option maxRecDepth 16384
noncomputable section
namespace Cert.Kernel4Ideal.Dw
open Idealize.ShloMosaic Idealize.ShloMosaic.TcCoe Idealize.ShloMosaic.Tactic Gen

local notation "𝕀" => Idealize.ShloMosaic.Ideal

variable (m : ∀ l : Loc nD τ sig, Buf (Elt 𝕀) l) (ρ : Dev nD → PrngReg) (c : Dev nD)

/-! ## What the calls are entered with -/

/-- An operand of the product for `w_down` is the argument it was cast from. -/
theorem in_v0 : (V1 m ρ c main_v0 : Vec 𝕀 S2048x2816 .bf16) = (m ((c : Thread nD τ).loc main_arg0) : Vec 𝕀 S2048x2816 .f32) := by
  have e : (StableHlo.after hostOps0 (W0 m ρ c) (Proc.devRef .tc main_v0) : Vec 𝕀 S2048x2816 .bf16) = (m ((c : Thread nD τ).loc main_arg0) : Vec 𝕀 S2048x2816 .f32) := by
    entry_read; rfl
  exact e

/-- An operand of the product for `w_down` is the argument it was cast from. -/
theorem in_v1 : (V1 m ρ c main_v1 : Vec 𝕀 S2048x1024 .bf16) = (m ((c : Thread nD τ).loc main_arg1) : Vec 𝕀 S2048x1024 .f32) := by
  have e : (StableHlo.after hostOps0 (W0 m ρ c) (Proc.devRef .tc main_v1) : Vec 𝕀 S2048x1024 .bf16) = (m ((c : Thread nD τ).loc main_arg1) : Vec 𝕀 S2048x1024 .f32) := by
    entry_read; rfl
  exact e

/-- An operand of the product for `w_up` is the argument it was cast from. -/
theorem in_v2 : (V2 m ρ c main_v2 : Vec 𝕀 S2048x1024 .bf16) = (m ((c : Thread nD τ).loc main_arg2) : Vec 𝕀 S2048x1024 .f32) := by
  have e : (StableHlo.after hostOps0 (W0 m ρ c) (Proc.devRef .tc main_v2) : Vec 𝕀 S2048x1024 .bf16) = (m ((c : Thread nD τ).loc main_arg2) : Vec 𝕀 S2048x1024 .f32) := by
    entry_read; rfl
  exact (W2_of m ρ c _ (by decide)).trans e

/-- An operand of the product for `w_up` is the argument it was cast from. -/
theorem in_v3 : (V2 m ρ c main_v3 : Vec 𝕀 S2048x5632 .bf16) = (m ((c : Thread nD τ).loc main_arg3) : Vec 𝕀 S2048x5632 .f32) := by
  have e : (StableHlo.after hostOps0 (W0 m ρ c) (Proc.devRef .tc main_v3) : Vec 𝕀 S2048x5632 .bf16) = (m ((c : Thread nD τ).loc main_arg3) : Vec 𝕀 S2048x5632 .f32) := by
    entry_read; rfl
  exact (W2_of m ρ c _ (by decide)).trans e

/-- An operand of the product for `w_out` is the argument it was cast from. -/
theorem in_v4 : (V3 m ρ c main_v4 : Vec 𝕀 S2048x1024 .bf16) = (m ((c : Thread nD τ).loc main_arg4) : Vec 𝕀 S2048x1024 .f32) := by
  have e : (StableHlo.after hostOps0 (W0 m ρ c) (Proc.devRef .tc main_v4) : Vec 𝕀 S2048x1024 .bf16) = (m ((c : Thread nD τ).loc main_arg4) : Vec 𝕀 S2048x1024 .f32) := by
    entry_read; rfl
  exact (W3_of m ρ c _ (by decide)).trans ((W2_of m ρ c _ (by decide)).trans e)

/-- An operand of the product for `w_out` is the argument it was cast from. -/
theorem in_v5 : (V3 m ρ c main_v5 : Vec 𝕀 S2048x1024 .bf16) = (m ((c : Thread nD τ).loc main_arg5) : Vec 𝕀 S2048x1024 .f32) := by
  have e : (StableHlo.after hostOps0 (W0 m ρ c) (Proc.devRef .tc main_v5) : Vec 𝕀 S2048x1024 .bf16) = (m ((c : Thread nD τ).loc main_arg5) : Vec 𝕀 S2048x1024 .f32) := by
    entry_read; rfl
  exact (W3_of m ρ c _ (by decide)).trans ((W2_of m ρ c _ (by decide)).trans e)

/-- An operand of the product for `w_gla_proj` is the argument it was cast from. -/
theorem in_v6 : (V4 m ρ c main_v6 : Vec 𝕀 S2048x1024 .bf16) = (m ((c : Thread nD τ).loc main_arg6) : Vec 𝕀 S2048x1024 .f32) := by
  have e : (StableHlo.after hostOps0 (W0 m ρ c) (Proc.devRef .tc main_v6) : Vec 𝕀 S2048x1024 .bf16) = (m ((c : Thread nD τ).loc main_arg6) : Vec 𝕀 S2048x1024 .f32) := by
    entry_read; rfl
  exact (W4_of m ρ c _ (by decide)).trans ((W3_of m ρ c _ (by decide)).trans ((W2_of m ρ c _ (by decide)).trans e))

/-- An operand of the product for `w_gla_proj` is the argument it was cast from. -/
theorem in_v7 : (V4 m ρ c main_v7 : Vec 𝕀 S2048x1024 .bf16) = (m ((c : Thread nD τ).loc main_arg7) : Vec 𝕀 S2048x1024 .f32) := by
  have e : (StableHlo.after hostOps0 (W0 m ρ c) (Proc.devRef .tc main_v7) : Vec 𝕀 S2048x1024 .bf16) = (m ((c : Thread nD τ).loc main_arg7) : Vec 𝕀 S2048x1024 .f32) := by
    entry_read; rfl
  exact (W4_of m ρ c _ (by decide)).trans ((W3_of m ρ c _ (by decide)).trans ((W2_of m ρ c _ (by decide)).trans e))

/-- An operand of the product for `w_pool_proj` is the argument it was cast from. -/
theorem in_v8 : (V5 m ρ c main_v8 : Vec 𝕀 S2048x512 .bf16) = (m ((c : Thread nD τ).loc main_arg8) : Vec 𝕀 S2048x512 .f32) := by
  have e : (StableHlo.after hostOps0 (W0 m ρ c) (Proc.devRef .tc main_v8) : Vec 𝕀 S2048x512 .bf16) = (m ((c : Thread nD τ).loc main_arg8) : Vec 𝕀 S2048x512 .f32) := by
    entry_read; rfl
  exact (W5_of m ρ c _ (by decide)).trans ((W4_of m ρ c _ (by decide)).trans ((W3_of m ρ c _ (by decide)).trans ((W2_of m ρ c _ (by decide)).trans e)))

/-- An operand of the product for `w_pool_proj` is the argument it was cast from. -/
theorem in_v9 : (V5 m ρ c main_v9 : Vec 𝕀 S2048x1024 .bf16) = (m ((c : Thread nD τ).loc main_arg9) : Vec 𝕀 S2048x1024 .f32) := by
  have e : (StableHlo.after hostOps0 (W0 m ρ c) (Proc.devRef .tc main_v9) : Vec 𝕀 S2048x1024 .bf16) = (m ((c : Thread nD τ).loc main_arg9) : Vec 𝕀 S2048x1024 .f32) := by
    entry_read; rfl
  exact (W5_of m ρ c _ (by decide)).trans ((W4_of m ρ c _ (by decide)).trans ((W3_of m ρ c _ (by decide)).trans ((W2_of m ρ c _ (by decide)).trans e)))

/-- An operand of the product for `w_in` is the argument it was cast from. -/
theorem in_v11 : (V6 m ρ c main_v11 : Vec 𝕀 S2048x1024 .bf16) = (m ((c : Thread nD τ).loc main_arg11) : Vec 𝕀 S2048x1024 .f32) := by
  have e : (StableHlo.after hostOps0 (W0 m ρ c) (Proc.devRef .tc main_v11) : Vec 𝕀 S2048x1024 .bf16) = (m ((c : Thread nD τ).loc main_arg11) : Vec 𝕀 S2048x1024 .f32) := by
    entry_read; rfl
  exact (W6_of m ρ c _ (by decide)).trans ((W5_of m ρ c _ (by decide)).trans ((W4_of m ρ c _ (by decide)).trans ((W3_of m ρ c _ (by decide)).trans ((W2_of m ρ c _ (by decide)).trans e))))

/-- The cotangent of the input projection with its columns in the kernel's order: gate, values, the pooling and attention
    columns, the decay's, and zeros up to whole tiles. -/
def dzr (X : Vec 𝕀 S2048x5648 .f32) : Vec 𝕀 S2048x5760 .bf16 :=
  concatenate S2048x5760 1
    [⟨S2048x2048, (extractStridedSlice S2048x2048 ![0, 3600] X slices_S2048x5648_S2048x2048_0_3600 : Vec 𝕀 S2048x2048 .bf16)⟩,
     ⟨S2048x2048, (extractStridedSlice S2048x2048 ![0, 1536] X slices_S2048x5648_S2048x2048_0_1536 : Vec 𝕀 S2048x2048 .bf16)⟩,
     ⟨S2048x1536, (extractStridedSlice S2048x1536 ![0, 0] X slices_S2048x5648_S2048x1536_0_0 : Vec 𝕀 S2048x1536 .bf16)⟩,
     ⟨S2048x16, (extractStridedSlice S2048x16 ![0, 3584] X slices_S2048x5648_S2048x16_0_3584 : Vec 𝕀 S2048x16 .bf16)⟩,
     ⟨S2048x112, (broadcastInDim S2048x112 ![] bcast_S_S2048x112 (constant (F := 𝕀) S_ .bf16 0x0000#16) : Vec 𝕀 S2048x112 .bf16)⟩]
    concatenates_S2048x2048_S2048x2048_S2048x1536_S2048x16_S2048x112_S2048x5760_d1

/-- Arrays put together from equal pieces are equal. -/
theorem cat5 (p0 q0 : Vec 𝕀 S2048x2048 .bf16) (p1 q1 : Vec 𝕀 S2048x2048 .bf16) (p2 q2 : Vec 𝕀 S2048x1536 .bf16) (p3 q3 : Vec 𝕀 S2048x16 .bf16) (p4 q4 : Vec 𝕀 S2048x112 .bf16) (h0 : p0 = q0) (h1 : p1 = q1) (h2 : p2 = q2) (h3 : p3 = q3) (h4 : p4 = q4) :
    (concatenate S2048x5760 1 [⟨S2048x2048, p0⟩, ⟨S2048x2048, p1⟩, ⟨S2048x1536, p2⟩, ⟨S2048x16, p3⟩, ⟨S2048x112, p4⟩] concatenates_S2048x2048_S2048x2048_S2048x1536_S2048x16_S2048x112_S2048x5760_d1 : Vec 𝕀 S2048x5760 .bf16) = concatenate S2048x5760 1 [⟨S2048x2048, q0⟩, ⟨S2048x2048, q1⟩, ⟨S2048x1536, q2⟩, ⟨S2048x16, q3⟩, ⟨S2048x112, q4⟩] concatenates_S2048x2048_S2048x2048_S2048x1536_S2048x16_S2048x112_S2048x5760_d1 := by
  subst h0 h1 h2 h3 h4; rfl

set_option maxRecDepth 65536 in
set_option maxHeartbeats 2000000 in
/-- The first operand of the product for `w_in` is the cotangent in that order. -/
theorem in_v17 : (V6 m ρ c main_v17 : Vec 𝕀 S2048x5760 .bf16) = dzr (m ((c : Thread nD τ).loc main_arg10)) := by
  have e : (StableHlo.after hostOps0 (W0 m ρ c) (Proc.devRef .tc main_v17) : Vec 𝕀 S2048x5760 .bf16) = dzr (m ((c : Thread nD τ).loc main_arg10)) := by
    after_results
    exact cat5 _ _ _ _ _ _ _ _ _ _ (by dsimp only [Matrix.cons_val]; after_results_simp_entrywise; first | done | rfl) (by dsimp only [Matrix.cons_val]; after_results_simp_entrywise; first | done | rfl)
      (by dsimp only [Matrix.cons_val]; after_results_simp_entrywise; first | done | rfl) (by dsimp only [Matrix.cons_val]; after_results_simp_entrywise; first | done | rfl)
      (by dsimp only [Matrix.cons_val]; after_results_simp_entrywise; first | done | rfl)
  exact (W6_of m ρ c _ (by decide)).trans ((W5_of m ρ c _ (by decide)).trans ((W4_of m ρ c _ (by decide)).trans ((W3_of m ρ c _ (by decide)).trans ((W2_of m ρ c _ (by decide)).trans e))))

/-! ## The results -/

/-- The rows of `w_in`'s gradient, put back into the argument's order. -/
def unperm (X : Vec 𝕀 S5760x1024 .bf16) : Vec 𝕀 S5648x1024 .bf16 :=
  concatenate S5648x1024 0
    [⟨S1536x1024, (extractStridedSlice S1536x1024 ![4096, 0] X slices_S5760x1024_S1536x1024_4096_0 : Vec 𝕀 S1536x1024 .bf16)⟩,
     ⟨S2048x1024, (extractStridedSlice S2048x1024 ![2048, 0] X slices_S5760x1024_S2048x1024_2048_0 : Vec 𝕀 S2048x1024 .bf16)⟩,
     ⟨S16x1024, (extractStridedSlice S16x1024 ![5632, 0] X slices_S5760x1024_S16x1024_5632_0 : Vec 𝕀 S16x1024 .bf16)⟩,
     ⟨S2048x1024, (extractStridedSlice S2048x1024 ![0, 0] X slices_S5760x1024_S2048x1024_0_0 : Vec 𝕀 S2048x1024 .bf16)⟩]
    concatenates_S1536x1024_S2048x1024_S16x1024_S2048x1024_S5648x1024_d0

/-- Arrays put together from equal pieces are equal. -/
theorem cat4 (p0 q0 : Vec 𝕀 S1536x1024 .bf16) (p1 q1 : Vec 𝕀 S2048x1024 .bf16) (p2 q2 : Vec 𝕀 S16x1024 .bf16) (p3 q3 : Vec 𝕀 S2048x1024 .bf16) (h0 : p0 = q0) (h1 : p1 = q1) (h2 : p2 = q2) (h3 : p3 = q3) :
    (concatenate S5648x1024 0 [⟨S1536x1024, p0⟩, ⟨S2048x1024, p1⟩, ⟨S16x1024, p2⟩, ⟨S2048x1024, p3⟩] concatenates_S1536x1024_S2048x1024_S16x1024_S2048x1024_S5648x1024_d0 : Vec 𝕀 S5648x1024 .bf16) = concatenate S5648x1024 0 [⟨S1536x1024, q0⟩, ⟨S2048x1024, q1⟩, ⟨S16x1024, q2⟩, ⟨S2048x1024, q3⟩] concatenates_S1536x1024_S2048x1024_S16x1024_S2048x1024_S5648x1024_d0 := by
  subst h0 h1 h2 h3; rfl

set_option maxRecDepth 65536 in
set_option maxHeartbeats 2000000 in
/-- The host lines after the calls put the rows of `w_in`'s gradient back. -/
theorem cat28 (X : Valuation τ sig (Elt 𝕀)) : (StableHlo.after hostOps6 X (Proc.devRef .tc main_v28) : Vec 𝕀 S5648x1024 .bf16)
    = unperm (X (Proc.devRef .tc main_v23)) := by
  after_results
  exact cat4 _ _ _ _ _ _ _ _ (by dsimp only [Matrix.cons_val]; after_results_simp_entrywise; first | done | rfl) (by dsimp only [Matrix.cons_val]; after_results_simp_entrywise; first | done | rfl)
    (by dsimp only [Matrix.cons_val]; after_results_simp_entrywise; first | done | rfl) (by dsimp only [Matrix.cons_val]; after_results_simp_entrywise; first | done | rfl)

end Cert.Kernel4Ideal.Dw
-- ==== Proof.DwRes.lean ====
/- The results of the six weight gradient products: each is the reference's gradient of the same weights. -/
module

public import proofs.«01_k».proof.Proof.DwHost
public import proofs.«01_k».proof.Proof.Gen.Reference4Ideal.Read

@[expose] public section
set_option maxRecDepth 16384
noncomputable section
namespace Cert.Kernel4Ideal.Dw
open Idealize.ShloMosaic Idealize.ShloMosaic.TcCoe Idealize.ShloMosaic.Tactic Gen Cert.Reference4Ideal.Read

local notation "𝕀" => Idealize.ShloMosaic.Ideal

/-! ## The reference's gradients, element by element -/

/-- The reference's gradient of `w_down`: the tokens' sum of the cotangent times the input. -/
theorem ref_down (x : Vec 𝕀 S2048x2816 .f32) (ct : Vec 𝕀 S2048x1024 .f32) (i : Fin 2816) (j : Fin 1024) :
    (val_main_v18 (F := 𝕀) x ct : Vec 𝕀 S2816x1024 .bf16) (ix2 i j) = tn (fun k i => x (ix2 k i)) (fun k j => ct (ix2 k j)) i j := by
  unfold tn
  pointwise [val_main_v16, val_main_v17, val_main_v18, Cert.Reference4Ideal.dot_S2048x1024_S2048x2816_S1024x2816_0_0_1_1_n_n]
  exact Finset.sum_congr rfl fun k _ => mul_comm _ _

/-- The reference's gradient of `w_up`: the tokens' sum of the cotangent times the input. -/
theorem ref_up (x : Vec 𝕀 S2048x1024 .f32) (ct : Vec 𝕀 S2048x5632 .f32) (i : Fin 1024) (j : Fin 5632) :
    (val_main_v15 (F := 𝕀) x ct : Vec 𝕀 S1024x5632 .bf16) (ix2 i j) = tn (fun k i => x (ix2 k i)) (fun k j => ct (ix2 k j)) i j := by
  unfold tn
  pointwise [val_main_v13, val_main_v14, val_main_v15, Cert.Reference4Ideal.dot_S2048x5632_S2048x1024_S5632x1024_0_0_1_1_n_n]
  exact Finset.sum_congr rfl fun k _ => mul_comm _ _

/-- The reference's gradient of `w_out`: the tokens' sum of the cotangent times the input. -/
theorem ref_out (x : Vec 𝕀 S2048x1024 .f32) (ct : Vec 𝕀 S2048x1024 .f32) (i : Fin 1024) (j : Fin 1024) :
    (val_main_v12 (F := 𝕀) x ct : Vec 𝕀 S1024x1024 .bf16) (ix2 i j) = tn (fun k i => x (ix2 k i)) (fun k j => ct (ix2 k j)) i j := by
  unfold tn
  pointwise [val_main_v10, val_main_v11, val_main_v12, Cert.Reference4Ideal.dot_S2048x1024_S2048x1024_S1024x1024_0_0_1_1_n_n]
  exact Finset.sum_congr rfl fun k _ => mul_comm _ _

/-- The reference's gradient of `w_gla`: the tokens' sum of the cotangent times the input. -/
theorem ref_gla (x : Vec 𝕀 S2048x1024 .f32) (ct : Vec 𝕀 S2048x1024 .f32) (i : Fin 1024) (j : Fin 1024) :
    (val_main_v9 (F := 𝕀) x ct : Vec 𝕀 S1024x1024 .bf16) (ix2 i j) = tn (fun k i => x (ix2 k i)) (fun k j => ct (ix2 k j)) i j := by
  unfold tn
  pointwise [val_main_v7, val_main_v8, val_main_v9, Cert.Reference4Ideal.dot_S2048x1024_S2048x1024_S1024x1024_0_0_1_1_n_n]
  exact Finset.sum_congr rfl fun k _ => mul_comm _ _

/-- The reference's gradient of `w_pool`: the tokens' sum of the cotangent times the input. -/
theorem ref_pool (x : Vec 𝕀 S2048x512 .f32) (ct : Vec 𝕀 S2048x1024 .f32) (i : Fin 512) (j : Fin 1024) :
    (val_main_v6 (F := 𝕀) x ct : Vec 𝕀 S512x1024 .bf16) (ix2 i j) = tn (fun k i => x (ix2 k i)) (fun k j => ct (ix2 k j)) i j := by
  unfold tn
  pointwise [val_main_v4, val_main_v5, val_main_v6, Cert.Reference4Ideal.dot_S2048x1024_S2048x512_S1024x512_0_0_1_1_n_n]
  exact Finset.sum_congr rfl fun k _ => mul_comm _ _

/-- The reference's gradient of `w_in`, with the cotangent's columns as rows. -/
theorem ref_in (ct : Vec 𝕀 S2048x5648 .f32) (x : Vec 𝕀 S2048x1024 .f32) (i : Fin 5648) (j : Fin 1024) :
    (val_main_v3 (F := 𝕀) ct x : Vec 𝕀 S5648x1024 .bf16) (ix2 i j) = tn (fun k i => ct (ix2 k i)) (fun k j => x (ix2 k j)) i j := by
  unfold tn
  pointwise [val_main_v0, val_main_v1, val_main_v2, val_main_v3, Cert.Reference4Ideal.dot_S2048x5648_S2048x1024_S5648x1024_0_0_1_1_n_n]

/-! ## The columns' order -/

/-- Where column `r` of the cotangent stands in the kernel's order. -/
def pos (r : Fin 5648) : Fin 5760 :=
  if h : r.val < 1536 then ⟨4096 + r.val, by omega⟩
  else if h : r.val - 1536 < 2048 then ⟨2048 + (r.val - 1536), by omega⟩
  else if h : r.val - 1536 - 2048 < 16 then ⟨5632 + (r.val - 1536 - 2048), by omega⟩
  else ⟨r.val - 1536 - 2048 - 16, by omega⟩

/-- Putting the rows back takes row `r` from there. -/
theorem unperm_apply (X : Vec 𝕀 S5760x1024 .bf16) (r : Fin 5648) (j : Fin 1024) : unperm X (ix2 r j) = X (ix2 (pos r) j) := by
  unfold unperm pos
  pointwise
  split
  · rfl
  split
  · rfl
  split <;> rfl

/-- The kernel's order holds column `r` there. -/
theorem dzr_pos (X : Vec 𝕀 S2048x5648 .f32) (k : Fin 2048) (r : Fin 5648) : dzr X (ix2 k (pos r)) = X (ix2 k r) := by
  have hr := r.isLt
  have go : ∀ p : Fin 5760, pos r = p → dzr X (ix2 k p) = X (ix2 k r) := by
    intro p hp
    unfold dzr
    pointwise
    have key : ∀ n (hn : n < 5648), n = r.val → X (ix2 k ⟨n, hn⟩) = X (ix2 k r) := fun n hn e => by subst e; rfl
    have hv : p.val = (pos r).val := by rw [hp]
    unfold pos at hv
    split at hv
    · next h =>
      simp only at hv
      rw [dif_neg (by omega), dif_neg (by omega), dif_pos (by omega)]
      exact key _ _ (by omega)
    split at hv
    · next h =>
      simp only at hv
      rw [dif_neg (by omega), dif_pos (by omega)]
      exact key _ _ (by omega)
    split at hv
    · next h =>
      simp only at hv
      rw [dif_neg (by omega), dif_neg (by omega), dif_neg (by omega), dif_pos (by omega)]
      exact key _ _ (by omega)
    · next h =>
      simp only at hv
      rw [dif_pos (by omega)]
      exact key _ _ (by omega)
  exact go _ rfl

/-! ## The kernel's results -/

variable (m : ∀ l : Loc nD τ sig, Buf (Elt 𝕀) l) (ρ : Dev nD → PrngReg) (c : Dev nD)

/-- The kernel's arguments as arrays: the inputs of the products and their cotangents. -/
abbrev a0 : Vec 𝕀 S2048x2816 .f32 := m ((c : Thread nD τ).loc main_arg0)
/-- Argument 1 of the kernel. -/
abbrev a1 : Vec 𝕀 S2048x1024 .f32 := m ((c : Thread nD τ).loc main_arg1)
/-- Argument 2 of the kernel. -/
abbrev a2 : Vec 𝕀 S2048x1024 .f32 := m ((c : Thread nD τ).loc main_arg2)
/-- Argument 3 of the kernel. -/
abbrev a3 : Vec 𝕀 S2048x5632 .f32 := m ((c : Thread nD τ).loc main_arg3)
/-- Argument 4 of the kernel. -/
abbrev a4 : Vec 𝕀 S2048x1024 .f32 := m ((c : Thread nD τ).loc main_arg4)
/-- Argument 5 of the kernel. -/
abbrev a5 : Vec 𝕀 S2048x1024 .f32 := m ((c : Thread nD τ).loc main_arg5)
/-- Argument 6 of the kernel. -/
abbrev a6 : Vec 𝕀 S2048x1024 .f32 := m ((c : Thread nD τ).loc main_arg6)
/-- Argument 7 of the kernel. -/
abbrev a7 : Vec 𝕀 S2048x1024 .f32 := m ((c : Thread nD τ).loc main_arg7)
/-- Argument 8 of the kernel. -/
abbrev a8 : Vec 𝕀 S2048x512 .f32 := m ((c : Thread nD τ).loc main_arg8)
/-- Argument 9 of the kernel. -/
abbrev a9 : Vec 𝕀 S2048x1024 .f32 := m ((c : Thread nD τ).loc main_arg9)
/-- Argument 10 of the kernel. -/
abbrev a10 : Vec 𝕀 S2048x5648 .f32 := m ((c : Thread nD τ).loc main_arg10)
/-- Argument 11 of the kernel. -/
abbrev a11 : Vec 𝕀 S2048x1024 .f32 := m ((c : Thread nD τ).loc main_arg11)

/-- What the product for `w_down` wrote is still there after the last call. -/
theorem out_v18 : (W7 m ρ c (Proc.devRef .tc main_v18) : Vec 𝕀 S2816x1024 .bf16) = dA0 (V1 m ρ) c :=
  (W7_of m ρ c main_v18 (by decide)).trans ((W6_of m ρ c main_v18 (by decide)).trans ((W5_of m ρ c main_v18 (by decide)).trans ((W4_of m ρ c main_v18 (by decide)).trans ((W3_of m ρ c main_v18 (by decide)).trans ((W2_arr m ρ c 2).trans ((arr0 (V1 m ρ) c)))))))

/-- The gradient of `w_down` is the reference's. -/
theorem res_down : (W8 m ρ c (Proc.devRef .tc main_v18) : Vec 𝕀 S2816x1024 .bf16) = val_main_v18 (F := 𝕀) (a0 m c) (a1 m c) := by
  refine ((W8_of m ρ c main_v18 (by decide)).trans (out_v18 m ρ c)).trans ?_
  funext i
  rw [eq_ix2 i]
  refine Eq.trans ?_ (ref_down (a0 m c) (a1 m c) (i 0) (i 1)).symm
  show tn _ _ (i 0) (i 1) = _
  rw [in_v0 m ρ c, in_v1 m ρ c]
  rfl

/-- What the product for `w_up` wrote is still there after the last call. -/
theorem out_v19 : (W7 m ρ c (Proc.devRef .tc main_v19) : Vec 𝕀 S4x1024x1408 .bf16) = dA1 (V2 m ρ) c :=
  (W7_of m ρ c main_v19 (by decide)).trans ((W6_of m ρ c main_v19 (by decide)).trans ((W5_of m ρ c main_v19 (by decide)).trans ((W4_of m ρ c main_v19 (by decide)).trans ((W3_arr m ρ c 2).trans ((arr1 (V2 m ρ) c))))))

/-- The host lines lay the slabs of `w_up`'s gradient side by side. -/
theorem host_v32 (X : Valuation τ sig (Elt 𝕀)) (i : Fin 1024) (t : Fin 4) (q : Fin 1408) :
    (StableHlo.after hostOps6 X (Proc.devRef .tc main_v32) : Vec 𝕀 S1024x5632 .bf16) (ix2 i (slab1 t q))
      = (X (Proc.devRef .tc main_v19) : Vec 𝕀 S4x1024x1408 .bf16) (ix3 t i q) := by
  entry_read
  unfold slab1
  pointwise

/-- Every column lies in one slab. -/
theorem slab1_surj (j : Fin 5632) : ∃ t q, slab1 t q = j :=
  ⟨⟨j.val / 1408, by omega⟩, ⟨j.val % 1408, Nat.mod_lt _ (by decide)⟩, Fin.ext (Nat.div_add_mod' _ _)⟩

/-- The gradient of `w_up` is the reference's. -/
theorem res_up : (W8 m ρ c (Proc.devRef .tc main_v32) : Vec 𝕀 S1024x5632 .bf16) = val_main_v15 (F := 𝕀) (a2 m c) (a3 m c) := by
  funext i
  obtain ⟨p, j, rfl⟩ : ∃ (p : Fin 1024) (j : Fin 5632), i = ix2 p j := ⟨i 0, i 1, eq_ix2 i⟩
  obtain ⟨t, q, rfl⟩ := slab1_surj j
  refine ((host_v32 (W7 m ρ c) p t q).trans (congrFun (out_v19 m ρ c) (ix3 t p q))).trans ?_
  refine Eq.trans ?_ (ref_up (a2 m c) (a3 m c) p (slab1 t q)).symm
  show tn _ _ p q = _
  rw [in_v2 m ρ c, in_v3 m ρ c]
  rfl

/-- What the product for `w_out` wrote is still there after the last call. -/
theorem out_v20 : (W7 m ρ c (Proc.devRef .tc main_v20) : Vec 𝕀 S1024x1024 .bf16) = dA2 (V3 m ρ) c :=
  (W7_of m ρ c main_v20 (by decide)).trans ((W6_of m ρ c main_v20 (by decide)).trans ((W5_of m ρ c main_v20 (by decide)).trans ((W4_arr m ρ c 2).trans ((arr2 (V3 m ρ) c)))))

/-- The gradient of `w_out` is the reference's. -/
theorem res_out : (W8 m ρ c (Proc.devRef .tc main_v20) : Vec 𝕀 S1024x1024 .bf16) = val_main_v12 (F := 𝕀) (a4 m c) (a5 m c) := by
  refine ((W8_of m ρ c main_v20 (by decide)).trans (out_v20 m ρ c)).trans ?_
  funext i
  rw [eq_ix2 i]
  refine Eq.trans ?_ (ref_out (a4 m c) (a5 m c) (i 0) (i 1)).symm
  show tn _ _ (i 0) (i 1) = _
  rw [in_v4 m ρ c, in_v5 m ρ c]
  rfl

/-- What the product for `w_gla` wrote is still there after the last call. -/
theorem out_v21 : (W7 m ρ c (Proc.devRef .tc main_v21) : Vec 𝕀 S1024x1024 .bf16) = dA3 (V4 m ρ) c :=
  (W7_of m ρ c main_v21 (by decide)).trans ((W6_of m ρ c main_v21 (by decide)).trans ((W5_arr m ρ c 2).trans ((arr3 (V4 m ρ) c))))

/-- The gradient of `w_gla` is the reference's. -/
theorem res_gla : (W8 m ρ c (Proc.devRef .tc main_v21) : Vec 𝕀 S1024x1024 .bf16) = val_main_v9 (F := 𝕀) (a6 m c) (a7 m c) := by
  refine ((W8_of m ρ c main_v21 (by decide)).trans (out_v21 m ρ c)).trans ?_
  funext i
  rw [eq_ix2 i]
  refine Eq.trans ?_ (ref_gla (a6 m c) (a7 m c) (i 0) (i 1)).symm
  show tn _ _ (i 0) (i 1) = _
  rw [in_v6 m ρ c, in_v7 m ρ c]
  rfl

/-- What the product for `w_pool` wrote is still there after the last call. -/
theorem out_v22 : (W7 m ρ c (Proc.devRef .tc main_v22) : Vec 𝕀 S4x512x256 .bf16) = dA4 (V5 m ρ) c :=
  (W7_of m ρ c main_v22 (by decide)).trans ((W6_arr m ρ c 2).trans ((arr4 (V5 m ρ) c)))

/-- The host lines lay the slabs of `w_pool`'s gradient side by side. -/
theorem host_v30 (X : Valuation τ sig (Elt 𝕀)) (i : Fin 512) (t : Fin 4) (q : Fin 256) :
    (StableHlo.after hostOps6 X (Proc.devRef .tc main_v30) : Vec 𝕀 S512x1024 .bf16) (ix2 i (slab4 t q))
      = (X (Proc.devRef .tc main_v22) : Vec 𝕀 S4x512x256 .bf16) (ix3 t i q) := by
  entry_read
  unfold slab4
  pointwise

/-- Every column lies in one slab. -/
theorem slab4_surj (j : Fin 1024) : ∃ t q, slab4 t q = j :=
  ⟨⟨j.val / 256, by omega⟩, ⟨j.val % 256, Nat.mod_lt _ (by decide)⟩, Fin.ext (Nat.div_add_mod' _ _)⟩

/-- The gradient of `w_pool` is the reference's. -/
theorem res_pool : (W8 m ρ c (Proc.devRef .tc main_v30) : Vec 𝕀 S512x1024 .bf16) = val_main_v6 (F := 𝕀) (a8 m c) (a9 m c) := by
  funext i
  obtain ⟨p, j, rfl⟩ : ∃ (p : Fin 512) (j : Fin 1024), i = ix2 p j := ⟨i 0, i 1, eq_ix2 i⟩
  obtain ⟨t, q, rfl⟩ := slab4_surj j
  refine ((host_v30 (W7 m ρ c) p t q).trans (congrFun (out_v22 m ρ c) (ix3 t p q))).trans ?_
  refine Eq.trans ?_ (ref_pool (a8 m c) (a9 m c) p (slab4 t q)).symm
  show tn _ _ p q = _
  rw [in_v8 m ρ c, in_v9 m ρ c]
  rfl

/-- The gradient of `w_in` is the reference's. -/
theorem res_in : (W8 m ρ c (Proc.devRef .tc main_v28) : Vec 𝕀 S5648x1024 .bf16) = val_main_v3 (F := 𝕀) (a10 m c) (a11 m c) := by
  have e : (W7 m ρ c (Proc.devRef .tc main_v23) : Vec 𝕀 S5760x1024 .bf16) = dA5 (V6 m ρ) c := (W7_arr m ρ c 2).trans (arr5 (V6 m ρ) c)
  refine (cat28 (W7 m ρ c)).trans ?_
  funext i
  obtain ⟨r, j, rfl⟩ : ∃ (r : Fin 5648) (j : Fin 1024), i = ix2 r j := ⟨i 0, i 1, eq_ix2 i⟩
  refine (unperm_apply _ r j).trans ?_
  refine Eq.trans ?_ (ref_in (a10 m c) (a11 m c) r j).symm
  refine (congrFun e (ix2 (pos r) j)).trans ?_
  show tn _ _ (pos r) j = _
  rw [in_v17 m ρ c, in_v11 m ρ c]
  exact Finset.sum_congr rfl fun k _ => congrArg (· * _) (dzr_pos (a10 m c) k r)

end Cert.Kernel4Ideal.Dw
-- ==== Proof.DwClaim.lean ====
/- The six weight gradient products and the reference end with equal gradients over the reals. -/
module

public import proofs.«01_k».proof.Defs
public import proofs.«01_k».proof.Proof.DwRes
public import proofs.«01_k».proof.Proof.Gen.Reference4Ideal.Run
public import Idealize.ShloMosaic.Lib.Claim
public import Idealize.ShloMosaic.Lib.Quiescent

@[expose] public section
set_option maxRecDepth 16384
noncomputable section
namespace Cert.Dw
open Idealize.ShloMosaic Idealize.ShloMosaic.TcCoe Idealize.ShloMosaic.Tactic
open Cert.Kernel4Ideal Cert.Kernel4Ideal.Gen Cert.Kernel4Ideal.Dw Cert.Reference4Ideal.Read

/-- From any equal arguments the kernel's six weight gradients are the reference's. -/
theorem algebraic : Cert.algebraic_Kernel4Ideal_Reference4Ideal (hKernel4Ideal := Cert.Kernel4Ideal.Gen.facts)
    (hReference4Ideal := Cert.Reference4Ideal.Gen.facts) := by
  intro m g m' g' _ hargs
  refine ⟨fun c => val_main_v3 (F := Ideal) (a10 m c) (a11 m c), fun c => val_main_v6 (F := Ideal) (a8 m c) (a9 m c),
    fun c => val_main_v9 (F := Ideal) (a6 m c) (a7 m c), fun c => val_main_v12 (F := Ideal) (a4 m c) (a5 m c),
    fun c => val_main_v15 (F := Ideal) (a2 m c) (a3 m c), fun c => val_main_v18 (F := Ideal) (a0 m c) (a1 m c), ?_, ?_⟩
  · refine (θ_run _ _ _).mono (fun r h c => ?_) (run_buffers (F := Ideal) m g)
    have hb := h c
    refine ⟨(hb _ (mem_uc main_v28 (by decide))).trans (res_in m g c), (hb _ (mem_uc main_v30 (by decide))).trans (res_pool m g c),
      (hb _ (mem_uc main_v21 (by decide))).trans (res_gla m g c), (hb _ (mem_uc main_v20 (by decide))).trans (res_out m g c),
      (hb _ (mem_uc main_v32 (by decide))).trans (res_up m g c), (hb _ (mem_uc main_v18 (by decide))).trans (res_down m g c),
      ?_, ?_, ?_, ?_, ?_, ?_, ?_, ?_, ?_, ?_, ?_, ?_⟩
    · exact (hb _ (mem_uc main_arg0 (by decide))).trans (W8_main_arg0 m g c)
    · exact (hb _ (mem_uc main_arg1 (by decide))).trans (W8_main_arg1 m g c)
    · exact (hb _ (mem_uc main_arg2 (by decide))).trans (W8_main_arg2 m g c)
    · exact (hb _ (mem_uc main_arg3 (by decide))).trans (W8_main_arg3 m g c)
    · exact (hb _ (mem_uc main_arg4 (by decide))).trans (W8_main_arg4 m g c)
    · exact (hb _ (mem_uc main_arg5 (by decide))).trans (W8_main_arg5 m g c)
    · exact (hb _ (mem_uc main_arg6 (by decide))).trans (W8_main_arg6 m g c)
    · exact (hb _ (mem_uc main_arg7 (by decide))).trans (W8_main_arg7 m g c)
    · exact (hb _ (mem_uc main_arg8 (by decide))).trans (W8_main_arg8 m g c)
    · exact (hb _ (mem_uc main_arg9 (by decide))).trans (W8_main_arg9 m g c)
    · exact (hb _ (mem_uc main_arg10 (by decide))).trans (W8_main_arg10 m g c)
    · exact (hb _ (mem_uc main_arg11 (by decide))).trans (W8_main_arg11 m g c)
  · refine (θ_run _ _ _).mono (fun r h c => ?_) (Cert.Reference4Ideal.Value.run (F := Ideal) m' g')
    obtain ⟨e0, e1, e2, e3, e4, e5, e6, e7, e8, e9, e10, e11⟩ := hargs c
    obtain ⟨r0, r1, r2, r3, r4, r5, k⟩ := h c
    refine ⟨r0.trans ?_, r1.trans ?_, r2.trans ?_, r3.trans ?_, r4.trans ?_, r5.trans ?_, k⟩
    · rw [e10, e11]; rfl
    · rw [e8, e9]; rfl
    · rw [e6, e7]; rfl
    · rw [e4, e5]; rfl
    · rw [e2, e3]; rfl
    · rw [e0, e1]; rfl

/-- Every run of the reference ends with its arguments unchanged and every semaphore at zero. -/
theorem frame_r : Cert.quiescent_Reference4Ideal (hReference4Ideal := Cert.Reference4Ideal.Gen.facts) := by
  intro m ρ _
  exact (θ_run Cert.Reference4Ideal.defs _ _).mono
    (fun r h => ⟨fun c => (h c).2.2.2.2.2.2, Idealize.ShloMosaic.sem_eq_zero_of_no_sems (by decide) r.2⟩)
    (Cert.Reference4Ideal.Value.run (F := Ideal) m ρ)

end Cert.Dw
-- ==== Proof.NbRunA.lean ====
/- The body of the norm's backward product at the first point, where the weights are copied in. -/
module

public import proofs.«01_k».proof.Proof.Gen.Kernel2Ideal.Frame.Runs

@[expose] public section

set_option maxRecDepth 16384

noncomputable section

namespace Cert.Kernel2Ideal.Nb

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Cert.Kernel2Ideal.Gen
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
set_option sl_exec.dmaWindow true in
set_option sl_exec.dmaWindowSet true in
set_option maxHeartbeats 1000000 in
/-- The body of the first point run once: the pieces that it stores into each output block and into the scratch. -/
noncomputable def kernelRun0_A (c : Dev nD) (i : grid0.Coords) (arg1 : Memref sig .tc .vmem S512x5632 .bf16) (harg1 : arg1.IsWhole) (arg3 : Memref sig .tc .vmem S512x1024 .f32) (harg3 : arg3.IsWhole) (arg4 : Memref sig .tc .vmem S1x1024 .f32) (harg4 : arg4.IsWhole) (arg5 : Memref sig .tc .vmem S512x1024 .f32) (harg5 : arg5.IsWhole) (arg7 : Memref sig .tc .vmem S512x1024 .f32) (harg7 : arg7.IsWhole) (arg8 : Memref sig .tc .vmem S512x1024 .bf16) (harg8 : arg8.IsWhole) (arg9 : Memref sig .tc .vmem S1x1024 .f32) (harg9 : arg9.IsWhole) (arg10 : Memref sig .tc .vmem S1024x5632 .bf16) (harg10 : arg10.IsWhole) (hc0 : cond0_0 i)
    (x0 : Vec F S512x5632 .bf16) (x1 : Vec F S512x1024 .f32) (x2 : Vec F S1x1024 .f32) (x3 : Vec F S512x1024 .f32) (fh0 : HbBuf0 (F := F) c hbM0_0) (fh1 : HbBuf0 (F := F) c hbM0_1) :
    Σ' (L4 : List (View.Piece (Elt F) S512x1024 .f32)), Σ' (L5 : List (View.Piece (Elt F) S512x1024 .bf16)), Σ' (L6 : List (View.Piece (Elt F) S1x1024 .f32)), { LS0 : List (View.Piece (Elt F) S1024x5632 .bf16) //
      ∀ (W : Waits sig Unit) (K : PUnit → sProp 𝕄),
        iprop(owns (c : Thread nD τ) arg1 fullShare x0 ∗ owns (c : Thread nD τ) arg3 fullShare x1 ∗ owns (c : Thread nD τ) arg4 fullShare x2 ∗ owns (c : Thread nD τ) arg5 fullShare x3 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ hbPt0 c hbM0_0 fh0 ∗ hbPt0 c hbM0_1 fh1 ∗ owes (c : Thread nD τ) 0 W
            ∗ (iprop(owns (c : Thread nD τ) arg1 fullShare x0 ∗ owns (c : Thread nD τ) arg3 fullShare x1 ∗ owns (c : Thread nD τ) arg4 fullShare x2 ∗ owns (c : Thread nD τ) arg5 fullShare x3 ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f L6) ∗ (∃ f, arg10.view.loc (c : Thread nD τ) ↦[arg10.view.set]{fullShare} arg10.view.writes (Elt F) f LS0) ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ hbPt0 c hbM0_0 fh0 ∗ hbPt0 c hbM0_1 fh1 ∗ (∃ W', owes (c : Thread nD τ) 0 W')) -∗ K ⟨⟩))
          ⊢ wp frame (wpE (defs₀ (F := F)) Variants.none c none) Set.univ (cc0_ffn_up_bwd i arg1 harg1 (Memref.whole main_v2) (Memref.isWhole_whole _) arg3 harg3 arg4 harg4 arg5 harg5 (Memref.whole main_v3) (Memref.isWhole_whole _) arg7 harg7 arg8 harg8 arg9 harg9 arg10 harg10 cc0_scratch1) K } := by
  refine ⟨?_, ?_, ?_, ?_, fun W K => ?run⟩
  case run =>
    simp only [cc0_ffn_up_bwd_eq_skeleton]; unfold cc0_ffn_up_bwd_skel
    simp only [k0_part2_eq_skeleton, k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%ds0, %fs0, -, HS0⟩, Hq0, Hq1, Hq2, Hq3, Hh0, Hh1, HW, Hk⟩
    obtain rfl := harg1.eq_unread hf0; obtain rfl := harg3.eq_unread hf1; obtain rfl := harg4.eq_unread hf2; obtain rfl := harg5.eq_unread hf3
    sl_exec (disch := first | sl_exact hc0)
    sl_step
    iapply Hk
    isplitl [H0]
    · iexists _; isplitr; · ipureintro; exact harg1.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    isplitl [H6]; · iexists _; iexact H6
    isplitl [HS0]; · iexists _; iexact HS0
    isplitl [Hq0]; · iexact Hq0
    isplitl [Hq1]; · iexact Hq1
    isplitl [Hq2]; · iexact Hq2
    isplitl [Hq3]; · iexact Hq3
    isplitl [Hh0]; · iexact Hh0
    isplitl [Hh1]; · iexact Hh1
    iexists _; iexact HW

end Cert.Kernel2Ideal.Nb

end
-- ==== Proof.NbRunB.lean ====
/- The body of the norm's backward product at a later point. -/
module

public import proofs.«01_k».proof.Proof.NbRunA

@[expose] public section

set_option maxRecDepth 16384

noncomputable section

namespace Cert.Kernel2Ideal.Nb

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Cert.Kernel2Ideal.Gen
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
set_option maxHeartbeats 1000000 in
/-- The body of a later point run once: the pieces that it stores into each output block. -/
noncomputable def kernelRun0_B (c : Dev nD) (i : grid0.Coords) (arg1 : Memref sig .tc .vmem S512x5632 .bf16) (harg1 : arg1.IsWhole) (arg3 : Memref sig .tc .vmem S512x1024 .f32) (harg3 : arg3.IsWhole) (arg4 : Memref sig .tc .vmem S1x1024 .f32) (harg4 : arg4.IsWhole) (arg5 : Memref sig .tc .vmem S512x1024 .f32) (harg5 : arg5.IsWhole) (arg7 : Memref sig .tc .vmem S512x1024 .f32) (harg7 : arg7.IsWhole) (arg8 : Memref sig .tc .vmem S512x1024 .bf16) (harg8 : arg8.IsWhole) (arg9 : Memref sig .tc .vmem S1x1024 .f32) (harg9 : arg9.IsWhole) (arg10 : Memref sig .tc .vmem S1024x5632 .bf16) (harg10 : arg10.IsWhole) (hc0 : ¬cond0_0 i)
    (x0 : Vec F S512x5632 .bf16) (x1 : Vec F S512x1024 .f32) (x2 : Vec F S1x1024 .f32) (x3 : Vec F S512x1024 .f32) (xo6 : Vec F S1x1024 .f32) (xs0 : Vec F S1024x5632 .bf16) (fh0 : HbBuf0 (F := F) c hbM0_0) (fh1 : HbBuf0 (F := F) c hbM0_1) :
    Σ' (L4 : List (View.Piece (Elt F) S512x1024 .f32)), Σ' (L5 : List (View.Piece (Elt F) S512x1024 .bf16)), Σ' (L6 : List (View.Piece (Elt F) S1x1024 .f32)), { LS0 : List (View.Piece (Elt F) S1024x5632 .bf16) //
      ∀ (W : Waits sig Unit) (K : PUnit → sProp 𝕄),
        iprop(owns (c : Thread nD τ) arg1 fullShare x0 ∗ owns (c : Thread nD τ) arg3 fullShare x1 ∗ owns (c : Thread nD τ) arg4 fullShare x2 ∗ owns (c : Thread nD τ) arg5 fullShare x3 ∗ (∃ d, owns (c : Thread nD τ) arg7 fullShare d) ∗ (∃ d, owns (c : Thread nD τ) arg8 fullShare d) ∗ owns (c : Thread nD τ) arg9 fullShare xo6 ∗ owns (c : Thread nD τ) arg10 fullShare xs0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ hbPt0 c hbM0_0 fh0 ∗ hbPt0 c hbM0_1 fh1 ∗ owes (c : Thread nD τ) 0 W
            ∗ (iprop(owns (c : Thread nD τ) arg1 fullShare x0 ∗ owns (c : Thread nD τ) arg3 fullShare x1 ∗ owns (c : Thread nD τ) arg4 fullShare x2 ∗ owns (c : Thread nD τ) arg5 fullShare x3 ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f L6) ∗ owns (c : Thread nD τ) arg10 fullShare xs0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ hbPt0 c hbM0_0 fh0 ∗ hbPt0 c hbM0_1 fh1 ∗ (∃ W', owes (c : Thread nD τ) 0 W')) -∗ K ⟨⟩))
          ⊢ wp frame (wpE (defs₀ (F := F)) Variants.none c none) Set.univ (cc0_ffn_up_bwd i arg1 harg1 (Memref.whole main_v2) (Memref.isWhole_whole _) arg3 harg3 arg4 harg4 arg5 harg5 (Memref.whole main_v3) (Memref.isWhole_whole _) arg7 harg7 arg8 harg8 arg9 harg9 arg10 harg10 cc0_scratch1) K } := by
  refine ⟨?_, ?_, ?_, [], fun W K => ?run⟩
  case run =>
    simp only [cc0_ffn_up_bwd_eq_skeleton]; unfold cc0_ffn_up_bwd_skel
    simp only [k0_part2_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%f6, %hf6, H6⟩, ⟨%fs0, %hfs0, HS0⟩, Hq0, Hq1, Hq2, Hq3, Hh0, Hh1, HW, Hk⟩
    obtain rfl := harg1.eq_unread hf0; obtain rfl := harg3.eq_unread hf1; obtain rfl := harg4.eq_unread hf2; obtain rfl := harg5.eq_unread hf3; obtain rfl := harg9.eq_unread hf6; obtain rfl := harg10.eq_unread hfs0
    sl_exec (disch := first | sl_exact hc0)
    sl_step
    iapply Hk
    isplitl [H0]
    · iexists _; isplitr; · ipureintro; exact harg1.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    isplitl [H6]; · iexists _; iexact H6
    isplitl [HS0]
    · iexists _; isplitr; · ipureintro; exact harg10.read_unread _
      iexact HS0
    isplitl [Hq0]; · iexact Hq0
    isplitl [Hq1]; · iexact Hq1
    isplitl [Hq2]; · iexact Hq2
    isplitl [Hq3]; · iexact Hq3
    isplitl [Hh0]; · iexact Hh0
    isplitl [Hh1]; · iexact Hh1
    iexists _; iexact HW

end Cert.Kernel2Ideal.Nb

end
-- ==== Proof.NbFrame.lean ====
/- The norm's backward product: what each point leaves, and the frame. -/
module

public import proofs.«01_k».proof.Proof.NbRunB
public import Idealize.ShloMosaic.Lib.Claim

@[expose] public section

set_option maxRecDepth 16384

noncomputable section

namespace Cert.Kernel2Ideal.Nb

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Cert.Kernel2Ideal.Gen
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
/-- The first point's stores cover the block of output 4. -/
theorem cover0_A_4 (c : Dev nD) (i : grid0.Coords) (arg1 : Memref sig .tc .vmem S512x5632 .bf16) (harg1 : arg1.IsWhole) (arg3 : Memref sig .tc .vmem S512x1024 .f32) (harg3 : arg3.IsWhole) (arg4 : Memref sig .tc .vmem S1x1024 .f32) (harg4 : arg4.IsWhole) (arg5 : Memref sig .tc .vmem S512x1024 .f32) (harg5 : arg5.IsWhole) (arg7 : Memref sig .tc .vmem S512x1024 .f32) (harg7 : arg7.IsWhole) (arg8 : Memref sig .tc .vmem S512x1024 .bf16) (harg8 : arg8.IsWhole) (arg9 : Memref sig .tc .vmem S1x1024 .f32) (harg9 : arg9.IsWhole) (arg10 : Memref sig .tc .vmem S1024x5632 .bf16) (harg10 : arg10.IsWhole) (hc0 : cond0_0 i)
    (x0 : Vec F S512x5632 .bf16) (x1 : Vec F S512x1024 .f32) (x2 : Vec F S1x1024 .f32) (x3 : Vec F S512x1024 .f32) (fh0 : HbBuf0 (F := F) c hbM0_0) (fh1 : HbBuf0 (F := F) c hbM0_1) (y : S512x1024.Idx) :
    ∃ pc ∈ (kernelRun0_A c i arg1 harg1 arg3 harg3 arg4 harg4 arg5 harg5 arg7 harg7 arg8 harg8 arg9 harg9 arg10 harg10 hc0 x0 x1 x2 x3 fh0 fh1).1, y ∈ pc.1.set :=
  View.cover_of_tiledL (kernelRun0_A c i arg1 harg1 arg3 harg3 arg4 harg4 arg5 harg5 arg7 harg7 arg8 harg8 arg9 harg9 arg10 harg10 hc0 x0 x1 x2 x3 fh0 fh1).1 S512x1024.size (by sl_kernel_rfl) y

/-- What the first point leaves in the block of output 4. -/
def out0_A_4 (c : Dev nD) (i : grid0.Coords) (arg1 : Memref sig .tc .vmem S512x5632 .bf16) (harg1 : arg1.IsWhole) (arg3 : Memref sig .tc .vmem S512x1024 .f32) (harg3 : arg3.IsWhole) (arg4 : Memref sig .tc .vmem S1x1024 .f32) (harg4 : arg4.IsWhole) (arg5 : Memref sig .tc .vmem S512x1024 .f32) (harg5 : arg5.IsWhole) (arg7 : Memref sig .tc .vmem S512x1024 .f32) (harg7 : arg7.IsWhole) (arg8 : Memref sig .tc .vmem S512x1024 .bf16) (harg8 : arg8.IsWhole) (arg9 : Memref sig .tc .vmem S1x1024 .f32) (harg9 : arg9.IsWhole) (arg10 : Memref sig .tc .vmem S1024x5632 .bf16) (harg10 : arg10.IsWhole) (hc0 : cond0_0 i)
    (x0 : Vec F S512x5632 .bf16) (x1 : Vec F S512x1024 .f32) (x2 : Vec F S1x1024 .f32) (x3 : Vec F S512x1024 .f32) (fh0 : HbBuf0 (F := F) c hbM0_0) (fh1 : HbBuf0 (F := F) c hbM0_1) : Vec F S512x1024 .f32 :=
  VO0_4.read (Elt F) (VO0_4.writes (Elt F) VO0_4.junk (kernelRun0_A c i arg1 harg1 arg3 harg3 arg4 harg4 arg5 harg5 arg7 harg7 arg8 harg8 arg9 harg9 arg10 harg10 hc0 x0 x1 x2 x3 fh0 fh1).1)

/-- The first point's stores cover the block of output 5. -/
theorem cover0_A_5 (c : Dev nD) (i : grid0.Coords) (arg1 : Memref sig .tc .vmem S512x5632 .bf16) (harg1 : arg1.IsWhole) (arg3 : Memref sig .tc .vmem S512x1024 .f32) (harg3 : arg3.IsWhole) (arg4 : Memref sig .tc .vmem S1x1024 .f32) (harg4 : arg4.IsWhole) (arg5 : Memref sig .tc .vmem S512x1024 .f32) (harg5 : arg5.IsWhole) (arg7 : Memref sig .tc .vmem S512x1024 .f32) (harg7 : arg7.IsWhole) (arg8 : Memref sig .tc .vmem S512x1024 .bf16) (harg8 : arg8.IsWhole) (arg9 : Memref sig .tc .vmem S1x1024 .f32) (harg9 : arg9.IsWhole) (arg10 : Memref sig .tc .vmem S1024x5632 .bf16) (harg10 : arg10.IsWhole) (hc0 : cond0_0 i)
    (x0 : Vec F S512x5632 .bf16) (x1 : Vec F S512x1024 .f32) (x2 : Vec F S1x1024 .f32) (x3 : Vec F S512x1024 .f32) (fh0 : HbBuf0 (F := F) c hbM0_0) (fh1 : HbBuf0 (F := F) c hbM0_1) (y : S512x1024.Idx) :
    ∃ pc ∈ (kernelRun0_A c i arg1 harg1 arg3 harg3 arg4 harg4 arg5 harg5 arg7 harg7 arg8 harg8 arg9 harg9 arg10 harg10 hc0 x0 x1 x2 x3 fh0 fh1).2.1, y ∈ pc.1.set :=
  View.cover_of_tiledL (kernelRun0_A c i arg1 harg1 arg3 harg3 arg4 harg4 arg5 harg5 arg7 harg7 arg8 harg8 arg9 harg9 arg10 harg10 hc0 x0 x1 x2 x3 fh0 fh1).2.1 S512x1024.size (by sl_kernel_rfl) y

/-- What the first point leaves in the block of output 5. -/
def out0_A_5 (c : Dev nD) (i : grid0.Coords) (arg1 : Memref sig .tc .vmem S512x5632 .bf16) (harg1 : arg1.IsWhole) (arg3 : Memref sig .tc .vmem S512x1024 .f32) (harg3 : arg3.IsWhole) (arg4 : Memref sig .tc .vmem S1x1024 .f32) (harg4 : arg4.IsWhole) (arg5 : Memref sig .tc .vmem S512x1024 .f32) (harg5 : arg5.IsWhole) (arg7 : Memref sig .tc .vmem S512x1024 .f32) (harg7 : arg7.IsWhole) (arg8 : Memref sig .tc .vmem S512x1024 .bf16) (harg8 : arg8.IsWhole) (arg9 : Memref sig .tc .vmem S1x1024 .f32) (harg9 : arg9.IsWhole) (arg10 : Memref sig .tc .vmem S1024x5632 .bf16) (harg10 : arg10.IsWhole) (hc0 : cond0_0 i)
    (x0 : Vec F S512x5632 .bf16) (x1 : Vec F S512x1024 .f32) (x2 : Vec F S1x1024 .f32) (x3 : Vec F S512x1024 .f32) (fh0 : HbBuf0 (F := F) c hbM0_0) (fh1 : HbBuf0 (F := F) c hbM0_1) : Vec F S512x1024 .bf16 :=
  VO0_5.read (Elt F) (VO0_5.writes (Elt F) VO0_5.junk (kernelRun0_A c i arg1 harg1 arg3 harg3 arg4 harg4 arg5 harg5 arg7 harg7 arg8 harg8 arg9 harg9 arg10 harg10 hc0 x0 x1 x2 x3 fh0 fh1).2.1)

/-- The first point's stores cover the block of output 6. -/
theorem cover0_A_6 (c : Dev nD) (i : grid0.Coords) (arg1 : Memref sig .tc .vmem S512x5632 .bf16) (harg1 : arg1.IsWhole) (arg3 : Memref sig .tc .vmem S512x1024 .f32) (harg3 : arg3.IsWhole) (arg4 : Memref sig .tc .vmem S1x1024 .f32) (harg4 : arg4.IsWhole) (arg5 : Memref sig .tc .vmem S512x1024 .f32) (harg5 : arg5.IsWhole) (arg7 : Memref sig .tc .vmem S512x1024 .f32) (harg7 : arg7.IsWhole) (arg8 : Memref sig .tc .vmem S512x1024 .bf16) (harg8 : arg8.IsWhole) (arg9 : Memref sig .tc .vmem S1x1024 .f32) (harg9 : arg9.IsWhole) (arg10 : Memref sig .tc .vmem S1024x5632 .bf16) (harg10 : arg10.IsWhole) (hc0 : cond0_0 i)
    (x0 : Vec F S512x5632 .bf16) (x1 : Vec F S512x1024 .f32) (x2 : Vec F S1x1024 .f32) (x3 : Vec F S512x1024 .f32) (fh0 : HbBuf0 (F := F) c hbM0_0) (fh1 : HbBuf0 (F := F) c hbM0_1) (y : S1x1024.Idx) :
    ∃ pc ∈ (kernelRun0_A c i arg1 harg1 arg3 harg3 arg4 harg4 arg5 harg5 arg7 harg7 arg8 harg8 arg9 harg9 arg10 harg10 hc0 x0 x1 x2 x3 fh0 fh1).2.2.1, y ∈ pc.1.set :=
  View.cover_of_tiledL (kernelRun0_A c i arg1 harg1 arg3 harg3 arg4 harg4 arg5 harg5 arg7 harg7 arg8 harg8 arg9 harg9 arg10 harg10 hc0 x0 x1 x2 x3 fh0 fh1).2.2.1 S1x1024.size (by sl_kernel_rfl) y

/-- What the first point leaves in the block of output 6. -/
def out0_A_6 (c : Dev nD) (i : grid0.Coords) (arg1 : Memref sig .tc .vmem S512x5632 .bf16) (harg1 : arg1.IsWhole) (arg3 : Memref sig .tc .vmem S512x1024 .f32) (harg3 : arg3.IsWhole) (arg4 : Memref sig .tc .vmem S1x1024 .f32) (harg4 : arg4.IsWhole) (arg5 : Memref sig .tc .vmem S512x1024 .f32) (harg5 : arg5.IsWhole) (arg7 : Memref sig .tc .vmem S512x1024 .f32) (harg7 : arg7.IsWhole) (arg8 : Memref sig .tc .vmem S512x1024 .bf16) (harg8 : arg8.IsWhole) (arg9 : Memref sig .tc .vmem S1x1024 .f32) (harg9 : arg9.IsWhole) (arg10 : Memref sig .tc .vmem S1024x5632 .bf16) (harg10 : arg10.IsWhole) (hc0 : cond0_0 i)
    (x0 : Vec F S512x5632 .bf16) (x1 : Vec F S512x1024 .f32) (x2 : Vec F S1x1024 .f32) (x3 : Vec F S512x1024 .f32) (fh0 : HbBuf0 (F := F) c hbM0_0) (fh1 : HbBuf0 (F := F) c hbM0_1) : Vec F S1x1024 .f32 :=
  VO0_6.read (Elt F) (VO0_6.writes (Elt F) VO0_6.junk (kernelRun0_A c i arg1 harg1 arg3 harg3 arg4 harg4 arg5 harg5 arg7 harg7 arg8 harg8 arg9 harg9 arg10 harg10 hc0 x0 x1 x2 x3 fh0 fh1).2.2.1)

/-- The first point's stores cover the scratch. -/
theorem scover0_A_0 (c : Dev nD) (i : grid0.Coords) (arg1 : Memref sig .tc .vmem S512x5632 .bf16) (harg1 : arg1.IsWhole) (arg3 : Memref sig .tc .vmem S512x1024 .f32) (harg3 : arg3.IsWhole) (arg4 : Memref sig .tc .vmem S1x1024 .f32) (harg4 : arg4.IsWhole) (arg5 : Memref sig .tc .vmem S512x1024 .f32) (harg5 : arg5.IsWhole) (arg7 : Memref sig .tc .vmem S512x1024 .f32) (harg7 : arg7.IsWhole) (arg8 : Memref sig .tc .vmem S512x1024 .bf16) (harg8 : arg8.IsWhole) (arg9 : Memref sig .tc .vmem S1x1024 .f32) (harg9 : arg9.IsWhole) (arg10 : Memref sig .tc .vmem S1024x5632 .bf16) (harg10 : arg10.IsWhole) (hc0 : cond0_0 i)
    (x0 : Vec F S512x5632 .bf16) (x1 : Vec F S512x1024 .f32) (x2 : Vec F S1x1024 .f32) (x3 : Vec F S512x1024 .f32) (fh0 : HbBuf0 (F := F) c hbM0_0) (fh1 : HbBuf0 (F := F) c hbM0_1) (y : S1024x5632.Idx) :
    ∃ pc ∈ (kernelRun0_A c i arg1 harg1 arg3 harg3 arg4 harg4 arg5 harg5 arg7 harg7 arg8 harg8 arg9 harg9 arg10 harg10 hc0 x0 x1 x2 x3 fh0 fh1).2.2.2.1, y ∈ pc.1.set :=
  View.cover_of_tiledL (kernelRun0_A c i arg1 harg1 arg3 harg3 arg4 harg4 arg5 harg5 arg7 harg7 arg8 harg8 arg9 harg9 arg10 harg10 hc0 x0 x1 x2 x3 fh0 fh1).2.2.2.1 S1024x1408.size (by sl_kernel_rfl) y

/-- What the first point leaves in the scratch. -/
def sout0_A_0 (c : Dev nD) (i : grid0.Coords) (arg1 : Memref sig .tc .vmem S512x5632 .bf16) (harg1 : arg1.IsWhole) (arg3 : Memref sig .tc .vmem S512x1024 .f32) (harg3 : arg3.IsWhole) (arg4 : Memref sig .tc .vmem S1x1024 .f32) (harg4 : arg4.IsWhole) (arg5 : Memref sig .tc .vmem S512x1024 .f32) (harg5 : arg5.IsWhole) (arg7 : Memref sig .tc .vmem S512x1024 .f32) (harg7 : arg7.IsWhole) (arg8 : Memref sig .tc .vmem S512x1024 .bf16) (harg8 : arg8.IsWhole) (arg9 : Memref sig .tc .vmem S1x1024 .f32) (harg9 : arg9.IsWhole) (arg10 : Memref sig .tc .vmem S1024x5632 .bf16) (harg10 : arg10.IsWhole) (hc0 : cond0_0 i)
    (x0 : Vec F S512x5632 .bf16) (x1 : Vec F S512x1024 .f32) (x2 : Vec F S1x1024 .f32) (x3 : Vec F S512x1024 .f32) (fh0 : HbBuf0 (F := F) c hbM0_0) (fh1 : HbBuf0 (F := F) c hbM0_1) : Vec F S1024x5632 .bf16 :=
  VS0_0.read (Elt F) (VS0_0.writes (Elt F) VS0_0.junk (kernelRun0_A c i arg1 harg1 arg3 harg3 arg4 harg4 arg5 harg5 arg7 harg7 arg8 harg8 arg9 harg9 arg10 harg10 hc0 x0 x1 x2 x3 fh0 fh1).2.2.2.1)

/-- The later points' stores cover the block of output 4. -/
theorem cover0_B_4 (c : Dev nD) (i : grid0.Coords) (arg1 : Memref sig .tc .vmem S512x5632 .bf16) (harg1 : arg1.IsWhole) (arg3 : Memref sig .tc .vmem S512x1024 .f32) (harg3 : arg3.IsWhole) (arg4 : Memref sig .tc .vmem S1x1024 .f32) (harg4 : arg4.IsWhole) (arg5 : Memref sig .tc .vmem S512x1024 .f32) (harg5 : arg5.IsWhole) (arg7 : Memref sig .tc .vmem S512x1024 .f32) (harg7 : arg7.IsWhole) (arg8 : Memref sig .tc .vmem S512x1024 .bf16) (harg8 : arg8.IsWhole) (arg9 : Memref sig .tc .vmem S1x1024 .f32) (harg9 : arg9.IsWhole) (arg10 : Memref sig .tc .vmem S1024x5632 .bf16) (harg10 : arg10.IsWhole) (hc0 : ¬cond0_0 i)
    (x0 : Vec F S512x5632 .bf16) (x1 : Vec F S512x1024 .f32) (x2 : Vec F S1x1024 .f32) (x3 : Vec F S512x1024 .f32) (xo6 : Vec F S1x1024 .f32) (xs0 : Vec F S1024x5632 .bf16) (fh0 : HbBuf0 (F := F) c hbM0_0) (fh1 : HbBuf0 (F := F) c hbM0_1) (y : S512x1024.Idx) :
    ∃ pc ∈ (kernelRun0_B c i arg1 harg1 arg3 harg3 arg4 harg4 arg5 harg5 arg7 harg7 arg8 harg8 arg9 harg9 arg10 harg10 hc0 x0 x1 x2 x3 xo6 xs0 fh0 fh1).1, y ∈ pc.1.set :=
  View.cover_of_tiledL (kernelRun0_B c i arg1 harg1 arg3 harg3 arg4 harg4 arg5 harg5 arg7 harg7 arg8 harg8 arg9 harg9 arg10 harg10 hc0 x0 x1 x2 x3 xo6 xs0 fh0 fh1).1 S512x1024.size (by sl_kernel_rfl) y

/-- What the later point leaves in the block of output 4. -/
def out0_B_4 (c : Dev nD) (i : grid0.Coords) (arg1 : Memref sig .tc .vmem S512x5632 .bf16) (harg1 : arg1.IsWhole) (arg3 : Memref sig .tc .vmem S512x1024 .f32) (harg3 : arg3.IsWhole) (arg4 : Memref sig .tc .vmem S1x1024 .f32) (harg4 : arg4.IsWhole) (arg5 : Memref sig .tc .vmem S512x1024 .f32) (harg5 : arg5.IsWhole) (arg7 : Memref sig .tc .vmem S512x1024 .f32) (harg7 : arg7.IsWhole) (arg8 : Memref sig .tc .vmem S512x1024 .bf16) (harg8 : arg8.IsWhole) (arg9 : Memref sig .tc .vmem S1x1024 .f32) (harg9 : arg9.IsWhole) (arg10 : Memref sig .tc .vmem S1024x5632 .bf16) (harg10 : arg10.IsWhole) (hc0 : ¬cond0_0 i)
    (x0 : Vec F S512x5632 .bf16) (x1 : Vec F S512x1024 .f32) (x2 : Vec F S1x1024 .f32) (x3 : Vec F S512x1024 .f32) (xo6 : Vec F S1x1024 .f32) (xs0 : Vec F S1024x5632 .bf16) (fh0 : HbBuf0 (F := F) c hbM0_0) (fh1 : HbBuf0 (F := F) c hbM0_1) : Vec F S512x1024 .f32 :=
  VO0_4.read (Elt F) (VO0_4.writes (Elt F) VO0_4.junk (kernelRun0_B c i arg1 harg1 arg3 harg3 arg4 harg4 arg5 harg5 arg7 harg7 arg8 harg8 arg9 harg9 arg10 harg10 hc0 x0 x1 x2 x3 xo6 xs0 fh0 fh1).1)

/-- The later points' stores cover the block of output 5. -/
theorem cover0_B_5 (c : Dev nD) (i : grid0.Coords) (arg1 : Memref sig .tc .vmem S512x5632 .bf16) (harg1 : arg1.IsWhole) (arg3 : Memref sig .tc .vmem S512x1024 .f32) (harg3 : arg3.IsWhole) (arg4 : Memref sig .tc .vmem S1x1024 .f32) (harg4 : arg4.IsWhole) (arg5 : Memref sig .tc .vmem S512x1024 .f32) (harg5 : arg5.IsWhole) (arg7 : Memref sig .tc .vmem S512x1024 .f32) (harg7 : arg7.IsWhole) (arg8 : Memref sig .tc .vmem S512x1024 .bf16) (harg8 : arg8.IsWhole) (arg9 : Memref sig .tc .vmem S1x1024 .f32) (harg9 : arg9.IsWhole) (arg10 : Memref sig .tc .vmem S1024x5632 .bf16) (harg10 : arg10.IsWhole) (hc0 : ¬cond0_0 i)
    (x0 : Vec F S512x5632 .bf16) (x1 : Vec F S512x1024 .f32) (x2 : Vec F S1x1024 .f32) (x3 : Vec F S512x1024 .f32) (xo6 : Vec F S1x1024 .f32) (xs0 : Vec F S1024x5632 .bf16) (fh0 : HbBuf0 (F := F) c hbM0_0) (fh1 : HbBuf0 (F := F) c hbM0_1) (y : S512x1024.Idx) :
    ∃ pc ∈ (kernelRun0_B c i arg1 harg1 arg3 harg3 arg4 harg4 arg5 harg5 arg7 harg7 arg8 harg8 arg9 harg9 arg10 harg10 hc0 x0 x1 x2 x3 xo6 xs0 fh0 fh1).2.1, y ∈ pc.1.set :=
  View.cover_of_tiledL (kernelRun0_B c i arg1 harg1 arg3 harg3 arg4 harg4 arg5 harg5 arg7 harg7 arg8 harg8 arg9 harg9 arg10 harg10 hc0 x0 x1 x2 x3 xo6 xs0 fh0 fh1).2.1 S512x1024.size (by sl_kernel_rfl) y

/-- What the later point leaves in the block of output 5. -/
def out0_B_5 (c : Dev nD) (i : grid0.Coords) (arg1 : Memref sig .tc .vmem S512x5632 .bf16) (harg1 : arg1.IsWhole) (arg3 : Memref sig .tc .vmem S512x1024 .f32) (harg3 : arg3.IsWhole) (arg4 : Memref sig .tc .vmem S1x1024 .f32) (harg4 : arg4.IsWhole) (arg5 : Memref sig .tc .vmem S512x1024 .f32) (harg5 : arg5.IsWhole) (arg7 : Memref sig .tc .vmem S512x1024 .f32) (harg7 : arg7.IsWhole) (arg8 : Memref sig .tc .vmem S512x1024 .bf16) (harg8 : arg8.IsWhole) (arg9 : Memref sig .tc .vmem S1x1024 .f32) (harg9 : arg9.IsWhole) (arg10 : Memref sig .tc .vmem S1024x5632 .bf16) (harg10 : arg10.IsWhole) (hc0 : ¬cond0_0 i)
    (x0 : Vec F S512x5632 .bf16) (x1 : Vec F S512x1024 .f32) (x2 : Vec F S1x1024 .f32) (x3 : Vec F S512x1024 .f32) (xo6 : Vec F S1x1024 .f32) (xs0 : Vec F S1024x5632 .bf16) (fh0 : HbBuf0 (F := F) c hbM0_0) (fh1 : HbBuf0 (F := F) c hbM0_1) : Vec F S512x1024 .bf16 :=
  VO0_5.read (Elt F) (VO0_5.writes (Elt F) VO0_5.junk (kernelRun0_B c i arg1 harg1 arg3 harg3 arg4 harg4 arg5 harg5 arg7 harg7 arg8 harg8 arg9 harg9 arg10 harg10 hc0 x0 x1 x2 x3 xo6 xs0 fh0 fh1).2.1)

/-- The later points' stores cover the block of output 6. -/
theorem cover0_B_6 (c : Dev nD) (i : grid0.Coords) (arg1 : Memref sig .tc .vmem S512x5632 .bf16) (harg1 : arg1.IsWhole) (arg3 : Memref sig .tc .vmem S512x1024 .f32) (harg3 : arg3.IsWhole) (arg4 : Memref sig .tc .vmem S1x1024 .f32) (harg4 : arg4.IsWhole) (arg5 : Memref sig .tc .vmem S512x1024 .f32) (harg5 : arg5.IsWhole) (arg7 : Memref sig .tc .vmem S512x1024 .f32) (harg7 : arg7.IsWhole) (arg8 : Memref sig .tc .vmem S512x1024 .bf16) (harg8 : arg8.IsWhole) (arg9 : Memref sig .tc .vmem S1x1024 .f32) (harg9 : arg9.IsWhole) (arg10 : Memref sig .tc .vmem S1024x5632 .bf16) (harg10 : arg10.IsWhole) (hc0 : ¬cond0_0 i)
    (x0 : Vec F S512x5632 .bf16) (x1 : Vec F S512x1024 .f32) (x2 : Vec F S1x1024 .f32) (x3 : Vec F S512x1024 .f32) (xo6 : Vec F S1x1024 .f32) (xs0 : Vec F S1024x5632 .bf16) (fh0 : HbBuf0 (F := F) c hbM0_0) (fh1 : HbBuf0 (F := F) c hbM0_1) (y : S1x1024.Idx) :
    ∃ pc ∈ (kernelRun0_B c i arg1 harg1 arg3 harg3 arg4 harg4 arg5 harg5 arg7 harg7 arg8 harg8 arg9 harg9 arg10 harg10 hc0 x0 x1 x2 x3 xo6 xs0 fh0 fh1).2.2.1, y ∈ pc.1.set :=
  View.cover_of_tiledL (kernelRun0_B c i arg1 harg1 arg3 harg3 arg4 harg4 arg5 harg5 arg7 harg7 arg8 harg8 arg9 harg9 arg10 harg10 hc0 x0 x1 x2 x3 xo6 xs0 fh0 fh1).2.2.1 S1x1024.size (by sl_kernel_rfl) y

/-- What the later point leaves in the block of output 6. -/
def out0_B_6 (c : Dev nD) (i : grid0.Coords) (arg1 : Memref sig .tc .vmem S512x5632 .bf16) (harg1 : arg1.IsWhole) (arg3 : Memref sig .tc .vmem S512x1024 .f32) (harg3 : arg3.IsWhole) (arg4 : Memref sig .tc .vmem S1x1024 .f32) (harg4 : arg4.IsWhole) (arg5 : Memref sig .tc .vmem S512x1024 .f32) (harg5 : arg5.IsWhole) (arg7 : Memref sig .tc .vmem S512x1024 .f32) (harg7 : arg7.IsWhole) (arg8 : Memref sig .tc .vmem S512x1024 .bf16) (harg8 : arg8.IsWhole) (arg9 : Memref sig .tc .vmem S1x1024 .f32) (harg9 : arg9.IsWhole) (arg10 : Memref sig .tc .vmem S1024x5632 .bf16) (harg10 : arg10.IsWhole) (hc0 : ¬cond0_0 i)
    (x0 : Vec F S512x5632 .bf16) (x1 : Vec F S512x1024 .f32) (x2 : Vec F S1x1024 .f32) (x3 : Vec F S512x1024 .f32) (xo6 : Vec F S1x1024 .f32) (xs0 : Vec F S1024x5632 .bf16) (fh0 : HbBuf0 (F := F) c hbM0_0) (fh1 : HbBuf0 (F := F) c hbM0_1) : Vec F S1x1024 .f32 :=
  VO0_6.read (Elt F) (VO0_6.writes (Elt F) VO0_6.junk (kernelRun0_B c i arg1 harg1 arg3 harg3 arg4 harg4 arg5 harg5 arg7 harg7 arg8 harg8 arg9 harg9 arg10 harg10 hc0 x0 x1 x2 x3 xo6 xs0 fh0 fh1).2.2.1)

/-- What the later point leaves in the scratch. -/
def sout0_B_0 (c : Dev nD) (i : grid0.Coords) (arg1 : Memref sig .tc .vmem S512x5632 .bf16) (harg1 : arg1.IsWhole) (arg3 : Memref sig .tc .vmem S512x1024 .f32) (harg3 : arg3.IsWhole) (arg4 : Memref sig .tc .vmem S1x1024 .f32) (harg4 : arg4.IsWhole) (arg5 : Memref sig .tc .vmem S512x1024 .f32) (harg5 : arg5.IsWhole) (arg7 : Memref sig .tc .vmem S512x1024 .f32) (harg7 : arg7.IsWhole) (arg8 : Memref sig .tc .vmem S512x1024 .bf16) (harg8 : arg8.IsWhole) (arg9 : Memref sig .tc .vmem S1x1024 .f32) (harg9 : arg9.IsWhole) (arg10 : Memref sig .tc .vmem S1024x5632 .bf16) (harg10 : arg10.IsWhole) (hc0 : ¬cond0_0 i)
    (x0 : Vec F S512x5632 .bf16) (x1 : Vec F S512x1024 .f32) (x2 : Vec F S1x1024 .f32) (x3 : Vec F S512x1024 .f32) (xo6 : Vec F S1x1024 .f32) (xs0 : Vec F S1024x5632 .bf16) (fh0 : HbBuf0 (F := F) c hbM0_0) (fh1 : HbBuf0 (F := F) c hbM0_1) : Vec F S1024x5632 .bf16 := xs0

/-- What the output blocks and the scratch hold after the point at a position. -/
def outsAt0 (c : Dev nD) : (n : ℕ) → n < cfg0.N → Vec F S512x1024 .f32 × Vec F S512x1024 .bf16 × Vec F S1x1024 .f32 × Vec F S1024x5632 .bf16
  | 0, hn => (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (V m c main_v2) (V m c main_v3), out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (V m c main_v2) (V m c main_v3), out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (V m c main_v2) (V m c main_v3), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (V m c main_v2) (V m c main_v3))
  | n + 1, hn =>
    if h0 : (n + 1) % 4 = 0 then
      (out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (V m c main_v2) (V m c main_v3), out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (V m c main_v2) (V m c main_v3), out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (V m c main_v2) (V m c main_v3), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (V m c main_v2) (V m c main_v3))
    else
      (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.1 (outsAt0 c n (Nat.lt_of_succ_lt hn)).2.2.2 (V m c main_v2) (V m c main_v3), out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.1 (outsAt0 c n (Nat.lt_of_succ_lt hn)).2.2.2 (V m c main_v2) (V m c main_v3), out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.1 (outsAt0 c n (Nat.lt_of_succ_lt hn)).2.2.2 (V m c main_v2) (V m c main_v3), sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.1 (outsAt0 c n (Nat.lt_of_succ_lt hn)).2.2.2 (V m c main_v2) (V m c main_v3))

/-- The same at the first point. -/
theorem outsAt0_A (c : Dev nD) (t : Fin cfg0.N) (h0 : t.val % 4 = 0) :
    outsAt0 m c t.val t.isLt = (out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (iblk m c 0 t) (iblk m c 1 t) (iblk m c 2 t) (iblk m c 3 t) (V m c main_v2) (V m c main_v3), out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (iblk m c 0 t) (iblk m c 1 t) (iblk m c 2 t) (iblk m c 3 t) (V m c main_v2) (V m c main_v3), out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (iblk m c 0 t) (iblk m c 1 t) (iblk m c 2 t) (iblk m c 3 t) (V m c main_v2) (V m c main_v3), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (iblk m c 0 t) (iblk m c 1 t) (iblk m c 2 t) (iblk m c 3 t) (V m c main_v2) (V m c main_v3)) := by
  obtain ⟨n, hn⟩ := t
  cases n with
  | zero => exact rfl
  | succ n => exact (dif_pos h0).trans rfl

/-- The same at a later point, over what the point before left. -/
theorem outsAt0_B (c : Dev nD) (t : Fin cfg0.N) (h0 : ¬t.val % 4 = 0) :
    outsAt0 m c t.val t.isLt = (out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2 (V m c main_v2) (V m c main_v3), out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2 (V m c main_v2) (V m c main_v3), out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2 (V m c main_v2) (V m c main_v3), sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2 (V m c main_v2) (V m c main_v3)) := by
  obtain ⟨n, hn⟩ := t
  cases n with
  | zero => exact (by exfalso; (try dsimp only at h0); exact absurd (Nat.zero_mod _) h0)
  | succ n => exact (dif_neg h0).trans rfl

/-- What holds of the scratch before the point at a position. -/
def PhiS (c : Dev nD) : (n : ℕ) → n ≤ cfg0.N → sProp 𝕄
  | 0, _ => Pipeline.ΦD osem0 spec0 H0 (V m) c
  | n + 1, hn => iprop(iprop(owns (c : Thread nD τ) scM0_0 fullShare ((outsAt0 m c n hn).2.2.2)) ∗ (∃ r, prngReg c r) ∗ iprop(semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0) ∗ iprop(hbPt0 c hbM0_0 (V m c main_v2) ∗ hbPt0 c hbM0_1 (V m c main_v3)))

/-- Before the first point the invariant is the launch state. -/
theorem PhiS_zero (c : Dev nD) (n : ℕ) (h : n ≤ cfg0.N) (hz : n = 0) : PhiS m c n h = Pipeline.ΦD osem0 spec0 H0 (V m) c := by
  subst hz; rfl

/-- After a point the scratch holds what that point left. -/
theorem PhiS_succ (c : Dev nD) (n : ℕ) (hn : n < cfg0.N) :
    PhiS m c (n + 1) hn = iprop(iprop(owns (c : Thread nD τ) scM0_0 fullShare ((outsAt0 m c n hn).2.2.2)) ∗ (∃ r, prngReg c r) ∗ iprop(semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0) ∗ iprop(hbPt0 c hbM0_0 (V m c main_v2) ∗ hbPt0 c hbM0_1 (V m c main_v3))) := rfl

/-- Before a later point the scratch holds what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.2)) ∗ (∃ r, prngReg c r) ∗ iprop(semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0) ∗ iprop(hbPt0 c hbM0_0 (V m c main_v2) ∗ hbPt0 c hbM0_1 (V m c main_v3))) := by
  cases n with
  | zero => exact absurd rfl hz
  | succ n => rfl

/-- The arrays at the start, and what each point leaves in each block. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
    | ⟨5, _⟩ => (outsAt0 m c t.val t.isLt).2.1
    | ⟨6, _⟩ => (outsAt0 m c t.val t.isLt).2.2.1
  Φ t := PhiS m c t.val (Nat.le_of_lt_succ t.isLt)
  q _ := fullShare
  owed _ := 0

/-- The arrays at the start are the ones that the host lines leave. -/
theorem A_eq (c : Dev nD) (w : Fin cfg0.W) : (dats m 0 c).A w = V m c (Pipeline.arrRef spec0 w) := by
  dsimp only [dats]

/-- What holds of the scratch at a point, by the position as a number. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What a point leaves in window 0. -/
theorem after0_0 (c : Dev nD) (t : Fin cfg0.N) : (dats m 0 c).after 0 t = iblk m c 0 t := by dsimp only [dats]
/-- A window's block after a point. -/
theorem after0_1 (c : Dev nD) (t : Fin cfg0.N) : (dats m 0 c).after 1 t = iblk m c 1 t := by dsimp only [dats]
/-- A window's block after a point. -/
theorem after0_2 (c : Dev nD) (t : Fin cfg0.N) : (dats m 0 c).after 2 t = iblk m c 2 t := by dsimp only [dats]
/-- A window's block after a point. -/
theorem after0_3 (c : Dev nD) (t : Fin cfg0.N) : (dats m 0 c).after 3 t = iblk m c 3 t := by dsimp only [dats]
/-- A window's block after a point. -/
theorem after0_4 (c : Dev nD) (t : Fin cfg0.N) : (dats m 0 c).after 4 t = (outsAt0 m c t.val t.isLt).1 := by dsimp only [dats]
/-- A window's block after a point. -/
theorem after0_5 (c : Dev nD) (t : Fin cfg0.N) : (dats m 0 c).after 5 t = (outsAt0 m c t.val t.isLt).2.1 := by dsimp only [dats]
/-- A window's block after a point. -/
theorem after0_6 (c : Dev nD) (t : Fin cfg0.N) : (dats m 0 c).after 6 t = (outsAt0 m c t.val t.isLt).2.2.1 := by dsimp only [dats]

/-- What window 0 holds when a point starts. -/
theorem before0_0 (c : Dev nD) (t : Fin cfg0.N) (d) : (dats m 0 c).before 0 t d = iblk m c 0 t :=
  before0_0_of m (dats m 0 c) (A_eq m c 0) (after0_0 m c) t d
/-- An input's block before a point is its array's. -/
theorem before0_1 (c : Dev nD) (t : Fin cfg0.N) (d) : (dats m 0 c).before 1 t d = iblk m c 1 t :=
  before0_1_of m (dats m 0 c) (A_eq m c 1) (after0_1 m c) t d
/-- An input's block before a point is its array's. -/
theorem before0_2 (c : Dev nD) (t : Fin cfg0.N) (d) : (dats m 0 c).before 2 t d = iblk m c 2 t :=
  before0_2_of m (dats m 0 c) (A_eq m c 2) (after0_2 m c) t d
/-- An input's block before a point is its array's. -/
theorem before0_3 (c : Dev nD) (t : Fin cfg0.N) (d) : (dats m 0 c).before 3 t d = iblk m c 3 t :=
  before0_3_of m (dats m 0 c) (A_eq m c 3) (after0_3 m c) t d
/-- What window 6 holds when a point starts. -/
theorem before0_6_B (c : Dev nD) (t : Fin cfg0.N) (h0 : ¬t.val % 4 = 0) (d) :
    (dats m 0 c).before 6 t d = (outsAt0 m c (t.val - 1) (Nat.lt_of_le_of_lt (Nat.sub_le _ _) t.isLt)).2.2.1 := by
  have hN : t.val < 4 := lt_of_lt_of_eq t.isLt (show cfg0.N = 4 from N_0)
  rw [Dat.before_out_kept _ 6 rfl t (by omega) (Bool.eq_false_iff.mpr fun h => by have := (flush0_6 _).mp h; dsimp only at this; omega)
    (fun _ => rfl) (fun _ _ => rfl)]
  dsimp only [dats]

/-- What the body is called with at a point. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- What the body returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t))

set_option maxHeartbeats 6400000 in
/-- The body at any point: from the blocks at that point to what the point leaves. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = PhiS m c (t.val + 1) t.isLt from rfl, PhiS_succ,
    after0_0, after0_1, after0_2, after0_3, after0_4, after0_5, after0_6]
  unfold Dat.owesAt Pipeline.owesWithin
  rw [show (dats m 0 c).owed t.castSucc = 0 from rfl, show (dats m 0 c).owed t.succ = 0 from rfl]
  have hN : t.val < 4 := lt_of_lt_of_eq t.isLt (show cfg0.N = 4 from N_0)
  by_cases h0 : t.val % 4 = 0
  · by_cases hz : t.val = 0
    · rw [PhiS_castSucc m c t, PhiS_zero m c _ _ hz, PhiD0_eq]
      rw [outsAt0_A m c t h0]
      unfold out0_A_4 out0_A_5 out0_A_6 sout0_A_0; (try dsimp only)
      iintro ⟨⟨HS0, Hg, ⟨Hq0, Hq1, Hq2, Hq3⟩, ⟨Hh0, Hh1⟩⟩, ⟨%W, -, HW⟩, ⟨%d0, H0⟩, ⟨%d1, H1⟩, ⟨%d2, H2⟩, ⟨%d3, H3⟩, ⟨%d4, H4⟩, ⟨%d5, H5⟩, ⟨%d6, H6⟩⟩
      iapply ((kernelRun0_A c (grid0.coords t) _ _ _ _ _ _ _ _ _ _ _ _ _ _ _ _ ((hcond0_0 t).mpr h0) (iblk m c 0 t) (iblk m c 1 t) (iblk m c 2 t) (iblk m c 3 t) (V m c main_v2) (V m c main_v3)).2.2.2.2 W _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [HS0]; · iexact HS0
      isplitl [Hq0]; · iexact Hq0
      isplitl [Hq1]; · iexact Hq1
      isplitl [Hq2]; · iexact Hq2
      isplitl [Hq3]; · iexact Hq3
      isplitl [Hh0]; · iexact Hh0
      isplitl [Hh1]; · iexact Hh1
      isplitl [HW]; · iexact HW
      iintro ⟨H0, H1, H2, H3, ⟨%e4, H4⟩, ⟨%e5, H5⟩, ⟨%e6, H6⟩, ⟨%es0, HS0⟩, Hq0, Hq1, Hq2, Hq3, Hh0, Hh1, ⟨%W', HW'⟩⟩
      isplitl [HS0 Hg Hq0 Hq1 Hq2 Hq3 Hh0 Hh1]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _ _)
        isplitl [Hg]
        · iexact Hg
        isplitl [Hq0 Hq1 Hq2 Hq3]
        · isplitl [Hq0]; · iexact Hq0
          isplitl [Hq1]; · iexact Hq1
          isplitl [Hq2]; · iexact Hq2
          iexact Hq3
        isplitl [Hh0]; · iexact Hh0
        iexact Hh1
      isplitl [HW']
      · iexists W'; isplitr; · ipureintro; exact fun _ _ => Or.inl trivial
        iexact HW'
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover0_A_4 c _ _ _ _ _ _ _ _ _ _ _ _ _ _ _ _ _ _ _ _ _ _ _ _)
      isplitl [H5]
      · unfold owns; iexists _; isplitr
        swap; · iexact H5
        ipureintro; exact View.read_writes_of_cover _ _ _ _ _ (cover0_A_5 c _ _ _ _ _ _ _ _ _ _ _ _ _ _ _ _ _ _ _ _ _ _ _ _)
      unfold owns; iexists _; isplitr
      swap; · iexact H6
      ipureintro; exact View.read_writes_of_cover _ _ _ _ _ (cover0_A_6 c _ _ _ _ _ _ _ _ _ _ _ _ _ _ _ _ _ _ _ _ _ _ _ _)
    · exfalso; have hN : t.val < 4 := lt_of_lt_of_eq t.isLt (show cfg0.N = 4 from N_0); omega
  · by_cases hz : t.val = 0
    · exfalso; have hN : t.val < 4 := lt_of_lt_of_eq t.isLt (show cfg0.N = 4 from N_0); omega
    · rw [PhiS_castSucc m c t, PhiS_pos m c _ _ hz]
      rw [outsAt0_B m c t h0]
      simp only [before0_6_B m c t h0]
      unfold out0_B_4 out0_B_5 out0_B_6 sout0_B_0; (try dsimp only)
      iintro ⟨⟨HS0, Hg, ⟨Hq0, Hq1, Hq2, Hq3⟩, ⟨Hh0, Hh1⟩⟩, ⟨%W, -, HW⟩, ⟨%d0, H0⟩, ⟨%d1, H1⟩, ⟨%d2, H2⟩, ⟨%d3, H3⟩, ⟨%d4, H4⟩, ⟨%d5, H5⟩, ⟨%d6, H6⟩⟩
      iapply ((kernelRun0_B c (grid0.coords t) _ _ _ _ _ _ _ _ _ _ _ _ _ _ _ _ (fun h => h0 ((hcond0_0 t).mp h)) (iblk m c 0 t) (iblk m c 1 t) (iblk m c 2 t) (iblk m c 3 t) _ _ (V m c main_v2) (V m c main_v3)).2.2.2.2 W _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexact H6
      isplitl [HS0]; · iexact HS0
      isplitl [Hq0]; · iexact Hq0
      isplitl [Hq1]; · iexact Hq1
      isplitl [Hq2]; · iexact Hq2
      isplitl [Hq3]; · iexact Hq3
      isplitl [Hh0]; · iexact Hh0
      isplitl [Hh1]; · iexact Hh1
      isplitl [HW]; · iexact HW
      iintro ⟨H0, H1, H2, H3, ⟨%e4, H4⟩, ⟨%e5, H5⟩, ⟨%e6, H6⟩, HS0, Hq0, Hq1, Hq2, Hq3, Hh0, Hh1, ⟨%W', HW'⟩⟩
      isplitl [HS0 Hg Hq0 Hq1 Hq2 Hq3 Hh0 Hh1]
      · isplitl [HS0]
        · iexact HS0
        isplitl [Hg]
        · iexact Hg
        isplitl [Hq0 Hq1 Hq2 Hq3]
        · isplitl [Hq0]; · iexact Hq0
          isplitl [Hq1]; · iexact Hq1
          isplitl [Hq2]; · iexact Hq2
          iexact Hq3
        isplitl [Hh0]; · iexact Hh0
        iexact Hh1
      isplitl [HW']
      · iexists W'; isplitr; · ipureintro; exact fun _ _ => Or.inl trivial
        iexact HW'
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover0_B_4 c _ _ _ _ _ _ _ _ _ _ _ _ _ _ _ _ _ _ _ _ _ _ _ _ _ _)
      isplitl [H5]
      · unfold owns; iexists _; isplitr
        swap; · iexact H5
        ipureintro; exact View.read_writes_of_cover _ _ _ _ _ (cover0_B_5 c _ _ _ _ _ _ _ _ _ _ _ _ _ _ _ _ _ _ _ _ _ _ _ _ _ _)
      unfold owns; iexists _; isplitr
      swap; · iexact H6
      ipureintro; exact View.read_writes_of_cover _ _ _ _ _ (cover0_B_6 c _ _ _ _ _ _ _ _ _ _ _ _ _ _ _ _ _ _ _ _ _ _ _ _ _ _)

/-- The body that the table names at a point. -/
theorem defs₀_row (t : Fin cfg0.N) :
    defs₀ (F := F) .tc cfg0.body (cfg0.bodyArgs t (cfg0.slots t)) = bodyAt0 t := by
  unfold defs₀; rw [Defs.onTc_tc]

/-- The body does at every point what the launch asks of it. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands over holds before the first point. -/
theorem hin (c : Dev nD) : Pipeline.ΦD osem0 spec0 H0 (V m) c ⊢ (dats m 0 c).Φ 0 := by
  rw [show (dats m 0 c).Φ 0 = PhiS m c 0 (Nat.zero_le _) from rfl, PhiS_zero m c 0 _ rfl]
  try exact Idealize.SL.BI.Entails.refl _

/-- What holds after a point gives back what the launch handed over. -/
theorem Phi_out (c : Dev nD) (t : Fin (cfg0.N + 1)) (ht : t.val ≠ 0) : (dats m 0 c).Φ t ⊢ Pipeline.ΦD osem0 spec0 H0 (V m) c := by
  rw [show (dats m 0 c).Φ t = PhiS m c t.val (Nat.le_of_lt_succ t.isLt) from rfl, PhiS_pos m c _ _ ht, PhiD0_eq]
  iintro ⟨HS0, Hg, ⟨Hq0, Hq1, Hq2, Hq3⟩, ⟨Hh0, Hh1⟩⟩
  isplitl [HS0]
  · iexists _; iexact HS0
  isplitl [Hg]; · iexact Hg
  isplitl [Hq0 Hq1 Hq2 Hq3]
  · isplitl [Hq0]; · iexact Hq0
    isplitl [Hq1]; · iexact Hq1
    isplitl [Hq2]; · iexact Hq2
    iexact Hq3
  isplitl [Hh0]; · iexact Hh0
  iexact Hh1

/-- The same after the last point. -/
theorem hout (c : Dev nD) : (dats m 0 c).Φ (Fin.last cfg0.N) ⊢ Pipeline.ΦD osem0 spec0 H0 (V m) c :=
  Phi_out m c _ (by rw [Fin.val_last]; have : cfg0.N = 4 := N_0; omega)

set_option backward.isDefEq.respectTransparency.types false in
/-- Every run ends with the arrays as computed and with every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m)
    (hin := hin m) (hout := hout m)

/-- Every run ends with the arrays as computed. -/
theorem run_main : θ_run defs (onTc (τ := τ) (main (F := F))) (s₀ m ρ) (Pipeline.FramePost cfgs (dats m) 0 (V m)) :=
  (θ_run defs _ _).mono (fun _ h => h.1) (run_main_quiescent m ρ)

/-- Every run ends with the arguments as they were. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- Every run ends with the arguments as they were and with every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.Kernel2Ideal.Nb

end
-- ==== Proof.NbFloat.lean ====
/- The float program of the normalised product's backward kernel has the ideal program's text, and so its frame. -/
module

public import proofs.«01_k».proof.Defs
public import proofs.«01_k».proof.Proof.NbFrame
public import proofs.«01_k».proof.Proof.Gen.Kernel2

@[expose] public section
noncomputable section
namespace Cert.Nb
open Idealize.ShloMosaic

/-- The two texts' body tables are equal. -/
theorem defs0_eq : Cert.Kernel2.defs₀ (F := Bits) = Cert.Kernel2Ideal.defs₀ (F := Bits) := by
  unfold Cert.Kernel2.defs₀ Cert.Kernel2Ideal.defs₀
  refine congrArg Defs.onTc ?_
  funext l x
  match l, x with
  | ⟨0, _⟩, (t, s) => rfl
  | ⟨n + 1, h⟩, _ => exact absurd h (Nat.not_lt.2 (Nat.le_add_left _ _))

/-- The two texts' whole tables are equal. -/
theorem defs_eq : Cert.Kernel2.defs (F := Bits) = Cert.Kernel2Ideal.defs (F := Bits) :=
  congrArg (Pipeline.defs Cert.Kernel2Ideal.pcfgs) defs0_eq

/-- Every run of the float program ends with its arguments as they were and with every counter at zero. -/
theorem frame_k : Cert.quiescent_Kernel2 (hKernel2 := Cert.Kernel2.Gen.facts) := by
  intro m ρ _
  rw [defs_eq]
  exact Cert.Kernel2Ideal.Nb.frame (F := Bits) m ρ

end Cert.Nb
-- ==== Proof.NormGen.lean ====
/- The backward pass of a root-mean-square normalisation of a row of any length, in two forms that agree over the reals. -/
module

public import proofs.«01_k».proof.Proof.Real

@[expose] public section
noncomputable section
namespace Cert.Alg
open Idealize.ShloMosaic

variable {n : ℕ} (w : BitVec 32)

/-- The mean square of a row with the small constant added: the word `w` is the row's length, the other word the float nearest 1e-6. -/
def msqW (x : Fin n → EReal) : EReal := Ideal.div (∑ k, x k * x k) (Ideal.ofBits .f32 w) + Ideal.ofBits .f32 897988541#32

/-- The factor by which the normalisation scales a row. -/
def nrmW (x : Fin n → EReal) : EReal := Ideal.rsqrt (msqW w x)

/-- The gradient of a normalised row's input, `d` being the gradient of the normalised row: the normalised row is projected out. -/
def bwdRow (d x : Fin n → EReal) (j : Fin n) : EReal :=
  nrmW w x * (d j - x j * nrmW w x * Ideal.div (∑ k, d k * (x k * nrmW w x)) (Ideal.ofBits .f32 w))

/-- The part of that gradient that goes through the mean square, per entry and use. -/
def throughMsq (d x : Fin n → EReal) : EReal :=
  Ideal.div ((∑ k, x k * d k) * (Ideal.ofBits .f32 3204448256#32 * Ideal.div (nrmW w x) (msqW w x))) (Ideal.ofBits .f32 w)

/-- A sum of reals is real, with that sum. -/
theorem coe_sum {ι : Type*} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- The word of minus one half. -/
theorem word_neg_half : Ideal.ofBits .f32 3204448256#32 = ((-(1 / 2) : ℝ) : EReal) := by
  simp [Ideal.ofBits, Ideal.ieee]
  rw [← EReal.coe_mul]; norm_num

/-- The word of the small constant is a positive real. -/
theorem word_eps : ∃ e : ℝ, 0 < e ∧ Ideal.ofBits .f32 897988541#32 = (e : EReal) := by
  refine ⟨8796093 / 8796093022208, by norm_num, ?_⟩
  simp [Ideal.ofBits, Ideal.ieee]
  rw [← EReal.coe_mul]; norm_num

section
variable {w} {l : ℝ} (hl : 0 < l) (hw : Ideal.ofBits .f32 w = (l : EReal))
include hl hw

/-- Over a real row the mean square is a positive real, and the factor is a real whose square is its inverse. -/
theorem nrmW_real {x : Fin n → EReal} (hx : ∀ k, IsReal (x k)) :
    ∃ m r : ℝ, 0 < m ∧ r * r * m = 1 ∧ msqW w x = (m : EReal) ∧ nrmW w x = (r : EReal) := by
  choose f hf using hx
  obtain ⟨e, he, hwe⟩ := word_eps
  have h1 : msqW w x = (((∑ k, f k * f k) * (1 / l) + e : ℝ) : EReal) := by
    rw [msqW, hw, hwe, Ideal.div_coe hl.ne']
    simp only [hf, ← EReal.coe_mul, coe_sum, ← EReal.coe_add]
  have hp : 0 < (∑ k, f k * f k) * (1 / l) + e :=
    add_pos_of_nonneg_of_pos (mul_nonneg (Finset.sum_nonneg fun k _ => mul_self_nonneg (f k)) (by positivity)) he
  refine ⟨_, (Real.sqrt ((∑ k, f k * f k) * (1 / l) + e))⁻¹, hp, ?_, h1, ?_⟩
  · rw [← mul_inv, Real.mul_self_sqrt hp.le, inv_mul_cancel₀ hp.ne']
  · rw [nrmW, h1, Ideal.rsqrt_coe, if_neg (not_lt.mpr hp.le), if_neg hp.ne']

/-- Over real rows the projected form is what the chain rule gives: through the row itself, and twice through its mean square. -/
theorem bwdRow_eq {d x : Fin n → EReal} (hd : ∀ k, IsReal (d k)) (hx : ∀ k, IsReal (x k)) (j : Fin n) :
    bwdRow w d x j = d j * nrmW w x + x j * throughMsq w d x + throughMsq w d x * x j := by
  obtain ⟨m, r, hm, hr, em, er⟩ := nrmW_real hl hw hx
  choose fd hd using hd
  choose fx hx using hx
  have hs : ∑ k, fd k * (fx k * r) = (∑ k, fx k * fd k) * r := by
    rw [Finset.sum_mul]; exact Finset.sum_congr rfl fun k _ => by ring
  have hq : r * (1 / m) = r * r * r := by
    have : 1 / m = r * r := by field_simp; linarith
    rw [this]; ring
  simp only [bwdRow, throughMsq, em, er, hw, word_neg_half, Ideal.div_coe hl.ne', Ideal.div_coe hm.ne', hd, hx]
  simp only [← EReal.coe_mul, coe_sum, ← EReal.coe_sub, ← EReal.coe_add]
  refine congrArg _ ?_
  rw [hs, hq]
  ring

end

end Cert.Alg
-- ==== Proof.NormAlg.lean ====
/- The backward pass of a root-mean-square normalisation of rows of 1024, in two forms that agree over the reals. -/
module

public import proofs.«01_k».proof.Proof.NormGen

@[expose] public section
noncomputable section
namespace Cert.Alg
open Idealize.ShloMosaic

/-- The mean square of a row of 1024 with the small constant added: the two words are 1024 and the float nearest 1e-6. -/
def msq (x : Fin 1024 → EReal) : EReal := msqW 1149239296#32 x

/-- The factor by which the normalisation scales a row. -/
def nrm (x : Fin 1024 → EReal) : EReal := nrmW 1149239296#32 x

/-- The gradient of a normalised row's input, the gradient `ct` of another use added: the normalised row is projected out. -/
def dxRow (dh x g ct : Fin 1024 → EReal) (j : Fin 1024) : EReal := ct j + bwdRow 1149239296#32 (fun k => dh k * g k) x j

/-- A row's part of the gradient of the normalisation's scales. -/
def dgRow (dh x : Fin 1024 → EReal) (j : Fin 1024) : EReal := dh j * (x j * nrm x)

/-- The gradient of a normalised row's input as the chain rule gives it: through the row itself, and twice through its mean square. -/
def dxChain (dh x g ct : Fin 1024 → EReal) (j : Fin 1024) : EReal :=
  ct j + dh j * g j * nrm x + x j * throughMsq 1149239296#32 (fun k => dh k * g k) x
    + throughMsq 1149239296#32 (fun k => dh k * g k) x * x j

/-- The word of 1024. -/
theorem word_1024 : Ideal.ofBits .f32 1149239296#32 = ((1024 : ℝ) : EReal) := by
  simp [Ideal.ofBits, Ideal.ieee]
  rw [← EReal.coe_mul]; norm_num

/-- Over real rows the two forms of the gradient agree. -/
theorem dxRow_eq_dxChain {dh x g ct : Fin 1024 → EReal} (hd : ∀ k, IsReal (dh k)) (hx : ∀ k, IsReal (x k)) (hg : ∀ k, IsReal (g k))
    (_ : ∀ k, IsReal (ct k)) (j : Fin 1024) : dxRow dh x g ct j = dxChain dh x g ct j := by
  rw [dxRow, bwdRow_eq (by norm_num) word_1024 (fun k => (hd k).mul (hg k)) hx, dxChain, ← add_assoc, ← add_assoc]
  rfl

end Cert.Alg
-- ==== Proof.NbPoint.lean ====
/- One point of the normalised product's backward kernel: what it leaves in its output blocks and in its scratch. -/
module

public import proofs.«01_k».proof.Proof.NbFrame
public import proofs.«01_k».proof.Proof.NormAlg
public import Idealize.ShloMosaic.Lib.Pointwise
public import Idealize.ShloMosaic.Lib.Pipeline.ValueKit
public import Idealize.ShloMosaic.Lib.Pipeline.ReadBack
public import Idealize.ShloMosaic.Lib.Claim

@[expose] public section
set_option maxRecDepth 16384
noncomputable section
namespace Cert.Kernel2Ideal.Nb
open Idealize.ShloMosaic Idealize.ShloMosaic.TcCoe Idealize.ShloMosaic.Tactic Gen Cert.Alg

local notation "𝕀" => Idealize.ShloMosaic.Ideal

/-- The quarter in which a column lies. -/
def quarter (k : Fin 5632) : Fin 4 := ⟨k.val / 1408, by omega⟩

/-- A column's place in its quarter. -/
def within (k : Fin 5632) : Fin 1408 := ⟨k.val % 1408, Nat.mod_lt _ (by norm_num)⟩

/-- The four stacked quarters of the weights side by side. -/
def wcat (W : Vec 𝕀 S4x1024x1408 .bf16) : Vec 𝕀 S1024x5632 .bf16 := fun i => W (ix3 (quarter (i 1)) (i 0) (within (i 1)))

/-- A block's row against the rows of the weights: the gradient of the normalised row. -/
def dhB (x0 : Vec 𝕀 S512x5632 .bf16) (W : Vec 𝕀 S1024x5632 .bf16) (r : Fin 512) (j : Fin 1024) : EReal :=
  ∑ k : Fin 5632, x0 (ix2 r k) * W (ix2 j k)

/-- A block's part of the gradient of the scales. -/
def dgB (x0 : Vec 𝕀 S512x5632 .bf16) (x1 : Vec 𝕀 S512x1024 .f32) (W : Vec 𝕀 S1024x5632 .bf16) (j : Fin 1024) : EReal :=
  ∑ r : Fin 512, dgRow (dhB x0 W r) (fun k => x1 (ix2 r k)) j

variable (x0 : Vec 𝕀 S512x5632 .bf16) (x1 : Vec 𝕀 S512x1024 .f32) (x2 : Vec 𝕀 S1x1024 .f32) (x3 : Vec 𝕀 S512x1024 .f32)
  (xo6 : Vec 𝕀 S1x1024 .f32) (xs0 : Vec 𝕀 S1024x5632 .bf16) (c : Dev nD) (fh0 : HbBuf0 (F := 𝕀) c hbM0_0) (fh1 : HbBuf0 (F := 𝕀) c hbM0_1)
  (i : grid0.Coords)
  (arg1 : Memref sig .tc .vmem S512x5632 .bf16) (harg1 : arg1.IsWhole) (arg3 : Memref sig .tc .vmem S512x1024 .f32) (harg3 : arg3.IsWhole)
  (arg4 : Memref sig .tc .vmem S1x1024 .f32) (harg4 : arg4.IsWhole) (arg5 : Memref sig .tc .vmem S512x1024 .f32) (harg5 : arg5.IsWhole)
  (arg7 : Memref sig .tc .vmem S512x1024 .f32) (harg7 : arg7.IsWhole) (arg8 : Memref sig .tc .vmem S512x1024 .bf16) (harg8 : arg8.IsWhole)
  (arg9 : Memref sig .tc .vmem S1x1024 .f32) (harg9 : arg9.IsWhole) (arg10 : Memref sig .tc .vmem S1024x5632 .bf16) (harg10 : arg10.IsWhole)

/-- The stored block of the input's gradient, row by row. -/
theorem pay_dx (W : Vec 𝕀 S1024x5632 .bf16) (r : Fin 512) (y : Fin 1024) :
    k0_pay1 (F := 𝕀) (k0_pay5 x1) (k0_pay6 x1) (k0_pay8 x0 W x2) x3 (k0_pay9 x0 W x1 x2) (ix2 r y)
      = dxRow (dhB x0 W r) (fun k => x1 (ix2 r k)) (fun k => x2 (ix2 0 k)) (fun k => x3 (ix2 r k)) y := by
  unfold_payloads
  pointwise [dot_S512x5632_S1024x5632_S512x1024_1_1_0_0_n_n]
  rfl

/-- A later point's block of the input's gradient. -/
theorem out4_B (hc0 : ¬cond0_0 i) (r : Fin 512) (y : Fin 1024) :
    out0_B_4 c i arg1 harg1 arg3 harg3 arg4 harg4 arg5 harg5 arg7 harg7 arg8 harg8 arg9 harg9 arg10 harg10 hc0 x0 x1 x2 x3 xo6 xs0 fh0 fh1 (ix2 r y)
      = dxRow (dhB x0 xs0 r) (fun k => x1 (ix2 r k)) (fun k => x2 (ix2 0 k)) (fun k => x3 (ix2 r k)) y := by
  frame_out
  exact pay_dx x0 x1 x2 x3 xs0 r y

/-- A later point's block of the input's gradient once more, in the narrow type. -/
theorem out5_B (hc0 : ¬cond0_0 i) (r : Fin 512) (y : Fin 1024) :
    out0_B_5 c i arg1 harg1 arg3 harg3 arg4 harg4 arg5 harg5 arg7 harg7 arg8 harg8 arg9 harg9 arg10 harg10 hc0 x0 x1 x2 x3 xo6 xs0 fh0 fh1 (ix2 r y)
      = dxRow (dhB x0 xs0 r) (fun k => x1 (ix2 r k)) (fun k => x2 (ix2 0 k)) (fun k => x3 (ix2 r k)) y := by
  frame_out
  unfold_payloads
  pointwise [dot_S512x5632_S1024x5632_S512x1024_1_1_0_0_n_n]
  rfl

/-- A later point adds its block's part of the gradient of the scales. -/
theorem out6_B (hc0 : ¬cond0_0 i) (y : Fin 1024) :
    out0_B_6 c i arg1 harg1 arg3 harg3 arg4 harg4 arg5 harg5 arg7 harg7 arg8 harg8 arg9 harg9 arg10 harg10 hc0 x0 x1 x2 x3 xo6 xs0 fh0 fh1 (ix2 0 y)
      = xo6 (ix2 0 y) + dgB x0 x1 xs0 y := by
  frame_out
  unfold_payloads
  pointwise [dot_S512x5632_S1024x5632_S512x1024_1_1_0_0_n_n]
  rfl

/-- A column of the quarters side by side lies in its quarter. -/
theorem wcat_at (W : Vec 𝕀 S4x1024x1408 .bf16) (q : ℕ) (hq : q < 4) (r : Fin 1024) (y : Fin 5632) (a : Fin 1024) (b : Fin 1408)
    (h0 : r.val = a.val) (h1 : y.val = 1408 * q + b.val) : wcat W (ix2 r y) = W (ix3 ⟨q, hq⟩ a b) := by
  have e1 : quarter y = ⟨q, hq⟩ := Fin.ext (by simp only [quarter]; omega)
  have e2 : within y = b := Fin.ext (by simp only [within]; omega)
  obtain rfl : r = a := Fin.ext h0
  show W (ix3 (quarter y) r (within y)) = _
  rw [e1, e2]

/-- A load through a rectangle of what the stores left. -/
theorem readCov_ld {κ : Kind} {sp : Space} {s : Shape} {e : EltTy} (v : View sig κ sp s e) (L : List (View.Piece (Elt 𝕀) s e)) (r : Rect s) :
    v.readCov L r.toLoadRect = View.ld (View.canon L) r := View.readCov_eq_canon' v L r.toLoadRect

/-- A quarter of the stacked weights, read as a matrix. -/
theorem quarter_read (W : Vec 𝕀 S4x1024x1408 .bf16) (q : ℕ) (hq : q < 4) (inb : ∀ a, ![q, 0, 0] a + ![1, 1024, 1408] a ≤ S4x1024x1408.size a)
    (h : S1024x1408.numel = (Rect.unit (s := S4x1024x1408) ![q, 0, 0] ![1, 1024, 1408] inb).shape.numel) (a : Fin 1024) (b : Fin 1408) :
    W ((Rect.unit (s := S4x1024x1408) ![q, 0, 0] ![1, 1024, 1408] inb).idx (Shape.reshapeEquiv h (ix2 a b))) = W (ix3 ⟨q, hq⟩ a b) := by
  have e : Shape.reshapeEquiv h (ix2 a b) = (ix3 0 a b : S1x1024x1408.Idx) := by
    refine Shape.reshapeEquiv_eq_of_rowMajor h ?_
    have z : ((ix3 0 a b : S1x1024x1408.Idx) 0).val = 0 := rfl
    refine (rowMajor_val3 (d := ![1, 1024, 1408]) (ix3 0 a b) 1441792 1408 rfl rfl).trans (Eq.trans ?_ (rowMajor_val2 (d := ![1024, 1408]) (ix2 a b) 1408 rfl).symm)
    rw [z, Nat.zero_mul, Nat.zero_add]
    rfl
  rw [e]
  refine congrArg W (funext fun k => Fin.ext ?_)
  match k with
  | 0 => simp [LoadRect.idx, Rect.unit]
  | 1 => simp [LoadRect.idx, Rect.unit]
  | 2 => simp [LoadRect.idx, Rect.unit]

/-- The pieces that the first point copies make the weights' four quarters side by side. -/
theorem sout_A (hc0 : cond0_0 i) :
    sout0_A_0 c i arg1 harg1 arg3 harg3 arg4 harg4 arg5 harg5 arg7 harg7 arg8 harg8 arg9 harg9 arg10 harg10 hc0 x0 x1 x2 x3 fh0 fh1
      = wcat fh0 := by
  funext j
  obtain ⟨r, y, rfl⟩ : ∃ (r : Fin 1024) (y : Fin 5632), j = ix2 r y := ⟨j 0, j 1, eq_ix2 j⟩
  frame_out
  canon_tiles x h
  · obtain ⟨a, b, e⟩ : ∃ (a : Fin 1024) (b : Fin 1408), x = ix2 a b := ⟨x 0, x 1, eq_ix2 x⟩
    have ea : (x 0).val = a.val := by rw [e]; rfl
    have eb : (x 1).val = b.val := by rw [e]; rfl
    rw [e]
    refine (quarter_read fh0 3 (by decide) _ _ a b).trans ?_
    exact (wcat_at fh0 3 (by decide) r y a b (h0.trans ea) (h1.trans (by omega))).symm
  · obtain ⟨a, b, e⟩ : ∃ (a : Fin 1024) (b : Fin 1408), x = ix2 a b := ⟨x 0, x 1, eq_ix2 x⟩
    have ea : (x 0).val = a.val := by rw [e]; rfl
    have eb : (x 1).val = b.val := by rw [e]; rfl
    rw [e]
    refine (quarter_read fh0 2 (by decide) _ _ a b).trans ?_
    exact (wcat_at fh0 2 (by decide) r y a b (h0.trans ea) (h1.trans (by omega))).symm
  · obtain ⟨a, b, e⟩ : ∃ (a : Fin 1024) (b : Fin 1408), x = ix2 a b := ⟨x 0, x 1, eq_ix2 x⟩
    have ea : (x 0).val = a.val := by rw [e]; rfl
    have eb : (x 1).val = b.val := by rw [e]; rfl
    rw [e]
    refine (quarter_read fh0 1 (by decide) _ _ a b).trans ?_
    exact (wcat_at fh0 1 (by decide) r y a b (h0.trans ea) (h1.trans (by omega))).symm
  · obtain ⟨a, b, e⟩ : ∃ (a : Fin 1024) (b : Fin 1408), x = ix2 a b := ⟨x 0, x 1, eq_ix2 x⟩
    have ea : (x 0).val = a.val := by rw [e]; rfl
    have eb : (x 1).val = b.val := by rw [e]; rfl
    rw [e]
    refine (quarter_read fh0 0 (by decide) _ _ a b).trans ?_
    exact (wcat_at fh0 0 (by decide) r y a b (h0.trans ea) (h1.trans (by omega))).symm

/-- The first point's block of the input's gradient. -/
theorem out4_A (hc0 : cond0_0 i) (r : Fin 512) (y : Fin 1024) :
    out0_A_4 c i arg1 harg1 arg3 harg3 arg4 harg4 arg5 harg5 arg7 harg7 arg8 harg8 arg9 harg9 arg10 harg10 hc0 x0 x1 x2 x3 fh0 fh1 (ix2 r y)
      = dxRow (dhB x0 (wcat fh0) r) (fun k => x1 (ix2 r k)) (fun k => x2 (ix2 0 k)) (fun k => x3 (ix2 r k)) y := by
  rw [← sout_A x0 x1 x2 x3 c fh0 fh1 i arg1 harg1 arg3 harg3 arg4 harg4 arg5 harg5 arg7 harg7 arg8 harg8 arg9 harg9 arg10 harg10 hc0]
  rw [← pay_dx]
  unfold sout0_A_0
  frame_out
  rw [readCov_ld, View.ld_unit_zero (by decide)]

/-- The first point's block of the input's gradient once more, in the narrow type. -/
theorem out5_A (hc0 : cond0_0 i) (r : Fin 512) (y : Fin 1024) :
    out0_A_5 c i arg1 harg1 arg3 harg3 arg4 harg4 arg5 harg5 arg7 harg7 arg8 harg8 arg9 harg9 arg10 harg10 hc0 x0 x1 x2 x3 fh0 fh1 (ix2 r y)
      = dxRow (dhB x0 (wcat fh0) r) (fun k => x1 (ix2 r k)) (fun k => x2 (ix2 0 k)) (fun k => x3 (ix2 r k)) y := by
  rw [← sout_A x0 x1 x2 x3 c fh0 fh1 i arg1 harg1 arg3 harg3 arg4 harg4 arg5 harg5 arg7 harg7 arg8 harg8 arg9 harg9 arg10 harg10 hc0]
  rw [← pay_dx]
  unfold sout0_A_0
  frame_out
  rw [readCov_ld, View.ld_unit_zero (by decide)]
  rfl

/-- The first point's part of the gradient of the scales, added to zero. -/
theorem out6_A (hc0 : cond0_0 i) (y : Fin 1024) :
    out0_A_6 c i arg1 harg1 arg3 harg3 arg4 harg4 arg5 harg5 arg7 harg7 arg8 harg8 arg9 harg9 arg10 harg10 hc0 x0 x1 x2 x3 fh0 fh1 (ix2 0 y)
      = 0 + dgB x0 x1 (wcat fh0) y := by
  rw [← sout_A x0 x1 x2 x3 c fh0 fh1 i arg1 harg1 arg3 harg3 arg4 harg4 arg5 harg5 arg7 harg7 arg8 harg8 arg9 harg9 arg10 harg10 hc0]
  unfold sout0_A_0
  frame_out
  rw [readCov_ld (L := [_, _, _, _]), View.ld_unit_zero (by decide)]
  unfold_payloads
  pointwise [dot_S512x5632_S1024x5632_S512x1024_1_1_0_0_n_n]
  rfl

/-- A later point keeps the scratch. -/
theorem sout_B (hc0 : ¬cond0_0 i) :
    sout0_B_0 c i arg1 harg1 arg3 harg3 arg4 harg4 arg5 harg5 arg7 harg7 arg8 harg8 arg9 harg9 arg10 harg10 hc0 x0 x1 x2 x3 xo6 xs0 fh0 fh1
      = xs0 := rfl

end Cert.Kernel2Ideal.Nb
-- ==== Proof.NbArr.lean ====
/- The normalised product's backward kernel over its whole grid: each output array in closed form over the arrays that the
   kernel reads. The first point fills the scratch with the weights; the others keep it. -/
module

public import proofs.«01_k».proof.Proof.NbPoint

@[expose] public section
set_option maxRecDepth 16384
noncomputable section
namespace Cert.Kernel2Ideal.Nb
open Idealize.ShloMosaic Idealize.ShloMosaic.TcCoe Idealize.ShloMosaic.Tactic Gen Cert.Alg

local notation "𝕀" => Idealize.ShloMosaic.Ideal

/-- Which block each point takes of that window. -/
theorem idx0 : ∀ t : Fin cfg0.N, win0_0.index t = ![t.val, 0] := (by decide +kernel : ∀ t : Fin grid0.N, win0_0.index t = ![t.val, 0])
/-- Which block each point takes of that window. -/
theorem idx1 : ∀ t : Fin cfg0.N, win0_1.index t = ![t.val, 0] := (by decide +kernel : ∀ t : Fin grid0.N, win0_1.index t = ![t.val, 0])
/-- Which block each point takes of that window. -/
theorem idx2 : ∀ t : Fin cfg0.N, win0_2.index t = ![0, 0] := (by decide +kernel : ∀ t : Fin grid0.N, win0_2.index t = ![0, 0])
/-- Which block each point takes of that window. -/
theorem idx3 : ∀ t : Fin cfg0.N, win0_3.index t = ![t.val, 0] := (by decide +kernel : ∀ t : Fin grid0.N, win0_3.index t = ![t.val, 0])
/-- Which block each point takes of that window. -/
theorem idx4 : ∀ t : Fin cfg0.N, win0_4.index t = ![t.val, 0] := (by decide +kernel : ∀ t : Fin grid0.N, win0_4.index t = ![t.val, 0])
/-- Which block each point takes of that window. -/
theorem idx5 : ∀ t : Fin cfg0.N, win0_5.index t = ![t.val, 0] := (by decide +kernel : ∀ t : Fin grid0.N, win0_5.index t = ![t.val, 0])

variable (m : ∀ l : Loc nD τ sig, Buf (Elt 𝕀) l) (c : Dev nD)

/-- There are four points. -/
theorem lt4 (t : Fin cfg0.N) : t.val < 4 := N_0 ▸ t.isLt

/-- The row of the whole array at which row `r` of point `t`'s block lies. -/
theorem row_lt (t : Fin cfg0.N) (r : Fin 512) : t.val * 512 + r.val < 2048 := by have := lt4 t; omega

/-- A row of the block is a row of its array. -/
theorem blk0 (t : Fin cfg0.N) (r : Fin 512) (k : Fin 5632) :
    iblk m c 0 t (ix2 r k) = (V m c main_v4 : Vec 𝕀 S2048x5632 .bf16) (ix2 ⟨t.val * 512 + r.val, row_lt t r⟩ k) := by
  blk_ext [iblk, idx0 t]

/-- A row of the block is a row of its array. -/
theorem blk1 (t : Fin cfg0.N) (r : Fin 512) (k : Fin 1024) :
    iblk m c 1 t (ix2 r k) = (V m c main_arg2 : Vec 𝕀 S2048x1024 .f32) (ix2 ⟨t.val * 512 + r.val, row_lt t r⟩ k) := by
  blk_ext [iblk, idx1 t]

/-- The block of the scales is the whole of them. -/
theorem blk2 (t : Fin cfg0.N) : iblk m c 2 t = (V m c main_arg3 : Vec 𝕀 S1x1024 .f32) := by
  funext j; blk_ext [iblk, idx2 t]

/-- A row of the block is a row of its array. -/
theorem blk3 (t : Fin cfg0.N) (r : Fin 512) (k : Fin 1024) :
    iblk m c 3 t (ix2 r k) = (V m c main_arg4 : Vec 𝕀 S2048x1024 .f32) (ix2 ⟨t.val * 512 + r.val, row_lt t r⟩ k) := by
  blk_ext [iblk, idx3 t]

/-- The gradient of the normalised row at a row of the whole array. -/
def dhG (D : Vec 𝕀 S2048x5632 .bf16) (W : Vec 𝕀 S4x1024x1408 .bf16) (T : Fin 2048) (j : Fin 1024) : EReal :=
  ∑ k : Fin 5632, D (ix2 T k) * wcat W (ix2 j k)

/-- The gradient of the input at a row of the whole array. -/
def dxG (T : Fin 2048) (j : Fin 1024) : EReal :=
  dxRow (dhG (V m c main_v4) (V m c main_v2) T) (fun k => (V m c main_arg2 : Vec 𝕀 S2048x1024 .f32) (ix2 T k))
    (fun k => (V m c main_arg3 : Vec 𝕀 S1x1024 .f32) (ix2 0 k)) (fun k => (V m c main_arg4 : Vec 𝕀 S2048x1024 .f32) (ix2 T k)) j

/-- A row's part of the gradient of the scales, as a function of the row's number. -/
def dgG (j : Fin 1024) (T : ℕ) : EReal :=
  if h : T < 2048 then dgRow (dhG (V m c main_v4) (V m c main_v2) ⟨T, h⟩) (fun k => (V m c main_arg2 : Vec 𝕀 S2048x1024 .f32) (ix2 ⟨T, h⟩ k)) j else 0

/-- The first point fills the scratch with the weights. -/
theorem scratch_first (t : Fin cfg0.N) (h0 : t.val % 4 = 0) : (outsAt0 m c t.val t.isLt).2.2.2 = wcat (V m c main_v2) := by
  simp only [outsAt0_A m c t h0]
  apply sout_A

/-- A later point keeps it. -/
theorem scratch_later (t : Fin cfg0.N) (h0 : ¬t.val % 4 = 0) :
    (outsAt0 m c t.val t.isLt).2.2.2 = (outsAt0 m c (t.val - 1) (Nat.lt_of_le_of_lt (Nat.sub_le _ _) t.isLt)).2.2.2 := by
  simp only [outsAt0_B m c t h0]
  apply sout_B

/-- After every point the scratch holds the weights. -/
theorem scratch : ∀ (n : ℕ) (hn : n < cfg0.N), (outsAt0 m c n hn).2.2.2 = wcat (V m c main_v2)
  | 0, hn => scratch_first m c ⟨0, hn⟩ rfl
  | n + 1, hn => by
    have h4 := lt4 ⟨n + 1, hn⟩
    have h0 : ¬ (n + 1) % 4 = 0 := by simp only at h4; omega
    exact (scratch_later m c ⟨n + 1, hn⟩ h0).trans (scratch n (Nat.lt_of_succ_lt hn))

/-- The gradient of the normalised row at a row of a point's block. -/
theorem dh_blk (t : Fin cfg0.N) (r : Fin 512) :
    dhB (iblk m c 0 t) (wcat (V m c main_v2)) r = dhG (V m c main_v4) (V m c main_v2) ⟨t.val * 512 + r.val, row_lt t r⟩ := by
  funext j
  rw [dhB, dhG]
  simp only [blk0]

/-- The gradient of the input at a row of a point's block. -/
theorem dx_blk (t : Fin cfg0.N) (r : Fin 512) (y : Fin 1024) :
    dxRow (dhB (iblk m c 0 t) (wcat (V m c main_v2)) r) (fun k => (iblk m c 1 t : Vec 𝕀 S512x1024 .f32) (ix2 r k))
      (fun k => (iblk m c 2 t : Vec 𝕀 S1x1024 .f32) (ix2 0 k)) (fun k => (iblk m c 3 t : Vec 𝕀 S512x1024 .f32) (ix2 r k)) y
      = dxG m c ⟨t.val * 512 + r.val, row_lt t r⟩ y := by
  rw [dxG, dh_blk, blk2]
  simp only [blk1, blk3]

/-- A point's block of the first output. -/
theorem outs4 (t : Fin cfg0.N) (r : Fin 512) (y : Fin 1024) :
    (outsAt0 m c t.val t.isLt).1 (ix2 r y) = dxG m c ⟨t.val * 512 + r.val, row_lt t r⟩ y := by
  by_cases h0 : t.val % 4 = 0
  · simp only [outsAt0_A m c t h0]
    refine Eq.trans ?_ (dx_blk m c t r y)
    apply out4_A
  · simp only [outsAt0_B m c t h0]
    rw [scratch]
    refine Eq.trans ?_ (dx_blk m c t r y)
    apply out4_B

/-- A point's block of the second output. -/
theorem outs5 (t : Fin cfg0.N) (r : Fin 512) (y : Fin 1024) :
    (outsAt0 m c t.val t.isLt).2.1 (ix2 r y) = dxG m c ⟨t.val * 512 + r.val, row_lt t r⟩ y := by
  by_cases h0 : t.val % 4 = 0
  · simp only [outsAt0_A m c t h0]
    refine Eq.trans ?_ (dx_blk m c t r y)
    apply out5_A
  · simp only [outsAt0_B m c t h0]
    rw [scratch]
    refine Eq.trans ?_ (dx_blk m c t r y)
    apply out5_B

/-- The gradient of the input, as an array. -/
def dxA : Vec 𝕀 S2048x1024 .f32 := fun i => dxG m c (i 0) (i 1)

/-- The gradient of the input, as an array of the narrow type. -/
def dxA' : Vec 𝕀 S2048x1024 .bf16 := fun i => dxG m c (i 0) (i 1)

/-- The first output is the gradient of the input. -/
theorem arr4 : (dats m 0 c).arrAt 4 cfg0.N = dxA m c := by
  refine (dats m 0 c).arrAt_eq_of_covers 4 _ (by decide +kernel) fun t hf y => ?_
  blk_simp
  rw [after0_4]
  obtain ⟨p, q, rfl⟩ : ∃ (p : Fin 512) (q : Fin 1024), y = ix2 p q := ⟨y 0, y 1, eq_ix2 y⟩
  have e : (win0_4.blk t).view.emb (ix2 p q) = ix2 (⟨t.val * 512 + p.val, row_lt t p⟩ : Fin 2048) q := by
    blk_ext [idx4 t]
  rw [e]
  exact outs4 m c t p q

/-- The second output is the gradient of the input. -/
theorem arr5 : (dats m 0 c).arrAt 5 cfg0.N = dxA' m c := by
  refine (dats m 0 c).arrAt_eq_of_covers 5 _ (by decide +kernel) fun t hf y => ?_
  blk_simp
  rw [after0_5]
  obtain ⟨p, q, rfl⟩ : ∃ (p : Fin 512) (q : Fin 1024), y = ix2 p q := ⟨y 0, y 1, eq_ix2 y⟩
  have e : (win0_5.blk t).view.emb (ix2 p q) = ix2 (⟨t.val * 512 + p.val, row_lt t p⟩ : Fin 2048) q := by
    blk_ext [idx5 t]
  rw [e]
  exact outs5 m c t p q

/-- A point's part of the gradient of the scales. -/
theorem dg_blk (t : Fin cfg0.N) (y : Fin 1024) : dgB (iblk m c 0 t) (iblk m c 1 t) (wcat (V m c main_v2)) y
    = ∑ r : Fin 512, dgG m c y (t.val * 512 + r.val) :=
  Finset.sum_congr rfl fun r _ => by
    rw [dgG, dif_pos (row_lt t r), dh_blk]
    simp only [blk1]

/-- Sums over the points, each over its block's rows, are sums over the whole array's rows. -/
theorem sum_rows (f : ℕ → EReal) : ∑ t : Fin cfg0.N, ∑ r : Fin 512, f (t.val * 512 + r.val) = ∑ T : Fin 2048, f T.val := by
  show ∑ t : Fin 4, ∑ r : Fin 512, f (t.val * 512 + r.val) = _
  exact Fin.sum_mul_add_congr (S := 4) (n := 512) (f := fun T : Fin 2048 => f T.val) fun s k hl => rfl

/-- After the last point the gradient of the scales is complete. -/
theorem outs6 (y : Fin 1024) : (outsAt0 m c t0_3.val t0_3.isLt).2.2.1 (ix2 0 y) = ∑ T : Fin 2048, dgG m c y T.val := by
  refine (Pipeline.eq_sum_fin_of_reset_step_apply_last (fun n h y => (outsAt0 m c n h).2.2.1 (ix2 0 y)) 4 (fun _ => 0)
    (fun t y => ∑ r : Fin 512, dgG m c y (t.val * 512 + r.val))
    (fun t h0 y => ?_) (fun t h0 y => ?_) (le_of_eq N_0) t0_3 (by decide +kernel) y).trans ?_
  · simp only [outsAt0_A m c t h0]
    rw [← dg_blk m c t y]
    apply out6_A
  · simp only [outsAt0_B m c t h0]
    rw [scratch, ← dg_blk m c t y]
    apply out6_B
  · rw [zero_add]
    exact sum_rows (dgG m c y)

/-- The gradient of the scales, as an array. -/
def dgA : Vec 𝕀 S1x1024 .f32 := fun i => ∑ T : Fin 2048, dgG m c (i 1) T.val

/-- The third output is the gradient of the scales. -/
theorem arr6 : (dats m 0 c).arrAt 6 cfg0.N = dgA m c := by
  refine (dats m 0 c).arrAt_eq_of_after_last 6 t0_3 (by decide +kernel) _ fun j => ?_
  blk_simp
  rw [after0_6]
  obtain ⟨p, q, rfl⟩ : ∃ (p : Fin 1) (q : Fin 1024), j = ix2 p q := ⟨j 0, j 1, eq_ix2 j⟩
  obtain rfl : p = 0 := Subsingleton.elim _ _
  refine Eq.trans ?_ ((outs6 m c q).trans ?_)
  · congr 1
  · congr 1

end Cert.Kernel2Ideal.Nb
-- ==== Proof.NbValue.lean ====
/- The norm's backward product: every run, with each result as an array. -/
module

public import proofs.«01_k».proof.Proof.NbFrame
public import Idealize.ShloMosaic.Lib.Pipeline.Value

@[expose] public section

noncomputable section

namespace Cert.Kernel2Ideal.Value

open Cert.Kernel2Ideal Cert.Kernel2Ideal.Gen Cert.Kernel2Ideal.Nb Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- Output 4 after the run. -/
theorem post4 (r : PUnit × MemSt nD τ sig (Elt F)) (h : Pipeline.FramePost cfgs (dats m) 0 (V m) r) (c : Dev nD) :
    r.2.mem ((c : Thread nD τ).loc main_v5_0) = (dats m 0 c).arrAt 4 cfg0.N :=
  (h c).1 4

/-- Output 5 after the run. -/
theorem post5 (r : PUnit × MemSt nD τ sig (Elt F)) (h : Pipeline.FramePost cfgs (dats m) 0 (V m) r) (c : Dev nD) :
    r.2.mem ((c : Thread nD τ).loc main_v5_1) = (dats m 0 c).arrAt 5 cfg0.N :=
  (h c).1 5

/-- Output 6 after the run. -/
theorem post6 (r : PUnit × MemSt nD τ sig (Elt F)) (h : Pipeline.FramePost cfgs (dats m) 0 (V m) r) (c : Dev nD) :
    r.2.mem ((c : Thread nD τ).loc main_v5_2) = (dats m 0 c).arrAt 6 cfg0.N :=
  (h c).1 6

/-- Argument 0 is as it was after the run. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- Argument 1 is as it was after the run. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- Argument 2 is as it was after the run. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 1).trans (((dats m 0 c).arrAt_in 1 rfl _).trans ((A_eq m c 1).trans (V_main_arg2 m c)))

/-- Argument 3 is as it was after the run. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 2).trans (((dats m 0 c).arrAt_in 2 rfl _).trans ((A_eq m c 2).trans (V_main_arg3 m c)))

/-- Argument 4 is as it was after the run. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 3).trans (((dats m 0 c).arrAt_in 3 rfl _).trans ((A_eq m c 3).trans (V_main_arg4 m c)))

/-- Every run ends with each result as the array computed point by point, and with the arguments as they were. -/
theorem run_blocks : θ_run defs (onTc (τ := τ) (main (F := F))) ⟨m, fun _ => 0, ρ⟩ fun r => ∀ c : Dev nD,
      r.2.mem ((c : Thread nD τ).loc main_v5_0) = (dats m 0 c).arrAt 4 cfg0.N
      ∧ r.2.mem ((c : Thread nD τ).loc main_v5_1) = (dats m 0 c).arrAt 5 cfg0.N
      ∧ r.2.mem ((c : Thread nD τ).loc main_v5_2) = (dats m 0 c).arrAt 6 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨post4 m r h c,
      post5 m r h c,
      post6 m r h c,
      kept_main_arg0 m r h c,
      kept_main_arg1 m r h c,
      kept_main_arg2 m r h c,
      kept_main_arg3 m r h c,
      kept_main_arg4 m r h c⟩)
    (run_main m ρ)

end Cert.Kernel2Ideal.Value

end
-- ==== Proof.NbRef.lean ====
/- The reference's gradients of the normalised product read at an index. -/
module

public import proofs.«01_k».proof.Proof.Gen.Reference2Ideal.Read
public import proofs.«01_k».proof.Proof.NormAlg
public import Idealize.ShloMosaic.Lib.Pipeline.ValueKit

@[expose] public section
set_option maxRecDepth 16384
noncomputable section
namespace Cert.Reference2Ideal.Nb
open Idealize.ShloMosaic Idealize.ShloMosaic.TcCoe Idealize.ShloMosaic.Tactic Read Cert.Alg

local notation "𝕀" => Idealize.ShloMosaic.Ideal

variable (x0 : Vec 𝕀 S2048x5632 .f32) (x1 : Vec 𝕀 S1024x5632 .f32) (x2 : Vec 𝕀 S2048x1024 .f32) (x3 : Vec 𝕀 S1x1024 .f32)
  (x4 : Vec 𝕀 S2048x1024 .f32) (T : Fin 2048) (y : Fin 1024)

/-- The gradient of the normalised row. -/
def dhR (T : Fin 2048) (j : Fin 1024) : EReal := ∑ k : Fin 5632, x0 (ix2 T k) * x1 (ix2 j k)

/-- The mean square with the small constant. -/
theorem msq_eq : val_main_v6 (F := 𝕀) x2 (ix2 T 0) = msq (fun k => x2 (ix2 T k)) := by
  pointwise [val_main_v6, val_main_v5, val_main_v4, val_main_v3, val_main_v2, val_main_v1, val_main_v0, val_main_cst, val_main_cst_0, val_main_cst_1]
  rfl

/-- The factor of the normalisation. -/
theorem nrm_eq : val_main_v7 (F := 𝕀) x2 (ix2 T 0) = nrm (fun k => x2 (ix2 T k)) := by
  pointwise [val_main_v7]
  rw [msq_eq]
  rfl

/-- The gradient of the normalised row. -/
theorem dh_eq : val_main_v16 (F := 𝕀) x0 x1 (ix2 T y) = dhR x0 x1 T y := by
  pointwise [val_main_v16]
  rfl

/-- The derivative of the factor by the mean square. -/
theorem fac_eq : val_main_v10 (F := 𝕀) x2 (ix2 T 0)
    = Ideal.ofBits .f32 3204448256#32 * Ideal.div (nrm (fun k => x2 (ix2 T k))) (msq (fun k => x2 (ix2 T k))) := by
  pointwise [val_main_v10, val_main_v9, val_main_v8, val_main_cst_2]
  rw [msq_eq, nrm_eq]

/-- The gradient of the input is the chain rule's. -/
theorem dx_eq : val_main_v36 (F := 𝕀) x0 x1 x2 x3 x4 (ix2 T y)
    = dxChain (dhR x0 x1 T) (fun k => x2 (ix2 T k)) (fun k => x3 (ix2 0 k)) (fun k => x4 (ix2 T k)) y := by
  have z4 : val_main_cst_4 (F := 𝕀) (Shape.Idx.first Gen.h_S_) = (0 : EReal) := by pointwise [val_main_cst_4]
  have z6 : val_main_cst_6 (F := 𝕀) (Shape.Idx.first Gen.h_S_) = (0 : EReal) := by pointwise [val_main_cst_6]
  have z5 : val_main_cst_5 (F := 𝕀) ix0 = Ideal.ofBits .f32 1149239296#32 := by pointwise [val_main_cst_5]
  pointwise [val_main_v36, val_main_v35, val_main_v34, val_main_v33, val_main_v32, val_main_v31, val_main_v30, val_main_v29, val_main_v28, val_main_v27, val_main_v26, val_main_v25, val_main_v24, val_main_v23, val_main_v22, val_main_v21, val_main_v20]
  rw [z4, z5, z6]
  simp only [Fin.sum_univ_one, zero_add, dh_eq, nrm_eq, fac_eq]
  rfl

/-- The gradient of the input in the narrow type is the same. -/
theorem dx_eq' : val_main_v37 (F := 𝕀) x0 x1 x2 x3 x4 (ix2 T y)
    = dxChain (dhR x0 x1 T) (fun k => x2 (ix2 T k)) (fun k => x3 (ix2 0 k)) (fun k => x4 (ix2 T k)) y := by
  rw [← dx_eq]
  pointwise [val_main_v37]

/-- The gradient of the scales. -/
theorem dg_eq : val_main_v19 (F := 𝕀) x0 x1 x2 (ix2 0 y) = ∑ T : Fin 2048, dgRow (dhR x0 x1 T) (fun k => x2 (ix2 T k)) y := by
  have z3 : val_main_cst_3 (F := 𝕀) (Shape.Idx.first Gen.h_S_) = (0 : EReal) := by pointwise [val_main_cst_3]
  pointwise [val_main_v19, val_main_v18, val_main_v17, val_main_v12, val_main_v11]
  rw [z3, zero_add]
  refine Finset.sum_congr rfl fun T _ => ?_
  rw [dh_eq, nrm_eq, mul_comm]
  rfl

end Cert.Reference2Ideal.Nb
-- ==== Proof.NbClaim.lean ====
/- The normalised product's backward kernel and the reference end with equal results over the reals. -/
module

public import proofs.«01_k».proof.Defs
public import proofs.«01_k».proof.Proof.NbArr
public import proofs.«01_k».proof.Proof.NbValue
public import proofs.«01_k».proof.Proof.NbRef
public import proofs.«01_k».proof.Proof.Gen.Reference2Ideal.Run
public import proofs.«01_k».proof.Proof.Gen.Pre_finite2
public import Idealize.ShloMosaic.Lib.Claim
public import Idealize.ShloMosaic.Lib.Quiescent

@[expose] public section
set_option maxRecDepth 16384
noncomputable section
namespace Cert.Nb
open Idealize.ShloMosaic Idealize.ShloMosaic.TcCoe Idealize.ShloMosaic.Tactic Cert.Alg
open Cert.Kernel2Ideal Cert.Kernel2Ideal.Gen Cert.Kernel2Ideal.Nb Cert.Reference2Ideal.Read Cert.Reference2Ideal.Nb

local notation "𝕀" => Idealize.ShloMosaic.Ideal

variable (m : ∀ l : Loc nD τ sig, Buf (Elt 𝕀) l) (c : Dev nD)

/-- The gradient of the product, argument 0. -/
abbrev a0 : Vec 𝕀 S2048x5632 .f32 := m ((c : Thread nD τ).loc main_arg0)
/-- The weights, argument 1. -/
abbrev a1 : Vec 𝕀 S1024x5632 .f32 := m ((c : Thread nD τ).loc main_arg1)
/-- The normalisation's input, argument 2. -/
abbrev a2 : Vec 𝕀 S2048x1024 .f32 := m ((c : Thread nD τ).loc main_arg2)
/-- The normalisation's scales, argument 3. -/
abbrev a3 : Vec 𝕀 S1x1024 .f32 := m ((c : Thread nD τ).loc main_arg3)
/-- The gradient that the input has from elsewhere, argument 4. -/
abbrev a4 : Vec 𝕀 S2048x1024 .f32 := m ((c : Thread nD τ).loc main_arg4)

/-- The gradient of the product as the kernel reads it. -/
theorem entry_du : (V m c main_v4 : Vec 𝕀 S2048x5632 .bf16) = a0 m c := by
  entry_read; rfl

/-- The stacked weights as the kernel reads them. -/
theorem entry_w (q : Fin 4) (j : Fin 1024) (k : Fin 1408) : (V m c main_v2 : Vec 𝕀 S4x1024x1408 .bf16) (ix3 q j k)
    = a1 m c (ix2 j ⟨q.val * 1408 + k.val, by omega⟩) := by
  entry_read
  pointwise

/-- The quarters side by side are the weights. -/
theorem wcat_entry : wcat (V m c main_v2) = (a1 m c : Vec 𝕀 S1024x5632 .bf16) := by
  funext i
  obtain ⟨p, q, rfl⟩ : ∃ (p : Fin 1024) (q : Fin 5632), i = ix2 p q := ⟨i 0, i 1, eq_ix2 i⟩
  refine (entry_w m c (quarter q) p (within q)).trans ?_
  have e : (⟨(quarter q).val * 1408 + (within q).val, by omega⟩ : Fin 5632) = q := Fin.ext (by simp only [quarter, within]; omega)
  rw [e]

/-- The gradient of the normalised row is the reference's. -/
theorem dhG_eq (T : Fin 2048) : dhG (V m c main_v4) (V m c main_v2) T = dhR (a0 m c) (a1 m c) T := by
  funext j
  rw [dhG, dhR, wcat_entry, entry_du]

/-- Every argument is real. -/
structure Finite : Prop where
  h0 : ∀ i, IsReal (a0 m c i)
  h1 : ∀ i, IsReal (a1 m c i)
  h2 : ∀ i, IsReal (a2 m c i)
  h3 : ∀ i, IsReal (a3 m c i)
  h4 : ∀ i, IsReal (a4 m c i)

/-- The precondition says that every argument is real. -/
theorem finite_of_pre (h : Cert.Pre_Kernel2Ideal_finite2 (hPre_finite2 := Cert.Pre_finite2.Gen.facts) m) : Finite m c := by
  obtain ⟨e0, e1, e2, e3, e4⟩ := h c
  constructor
  · intro i
    have e := congrFun e0 i
    simp only [Cert.Pre_finite2.fn] at e
    pointwise at e
    exact isReal_of_test e
  · intro i
    have e := congrFun e1 i
    simp only [Cert.Pre_finite2.fn] at e
    pointwise at e
    exact isReal_of_test e
  · intro i
    have e := congrFun e2 i
    simp only [Cert.Pre_finite2.fn] at e
    pointwise at e
    exact isReal_of_test e
  · intro i
    have e := congrFun e3 i
    simp only [Cert.Pre_finite2.fn] at e
    pointwise at e
    exact isReal_of_test e
  · intro i
    have e := congrFun e4 i
    simp only [Cert.Pre_finite2.fn] at e
    pointwise at e
    exact isReal_of_test e

section
variable {m c} (hf : Finite m c)
include hf

/-- The gradient of the input is the reference's. -/
theorem dx_res (T : Fin 2048) (y : Fin 1024) : dxG m c T y
    = dxChain (dhR (a0 m c) (a1 m c) T) (fun k => a2 m c (ix2 T k)) (fun k => a3 m c (ix2 0 k)) (fun k => a4 m c (ix2 T k)) y := by
  rw [dxG, dhG_eq, show (V m c main_arg2 : Vec 𝕀 S2048x1024 .f32) = a2 m c from V_main_arg2 m c,
    show (V m c main_arg3 : Vec 𝕀 S1x1024 .f32) = a3 m c from V_main_arg3 m c,
    show (V m c main_arg4 : Vec 𝕀 S2048x1024 .f32) = a4 m c from V_main_arg4 m c]
  exact dxRow_eq_dxChain (fun k => isReal_sum _ _ fun x => (hf.h0 _).mul (hf.h1 _)) (fun k => hf.h2 _) (fun k => hf.h3 _) (fun k => hf.h4 _) y

/-- The first result is the reference's. -/
theorem res4 : (dats m 0 c).arrAt 4 cfg0.N = val_main_v36 (F := 𝕀) (a0 m c) (a1 m c) (a2 m c) (a3 m c) (a4 m c) := by
  rw [arr4]
  funext i
  obtain ⟨p, q, rfl⟩ : ∃ (p : Fin 2048) (q : Fin 1024), i = ix2 p q := ⟨i 0, i 1, eq_ix2 i⟩
  exact (dx_res hf p q).trans (dx_eq _ _ _ _ _ p q).symm

/-- The second result is the reference's. -/
theorem res5 : (dats m 0 c).arrAt 5 cfg0.N = val_main_v37 (F := 𝕀) (a0 m c) (a1 m c) (a2 m c) (a3 m c) (a4 m c) := by
  rw [arr5]
  funext i
  obtain ⟨p, q, rfl⟩ : ∃ (p : Fin 2048) (q : Fin 1024), i = ix2 p q := ⟨i 0, i 1, eq_ix2 i⟩
  exact (dx_res hf p q).trans (dx_eq' _ _ _ _ _ p q).symm

end

/-- The third result is the reference's, without any precondition. -/
theorem res6 : (dats m 0 c).arrAt 6 cfg0.N = val_main_v19 (F := 𝕀) (a0 m c) (a1 m c) (a2 m c) := by
  rw [arr6]
  funext i
  obtain ⟨p, q, rfl⟩ : ∃ (p : Fin 1) (q : Fin 1024), i = ix2 p q := ⟨i 0, i 1, eq_ix2 i⟩
  obtain rfl : p = 0 := Subsingleton.elim _ _
  rw [dg_eq]
  show ∑ T : Fin 2048, dgG m c q T.val = _
  refine Finset.sum_congr rfl fun T _ => ?_
  rw [dgG, dif_pos T.isLt, dhG_eq, show (V m c main_arg2 : Vec 𝕀 S2048x1024 .f32) = a2 m c from V_main_arg2 m c]

/-- From equal real arguments the kernel and the reference end with equal results. -/
theorem algebraic : Cert.algebraic_Kernel2Ideal_Reference2Ideal_pre_finite2 (hKernel2Ideal := Cert.Kernel2Ideal.Gen.facts)
    (hReference2Ideal := Cert.Reference2Ideal.Gen.facts) (hPre_finite2 := Cert.Pre_finite2.Gen.facts) := by
  intro m g m' g' hpre hargs
  refine ⟨fun c => val_main_v36 (F := 𝕀) (a0 m c) (a1 m c) (a2 m c) (a3 m c) (a4 m c),
    fun c => val_main_v37 (F := 𝕀) (a0 m c) (a1 m c) (a2 m c) (a3 m c) (a4 m c),
    fun c => val_main_v19 (F := 𝕀) (a0 m c) (a1 m c) (a2 m c), ?_, ?_⟩
  · refine (θ_run _ _ _).mono (fun r h c => ?_) (Cert.Kernel2Ideal.Value.run_blocks (F := 𝕀) m g)
    obtain ⟨h4, h5, h6, hk⟩ := h c
    have hf := finite_of_pre m c hpre
    exact ⟨h4.trans (res4 hf), h5.trans (res5 hf), h6.trans (res6 m c), hk⟩
  · refine (θ_run _ _ _).mono (fun r h c => ?_) (Cert.Reference2Ideal.Value.run (F := 𝕀) m' g')
    obtain ⟨h4, h5, h6, hk⟩ := h c
    obtain ⟨e0, e1, e2, e3, e4⟩ := hargs c
    refine ⟨h4.trans ?_, h5.trans ?_, h6.trans ?_, hk⟩
    · rw [val_main_v36_eq, e0, e1, e2, e3, e4]
    · rw [val_main_v37_eq, e0, e1, e2, e3, e4]
    · rw [val_main_v19_eq, e0, e1, e2]

/-- Every run of the reference ends with its arguments as they were and with every counter at zero. -/
theorem frame_r : Cert.quiescent_Reference2Ideal (hReference2Ideal := Cert.Reference2Ideal.Gen.facts) := by
  intro m ρ _
  exact (θ_run Cert.Reference2Ideal.defs _ _).mono
    (fun r h => ⟨fun c => (h c).2.2.2, sem_eq_zero_of_no_sems (by decide) r.2⟩)
    (Cert.Reference2Ideal.Value.run (F := 𝕀) m ρ)

end Cert.Nb
-- ==== Proof.InpPoint.lean ====
/- One point of the normalised product's backward kernel: what it leaves in its output blocks and in its scratch. -/
module

public import proofs.«01_k».proof.Proof.Gen.Kernel3Ideal.Frame
public import proofs.«01_k».proof.Proof.NormAlg
public import Idealize.ShloMosaic.Lib.Pointwise
public import Idealize.ShloMosaic.Lib.Pipeline.ValueKit
public import Idealize.ShloMosaic.Lib.Pipeline.ReadBack
public import Idealize.ShloMosaic.Lib.Claim

@[expose] public section
set_option maxRecDepth 16384
noncomputable section
namespace Cert.Kernel3Ideal.Inp
open Idealize.ShloMosaic Idealize.ShloMosaic.TcCoe Idealize.ShloMosaic.Tactic Gen Cert.Alg

local notation "𝕀" => Idealize.ShloMosaic.Ideal

/-- A block's row against the rows of the weights: the gradient of the normalised row. -/
def dhB (x0 : Vec 𝕀 S512x5760 .bf16) (W : Vec 𝕀 S5760x1024 .bf16) (r : Fin 512) (j : Fin 1024) : EReal :=
  ∑ k : Fin 5760, x0 (ix2 r k) * W (ix2 k j)

/-- A block's part of the gradient of the scales. -/
def dgB (x0 : Vec 𝕀 S512x5760 .bf16) (x1 : Vec 𝕀 S512x1024 .f32) (W : Vec 𝕀 S5760x1024 .bf16) (j : Fin 1024) : EReal :=
  ∑ r : Fin 512, dgRow (dhB x0 W r) (fun k => x1 (ix2 r k)) j

variable (x0 : Vec 𝕀 S512x5760 .bf16) (x1 : Vec 𝕀 S512x1024 .f32) (x2 : Vec 𝕀 S1x1024 .f32) (x3 : Vec 𝕀 S512x1024 .f32)
  (xo6 : Vec 𝕀 S1x1024 .f32) (xs0 : Vec 𝕀 S5760x1024 .bf16) (c : Dev nD) (fh0 : HbBuf0 (F := 𝕀) c hbM0_0) (fh1 : HbBuf0 (F := 𝕀) c hbM0_1)
  (i : grid0.Coords)
  (arg1 : Memref sig .tc .vmem S512x5760 .bf16) (harg1 : arg1.IsWhole) (arg3 : Memref sig .tc .vmem S512x1024 .f32) (harg3 : arg3.IsWhole)
  (arg4 : Memref sig .tc .vmem S1x1024 .f32) (harg4 : arg4.IsWhole) (arg5 : Memref sig .tc .vmem S512x1024 .f32) (harg5 : arg5.IsWhole)
  (arg7 : Memref sig .tc .vmem S512x1024 .f32) (harg7 : arg7.IsWhole) (arg8 : Memref sig .tc .vmem S512x1024 .bf16) (harg8 : arg8.IsWhole)
  (arg9 : Memref sig .tc .vmem S1x1024 .f32) (harg9 : arg9.IsWhole) (arg10 : Memref sig .tc .vmem S5760x1024 .bf16) (harg10 : arg10.IsWhole)

/-- The stored block of the input's gradient, row by row. -/
theorem pay_dx (W : Vec 𝕀 S5760x1024 .bf16) (r : Fin 512) (y : Fin 1024) :
    k0_pay1 (F := 𝕀) (k0_pay5 x1) (k0_pay6 x1) (k0_pay8 x0 W x2) x3 (k0_pay9 x0 W x1 x2) (ix2 r y)
      = dxRow (dhB x0 W r) (fun k => x1 (ix2 r k)) (fun k => x2 (ix2 0 k)) (fun k => x3 (ix2 r k)) y := by
  unfold_payloads
  pointwise [dot_S512x5760_S5760x1024_S512x1024_1_0_0_1_n_n]
  rfl

/-- A later point's block of the input's gradient. -/
theorem out4_B (hc0 : ¬cond0_0 i) (r : Fin 512) (y : Fin 1024) :
    out0_B_4 c i arg1 harg1 arg3 harg3 arg4 harg4 arg5 harg5 arg7 harg7 arg8 harg8 arg9 harg9 arg10 harg10 hc0 x0 x1 x2 x3 xo6 xs0 fh0 fh1 (ix2 r y)
      = dxRow (dhB x0 xs0 r) (fun k => x1 (ix2 r k)) (fun k => x2 (ix2 0 k)) (fun k => x3 (ix2 r k)) y := by
  frame_out
  exact pay_dx x0 x1 x2 x3 xs0 r y

/-- A later point's block of the input's gradient once more, in the narrow type. -/
theorem out5_B (hc0 : ¬cond0_0 i) (r : Fin 512) (y : Fin 1024) :
    out0_B_5 c i arg1 harg1 arg3 harg3 arg4 harg4 arg5 harg5 arg7 harg7 arg8 harg8 arg9 harg9 arg10 harg10 hc0 x0 x1 x2 x3 xo6 xs0 fh0 fh1 (ix2 r y)
      = dxRow (dhB x0 xs0 r) (fun k => x1 (ix2 r k)) (fun k => x2 (ix2 0 k)) (fun k => x3 (ix2 r k)) y := by
  frame_out
  unfold_payloads
  pointwise [dot_S512x5760_S5760x1024_S512x1024_1_0_0_1_n_n]
  rfl

/-- A later point adds its block's part of the gradient of the scales. -/
theorem out6_B (hc0 : ¬cond0_0 i) (y : Fin 1024) :
    out0_B_6 c i arg1 harg1 arg3 harg3 arg4 harg4 arg5 harg5 arg7 harg7 arg8 harg8 arg9 harg9 arg10 harg10 hc0 x0 x1 x2 x3 xo6 xs0 fh0 fh1 (ix2 0 y)
      = xo6 (ix2 0 y) + dgB x0 x1 xs0 y := by
  frame_out
  unfold_payloads
  pointwise [dot_S512x5760_S5760x1024_S512x1024_1_0_0_1_n_n]
  rfl

/-- What one copy over the whole of an array leaves is what was copied. -/
theorem canon_copy {S : Shape} {e : EltTy} (w : S.Idx → Elt 𝕀 e) : View.canon [(⟨Rect.whole S, w⟩ : View.Piece (Elt 𝕀) S e)] = w :=
  View.canon_unit_zero rfl _ w

/-- A load of the whole of the scratch after the weights were copied there is the weights. -/
theorem load_copy {κ : Kind} {sp : Space} (v : View sig κ sp S5760x1024 .bf16) (W : Vec 𝕀 S5760x1024 .bf16) (inb) :
    v.readCov [(⟨Rect.whole S5760x1024, W⟩ : View.Piece (Elt 𝕀) S5760x1024 .bf16)] (Rect.unit (s := S5760x1024) ![0, 0] ![5760, 1024] inb).toLoadRect = W := by
  refine (View.readCov_eq_canon' v _ _).trans ?_
  rw [canon_copy]
  exact View.ld_unit_zero (by decide) inb W

/-- The first point copies the weights into the scratch. -/
theorem sout_A (hc0 : cond0_0 i) :
    sout0_A_0 c i arg1 harg1 arg3 harg3 arg4 harg4 arg5 harg5 arg7 harg7 arg8 harg8 arg9 harg9 arg10 harg10 hc0 x0 x1 x2 x3 fh0 fh1
      = fh0 := by
  frame_out
  exact canon_copy (S := S5760x1024) (e := .bf16) fh0

/-- The first point's block of the input's gradient. -/
theorem out4_A (hc0 : cond0_0 i) (r : Fin 512) (y : Fin 1024) :
    out0_A_4 c i arg1 harg1 arg3 harg3 arg4 harg4 arg5 harg5 arg7 harg7 arg8 harg8 arg9 harg9 arg10 harg10 hc0 x0 x1 x2 x3 fh0 fh1 (ix2 r y)
      = dxRow (dhB x0 fh0 r) (fun k => x1 (ix2 r k)) (fun k => x2 (ix2 0 k)) (fun k => x3 (ix2 r k)) y := by
  frame_out
  rw [load_copy]
  exact pay_dx x0 x1 x2 x3 fh0 r y

/-- The first point's block of the input's gradient once more, in the narrow type. -/
theorem out5_A (hc0 : cond0_0 i) (r : Fin 512) (y : Fin 1024) :
    out0_A_5 c i arg1 harg1 arg3 harg3 arg4 harg4 arg5 harg5 arg7 harg7 arg8 harg8 arg9 harg9 arg10 harg10 hc0 x0 x1 x2 x3 fh0 fh1 (ix2 r y)
      = dxRow (dhB x0 fh0 r) (fun k => x1 (ix2 r k)) (fun k => x2 (ix2 0 k)) (fun k => x3 (ix2 r k)) y := by
  frame_out
  rw [load_copy]
  exact pay_dx x0 x1 x2 x3 fh0 r y

/-- The first point's part of the gradient of the scales, added to zero. -/
theorem out6_A (hc0 : cond0_0 i) (y : Fin 1024) :
    out0_A_6 c i arg1 harg1 arg3 harg3 arg4 harg4 arg5 harg5 arg7 harg7 arg8 harg8 arg9 harg9 arg10 harg10 hc0 x0 x1 x2 x3 fh0 fh1 (ix2 0 y)
      = 0 + dgB x0 x1 fh0 y := by
  frame_out
  rw [load_copy]
  unfold_payloads
  pointwise [dot_S512x5760_S5760x1024_S512x1024_1_0_0_1_n_n]
  rfl

/-- A later point keeps the scratch. -/
theorem sout_B (hc0 : ¬cond0_0 i) :
    sout0_B_0 c i arg1 harg1 arg3 harg3 arg4 harg4 arg5 harg5 arg7 harg7 arg8 harg8 arg9 harg9 arg10 harg10 hc0 x0 x1 x2 x3 xo6 xs0 fh0 fh1
      = xs0 := rfl

end Cert.Kernel3Ideal.Inp
-- ==== Proof.InpArr.lean ====
/- The normalised product's backward kernel over its whole grid: each output array in closed form over the arrays that the
   kernel reads. The first point fills the scratch with the weights; the others keep it. -/
module

public import proofs.«01_k».proof.Proof.InpPoint

@[expose] public section
set_option maxRecDepth 16384
noncomputable section
namespace Cert.Kernel3Ideal.Inp
open Idealize.ShloMosaic Idealize.ShloMosaic.TcCoe Idealize.ShloMosaic.Tactic Gen Cert.Alg

local notation "𝕀" => Idealize.ShloMosaic.Ideal

/-- Which block each point takes of that window. -/
theorem idx0 : ∀ t : Fin cfg0.N, win0_0.index t = ![t.val, 0] := (by decide +kernel : ∀ t : Fin grid0.N, win0_0.index t = ![t.val, 0])
/-- Which block each point takes of that window. -/
theorem idx1 : ∀ t : Fin cfg0.N, win0_1.index t = ![t.val, 0] := (by decide +kernel : ∀ t : Fin grid0.N, win0_1.index t = ![t.val, 0])
/-- Which block each point takes of that window. -/
theorem idx2 : ∀ t : Fin cfg0.N, win0_2.index t = ![0, 0] := (by decide +kernel : ∀ t : Fin grid0.N, win0_2.index t = ![0, 0])
/-- Which block each point takes of that window. -/
theorem idx3 : ∀ t : Fin cfg0.N, win0_3.index t = ![t.val, 0] := (by decide +kernel : ∀ t : Fin grid0.N, win0_3.index t = ![t.val, 0])
/-- Which block each point takes of that window. -/
theorem idx4 : ∀ t : Fin cfg0.N, win0_4.index t = ![t.val, 0] := (by decide +kernel : ∀ t : Fin grid0.N, win0_4.index t = ![t.val, 0])
/-- Which block each point takes of that window. -/
theorem idx5 : ∀ t : Fin cfg0.N, win0_5.index t = ![t.val, 0] := (by decide +kernel : ∀ t : Fin grid0.N, win0_5.index t = ![t.val, 0])

variable (m : ∀ l : Loc nD τ sig, Buf (Elt 𝕀) l) (c : Dev nD)

/-- There are four points. -/
theorem lt4 (t : Fin cfg0.N) : t.val < 4 := N_0 ▸ t.isLt

/-- The row of the whole array at which row `r` of point `t`'s block lies. -/
theorem row_lt (t : Fin cfg0.N) (r : Fin 512) : t.val * 512 + r.val < 2048 := by have := lt4 t; omega

/-- A row of the block is a row of its array. -/
theorem blk0 (t : Fin cfg0.N) (r : Fin 512) (k : Fin 5760) :
    iblk m c 0 t (ix2 r k) = (V m c main_v6 : Vec 𝕀 S2048x5760 .bf16) (ix2 ⟨t.val * 512 + r.val, row_lt t r⟩ k) := by
  blk_ext [iblk, idx0 t]

/-- A row of the block is a row of its array. -/
theorem blk1 (t : Fin cfg0.N) (r : Fin 512) (k : Fin 1024) :
    iblk m c 1 t (ix2 r k) = (V m c main_arg2 : Vec 𝕀 S2048x1024 .f32) (ix2 ⟨t.val * 512 + r.val, row_lt t r⟩ k) := by
  blk_ext [iblk, idx1 t]

/-- The block of the scales is the whole of them. -/
theorem blk2 (t : Fin cfg0.N) : iblk m c 2 t = (V m c main_arg3 : Vec 𝕀 S1x1024 .f32) := by
  funext j; blk_ext [iblk, idx2 t]

/-- A row of the block is a row of its array. -/
theorem blk3 (t : Fin cfg0.N) (r : Fin 512) (k : Fin 1024) :
    iblk m c 3 t (ix2 r k) = (V m c main_arg4 : Vec 𝕀 S2048x1024 .f32) (ix2 ⟨t.val * 512 + r.val, row_lt t r⟩ k) := by
  blk_ext [iblk, idx3 t]

/-- The gradient of the normalised row at a row of the whole array. -/
def dhG (D : Vec 𝕀 S2048x5760 .bf16) (W : Vec 𝕀 S5760x1024 .bf16) (T : Fin 2048) (j : Fin 1024) : EReal :=
  ∑ k : Fin 5760, D (ix2 T k) * W (ix2 k j)

/-- The gradient of the input at a row of the whole array. -/
def dxG (T : Fin 2048) (j : Fin 1024) : EReal :=
  dxRow (dhG (V m c main_v6) (V m c main_v14) T) (fun k => (V m c main_arg2 : Vec 𝕀 S2048x1024 .f32) (ix2 T k))
    (fun k => (V m c main_arg3 : Vec 𝕀 S1x1024 .f32) (ix2 0 k)) (fun k => (V m c main_arg4 : Vec 𝕀 S2048x1024 .f32) (ix2 T k)) j

/-- A row's part of the gradient of the scales, as a function of the row's number. -/
def dgG (j : Fin 1024) (T : ℕ) : EReal :=
  if h : T < 2048 then dgRow (dhG (V m c main_v6) (V m c main_v14) ⟨T, h⟩) (fun k => (V m c main_arg2 : Vec 𝕀 S2048x1024 .f32) (ix2 ⟨T, h⟩ k)) j else 0

/-- The first point fills the scratch with the weights. -/
theorem scratch_first (t : Fin cfg0.N) (h0 : t.val % 4 = 0) : (outsAt0 m c t.val t.isLt).2.2.2 = V m c main_v14 := by
  simp only [outsAt0_A m c t h0]
  apply sout_A

/-- A later point keeps it. -/
theorem scratch_later (t : Fin cfg0.N) (h0 : ¬t.val % 4 = 0) :
    (outsAt0 m c t.val t.isLt).2.2.2 = (outsAt0 m c (t.val - 1) (Nat.lt_of_le_of_lt (Nat.sub_le _ _) t.isLt)).2.2.2 := by
  simp only [outsAt0_B m c t h0]
  apply sout_B

/-- After every point the scratch holds the weights. -/
theorem scratch : ∀ (n : ℕ) (hn : n < cfg0.N), (outsAt0 m c n hn).2.2.2 = (V m c main_v14)
  | 0, hn => scratch_first m c ⟨0, hn⟩ rfl
  | n + 1, hn => by
    have h4 := lt4 ⟨n + 1, hn⟩
    have h0 : ¬ (n + 1) % 4 = 0 := by simp only at h4; omega
    exact (scratch_later m c ⟨n + 1, hn⟩ h0).trans (scratch n (Nat.lt_of_succ_lt hn))

/-- The gradient of the normalised row at a row of a point's block. -/
theorem dh_blk (t : Fin cfg0.N) (r : Fin 512) :
    dhB (iblk m c 0 t) (V m c main_v14) r = dhG (V m c main_v6) (V m c main_v14) ⟨t.val * 512 + r.val, row_lt t r⟩ := by
  funext j
  rw [dhB, dhG]
  simp only [blk0]

/-- The gradient of the input at a row of a point's block. -/
theorem dx_blk (t : Fin cfg0.N) (r : Fin 512) (y : Fin 1024) :
    dxRow (dhB (iblk m c 0 t) (V m c main_v14) r) (fun k => (iblk m c 1 t : Vec 𝕀 S512x1024 .f32) (ix2 r k))
      (fun k => (iblk m c 2 t : Vec 𝕀 S1x1024 .f32) (ix2 0 k)) (fun k => (iblk m c 3 t : Vec 𝕀 S512x1024 .f32) (ix2 r k)) y
      = dxG m c ⟨t.val * 512 + r.val, row_lt t r⟩ y := by
  rw [dxG, dh_blk, blk2]
  simp only [blk1, blk3]

/-- A point's block of the first output. -/
theorem outs4 (t : Fin cfg0.N) (r : Fin 512) (y : Fin 1024) :
    (outsAt0 m c t.val t.isLt).1 (ix2 r y) = dxG m c ⟨t.val * 512 + r.val, row_lt t r⟩ y := by
  by_cases h0 : t.val % 4 = 0
  · simp only [outsAt0_A m c t h0]
    refine Eq.trans ?_ (dx_blk m c t r y)
    apply out4_A
  · simp only [outsAt0_B m c t h0]
    rw [scratch]
    refine Eq.trans ?_ (dx_blk m c t r y)
    apply out4_B

/-- A point's block of the second output. -/
theorem outs5 (t : Fin cfg0.N) (r : Fin 512) (y : Fin 1024) :
    (outsAt0 m c t.val t.isLt).2.1 (ix2 r y) = dxG m c ⟨t.val * 512 + r.val, row_lt t r⟩ y := by
  by_cases h0 : t.val % 4 = 0
  · simp only [outsAt0_A m c t h0]
    refine Eq.trans ?_ (dx_blk m c t r y)
    apply out5_A
  · simp only [outsAt0_B m c t h0]
    rw [scratch]
    refine Eq.trans ?_ (dx_blk m c t r y)
    apply out5_B

/-- The gradient of the input, as an array. -/
def dxA : Vec 𝕀 S2048x1024 .f32 := fun i => dxG m c (i 0) (i 1)

/-- The gradient of the input, as an array of the narrow type. -/
def dxA' : Vec 𝕀 S2048x1024 .bf16 := fun i => dxG m c (i 0) (i 1)

/-- The first output is the gradient of the input. -/
theorem arr4 : (dats m 0 c).arrAt 4 cfg0.N = dxA m c := by
  refine (dats m 0 c).arrAt_eq_of_covers 4 _ (by decide +kernel) fun t hf y => ?_
  blk_simp
  rw [after0_4]
  obtain ⟨p, q, rfl⟩ : ∃ (p : Fin 512) (q : Fin 1024), y = ix2 p q := ⟨y 0, y 1, eq_ix2 y⟩
  have e : (win0_4.blk t).view.emb (ix2 p q) = ix2 (⟨t.val * 512 + p.val, row_lt t p⟩ : Fin 2048) q := by
    blk_ext [idx4 t]
  rw [e]
  exact outs4 m c t p q

/-- The second output is the gradient of the input. -/
theorem arr5 : (dats m 0 c).arrAt 5 cfg0.N = dxA' m c := by
  refine (dats m 0 c).arrAt_eq_of_covers 5 _ (by decide +kernel) fun t hf y => ?_
  blk_simp
  rw [after0_5]
  obtain ⟨p, q, rfl⟩ : ∃ (p : Fin 512) (q : Fin 1024), y = ix2 p q := ⟨y 0, y 1, eq_ix2 y⟩
  have e : (win0_5.blk t).view.emb (ix2 p q) = ix2 (⟨t.val * 512 + p.val, row_lt t p⟩ : Fin 2048) q := by
    blk_ext [idx5 t]
  rw [e]
  exact outs5 m c t p q

/-- A point's part of the gradient of the scales. -/
theorem dg_blk (t : Fin cfg0.N) (y : Fin 1024) : dgB (iblk m c 0 t) (iblk m c 1 t) (V m c main_v14) y
    = ∑ r : Fin 512, dgG m c y (t.val * 512 + r.val) :=
  Finset.sum_congr rfl fun r _ => by
    rw [dgG, dif_pos (row_lt t r), dh_blk]
    simp only [blk1]

/-- Sums over the points, each over its block's rows, are sums over the whole array's rows. -/
theorem sum_rows (f : ℕ → EReal) : ∑ t : Fin cfg0.N, ∑ r : Fin 512, f (t.val * 512 + r.val) = ∑ T : Fin 2048, f T.val := by
  show ∑ t : Fin 4, ∑ r : Fin 512, f (t.val * 512 + r.val) = _
  exact Fin.sum_mul_add_congr (S := 4) (n := 512) (f := fun T : Fin 2048 => f T.val) fun s k hl => rfl

/-- After the last point the gradient of the scales is complete. -/
theorem outs6 (y : Fin 1024) : (outsAt0 m c t0_3.val t0_3.isLt).2.2.1 (ix2 0 y) = ∑ T : Fin 2048, dgG m c y T.val := by
  refine (Pipeline.eq_sum_fin_of_reset_step_apply_last (fun n h y => (outsAt0 m c n h).2.2.1 (ix2 0 y)) 4 (fun _ => 0)
    (fun t y => ∑ r : Fin 512, dgG m c y (t.val * 512 + r.val))
    (fun t h0 y => ?_) (fun t h0 y => ?_) (le_of_eq N_0) t0_3 (by decide +kernel) y).trans ?_
  · simp only [outsAt0_A m c t h0]
    rw [← dg_blk m c t y]
    apply out6_A
  · simp only [outsAt0_B m c t h0]
    rw [scratch, ← dg_blk m c t y]
    apply out6_B
  · rw [zero_add]
    exact sum_rows (dgG m c y)

/-- The gradient of the scales, as an array. -/
def dgA : Vec 𝕀 S1x1024 .f32 := fun i => ∑ T : Fin 2048, dgG m c (i 1) T.val

/-- The third output is the gradient of the scales. -/
theorem arr6 : (dats m 0 c).arrAt 6 cfg0.N = dgA m c := by
  refine (dats m 0 c).arrAt_eq_of_after_last 6 t0_3 (by decide +kernel) _ fun j => ?_
  blk_simp
  rw [after0_6]
  obtain ⟨p, q, rfl⟩ : ∃ (p : Fin 1) (q : Fin 1024), j = ix2 p q := ⟨j 0, j 1, eq_ix2 j⟩
  obtain rfl : p = 0 := Subsingleton.elim _ _
  refine Eq.trans ?_ ((outs6 m c q).trans ?_)
  · congr 1
  · congr 1

end Cert.Kernel3Ideal.Inp
-- ==== Proof.InpRef.lean ====
/- The reference's gradients of the normalised product read at an index. -/
module

public import proofs.«01_k».proof.Proof.Gen.Reference3Ideal.Read
public import proofs.«01_k».proof.Proof.NormAlg
public import Idealize.ShloMosaic.Lib.Pipeline.ValueKit

@[expose] public section
set_option maxRecDepth 16384
noncomputable section
namespace Cert.Reference3Ideal.Inp
open Idealize.ShloMosaic Idealize.ShloMosaic.TcCoe Idealize.ShloMosaic.Tactic Read Cert.Alg

local notation "𝕀" => Idealize.ShloMosaic.Ideal

variable (x0 : Vec 𝕀 S2048x5648 .f32) (x1 : Vec 𝕀 S1024x5648 .f32) (x2 : Vec 𝕀 S2048x1024 .f32) (x3 : Vec 𝕀 S1x1024 .f32)
  (x4 : Vec 𝕀 S2048x1024 .f32) (T : Fin 2048) (y : Fin 1024)

/-- The gradient of the normalised row. -/
def dhR (T : Fin 2048) (j : Fin 1024) : EReal := ∑ k : Fin 5648, x0 (ix2 T k) * x1 (ix2 j k)

/-- The mean square with the small constant. -/
theorem msq_eq : val_main_v6 (F := 𝕀) x2 (ix2 T 0) = msq (fun k => x2 (ix2 T k)) := by
  pointwise [val_main_v6, val_main_v5, val_main_v4, val_main_v3, val_main_v2, val_main_v1, val_main_v0, val_main_cst, val_main_cst_0, val_main_cst_1]
  rfl

/-- The factor of the normalisation. -/
theorem nrm_eq : val_main_v7 (F := 𝕀) x2 (ix2 T 0) = nrm (fun k => x2 (ix2 T k)) := by
  pointwise [val_main_v7]
  rw [msq_eq]
  rfl

/-- The gradient of the normalised row. -/
theorem dh_eq : val_main_v16 (F := 𝕀) x0 x1 (ix2 T y) = dhR x0 x1 T y := by
  pointwise [val_main_v16]
  rfl

/-- The derivative of the factor by the mean square. -/
theorem fac_eq : val_main_v10 (F := 𝕀) x2 (ix2 T 0)
    = Ideal.ofBits .f32 3204448256#32 * Ideal.div (nrm (fun k => x2 (ix2 T k))) (msq (fun k => x2 (ix2 T k))) := by
  pointwise [val_main_v10, val_main_v9, val_main_v8, val_main_cst_2]
  rw [msq_eq, nrm_eq]

/-- The gradient of the input is the chain rule's. -/
theorem dx_eq : val_main_v36 (F := 𝕀) x0 x1 x2 x3 x4 (ix2 T y)
    = dxChain (dhR x0 x1 T) (fun k => x2 (ix2 T k)) (fun k => x3 (ix2 0 k)) (fun k => x4 (ix2 T k)) y := by
  have z4 : val_main_cst_4 (F := 𝕀) (Shape.Idx.first Gen.h_S_) = (0 : EReal) := by pointwise [val_main_cst_4]
  have z6 : val_main_cst_6 (F := 𝕀) (Shape.Idx.first Gen.h_S_) = (0 : EReal) := by pointwise [val_main_cst_6]
  have z5 : val_main_cst_5 (F := 𝕀) ix0 = Ideal.ofBits .f32 1149239296#32 := by pointwise [val_main_cst_5]
  pointwise [val_main_v36, val_main_v35, val_main_v34, val_main_v33, val_main_v32, val_main_v31, val_main_v30, val_main_v29, val_main_v28, val_main_v27, val_main_v26, val_main_v25, val_main_v24, val_main_v23, val_main_v22, val_main_v21, val_main_v20]
  rw [z4, z5, z6]
  simp only [Fin.sum_univ_one, zero_add, dh_eq, nrm_eq, fac_eq]
  rfl

/-- The gradient of the input in the narrow type is the same. -/
theorem dx_eq' : val_main_v37 (F := 𝕀) x0 x1 x2 x3 x4 (ix2 T y)
    = dxChain (dhR x0 x1 T) (fun k => x2 (ix2 T k)) (fun k => x3 (ix2 0 k)) (fun k => x4 (ix2 T k)) y := by
  rw [← dx_eq]
  pointwise [val_main_v37]

/-- The gradient of the scales. -/
theorem dg_eq : val_main_v19 (F := 𝕀) x0 x1 x2 (ix2 0 y) = ∑ T : Fin 2048, dgRow (dhR x0 x1 T) (fun k => x2 (ix2 T k)) y := by
  have z3 : val_main_cst_3 (F := 𝕀) (Shape.Idx.first Gen.h_S_) = (0 : EReal) := by pointwise [val_main_cst_3]
  pointwise [val_main_v19, val_main_v18, val_main_v17, val_main_v12, val_main_v11]
  rw [z3, zero_add]
  refine Finset.sum_congr rfl fun T _ => ?_
  rw [dh_eq, nrm_eq, mul_comm]
  rfl

end Cert.Reference3Ideal.Inp
-- ==== Proof.Perm.lean ====
/- The order in which the input projection's columns are kept: four runs of them in another order, then zeros. A sum of products over
   that order is the sum over the columns. -/
module

public import Idealize.ShloMosaic.Lib.Pipeline.ValueKit

@[expose] public section
noncomputable section
namespace Cert.Alg
open Idealize.ShloMosaic

/-- The columns in the kept order, with zeros at the end. -/
def kept (f : Fin 5648 → EReal) (k : Fin 5760) : EReal :=
  if h : k.val < 2048 then f ⟨3600 + k.val, by omega⟩
  else if h : k.val - 2048 < 2048 then f ⟨1536 + (k.val - 2048), by omega⟩
  else if h : k.val - 2048 - 2048 < 1536 then f ⟨k.val - 2048 - 2048, by omega⟩
  else if h : k.val - 2048 - 2048 - 1536 < 16 then f ⟨3584 + (k.val - 2048 - 2048 - 1536), by omega⟩
  else 0

/-- Where column `r` stands in the kept order. -/
def place (r : Fin 5648) : Fin 5760 :=
  if h : r.val < 1536 then ⟨4096 + r.val, by omega⟩
  else if h : r.val < 3584 then ⟨2048 + (r.val - 1536), by omega⟩
  else if h : r.val < 3600 then ⟨5632 + (r.val - 3584), by omega⟩
  else ⟨r.val - 3600, by omega⟩

/-- The place as a number. -/
theorem place_val (r : Fin 5648) : (place r).val
    = if r.val < 1536 then 4096 + r.val else if r.val < 3584 then 2048 + (r.val - 1536)
      else if r.val < 3600 then 5632 + (r.val - 3584) else r.val - 3600 := by
  unfold place
  split <;> [rfl; split <;> [rfl; split <;> rfl]]

/-- Different columns stand at different places. -/
theorem place_injective : Function.Injective place := fun a b e => by
  have h := congrArg Fin.val e
  rw [place_val, place_val] at h
  refine Fin.ext ?_
  split_ifs at h <;> omega

/-- At a column's place the kept order holds that column. -/
theorem kept_place (f : Fin 5648 → EReal) (r : Fin 5648) : kept f (place r) = f r := by
  have hp := place_val r
  have key : ∀ (n : ℕ) (hn : n < 5648), n = r.val → f ⟨n, hn⟩ = f r := fun n hn e => by subst e; rfl
  unfold kept
  split_ifs at hp
  · rw [dif_neg (by omega), dif_neg (by omega), dif_pos (by omega)]; exact key _ _ (by omega)
  · rw [dif_neg (by omega), dif_pos (by omega)]; exact key _ _ (by omega)
  · rw [dif_neg (by omega), dif_neg (by omega), dif_neg (by omega), dif_pos (by omega)]; exact key _ _ (by omega)
  · rw [dif_pos (by omega)]; exact key _ _ (by omega)

/-- Where no column stands there is a zero. -/
theorem kept_off (f : Fin 5648 → EReal) (k : Fin 5760) (h : ∀ r, place r ≠ k) : kept f k = 0 := by
  have no : ∀ (n : ℕ) (_ : n < 5648), (if n < 1536 then 4096 + n else if n < 3584 then 2048 + (n - 1536)
      else if n < 3600 then 5632 + (n - 3584) else n - 3600) = k.val → False :=
    fun n hn e => h ⟨n, hn⟩ (Fin.ext ((place_val ⟨n, hn⟩).trans e))
  have hk : 5648 ≤ k.val := by
    by_contra hlt
    by_cases h1 : k.val < 2048
    · exact no (3600 + k.val) (by omega) (by split_ifs <;> omega)
    by_cases h2 : k.val < 4096
    · exact no (k.val - 512) (by omega) (by split_ifs <;> omega)
    by_cases h3 : k.val < 5632
    · exact no (k.val - 4096) (by omega) (by split_ifs <;> omega)
    · exact no (k.val - 2048) (by omega) (by split_ifs <;> omega)
  unfold kept
  rw [dif_neg (by omega), dif_neg (by omega), dif_neg (by omega), dif_neg (by omega)]

/-- A sum of products over the kept order is the sum over the columns. -/
theorem sum_kept (f g : Fin 5648 → EReal) : ∑ k, kept f k * kept g k = ∑ r, f r * g r := by
  refine (Finset.sum_of_injOn place (fun a _ b _ e => place_injective e) (fun _ _ => Finset.mem_coe.2 (Finset.mem_univ _)) (fun k _ hk => ?_) fun r _ => ?_).symm
  · rw [kept_off f k fun r e => hk ⟨r, Finset.mem_coe.2 (Finset.mem_univ _), e⟩, zero_mul]
  · rw [kept_place, kept_place]

end Cert.Alg
-- ==== Proof.InpClaim.lean ====
/- The normalised product's backward kernel and the reference end with equal results over the reals. -/
module

public import proofs.«01_k».proof.Defs
public import proofs.«01_k».proof.Proof.InpArr
public import proofs.«01_k».proof.Proof.Gen.Kernel3Ideal.Value
public import proofs.«01_k».proof.Proof.InpRef
public import proofs.«01_k».proof.Proof.Perm
public import proofs.«01_k».proof.Proof.Gen.Reference3Ideal.Run
public import proofs.«01_k».proof.Proof.Gen.Pre_finite3
public import Idealize.ShloMosaic.Lib.StableHlo.RunClose
public import Idealize.ShloMosaic.Lib.Claim
public import Idealize.ShloMosaic.Lib.Quiescent

@[expose] public section
set_option maxRecDepth 16384
noncomputable section
namespace Cert.Inp
open Idealize.ShloMosaic Idealize.ShloMosaic.TcCoe Idealize.ShloMosaic.Tactic Cert.Alg
open Cert.Kernel3Ideal Cert.Kernel3Ideal.Gen Cert.Kernel3Ideal.Inp Cert.Reference3Ideal.Read Cert.Reference3Ideal.Inp

local notation "𝕀" => Idealize.ShloMosaic.Ideal

variable (m : ∀ l : Loc nD τ sig, Buf (Elt 𝕀) l) (c : Dev nD)

/-- The gradient of the product, argument 0. -/
abbrev a0 : Vec 𝕀 S2048x5648 .f32 := m ((c : Thread nD τ).loc main_arg0)
/-- The weights, argument 1. -/
abbrev a1 : Vec 𝕀 S1024x5648 .f32 := m ((c : Thread nD τ).loc main_arg1)
/-- The normalisation's input, argument 2. -/
abbrev a2 : Vec 𝕀 S2048x1024 .f32 := m ((c : Thread nD τ).loc main_arg2)
/-- The normalisation's scales, argument 3. -/
abbrev a3 : Vec 𝕀 S1x1024 .f32 := m ((c : Thread nD τ).loc main_arg3)
/-- The gradient that the input has from elsewhere, argument 4. -/
abbrev a4 : Vec 𝕀 S2048x1024 .f32 := m ((c : Thread nD τ).loc main_arg4)

/-- The product's gradient with its columns in the kept order. -/
def keptCols (X : Vec 𝕀 S2048x5648 .f32) : Vec 𝕀 S2048x5760 .bf16 :=
  concatenate S2048x5760 1
    [⟨S2048x2048, (extractStridedSlice S2048x2048 ![0, 3600] X slices_S2048x5648_S2048x2048_0_3600 : Vec 𝕀 S2048x2048 .bf16)⟩,
     ⟨S2048x2048, (extractStridedSlice S2048x2048 ![0, 1536] X slices_S2048x5648_S2048x2048_0_1536 : Vec 𝕀 S2048x2048 .bf16)⟩,
     ⟨S2048x1536, (extractStridedSlice S2048x1536 ![0, 0] X slices_S2048x5648_S2048x1536_0_0 : Vec 𝕀 S2048x1536 .bf16)⟩,
     ⟨S2048x16, (extractStridedSlice S2048x16 ![0, 3584] X slices_S2048x5648_S2048x16_0_3584 : Vec 𝕀 S2048x16 .bf16)⟩,
     ⟨S2048x112, (broadcastInDim S2048x112 ![] bcast_S_S2048x112 (constant (F := 𝕀) S_ .bf16 0x0000#16) : Vec 𝕀 S2048x112 .bf16)⟩]
    concatenates_S2048x2048_S2048x2048_S2048x1536_S2048x16_S2048x112_S2048x5760_d1

/-- Arrays put together from equal pieces are equal. -/
theorem keptCols_congr (p0 q0 : Vec 𝕀 S2048x2048 .bf16) (p1 q1 : Vec 𝕀 S2048x2048 .bf16) (p2 q2 : Vec 𝕀 S2048x1536 .bf16) (p3 q3 : Vec 𝕀 S2048x16 .bf16) (p4 q4 : Vec 𝕀 S2048x112 .bf16) (h0 : p0 = q0) (h1 : p1 = q1) (h2 : p2 = q2) (h3 : p3 = q3) (h4 : p4 = q4) :
    (concatenate S2048x5760 1 [⟨S2048x2048, p0⟩, ⟨S2048x2048, p1⟩, ⟨S2048x1536, p2⟩, ⟨S2048x16, p3⟩, ⟨S2048x112, p4⟩] concatenates_S2048x2048_S2048x2048_S2048x1536_S2048x16_S2048x112_S2048x5760_d1 : Vec 𝕀 S2048x5760 .bf16)
      = concatenate S2048x5760 1 [⟨S2048x2048, q0⟩, ⟨S2048x2048, q1⟩, ⟨S2048x1536, q2⟩, ⟨S2048x16, q3⟩, ⟨S2048x112, q4⟩] concatenates_S2048x2048_S2048x2048_S2048x1536_S2048x16_S2048x112_S2048x5760_d1 := by
  subst h0 h1 h2 h3 h4; rfl

/-- The weights transposed. -/
def wT (X : Vec 𝕀 S1024x5648 .f32) : Vec 𝕀 S5648x1024 .bf16 := transpose S5648x1024 [1, 0] X transposes_S1024x5648_S5648x1024_1_0

/-- The transposed weights with their rows in the kept order. -/
def keptRows (X : Vec 𝕀 S5648x1024 .bf16) : Vec 𝕀 S5760x1024 .bf16 :=
  concatenate S5760x1024 0
    [⟨S2048x1024, (extractStridedSlice S2048x1024 ![3600, 0] X slices_S5648x1024_S2048x1024_3600_0 : Vec 𝕀 S2048x1024 .bf16)⟩,
     ⟨S2048x1024, (extractStridedSlice S2048x1024 ![1536, 0] X slices_S5648x1024_S2048x1024_1536_0 : Vec 𝕀 S2048x1024 .bf16)⟩,
     ⟨S1536x1024, (extractStridedSlice S1536x1024 ![0, 0] X slices_S5648x1024_S1536x1024_0_0 : Vec 𝕀 S1536x1024 .bf16)⟩,
     ⟨S16x1024, (extractStridedSlice S16x1024 ![3584, 0] X slices_S5648x1024_S16x1024_3584_0 : Vec 𝕀 S16x1024 .bf16)⟩,
     ⟨S112x1024, (broadcastInDim S112x1024 ![] bcast_S_S112x1024 (constant (F := 𝕀) S_ .bf16 0x0000#16) : Vec 𝕀 S112x1024 .bf16)⟩]
    concatenates_S2048x1024_S2048x1024_S1536x1024_S16x1024_S112x1024_S5760x1024_d0

/-- Arrays put together from equal pieces are equal. -/
theorem keptRows_congr (p0 q0 : Vec 𝕀 S2048x1024 .bf16) (p1 q1 : Vec 𝕀 S2048x1024 .bf16) (p2 q2 : Vec 𝕀 S1536x1024 .bf16) (p3 q3 : Vec 𝕀 S16x1024 .bf16) (p4 q4 : Vec 𝕀 S112x1024 .bf16) (h0 : p0 = q0) (h1 : p1 = q1) (h2 : p2 = q2) (h3 : p3 = q3) (h4 : p4 = q4) :
    (concatenate S5760x1024 0 [⟨S2048x1024, p0⟩, ⟨S2048x1024, p1⟩, ⟨S1536x1024, p2⟩, ⟨S16x1024, p3⟩, ⟨S112x1024, p4⟩] concatenates_S2048x1024_S2048x1024_S1536x1024_S16x1024_S112x1024_S5760x1024_d0 : Vec 𝕀 S5760x1024 .bf16)
      = concatenate S5760x1024 0 [⟨S2048x1024, q0⟩, ⟨S2048x1024, q1⟩, ⟨S1536x1024, q2⟩, ⟨S16x1024, q3⟩, ⟨S112x1024, q4⟩] concatenates_S2048x1024_S2048x1024_S1536x1024_S16x1024_S112x1024_S5760x1024_d0 := by
  subst h0 h1 h2 h3 h4; rfl

set_option maxRecDepth 65536 in
set_option maxHeartbeats 2000000 in
/-- The array as the kernel reads it. -/
theorem entry_keptCols : (V m c main_v6 : Vec 𝕀 S2048x5760 .bf16) = keptCols (a0 m c) := by
  show StableHlo.after hostOps0 _ (Proc.devRef .tc main_v6) = _
  after_results
  exact keptCols_congr _ _ _ _ _ _ _ _ _ _ (by dsimp only [Matrix.cons_val]; after_results_simp_entrywise; first | done | rfl) (by dsimp only [Matrix.cons_val]; after_results_simp_entrywise; first | done | rfl)
    (by dsimp only [Matrix.cons_val]; after_results_simp_entrywise; first | done | rfl) (by dsimp only [Matrix.cons_val]; after_results_simp_entrywise; first | done | rfl)
    (by dsimp only [Matrix.cons_val]; after_results_simp_entrywise; first | done | rfl)

set_option maxRecDepth 65536 in
set_option maxHeartbeats 2000000 in
/-- The array as the kernel reads it. -/
theorem entry_keptRows : (V m c main_v14 : Vec 𝕀 S5760x1024 .bf16) = keptRows (wT (a1 m c)) := by
  show StableHlo.after hostOps0 _ (Proc.devRef .tc main_v14) = _
  after_results
  exact keptRows_congr _ _ _ _ _ _ _ _ _ _ (by dsimp only [Matrix.cons_val]; after_results_simp_entrywise; first | done | rfl) (by dsimp only [Matrix.cons_val]; after_results_simp_entrywise; first | done | rfl)
    (by dsimp only [Matrix.cons_val]; after_results_simp_entrywise; first | done | rfl) (by dsimp only [Matrix.cons_val]; after_results_simp_entrywise; first | done | rfl)
    (by dsimp only [Matrix.cons_val]; after_results_simp_entrywise; first | done | rfl)

/-- A row of the product's gradient in the kept order. -/
theorem keptCols_apply (X : Vec 𝕀 S2048x5648 .f32) (T : Fin 2048) (k : Fin 5760) : keptCols X (ix2 T k) = kept (fun r => X (ix2 T r)) k := by
  unfold keptCols kept
  pointwise

set_option maxRecDepth 100000 in
/-- A column of the weights in the kept order. -/
theorem keptRows_apply (X : Vec 𝕀 S5648x1024 .bf16) (k : Fin 5760) (j : Fin 1024) : keptRows X (ix2 k j) = kept (fun r => X (ix2 r j)) k := by
  unfold keptRows
  pointwise
  unfold kept
  rfl

/-- The transposed weights read at an index. -/
theorem wT_apply (X : Vec 𝕀 S1024x5648 .f32) (r : Fin 5648) (j : Fin 1024) : wT X (ix2 r j) = X (ix2 j r) := by
  unfold wT
  pointwise

/-- The gradient of the normalised row is the reference's. -/
theorem dhG_eq (T : Fin 2048) : dhG (V m c main_v6) (V m c main_v14) T = dhR (a0 m c) (a1 m c) T := by
  funext j
  rw [dhG, dhR, entry_keptCols, entry_keptRows]
  simp only [keptCols_apply, keptRows_apply, wT_apply]
  exact sum_kept _ _

/-- Every argument is real. -/
structure Finite : Prop where
  h0 : ∀ i, IsReal (a0 m c i)
  h1 : ∀ i, IsReal (a1 m c i)
  h2 : ∀ i, IsReal (a2 m c i)
  h3 : ∀ i, IsReal (a3 m c i)
  h4 : ∀ i, IsReal (a4 m c i)

/-- The precondition says that every argument is real. -/
theorem finite_of_pre (h : Cert.Pre_Kernel3Ideal_finite3 (hPre_finite3 := Cert.Pre_finite3.Gen.facts) m) : Finite m c := by
  obtain ⟨e0, e1, e2, e3, e4⟩ := h c
  constructor
  · intro i
    have e := congrFun e0 i
    simp only [Cert.Pre_finite3.fn] at e
    pointwise at e
    exact isReal_of_test e
  · intro i
    have e := congrFun e1 i
    simp only [Cert.Pre_finite3.fn] at e
    pointwise at e
    exact isReal_of_test e
  · intro i
    have e := congrFun e2 i
    simp only [Cert.Pre_finite3.fn] at e
    pointwise at e
    exact isReal_of_test e
  · intro i
    have e := congrFun e3 i
    simp only [Cert.Pre_finite3.fn] at e
    pointwise at e
    exact isReal_of_test e
  · intro i
    have e := congrFun e4 i
    simp only [Cert.Pre_finite3.fn] at e
    pointwise at e
    exact isReal_of_test e

section
variable {m c} (hf : Finite m c)
include hf

/-- The gradient of the input is the reference's. -/
theorem dx_res (T : Fin 2048) (y : Fin 1024) : dxG m c T y
    = dxChain (dhR (a0 m c) (a1 m c) T) (fun k => a2 m c (ix2 T k)) (fun k => a3 m c (ix2 0 k)) (fun k => a4 m c (ix2 T k)) y := by
  rw [dxG, dhG_eq, show (V m c main_arg2 : Vec 𝕀 S2048x1024 .f32) = a2 m c from V_main_arg2 m c,
    show (V m c main_arg3 : Vec 𝕀 S1x1024 .f32) = a3 m c from V_main_arg3 m c,
    show (V m c main_arg4 : Vec 𝕀 S2048x1024 .f32) = a4 m c from V_main_arg4 m c]
  exact dxRow_eq_dxChain (fun k => isReal_sum _ _ fun x => (hf.h0 _).mul (hf.h1 _)) (fun k => hf.h2 _) (fun k => hf.h3 _) (fun k => hf.h4 _) y

/-- The first result is the reference's. -/
theorem res4 : (dats m 0 c).arrAt 4 cfg0.N = val_main_v36 (F := 𝕀) (a0 m c) (a1 m c) (a2 m c) (a3 m c) (a4 m c) := by
  rw [arr4]
  funext i
  obtain ⟨p, q, rfl⟩ : ∃ (p : Fin 2048) (q : Fin 1024), i = ix2 p q := ⟨i 0, i 1, eq_ix2 i⟩
  exact (dx_res hf p q).trans (dx_eq _ _ _ _ _ p q).symm

/-- The second result is the reference's. -/
theorem res5 : (dats m 0 c).arrAt 5 cfg0.N = val_main_v37 (F := 𝕀) (a0 m c) (a1 m c) (a2 m c) (a3 m c) (a4 m c) := by
  rw [arr5]
  funext i
  obtain ⟨p, q, rfl⟩ : ∃ (p : Fin 2048) (q : Fin 1024), i = ix2 p q := ⟨i 0, i 1, eq_ix2 i⟩
  exact (dx_res hf p q).trans (dx_eq' _ _ _ _ _ p q).symm

end

/-- The third result is the reference's, without any precondition. -/
theorem res6 : (dats m 0 c).arrAt 6 cfg0.N = val_main_v19 (F := 𝕀) (a0 m c) (a1 m c) (a2 m c) := by
  rw [arr6]
  funext i
  obtain ⟨p, q, rfl⟩ : ∃ (p : Fin 1) (q : Fin 1024), i = ix2 p q := ⟨i 0, i 1, eq_ix2 i⟩
  obtain rfl : p = 0 := Subsingleton.elim _ _
  rw [dg_eq]
  show ∑ T : Fin 2048, dgG m c q T.val = _
  refine Finset.sum_congr rfl fun T _ => ?_
  rw [dgG, dif_pos T.isLt, dhG_eq, show (V m c main_arg2 : Vec 𝕀 S2048x1024 .f32) = a2 m c from V_main_arg2 m c]

/-- From equal real arguments the kernel and the reference end with equal results. -/
theorem algebraic : Cert.algebraic_Kernel3Ideal_Reference3Ideal_pre_finite3 (hKernel3Ideal := Cert.Kernel3Ideal.Gen.facts)
    (hReference3Ideal := Cert.Reference3Ideal.Gen.facts) (hPre_finite3 := Cert.Pre_finite3.Gen.facts) := by
  intro m g m' g' hpre hargs
  refine ⟨fun c => val_main_v36 (F := 𝕀) (a0 m c) (a1 m c) (a2 m c) (a3 m c) (a4 m c),
    fun c => val_main_v37 (F := 𝕀) (a0 m c) (a1 m c) (a2 m c) (a3 m c) (a4 m c),
    fun c => val_main_v19 (F := 𝕀) (a0 m c) (a1 m c) (a2 m c), ?_, ?_⟩
  · refine (θ_run _ _ _).mono (fun r h c => ?_) (Cert.Kernel3Ideal.Value.run_blocks (F := 𝕀) m g)
    obtain ⟨h4, h5, h6, hk⟩ := h c
    have hf := finite_of_pre m c hpre
    exact ⟨h4.trans (res4 hf), h5.trans (res5 hf), h6.trans (res6 m c), hk⟩
  · refine (θ_run _ _ _).mono (fun r h c => ?_) (Cert.Reference3Ideal.Value.run (F := 𝕀) m' g')
    obtain ⟨h4, h5, h6, hk⟩ := h c
    obtain ⟨e0, e1, e2, e3, e4⟩ := hargs c
    refine ⟨h4.trans ?_, h5.trans ?_, h6.trans ?_, hk⟩
    · rw [val_main_v36_eq, e0, e1, e2, e3, e4]
    · rw [val_main_v37_eq, e0, e1, e2, e3, e4]
    · rw [val_main_v19_eq, e0, e1, e2]

/-- Every run of the reference ends with its arguments as they were and with every counter at zero. -/
theorem frame_r : Cert.quiescent_Reference3Ideal (hReference3Ideal := Cert.Reference3Ideal.Gen.facts) := by
  intro m ρ _
  exact (θ_run Cert.Reference3Ideal.defs _ _).mono
    (fun r h => ⟨fun c => (h c).2.2.2, sem_eq_zero_of_no_sems (by decide) r.2⟩)
    (Cert.Reference3Ideal.Value.run (F := 𝕀) m ρ)

end Cert.Inp
-- ==== Proof.MbAlg.lean ====
/- The backward pass of the gated merge at one row: the gates, the heads' normalisation and the output activation. -/
module

public import proofs.«01_k».proof.Proof.NormGen

@[expose] public section
noncomputable section
namespace Cert.Alg.Merge
open Idealize.ShloMosaic Cert.Alg

/-- The logistic function as the kernel spells it. -/
def sg (v : EReal) : EReal := Ideal.div 1 (1 + Ideal.exp (0 - v))

/-- A row against the rows of a matrix. -/
def rowProd {n k : ℕ} (d : Fin k → EReal) (W : Fin n → Fin k → EReal) (j : Fin n) : EReal := ∑ i : Fin k, d i * W j i

/-- The gradient that a gate's branch has: the merged gradient times the gate. -/
def branch (d z b : Fin 1024 → EReal) (j : Fin 1024) : EReal := d j * sg (z j + b j)

/-- The gradient of a gate's argument, the branch's value being `y`. -/
def gateGrad (d y z b : Fin 1024 → EReal) (j : Fin 1024) : EReal := d j * y j * sg (z j + b j) * (1 - sg (z j + b j))

/-- The factor by which the normalisation scales a head of 256. -/
def nrm (o : Fin 256 → EReal) : EReal := nrmW 1132462080#32 o

/-- The gradient of a head's normalised and scaled output. -/
def don (d zo : Fin 256 → EReal) (q : Fin 256) : EReal := d q * zo q * sg (zo q)

/-- The gradient of the output activation's argument. -/
def dzog (d zo o g : Fin 256 → EReal) (q : Fin 256) : EReal :=
  d q * (o q * nrm o) * g q * sg (zo q) * (1 + zo q * (1 - sg (zo q)))

/-- A head's part of the gradient of the scales. -/
def dgh (d zo o : Fin 256 → EReal) (q : Fin 256) : EReal := don d zo q * (o q * nrm o)

/-- The gradient of a head's input: the normalised head is projected out. -/
def dohRow (d zo o g : Fin 256 → EReal) (q : Fin 256) : EReal := bwdRow 1132462080#32 (fun k => don d zo k * g k) o q

/-- The column of head `h`'s entry `q`. -/
def hcol (h : Fin 4) (q : Fin 256) : Fin 1024 :=
  match h with
  | 0 => ⟨q.val, by omega⟩
  | 1 => ⟨256 + q.val, by omega⟩
  | 2 => ⟨512 + q.val, by omega⟩
  | 3 => ⟨768 + q.val, by omega⟩

/-- The column as a number. -/
theorem hcol_val (h : Fin 4) (q : Fin 256) : (hcol h q).val = h.val * 256 + q.val := by
  fin_cases h <;> simp [hcol]

/-- The head that a column belongs to. -/
def headOf (j : Fin 1024) : Fin 4 := ⟨j.val / 256, by omega⟩

/-- A column's place in its head. -/
def placeOf (j : Fin 1024) : Fin 256 := ⟨j.val % 256, by omega⟩

/-- A head's entries have that head. -/
theorem headOf_hcol (h : Fin 4) (q : Fin 256) : headOf (hcol h q) = h := by
  have := hcol_val h q; apply Fin.ext; simp only [headOf]; omega

/-- A head's entries have their places. -/
theorem placeOf_hcol (h : Fin 4) (q : Fin 256) : placeOf (hcol h q) = q := by
  have := hcol_val h q; apply Fin.ext; simp only [placeOf]; omega

/-- A column is its head's entry at its place. -/
theorem hcol_of (j : Fin 1024) : hcol (headOf j) (placeOf j) = j := by
  apply Fin.ext; rw [hcol_val]; simp only [headOf, placeOf]; omega

/-- A row's entries of one head. -/
def head (h : Fin 4) (f : Fin 1024 → EReal) (q : Fin 256) : EReal := f (hcol h q)

/-- The gradient of a row of heads. -/
def doRow (d zo o : Fin 1024 → EReal) (g : Fin 256 → EReal) (j : Fin 1024) : EReal :=
  dohRow (head (headOf j) d) (head (headOf j) zo) (head (headOf j) o) g (placeOf j)

/-- The gradient of the activation's argument along a row. -/
def dzogRow (d zo o : Fin 1024 → EReal) (g : Fin 256 → EReal) (j : Fin 1024) : EReal :=
  dzog (head (headOf j) d) (head (headOf j) zo) (head (headOf j) o) g (placeOf j)

/-- The gradient of a row of heads at a head's entry. -/
theorem doRow_at (d zo o : Fin 1024 → EReal) (g : Fin 256 → EReal) (h : Fin 4) (q : Fin 256) :
    doRow d zo o g (hcol h q) = dohRow (head h d) (head h zo) (head h o) g q := by
  rw [doRow, headOf_hcol, placeOf_hcol]

/-- The gradient of the activation's argument at a head's entry. -/
theorem dzogRow_at (d zo o : Fin 1024 → EReal) (g : Fin 256 → EReal) (h : Fin 4) (q : Fin 256) :
    dzogRow d zo o g (hcol h q) = dzog (head h d) (head h zo) (head h o) g q := by
  rw [dzogRow, headOf_hcol, placeOf_hcol]

/-- A sum over a row of heads is the sum of the sums over the heads. -/
theorem sum_heads (f : Fin 1024 → EReal) :
    ∑ j, f j = ∑ q, f (hcol 0 q) + ∑ q, f (hcol 1 q) + ∑ q, f (hcol 2 q) + ∑ q, f (hcol 3 q) := by
  have e : ∑ j, f j = ∑ h : Fin 4, ∑ q : Fin 256, f (hcol h q) := by
    rw [← Fintype.sum_prod_type' (f := fun h q => f (hcol h q))]
    refine (Fintype.sum_bijective (fun p : Fin 4 × Fin 256 => hcol p.1 p.2) ⟨?_, ?_⟩ _ _ fun _ => rfl).symm
    · rintro ⟨h, q⟩ ⟨h', q'⟩ e
      have e1 := congrArg headOf e
      have e2 := congrArg placeOf e
      simp only [headOf_hcol, placeOf_hcol] at e1 e2
      rw [e1, e2]
    · intro j; exact ⟨(headOf j, placeOf j), hcol_of j⟩
  rw [e, Fin.sum_univ_four]

/-- The word of 256. -/
theorem word_256 : Ideal.ofBits .f32 1132462080#32 = ((256 : ℝ) : EReal) := by
  simp [Ideal.ofBits, Ideal.ieee]
  rw [← EReal.coe_mul]; norm_num

/-- The factor of a real head is real. -/
theorem isReal_nrm {o : Fin 256 → EReal} (ho : ∀ q, IsReal (o q)) : IsReal (nrm o) := by
  obtain ⟨_, r, _, _, _, e⟩ := nrmW_real (by norm_num) word_256 ho
  exact ⟨r, e⟩

/-- The logistic function of a real is real. -/
theorem isReal_sg {v : EReal} (hv : IsReal v) : IsReal (sg v) := by
  rw [sg, zero_sub]; exact isReal_logistic hv

end Cert.Alg.Merge
-- ==== Proof.MbPoint.lean ====
/- One point of the merge's backward kernel: what it leaves in its output blocks. -/
module

public import proofs.«01_k».proof.Proof.Gen.Kernel5Ideal.Frame
public import proofs.«01_k».proof.Proof.MbAlg
public import Idealize.ShloMosaic.Lib.Pointwise
public import Idealize.ShloMosaic.Lib.Pipeline.ValueKit
public import Idealize.ShloMosaic.Lib.Pipeline.ReadBack
public import proofs.«01_k».proof.Proof.TakePieces

@[expose] public section
set_option maxRecDepth 16384
noncomputable section
namespace Cert.Kernel5Ideal.Mb
open Idealize.ShloMosaic Idealize.ShloMosaic.TcCoe Idealize.ShloMosaic.Tactic Gen Cert.Alg.Merge Cert.Take

local notation "𝕀" => Idealize.ShloMosaic.Ideal

variable (x0 x1 x2 x3 x4 x5 x6 : Vec 𝕀 S512x1024 .bf16) (x7 : Vec 𝕀 S1x2048 .f32) (x8 : Vec 𝕀 S1x256 .f32) (x9 : Vec 𝕀 S4x512x256 .bf16)
  (x10 x11 : Vec 𝕀 S1024x1024 .bf16) (xo18 : Vec 𝕀 S1x2048 .f32) (xo19 : Vec 𝕀 S1x256 .f32) (c : Dev nD) (i : grid0.Coords)
  (arg1 : Memref sig .tc .vmem S512x1024 .bf16) (harg1 : arg1.IsWhole) (arg2 : Memref sig .tc .vmem S512x1024 .bf16) (harg2 : arg2.IsWhole)
  (arg3 : Memref sig .tc .vmem S512x1024 .bf16) (harg3 : arg3.IsWhole) (arg4 : Memref sig .tc .vmem S512x1024 .bf16) (harg4 : arg4.IsWhole)
  (arg5 : Memref sig .tc .vmem S512x1024 .bf16) (harg5 : arg5.IsWhole) (arg6 : Memref sig .tc .vmem S512x1024 .bf16) (harg6 : arg6.IsWhole)
  (arg7 : Memref sig .tc .vmem S512x1024 .bf16) (harg7 : arg7.IsWhole) (arg8 : Memref sig .tc .vmem S1x2048 .f32) (harg8 : arg8.IsWhole)
  (arg9 : Memref sig .tc .vmem S1x256 .f32) (harg9 : arg9.IsWhole) (arg10 : Memref sig .tc .vmem S4x512x256 .bf16) (harg10 : arg10.IsWhole)
  (arg11 : Memref sig .tc .vmem S1024x1024 .bf16) (harg11 : arg11.IsWhole) (arg12 : Memref sig .tc .vmem S1024x1024 .bf16) (harg12 : arg12.IsWhole)
  (arg14 : Memref sig .tc .vmem S512x2048 .bf16) (harg14 : arg14.IsWhole) (arg15 : Memref sig .tc .vmem S512x1024 .bf16) (harg15 : arg15.IsWhole)
  (arg16 : Memref sig .tc .vmem S512x1024 .bf16) (harg16 : arg16.IsWhole) (arg17 : Memref sig .tc .vmem S512x512 .bf16) (harg17 : arg17.IsWhole)
  (arg18 : Memref sig .tc .vmem S512x1024 .bf16) (harg18 : arg18.IsWhole) (arg19 : Memref sig .tc .vmem S512x1024 .bf16) (harg19 : arg19.IsWhole)
  (arg20 : Memref sig .tc .vmem S1x2048 .f32) (harg20 : arg20.IsWhole) (arg21 : Memref sig .tc .vmem S1x256 .f32) (harg21 : arg21.IsWhole)

/-- A row of a block. -/
def row (x : Vec 𝕀 S512x1024 .bf16) (r : Fin 512) (j : Fin 1024) : EReal := x (ix2 r j)

/-- A square matrix by its rows. -/
def mat (w : Vec 𝕀 S1024x1024 .bf16) (j k : Fin 1024) : EReal := w (ix2 j k)

/-- The first half of the gates' offsets. -/
def lo (b : Vec 𝕀 S1x2048 .f32) (j : Fin 1024) : EReal := b (ix2 0 ⟨j.val, by omega⟩)

/-- The second half of the gates' offsets. -/
def hi (b : Vec 𝕀 S1x2048 .f32) (j : Fin 1024) : EReal := b (ix2 0 ⟨1024 + j.val, by omega⟩)

/-- The pooling's weights, stored in four column quarters, by their rows. -/
def quart (w : Vec 𝕀 S4x512x256 .bf16) (n : Fin 512) (j : Fin 1024) : EReal := w (ix3 (headOf j) n (placeOf j))

/-- The scales of the heads' normalisation. -/
def scales (g : Vec 𝕀 S1x256 .f32) (q : Fin 256) : EReal := g (ix2 0 q)

/-- A block's row of the merged gradient. -/
def mix (r : Fin 512) : Fin 1024 → EReal := rowProd (row x0 r) (mat x11)

/-- A block's row of the gradient of the gated linear attention's output. -/
def dogB (r : Fin 512) : Fin 1024 → EReal := rowProd (branch (mix x0 x11 r) (row x2 r) (hi x7)) (mat x10)

/-- The gated output's gradient as the kernel computes it. -/
theorem dog_pay (r : Fin 512) (j : Fin 1024) :
    k0_pay17 (F := 𝕀) (k0_pay9 (k0_pay8 x0 x11 x2 (View.ld x7 (Rect.unit ![0, 1024] ![1, 1024] inb_S1x2048_S1x1024_0_1024)))) x10 (ix2 r j)
      = dogB x0 x2 x7 x10 x11 r j := by
  unfold_payloads
  pointwise [dot_S512x1024_S1024x1024_S512x1024_1_1_0_0_n_n]
  rfl

section
variable (hc0 : ¬ cond0_0 i)

/-- At a later point: the first gate's argument's gradient. -/
theorem out12lo_B (r : Fin 512) (j : Fin 1024) : out0_B_12 c i arg1 harg1 arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 arg19 harg19 arg20 harg20 arg21 harg21 hc0 x0 x1 x2 x3 x4 x5 x6 x7 x8 x9 x10 x11 xo18 xo19 (ix2 r ⟨j.val, by omega⟩) = gateGrad (mix x0 x11 r) (row x4 r) (row x1 r) (lo x7) j := by
  frame_out
  canon_tiles x h
  · exfalso; have := j.isLt; have e : (ix2 (n0 := 512) (n1 := 2048) r ⟨j.val, by omega⟩ 1).val = j.val := rfl; omega
  · obtain rfl : r = x 0 := Fin.ext h0
    obtain rfl : j = x 1 := Fin.ext h1
    obtain ⟨p, q, rfl⟩ : ∃ p q, x = ix2 p q := ⟨x 0, x 1, eq_ix2 x⟩
    unfold_payloads
    pointwise [dot_S512x1024_S1024x1024_S512x1024_1_1_0_0_n_n]
    rfl

/-- At a later point: the second gate's argument's gradient. -/
theorem out12hi_B (r : Fin 512) (j : Fin 1024) : out0_B_12 c i arg1 harg1 arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 arg19 harg19 arg20 harg20 arg21 harg21 hc0 x0 x1 x2 x3 x4 x5 x6 x7 x8 x9 x10 x11 xo18 xo19 (ix2 r ⟨1024 + j.val, by omega⟩) = gateGrad (mix x0 x11 r) (row x5 r) (row x2 r) (hi x7) j := by
  frame_out
  canon_tiles x h
  · obtain rfl : r = x 0 := Fin.ext h0
    obtain rfl : j = x 1 := Fin.ext (Nat.add_left_cancel h1)
    obtain ⟨p, q, rfl⟩ : ∃ p q, x = ix2 p q := ⟨x 0, x 1, eq_ix2 x⟩
    unfold_payloads
    pointwise [dot_S512x1024_S1024x1024_S512x1024_1_1_0_0_n_n]
    rfl
  · exfalso; have e : (ix2 (n0 := 512) (n1 := 2048) r ⟨1024 + j.val, by omega⟩ 1).val = 1024 + j.val := rfl; omega

/-- At a later point: the first branch's gradient. -/
theorem out13_B (r : Fin 512) (j : Fin 1024) : out0_B_13 c i arg1 harg1 arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 arg19 harg19 arg20 harg20 arg21 harg21 hc0 x0 x1 x2 x3 x4 x5 x6 x7 x8 x9 x10 x11 xo18 xo19 (ix2 r j) = branch (mix x0 x11 r) (row x1 r) (lo x7) j := by
  frame_out
  unfold_payloads
  pointwise [dot_S512x1024_S1024x1024_S512x1024_1_1_0_0_n_n]
  rfl

/-- At a later point: the second branch's gradient. -/
theorem out14_B (r : Fin 512) (j : Fin 1024) : out0_B_14 c i arg1 harg1 arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 arg19 harg19 arg20 harg20 arg21 harg21 hc0 x0 x1 x2 x3 x4 x5 x6 x7 x8 x9 x10 x11 xo18 xo19 (ix2 r j) = branch (mix x0 x11 r) (row x2 r) (hi x7) j := by
  frame_out
  unfold_payloads
  pointwise [dot_S512x1024_S1024x1024_S512x1024_1_1_0_0_n_n]
  rfl

/-- At a later point: the pooled values' gradient, the four quarters' products summed. -/
theorem out15_B (r n : Fin 512) : out0_B_15 c i arg1 harg1 arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 arg19 harg19 arg20 harg20 arg21 harg21 hc0 x0 x1 x2 x3 x4 x5 x6 x7 x8 x9 x10 x11 xo18 xo19 (ix2 r n) = rowProd (branch (mix x0 x11 r) (row x1 r) (lo x7)) (quart x9) n := by
  frame_out
  unfold_payloads
  pointwise [dot_S512x1024_S1024x1024_S512x1024_1_1_0_0_n_n, dot_S512x256_S512x256_S512x512_1_1_0_0_n_n]
  rw [rowProd, sum_heads]
  simp only [quart, headOf_hcol, placeOf_hcol]
  rfl

/-- At a later point: the gradient of the gated linear attention's output, head by head. -/
theorem out16_B (r : Fin 512) (j : Fin 1024) : out0_B_16 c i arg1 harg1 arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 arg19 harg19 arg20 harg20 arg21 harg21 hc0 x0 x1 x2 x3 x4 x5 x6 x7 x8 x9 x10 x11 xo18 xo19 (ix2 r j) = doRow (dogB x0 x2 x7 x10 x11 r) (row x3 r) (row x6 r) (scales x8) j := by
  have hG := dog_pay x0 x2 x7 x10 x11
  frame_out
  generalize k0_pay17 (F := 𝕀) (k0_pay9 (k0_pay8 x0 x11 x2 (View.ld x7 (Rect.unit ![0, 1024] ![1, 1024] inb_S1x2048_S1x1024_0_1024)))) x10 = G at hG ⊢
  canon_tiles x h
  all_goals obtain rfl : r = x 0 := Fin.ext h0
  on_goal 1 => obtain rfl : j = hcol 3 (x 1) := Fin.ext h1
  on_goal 2 => obtain rfl : j = hcol 2 (x 1) := Fin.ext h1
  on_goal 3 => obtain rfl : j = hcol 1 (x 1) := Fin.ext h1
  on_goal 4 => obtain rfl : j = hcol 0 (x 1) := Fin.ext h1
  all_goals
    obtain ⟨p, q, rfl⟩ : ∃ p q, x = ix2 p q := ⟨x 0, x 1, eq_ix2 x⟩
    unfold_payloads
    pointwise
    simp only [hG]
    rw [doRow_at]
    rfl

/-- At a later point: the gradient of the output activation's argument, head by head. -/
theorem out17_B (r : Fin 512) (j : Fin 1024) : out0_B_17 c i arg1 harg1 arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 arg19 harg19 arg20 harg20 arg21 harg21 hc0 x0 x1 x2 x3 x4 x5 x6 x7 x8 x9 x10 x11 xo18 xo19 (ix2 r j) = dzogRow (dogB x0 x2 x7 x10 x11 r) (row x3 r) (row x6 r) (scales x8) j := by
  have hG := dog_pay x0 x2 x7 x10 x11
  frame_out
  generalize k0_pay17 (F := 𝕀) (k0_pay9 (k0_pay8 x0 x11 x2 (View.ld x7 (Rect.unit ![0, 1024] ![1, 1024] inb_S1x2048_S1x1024_0_1024)))) x10 = G at hG ⊢
  canon_tiles x h
  all_goals obtain rfl : r = x 0 := Fin.ext h0
  on_goal 1 => obtain rfl : j = hcol 3 (x 1) := Fin.ext h1
  on_goal 2 => obtain rfl : j = hcol 2 (x 1) := Fin.ext h1
  on_goal 3 => obtain rfl : j = hcol 1 (x 1) := Fin.ext h1
  on_goal 4 => obtain rfl : j = hcol 0 (x 1) := Fin.ext h1
  all_goals
    obtain ⟨p, q, rfl⟩ : ∃ p q, x = ix2 p q := ⟨x 0, x 1, eq_ix2 x⟩
    unfold_payloads
    pointwise
    simp only [hG]
    rw [dzogRow_at]
    rfl

/-- At a later point: the sum of the first gate's argument's gradient. -/
theorem out18lo_B (j : Fin 1024) : out0_B_18 c i arg1 harg1 arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 arg19 harg19 arg20 harg20 arg21 harg21 hc0 x0 x1 x2 x3 x4 x5 x6 x7 x8 x9 x10 x11 xo18 xo19 (ix2 0 ⟨j.val, by omega⟩)
    = xo18 (ix2 0 ⟨j.val, by omega⟩) + ∑ r, gateGrad (mix x0 x11 r) (row x4 r) (row x1 r) (lo x7) j := by
  frame_out
  canon_tiles x h
  · exfalso; have := j.isLt; have e : (ix2 (n0 := 1) (n1 := 2048) 0 ⟨j.val, by omega⟩ 1).val = j.val := rfl; omega
  · obtain rfl : j = x 1 := Fin.ext h1
    obtain ⟨p, q, rfl⟩ : ∃ p q, x = ix2 p q := ⟨x 0, x 1, eq_ix2 x⟩
    obtain rfl : p = 0 := Subsingleton.elim _ _
    unfold_payloads
    pointwise [dot_S512x1024_S1024x1024_S512x1024_1_1_0_0_n_n]
    rfl

/-- At a later point: the sum of the second gate's argument's gradient. -/
theorem out18hi_B (j : Fin 1024) : out0_B_18 c i arg1 harg1 arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 arg19 harg19 arg20 harg20 arg21 harg21 hc0 x0 x1 x2 x3 x4 x5 x6 x7 x8 x9 x10 x11 xo18 xo19 (ix2 0 ⟨1024 + j.val, by omega⟩)
    = xo18 (ix2 0 ⟨1024 + j.val, by omega⟩) + ∑ r, gateGrad (mix x0 x11 r) (row x5 r) (row x2 r) (hi x7) j := by
  frame_out
  canon_tiles x h
  · obtain rfl : j = x 1 := Fin.ext (Nat.add_left_cancel h1)
    obtain ⟨p, q, rfl⟩ : ∃ p q, x = ix2 p q := ⟨x 0, x 1, eq_ix2 x⟩
    obtain rfl : p = 0 := Subsingleton.elim _ _
    unfold_payloads
    pointwise [dot_S512x1024_S1024x1024_S512x1024_1_1_0_0_n_n]
    rfl
  · exfalso; have e : (ix2 (n0 := 1) (n1 := 2048) 0 ⟨1024 + j.val, by omega⟩ 1).val = 1024 + j.val := rfl; omega

/-- At a later point: the sum of the scales' gradient over the rows and the heads. -/
theorem out19_B (q : Fin 256) : out0_B_19 c i arg1 harg1 arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 arg19 harg19 arg20 harg20 arg21 harg21 hc0 x0 x1 x2 x3 x4 x5 x6 x7 x8 x9 x10 x11 xo18 xo19 (ix2 0 q) = xo19 (ix2 0 q)
    + ∑ h : Fin 4, ∑ r, dgh (head h (dogB x0 x2 x7 x10 x11 r)) (head h (row x3 r)) (head h (row x6 r)) q := by
  have hG := dog_pay x0 x2 x7 x10 x11
  frame_out
  generalize k0_pay17 (F := 𝕀) (k0_pay9 (k0_pay8 x0 x11 x2 (View.ld x7 (Rect.unit ![0, 1024] ![1, 1024] inb_S1x2048_S1x1024_0_1024)))) x10 = G at hG ⊢
  unfold_payloads
  pointwise
  simp only [hG]
  rw [Fin.sum_univ_four]
  rfl
end

section
variable (hc0 : cond0_0 i)

/-- At the first point: the first gate's argument's gradient. -/
theorem out12lo_A (r : Fin 512) (j : Fin 1024) : out0_A_12 c i arg1 harg1 arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 arg19 harg19 arg20 harg20 arg21 harg21 hc0 x0 x1 x2 x3 x4 x5 x6 x7 x8 x9 x10 x11 (ix2 r ⟨j.val, by omega⟩) = gateGrad (mix x0 x11 r) (row x4 r) (row x1 r) (lo x7) j := by
  frame_out
  canon_tiles x h
  · exfalso; have := j.isLt; have e : (ix2 (n0 := 512) (n1 := 2048) r ⟨j.val, by omega⟩ 1).val = j.val := rfl; omega
  · obtain rfl : r = x 0 := Fin.ext h0
    obtain rfl : j = x 1 := Fin.ext h1
    obtain ⟨p, q, rfl⟩ : ∃ p q, x = ix2 p q := ⟨x 0, x 1, eq_ix2 x⟩
    unfold_payloads
    pointwise [dot_S512x1024_S1024x1024_S512x1024_1_1_0_0_n_n]
    rfl

/-- At the first point: the second gate's argument's gradient. -/
theorem out12hi_A (r : Fin 512) (j : Fin 1024) : out0_A_12 c i arg1 harg1 arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 arg19 harg19 arg20 harg20 arg21 harg21 hc0 x0 x1 x2 x3 x4 x5 x6 x7 x8 x9 x10 x11 (ix2 r ⟨1024 + j.val, by omega⟩) = gateGrad (mix x0 x11 r) (row x5 r) (row x2 r) (hi x7) j := by
  frame_out
  canon_tiles x h
  · obtain rfl : r = x 0 := Fin.ext h0
    obtain rfl : j = x 1 := Fin.ext (Nat.add_left_cancel h1)
    obtain ⟨p, q, rfl⟩ : ∃ p q, x = ix2 p q := ⟨x 0, x 1, eq_ix2 x⟩
    unfold_payloads
    pointwise [dot_S512x1024_S1024x1024_S512x1024_1_1_0_0_n_n]
    rfl
  · exfalso; have e : (ix2 (n0 := 512) (n1 := 2048) r ⟨1024 + j.val, by omega⟩ 1).val = 1024 + j.val := rfl; omega

/-- At the first point: the first branch's gradient. -/
theorem out13_A (r : Fin 512) (j : Fin 1024) : out0_A_13 c i arg1 harg1 arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 arg19 harg19 arg20 harg20 arg21 harg21 hc0 x0 x1 x2 x3 x4 x5 x6 x7 x8 x9 x10 x11 (ix2 r j) = branch (mix x0 x11 r) (row x1 r) (lo x7) j := by
  frame_out
  unfold_payloads
  pointwise [dot_S512x1024_S1024x1024_S512x1024_1_1_0_0_n_n]
  rfl

/-- At the first point: the second branch's gradient. -/
theorem out14_A (r : Fin 512) (j : Fin 1024) : out0_A_14 c i arg1 harg1 arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 arg19 harg19 arg20 harg20 arg21 harg21 hc0 x0 x1 x2 x3 x4 x5 x6 x7 x8 x9 x10 x11 (ix2 r j) = branch (mix x0 x11 r) (row x2 r) (hi x7) j := by
  frame_out
  unfold_payloads
  pointwise [dot_S512x1024_S1024x1024_S512x1024_1_1_0_0_n_n]
  rfl

/-- At the first point: the pooled values' gradient, the four quarters' products summed. -/
theorem out15_A (r n : Fin 512) : out0_A_15 c i arg1 harg1 arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 arg19 harg19 arg20 harg20 arg21 harg21 hc0 x0 x1 x2 x3 x4 x5 x6 x7 x8 x9 x10 x11 (ix2 r n) = rowProd (branch (mix x0 x11 r) (row x1 r) (lo x7)) (quart x9) n := by
  frame_out
  unfold_payloads
  pointwise [dot_S512x1024_S1024x1024_S512x1024_1_1_0_0_n_n, dot_S512x256_S512x256_S512x512_1_1_0_0_n_n]
  rw [rowProd, sum_heads]
  simp only [quart, headOf_hcol, placeOf_hcol]
  rfl

/-- At the first point: the gradient of the gated linear attention's output, head by head. -/
theorem out16_A (r : Fin 512) (j : Fin 1024) : out0_A_16 c i arg1 harg1 arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 arg19 harg19 arg20 harg20 arg21 harg21 hc0 x0 x1 x2 x3 x4 x5 x6 x7 x8 x9 x10 x11 (ix2 r j) = doRow (dogB x0 x2 x7 x10 x11 r) (row x3 r) (row x6 r) (scales x8) j := by
  have hG := dog_pay x0 x2 x7 x10 x11
  frame_out
  generalize k0_pay17 (F := 𝕀) (k0_pay9 (k0_pay8 x0 x11 x2 (View.ld x7 (Rect.unit ![0, 1024] ![1, 1024] inb_S1x2048_S1x1024_0_1024)))) x10 = G at hG ⊢
  canon_tiles x h
  all_goals obtain rfl : r = x 0 := Fin.ext h0
  on_goal 1 => obtain rfl : j = hcol 3 (x 1) := Fin.ext h1
  on_goal 2 => obtain rfl : j = hcol 2 (x 1) := Fin.ext h1
  on_goal 3 => obtain rfl : j = hcol 1 (x 1) := Fin.ext h1
  on_goal 4 => obtain rfl : j = hcol 0 (x 1) := Fin.ext h1
  all_goals
    obtain ⟨p, q, rfl⟩ : ∃ p q, x = ix2 p q := ⟨x 0, x 1, eq_ix2 x⟩
    unfold_payloads
    pointwise
    simp only [hG]
    rw [doRow_at]
    rfl

/-- At the first point: the gradient of the output activation's argument, head by head. -/
theorem out17_A (r : Fin 512) (j : Fin 1024) : out0_A_17 c i arg1 harg1 arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 arg19 harg19 arg20 harg20 arg21 harg21 hc0 x0 x1 x2 x3 x4 x5 x6 x7 x8 x9 x10 x11 (ix2 r j) = dzogRow (dogB x0 x2 x7 x10 x11 r) (row x3 r) (row x6 r) (scales x8) j := by
  have hG := dog_pay x0 x2 x7 x10 x11
  frame_out
  generalize k0_pay17 (F := 𝕀) (k0_pay9 (k0_pay8 x0 x11 x2 (View.ld x7 (Rect.unit ![0, 1024] ![1, 1024] inb_S1x2048_S1x1024_0_1024)))) x10 = G at hG ⊢
  canon_tiles x h
  all_goals obtain rfl : r = x 0 := Fin.ext h0
  on_goal 1 => obtain rfl : j = hcol 3 (x 1) := Fin.ext h1
  on_goal 2 => obtain rfl : j = hcol 2 (x 1) := Fin.ext h1
  on_goal 3 => obtain rfl : j = hcol 1 (x 1) := Fin.ext h1
  on_goal 4 => obtain rfl : j = hcol 0 (x 1) := Fin.ext h1
  all_goals
    obtain ⟨p, q, rfl⟩ : ∃ p q, x = ix2 p q := ⟨x 0, x 1, eq_ix2 x⟩
    unfold_payloads
    pointwise
    simp only [hG]
    rw [dzogRow_at]
    rfl

/-- At the first point: the sum of the first gate's argument's gradient. -/
theorem out18lo_A (j : Fin 1024) : out0_A_18 c i arg1 harg1 arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 arg19 harg19 arg20 harg20 arg21 harg21 hc0 x0 x1 x2 x3 x4 x5 x6 x7 x8 x9 x10 x11 (ix2 0 ⟨j.val, by omega⟩)
    = 0 + ∑ r, gateGrad (mix x0 x11 r) (row x4 r) (row x1 r) (lo x7) j := by
  frame_open
  simp (disch := decide) only [↓ View.readCov_skip, ↓ View.readCov_cons_toLoadRect, ↓ View.readCov_fill]
  frame_out
  refine (canon_take (S := S1x2048) (e := .f32) 2 _ _ ?cov).trans ?_
  case cov => refine View.cover_of_tiledL (List.take (α := View.Piece (Elt 𝕀) S1x2048 .f32) 2 _) S1x1024.size ?_ _; rfl
  simp only [List.take_succ_cons, List.take_zero]
  canon_tiles x h
  · exfalso; have := j.isLt; have e : (ix2 (n0 := 1) (n1 := 2048) 0 ⟨j.val, by omega⟩ 1).val = j.val := rfl; omega
  · obtain rfl : j = x 1 := Fin.ext h1
    obtain ⟨p, q, rfl⟩ : ∃ p q, x = ix2 p q := ⟨x 0, x 1, eq_ix2 x⟩
    obtain rfl : p = 0 := Subsingleton.elim _ _
    unfold_payloads
    pointwise [dot_S512x1024_S1024x1024_S512x1024_1_1_0_0_n_n]
    rfl

/-- At the first point: the sum of the second gate's argument's gradient. -/
theorem out18hi_A (j : Fin 1024) : out0_A_18 c i arg1 harg1 arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 arg19 harg19 arg20 harg20 arg21 harg21 hc0 x0 x1 x2 x3 x4 x5 x6 x7 x8 x9 x10 x11 (ix2 0 ⟨1024 + j.val, by omega⟩)
    = 0 + ∑ r, gateGrad (mix x0 x11 r) (row x5 r) (row x2 r) (hi x7) j := by
  frame_open
  simp (disch := decide) only [↓ View.readCov_skip, ↓ View.readCov_cons_toLoadRect, ↓ View.readCov_fill]
  frame_out
  refine (canon_take (S := S1x2048) (e := .f32) 2 _ _ ?cov).trans ?_
  case cov => refine View.cover_of_tiledL (List.take (α := View.Piece (Elt 𝕀) S1x2048 .f32) 2 _) S1x1024.size ?_ _; rfl
  simp only [List.take_succ_cons, List.take_zero]
  canon_tiles x h
  · obtain rfl : j = x 1 := Fin.ext (Nat.add_left_cancel h1)
    obtain ⟨p, q, rfl⟩ : ∃ p q, x = ix2 p q := ⟨x 0, x 1, eq_ix2 x⟩
    obtain rfl : p = 0 := Subsingleton.elim _ _
    unfold_payloads
    pointwise [dot_S512x1024_S1024x1024_S512x1024_1_1_0_0_n_n]
    rfl
  · exfalso; have e : (ix2 (n0 := 1) (n1 := 2048) 0 ⟨1024 + j.val, by omega⟩ 1).val = 1024 + j.val := rfl; omega

/-- At the first point: the sum of the scales' gradient over the rows and the heads. -/
theorem out19_A (q : Fin 256) : out0_A_19 c i arg1 harg1 arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 arg19 harg19 arg20 harg20 arg21 harg21 hc0 x0 x1 x2 x3 x4 x5 x6 x7 x8 x9 x10 x11 (ix2 0 q) = 0
    + ∑ h : Fin 4, ∑ r, dgh (head h (dogB x0 x2 x7 x10 x11 r)) (head h (row x3 r)) (head h (row x6 r)) q := by
  have hG := dog_pay x0 x2 x7 x10 x11
  frame_out
  generalize k0_pay17 (F := 𝕀) (k0_pay9 (k0_pay8 x0 x11 x2 (View.ld x7 (Rect.unit ![0, 1024] ![1, 1024] inb_S1x2048_S1x1024_0_1024)))) x10 = G at hG ⊢
  unfold_payloads
  pointwise
  simp only [hG]
  rw [Fin.sum_univ_four]
  rfl
end

end Cert.Kernel5Ideal.Mb
-- ==== Proof.MbArr.lean ====
/- The merge's backward kernel over its whole grid: each output array in closed form over the arrays that the kernel reads. -/
module

public import proofs.«01_k».proof.Proof.MbPoint

@[expose] public section
set_option maxRecDepth 16384
noncomputable section
namespace Cert.Kernel5Ideal.Mb
open Idealize.ShloMosaic Idealize.ShloMosaic.TcCoe Idealize.ShloMosaic.Tactic Gen Cert.Alg Cert.Alg.Merge

local notation "𝕀" => Idealize.ShloMosaic.Ideal

/-- Which block each point takes of that window. -/
theorem idx0 : ∀ t : Fin cfg0.N, win0_0.index t = ![t.val, 0] := (by decide +kernel : ∀ t : Fin grid0.N, win0_0.index t = ![t.val, 0])
/-- Which block each point takes of that window. -/
theorem idx1 : ∀ t : Fin cfg0.N, win0_1.index t = ![t.val, 0] := (by decide +kernel : ∀ t : Fin grid0.N, win0_1.index t = ![t.val, 0])
/-- Which block each point takes of that window. -/
theorem idx2 : ∀ t : Fin cfg0.N, win0_2.index t = ![t.val, 1] := (by decide +kernel : ∀ t : Fin grid0.N, win0_2.index t = ![t.val, 1])
/-- Which block each point takes of that window. -/
theorem idx3 : ∀ t : Fin cfg0.N, win0_3.index t = ![t.val, 3] := (by decide +kernel : ∀ t : Fin grid0.N, win0_3.index t = ![t.val, 3])
/-- Which block each point takes of that window. -/
theorem idx4 : ∀ t : Fin cfg0.N, win0_4.index t = ![t.val, 0] := (by decide +kernel : ∀ t : Fin grid0.N, win0_4.index t = ![t.val, 0])
/-- Which block each point takes of that window. -/
theorem idx5 : ∀ t : Fin cfg0.N, win0_5.index t = ![t.val, 0] := (by decide +kernel : ∀ t : Fin grid0.N, win0_5.index t = ![t.val, 0])
/-- Which block each point takes of that window. -/
theorem idx6 : ∀ t : Fin cfg0.N, win0_6.index t = ![t.val, 0] := (by decide +kernel : ∀ t : Fin grid0.N, win0_6.index t = ![t.val, 0])
/-- Which block each point takes of that window. -/
theorem idx7 : ∀ t : Fin cfg0.N, win0_7.index t = ![0, 0] := (by decide +kernel : ∀ t : Fin grid0.N, win0_7.index t = ![0, 0])
/-- Which block each point takes of that window. -/
theorem idx8 : ∀ t : Fin cfg0.N, win0_8.index t = ![0, 0] := (by decide +kernel : ∀ t : Fin grid0.N, win0_8.index t = ![0, 0])
/-- Which block each point takes of that window. -/
theorem idx9 : ∀ t : Fin cfg0.N, win0_9.index t = ![0, 0, 0] := (by decide +kernel : ∀ t : Fin grid0.N, win0_9.index t = ![0, 0, 0])
/-- Which block each point takes of that window. -/
theorem idx10 : ∀ t : Fin cfg0.N, win0_10.index t = ![0, 0] := (by decide +kernel : ∀ t : Fin grid0.N, win0_10.index t = ![0, 0])
/-- Which block each point takes of that window. -/
theorem idx11 : ∀ t : Fin cfg0.N, win0_11.index t = ![0, 0] := (by decide +kernel : ∀ t : Fin grid0.N, win0_11.index t = ![0, 0])
/-- Which block each point takes of that window. -/
theorem idx12 : ∀ t : Fin cfg0.N, win0_12.index t = ![t.val, 0] := (by decide +kernel : ∀ t : Fin grid0.N, win0_12.index t = ![t.val, 0])
/-- Which block each point takes of that window. -/
theorem idx13 : ∀ t : Fin cfg0.N, win0_13.index t = ![t.val, 0] := (by decide +kernel : ∀ t : Fin grid0.N, win0_13.index t = ![t.val, 0])
/-- Which block each point takes of that window. -/
theorem idx14 : ∀ t : Fin cfg0.N, win0_14.index t = ![t.val, 0] := (by decide +kernel : ∀ t : Fin grid0.N, win0_14.index t = ![t.val, 0])
/-- Which block each point takes of that window. -/
theorem idx15 : ∀ t : Fin cfg0.N, win0_15.index t = ![t.val, 0] := (by decide +kernel : ∀ t : Fin grid0.N, win0_15.index t = ![t.val, 0])
/-- Which block each point takes of that window. -/
theorem idx16 : ∀ t : Fin cfg0.N, win0_16.index t = ![t.val, 0] := (by decide +kernel : ∀ t : Fin grid0.N, win0_16.index t = ![t.val, 0])
/-- Which block each point takes of that window. -/
theorem idx17 : ∀ t : Fin cfg0.N, win0_17.index t = ![t.val, 0] := (by decide +kernel : ∀ t : Fin grid0.N, win0_17.index t = ![t.val, 0])

variable (m : ∀ l : Loc nD τ sig, Buf (Elt 𝕀) l) (c : Dev nD)

/-- There are four points. -/
theorem lt4 (t : Fin cfg0.N) : t.val < 4 := N_0 ▸ t.isLt

/-- The row of the whole array at which row `r` of point `t`'s block lies. -/
theorem row_lt (t : Fin cfg0.N) (r : Fin 512) : t.val * 512 + r.val < 2048 := by have := lt4 t; omega

/-- That row. -/
def rowOf (t : Fin cfg0.N) (r : Fin 512) : Fin 2048 := ⟨t.val * 512 + r.val, row_lt t r⟩

/-- A row of a whole array. -/
def rowG (X : Vec 𝕀 S2048x1024 .bf16) (T : Fin 2048) (j : Fin 1024) : EReal := X (ix2 T j)

/-- The first gate's argument along a row of the whole array. -/
def z0G (T : Fin 2048) (j : Fin 1024) : EReal := (V m c main_v26 : Vec 𝕀 S2048x5760 .bf16) (ix2 T ⟨j.val, by omega⟩)

/-- The second gate's argument along a row of the whole array. -/
def z1G (T : Fin 2048) (j : Fin 1024) : EReal := (V m c main_v26 : Vec 𝕀 S2048x5760 .bf16) (ix2 T ⟨1024 + j.val, by omega⟩)

/-- The output activation's argument along a row of the whole array. -/
def zoG (T : Fin 2048) (j : Fin 1024) : EReal := (V m c main_v26 : Vec 𝕀 S2048x5760 .bf16) (ix2 T ⟨3072 + j.val, by omega⟩)

/-- The merged gradient along a row of the whole array. -/
def mixG (T : Fin 2048) : Fin 1024 → EReal := rowProd (rowG (V m c main_v31) T) (mat (V m c main_v36))

/-- The gradient of the gated linear attention's gated output along a row of the whole array. -/
def dogG (T : Fin 2048) : Fin 1024 → EReal :=
  rowProd (branch (mixG m c T) (z1G m c T) (hi (V m c main_arg4))) (mat (V m c main_v35))

/-- A row of the block is a row of its array. -/
theorem blk0 (t : Fin cfg0.N) (r : Fin 512) : row (iblk m c 0 t) r = rowG (V m c main_v31) (rowOf t r) := by
  funext j
  unfold row rowG rowOf
  blk_ext [iblk, idx0 t]

/-- A row of the block is a row of its array. -/
theorem blk4 (t : Fin cfg0.N) (r : Fin 512) : row (iblk m c 4 t) r = rowG (V m c main_v32) (rowOf t r) := by
  funext j
  unfold row rowG rowOf
  blk_ext [iblk, idx4 t]

/-- A row of the block is a row of its array. -/
theorem blk5 (t : Fin cfg0.N) (r : Fin 512) : row (iblk m c 5 t) r = rowG (V m c main_v33) (rowOf t r) := by
  funext j
  unfold row rowG rowOf
  blk_ext [iblk, idx5 t]

/-- A row of the block is a row of its array. -/
theorem blk6 (t : Fin cfg0.N) (r : Fin 512) : row (iblk m c 6 t) r = rowG (V m c main_v34) (rowOf t r) := by
  funext j
  unfold row rowG rowOf
  blk_ext [iblk, idx6 t]

/-- A row of the block is a part of a row of its array. -/
theorem blk1 (t : Fin cfg0.N) (r : Fin 512) : row (X0_1 m c t) r = z0G m c (rowOf t r) := by
  funext j
  unfold row z0G rowOf X0_1 Pipeline.Window.fill
  rw [dif_pos (moved0_1 t _)]
  blk_ext [iblk, idx1 t]

/-- A row of the block is a part of a row of its array. -/
theorem blk2 (t : Fin cfg0.N) (r : Fin 512) : row (X0_2 m c t) r = z1G m c (rowOf t r) := by
  funext j
  unfold row z1G rowOf X0_2 Pipeline.Window.fill
  rw [dif_pos (moved0_2 t _)]
  blk_ext [iblk, idx2 t]

/-- A row of the block is a part of a row of its array. -/
theorem blk3 (t : Fin cfg0.N) (r : Fin 512) : row (X0_3 m c t) r = zoG m c (rowOf t r) := by
  funext j
  unfold row zoG rowOf X0_3 Pipeline.Window.fill
  rw [dif_pos (moved0_3 t _)]
  blk_ext [iblk, idx3 t]

/-- The block is the whole array. -/
theorem blk7 (t : Fin cfg0.N) : iblk m c 7 t = (V m c main_arg4 : Vec 𝕀 S1x2048 .f32) := by
  funext j; blk_ext [iblk, idx7 t]

/-- The block is the whole array. -/
theorem blk8 (t : Fin cfg0.N) : iblk m c 8 t = (V m c main_arg5 : Vec 𝕀 S1x256 .f32) := by
  funext j; blk_ext [iblk, idx8 t]

/-- The block is the whole array. -/
theorem blk9 (t : Fin cfg0.N) : iblk m c 9 t = (V m c main_v29 : Vec 𝕀 S4x512x256 .bf16) := by
  funext j; blk_ext [iblk, idx9 t]

/-- The block is the whole array. -/
theorem blk10 (t : Fin cfg0.N) : iblk m c 10 t = (V m c main_v35 : Vec 𝕀 S1024x1024 .bf16) := by
  funext j; blk_ext [iblk, idx10 t]

/-- The block is the whole array. -/
theorem blk11 (t : Fin cfg0.N) : iblk m c 11 t = (V m c main_v36 : Vec 𝕀 S1024x1024 .bf16) := by
  funext j; blk_ext [iblk, idx11 t]

/-- The merged gradient at a row of a point's block. -/
theorem mix_blk (t : Fin cfg0.N) (r : Fin 512) : mix (iblk m c 0 t) (iblk m c 11 t) r = mixG m c (rowOf t r) := by
  rw [mix, mixG, blk0, blk11]

/-- The gated output's gradient at a row of a point's block. -/
theorem dog_blk (t : Fin cfg0.N) (r : Fin 512) :
    dogB (iblk m c 0 t) (X0_2 m c t) (iblk m c 7 t) (iblk m c 10 t) (iblk m c 11 t) r = dogG m c (rowOf t r) := by
  rw [dogB, dogG, mix_blk, blk2, blk7, blk10]

/-- At a row of the whole array: the first branch's gradient. -/
def g13 (T : Fin 2048) (j : Fin 1024) : EReal := branch (mixG m c T) (z0G m c T) (lo (V m c main_arg4)) j

/-- A point's block of the first branch's gradient. -/
theorem outs13 (t : Fin cfg0.N) (r : Fin 512) (j : Fin 1024) : (outsAt0 m c t.val t.isLt).2.1 (ix2 r j) = g13 m c (rowOf t r) j := by
  have e : branch (mix (iblk m c 0 t) (iblk m c 11 t) r) (row (X0_1 m c t) r) (lo (iblk m c 7 t)) j = g13 m c (rowOf t r) j := by rw [g13, mix_blk, blk1, blk7]
  by_cases h0 : t.val % 4 = 0
  · simp only [outsAt0_A m c t h0]
    refine Eq.trans ?_ e
    apply out13_A
  · simp only [outsAt0_B m c t h0]
    refine Eq.trans ?_ e
    apply out13_B

/-- As an array: the first branch's gradient. -/
def a13G : Vec 𝕀 S2048x1024 .bf16 := fun i => g13 m c (i 0) (i 1)

/-- The kernel leaves the first branch's gradient. -/
theorem arr13 : (dats m 0 c).arrAt 13 cfg0.N = a13G m c := by
  refine (dats m 0 c).arrAt_eq_of_covers 13 _ (by decide +kernel) fun t hf y => ?_
  blk_simp
  rw [after0_13]
  obtain ⟨p, q, rfl⟩ : ∃ (p : Fin 512) (q : Fin 1024), y = ix2 p q := ⟨y 0, y 1, eq_ix2 y⟩
  have e : (win0_13.blk t).view.emb (ix2 p q) = ix2 (rowOf t p) q := by
    unfold rowOf
    blk_ext [idx13 t]
  rw [e]
  exact outs13 m c t p q

/-- At a row of the whole array: the second branch's gradient. -/
def g14 (T : Fin 2048) (j : Fin 1024) : EReal := branch (mixG m c T) (z1G m c T) (hi (V m c main_arg4)) j

/-- A point's block of the second branch's gradient. -/
theorem outs14 (t : Fin cfg0.N) (r : Fin 512) (j : Fin 1024) : (outsAt0 m c t.val t.isLt).2.2.1 (ix2 r j) = g14 m c (rowOf t r) j := by
  have e : branch (mix (iblk m c 0 t) (iblk m c 11 t) r) (row (X0_2 m c t) r) (hi (iblk m c 7 t)) j = g14 m c (rowOf t r) j := by rw [g14, mix_blk, blk2, blk7]
  by_cases h0 : t.val % 4 = 0
  · simp only [outsAt0_A m c t h0]
    refine Eq.trans ?_ e
    apply out14_A
  · simp only [outsAt0_B m c t h0]
    refine Eq.trans ?_ e
    apply out14_B

/-- As an array: the second branch's gradient. -/
def a14G : Vec 𝕀 S2048x1024 .bf16 := fun i => g14 m c (i 0) (i 1)

/-- The kernel leaves the second branch's gradient. -/
theorem arr14 : (dats m 0 c).arrAt 14 cfg0.N = a14G m c := by
  refine (dats m 0 c).arrAt_eq_of_covers 14 _ (by decide +kernel) fun t hf y => ?_
  blk_simp
  rw [after0_14]
  obtain ⟨p, q, rfl⟩ : ∃ (p : Fin 512) (q : Fin 1024), y = ix2 p q := ⟨y 0, y 1, eq_ix2 y⟩
  have e : (win0_14.blk t).view.emb (ix2 p q) = ix2 (rowOf t p) q := by
    unfold rowOf
    blk_ext [idx14 t]
  rw [e]
  exact outs14 m c t p q

/-- At a row of the whole array: the pooled values' gradient. -/
def g15 (T : Fin 2048) (j : Fin 512) : EReal := rowProd (branch (mixG m c T) (z0G m c T) (lo (V m c main_arg4))) (quart (V m c main_v29)) j

/-- A point's block of the pooled values' gradient. -/
theorem outs15 (t : Fin cfg0.N) (r : Fin 512) (j : Fin 512) : (outsAt0 m c t.val t.isLt).2.2.2.1 (ix2 r j) = g15 m c (rowOf t r) j := by
  have e : rowProd (branch (mix (iblk m c 0 t) (iblk m c 11 t) r) (row (X0_1 m c t) r) (lo (iblk m c 7 t))) (quart (iblk m c 9 t)) j = g15 m c (rowOf t r) j := by rw [g15, mix_blk, blk1, blk7, blk9]
  by_cases h0 : t.val % 4 = 0
  · simp only [outsAt0_A m c t h0]
    refine Eq.trans ?_ e
    apply out15_A
  · simp only [outsAt0_B m c t h0]
    refine Eq.trans ?_ e
    apply out15_B

/-- As an array: the pooled values' gradient. -/
def a15G : Vec 𝕀 S2048x512 .bf16 := fun i => g15 m c (i 0) (i 1)

/-- The kernel leaves the pooled values' gradient. -/
theorem arr15 : (dats m 0 c).arrAt 15 cfg0.N = a15G m c := by
  refine (dats m 0 c).arrAt_eq_of_covers 15 _ (by decide +kernel) fun t hf y => ?_
  blk_simp
  rw [after0_15]
  obtain ⟨p, q, rfl⟩ : ∃ (p : Fin 512) (q : Fin 512), y = ix2 p q := ⟨y 0, y 1, eq_ix2 y⟩
  have e : (win0_15.blk t).view.emb (ix2 p q) = ix2 (rowOf t p) q := by
    unfold rowOf
    blk_ext [idx15 t]
  rw [e]
  exact outs15 m c t p q

/-- At a row of the whole array: the gradient of the gated linear attention's output. -/
def g16 (T : Fin 2048) (j : Fin 1024) : EReal := doRow (dogG m c T) (zoG m c T) (rowG (V m c main_v34) T) (scales (V m c main_arg5)) j

/-- A point's block of the gradient of the gated linear attention's output. -/
theorem outs16 (t : Fin cfg0.N) (r : Fin 512) (j : Fin 1024) : (outsAt0 m c t.val t.isLt).2.2.2.2.1 (ix2 r j) = g16 m c (rowOf t r) j := by
  have e : doRow (dogB (iblk m c 0 t) (X0_2 m c t) (iblk m c 7 t) (iblk m c 10 t) (iblk m c 11 t) r) (row (X0_3 m c t) r) (row (iblk m c 6 t) r) (scales (iblk m c 8 t)) j = g16 m c (rowOf t r) j := by rw [g16, dog_blk, blk3, blk6, blk8]
  by_cases h0 : t.val % 4 = 0
  · simp only [outsAt0_A m c t h0]
    refine Eq.trans ?_ e
    apply out16_A
  · simp only [outsAt0_B m c t h0]
    refine Eq.trans ?_ e
    apply out16_B

/-- As an array: the gradient of the gated linear attention's output. -/
def a16G : Vec 𝕀 S2048x1024 .bf16 := fun i => g16 m c (i 0) (i 1)

/-- The kernel leaves the gradient of the gated linear attention's output. -/
theorem arr16 : (dats m 0 c).arrAt 16 cfg0.N = a16G m c := by
  refine (dats m 0 c).arrAt_eq_of_covers 16 _ (by decide +kernel) fun t hf y => ?_
  blk_simp
  rw [after0_16]
  obtain ⟨p, q, rfl⟩ : ∃ (p : Fin 512) (q : Fin 1024), y = ix2 p q := ⟨y 0, y 1, eq_ix2 y⟩
  have e : (win0_16.blk t).view.emb (ix2 p q) = ix2 (rowOf t p) q := by
    unfold rowOf
    blk_ext [idx16 t]
  rw [e]
  exact outs16 m c t p q

/-- At a row of the whole array: the gradient of the output activation's argument. -/
def g17 (T : Fin 2048) (j : Fin 1024) : EReal := dzogRow (dogG m c T) (zoG m c T) (rowG (V m c main_v34) T) (scales (V m c main_arg5)) j

/-- A point's block of the gradient of the output activation's argument. -/
theorem outs17 (t : Fin cfg0.N) (r : Fin 512) (j : Fin 1024) : (outsAt0 m c t.val t.isLt).2.2.2.2.2.1 (ix2 r j) = g17 m c (rowOf t r) j := by
  have e : dzogRow (dogB (iblk m c 0 t) (X0_2 m c t) (iblk m c 7 t) (iblk m c 10 t) (iblk m c 11 t) r) (row (X0_3 m c t) r) (row (iblk m c 6 t) r) (scales (iblk m c 8 t)) j = g17 m c (rowOf t r) j := by rw [g17, dog_blk, blk3, blk6, blk8]
  by_cases h0 : t.val % 4 = 0
  · simp only [outsAt0_A m c t h0]
    refine Eq.trans ?_ e
    apply out17_A
  · simp only [outsAt0_B m c t h0]
    refine Eq.trans ?_ e
    apply out17_B

/-- As an array: the gradient of the output activation's argument. -/
def a17G : Vec 𝕀 S2048x1024 .bf16 := fun i => g17 m c (i 0) (i 1)

/-- The kernel leaves the gradient of the output activation's argument. -/
theorem arr17 : (dats m 0 c).arrAt 17 cfg0.N = a17G m c := by
  refine (dats m 0 c).arrAt_eq_of_covers 17 _ (by decide +kernel) fun t hf y => ?_
  blk_simp
  rw [after0_17]
  obtain ⟨p, q, rfl⟩ : ∃ (p : Fin 512) (q : Fin 1024), y = ix2 p q := ⟨y 0, y 1, eq_ix2 y⟩
  have e : (win0_17.blk t).view.emb (ix2 p q) = ix2 (rowOf t p) q := by
    unfold rowOf
    blk_ext [idx17 t]
  rw [e]
  exact outs17 m c t p q

/-- At a row of the whole array: the gradient of the first gate's argument. -/
def g12lo (T : Fin 2048) (j : Fin 1024) : EReal := gateGrad (mixG m c T) (rowG (V m c main_v32) T) (z0G m c T) (lo (V m c main_arg4)) j

/-- A point's block of it. -/
theorem gate_blk_lo (t : Fin cfg0.N) (r : Fin 512) (j : Fin 1024) :
    gateGrad (mix (iblk m c 0 t) (iblk m c 11 t) r) (row (iblk m c 4 t) r) (row (X0_1 m c t) r) (lo (iblk m c 7 t)) j = g12lo m c (rowOf t r) j := by
  rw [g12lo, mix_blk, blk4, blk1, blk7]

/-- A point's block of the gradient of the first gate's argument. -/
theorem outs12lo (t : Fin cfg0.N) (r : Fin 512) (j : Fin 1024) :
    (outsAt0 m c t.val t.isLt).1 (ix2 r ⟨j.val, by omega⟩) = g12lo m c (rowOf t r) j := by
  by_cases h0 : t.val % 4 = 0
  · simp only [outsAt0_A m c t h0]
    refine Eq.trans ?_ (gate_blk_lo m c t r j)
    apply out12lo_A
  · simp only [outsAt0_B m c t h0]
    refine Eq.trans ?_ (gate_blk_lo m c t r j)
    apply out12lo_B

/-- At a row of the whole array: the gradient of the second gate's argument. -/
def g12hi (T : Fin 2048) (j : Fin 1024) : EReal := gateGrad (mixG m c T) (rowG (V m c main_v33) T) (z1G m c T) (hi (V m c main_arg4)) j

/-- A point's block of it. -/
theorem gate_blk_hi (t : Fin cfg0.N) (r : Fin 512) (j : Fin 1024) :
    gateGrad (mix (iblk m c 0 t) (iblk m c 11 t) r) (row (iblk m c 5 t) r) (row (X0_2 m c t) r) (hi (iblk m c 7 t)) j = g12hi m c (rowOf t r) j := by
  rw [g12hi, mix_blk, blk5, blk2, blk7]

/-- A point's block of the gradient of the second gate's argument. -/
theorem outs12hi (t : Fin cfg0.N) (r : Fin 512) (j : Fin 1024) :
    (outsAt0 m c t.val t.isLt).1 (ix2 r ⟨1024 + j.val, by omega⟩) = g12hi m c (rowOf t r) j := by
  by_cases h0 : t.val % 4 = 0
  · simp only [outsAt0_A m c t h0]
    refine Eq.trans ?_ (gate_blk_hi m c t r j)
    apply out12hi_A
  · simp only [outsAt0_B m c t h0]
    refine Eq.trans ?_ (gate_blk_hi m c t r j)
    apply out12hi_B

/-- Sums over the points, each over its block's rows, are sums over the whole array's rows. -/
theorem sum_rows (f : Fin 2048 → EReal) : ∑ t : Fin cfg0.N, ∑ r : Fin 512, f (rowOf t r) = ∑ T : Fin 2048, f T := by
  show ∑ t : Fin 4, ∑ r : Fin 512, f (rowOf t r) = _
  exact Fin.sum_mul_add_congr (S := 4) (n := 512) (f := f) fun s k hl => rfl

/-- After the last point the sum of the gradient of the first gate's argument is complete. -/
theorem outs18lo (j : Fin 1024) : (outsAt0 m c t0_3.val t0_3.isLt).2.2.2.2.2.2.1 (ix2 0 ⟨j.val, by omega⟩) = ∑ T : Fin 2048, g12lo m c T j := by
  refine (Pipeline.eq_sum_fin_of_reset_step_apply_last (fun n h (j : Fin 1024) => (outsAt0 m c n h).2.2.2.2.2.2.1 (ix2 0 ⟨j.val, by omega⟩)) 4 (fun _ => 0)
    (fun t j => ∑ r : Fin 512, g12lo m c (rowOf t r) j)
    (fun t h0 j => ?_) (fun t h0 j => ?_) (le_of_eq N_0) t0_3 (by decide +kernel) j).trans ?_
  · simp only [outsAt0_A m c t h0, ← gate_blk_lo]
    apply out18lo_A
  · simp only [outsAt0_B m c t h0, ← gate_blk_lo]
    apply out18lo_B
  · rw [zero_add]
    exact sum_rows fun T => g12lo m c T j

/-- After the last point the sum of the gradient of the second gate's argument is complete. -/
theorem outs18hi (j : Fin 1024) : (outsAt0 m c t0_3.val t0_3.isLt).2.2.2.2.2.2.1 (ix2 0 ⟨1024 + j.val, by omega⟩) = ∑ T : Fin 2048, g12hi m c T j := by
  refine (Pipeline.eq_sum_fin_of_reset_step_apply_last (fun n h (j : Fin 1024) => (outsAt0 m c n h).2.2.2.2.2.2.1 (ix2 0 ⟨1024 + j.val, by omega⟩)) 4 (fun _ => 0)
    (fun t j => ∑ r : Fin 512, g12hi m c (rowOf t r) j)
    (fun t h0 j => ?_) (fun t h0 j => ?_) (le_of_eq N_0) t0_3 (by decide +kernel) j).trans ?_
  · simp only [outsAt0_A m c t h0, ← gate_blk_hi]
    apply out18hi_A
  · simp only [outsAt0_B m c t h0, ← gate_blk_hi]
    apply out18hi_B
  · rw [zero_add]
    exact sum_rows fun T => g12hi m c T j

/-- At a row of the whole array: the gradient of the scales, summed over the heads. -/
def g19 (T : Fin 2048) (q : Fin 256) (h : Fin 4) : EReal := dgh (head h (dogG m c T)) (head h (zoG m c T)) (head h (rowG (V m c main_v34) T)) q

/-- A point's part of the gradient of the scales. -/
theorem dgh_blk (t : Fin cfg0.N) (r : Fin 512) (q : Fin 256) (h : Fin 4) :
    dgh (head h (dogB (iblk m c 0 t) (X0_2 m c t) (iblk m c 7 t) (iblk m c 10 t) (iblk m c 11 t) r)) (head h (row (X0_3 m c t) r)) (head h (row (iblk m c 6 t) r)) q
      = g19 m c (rowOf t r) q h := by
  rw [g19, dog_blk, blk3, blk6]

/-- After the last point the gradient of the scales is complete. -/
theorem outs19 (q : Fin 256) : (outsAt0 m c t0_3.val t0_3.isLt).2.2.2.2.2.2.2 (ix2 0 q) = ∑ T : Fin 2048, ∑ h : Fin 4, g19 m c T q h := by
  refine (Pipeline.eq_sum_fin_of_reset_step_apply_last (fun n hn (q : Fin 256) => (outsAt0 m c n hn).2.2.2.2.2.2.2 (ix2 0 q)) 4 (fun _ => 0)
    (fun t q => ∑ h : Fin 4, ∑ r : Fin 512, g19 m c (rowOf t r) q h)
    (fun t h0 q => ?_) (fun t h0 q => ?_) (le_of_eq N_0) t0_3 (by decide +kernel) q).trans ?_
  · simp only [outsAt0_A m c t h0, ← dgh_blk]
    apply out19_A
  · simp only [outsAt0_B m c t h0, ← dgh_blk]
    apply out19_B
  · rw [zero_add]
    refine (Finset.sum_congr rfl fun t _ => Finset.sum_comm).trans ?_
    exact sum_rows fun T => ∑ h : Fin 4, g19 m c T q h

/-- The gradient of the scales, as an array. -/
def a19G : Vec 𝕀 S1x256 .f32 := fun i => ∑ T : Fin 2048, ∑ h : Fin 4, g19 m c T (i 1) h

/-- The kernel leaves the gradient of the scales. -/
theorem arr19 : (dats m 0 c).arrAt 19 cfg0.N = a19G m c := by
  refine (dats m 0 c).arrAt_eq_of_after_last 19 t0_3 (by decide +kernel) _ fun j => ?_
  blk_simp
  rw [after0_19]
  obtain ⟨p, q, rfl⟩ : ∃ (p : Fin 1) (q : Fin 256), j = ix2 p q := ⟨j 0, j 1, eq_ix2 j⟩
  obtain rfl : p = 0 := Subsingleton.elim _ _
  refine Eq.trans ?_ ((outs19 m c q).trans ?_)
  · congr 1
  · congr 1

/-- A column of both gates is a column of the first or of the second. -/
theorem half (k : Fin 2048) : (∃ j : Fin 1024, k = ⟨j.val, by omega⟩) ∨ ∃ j : Fin 1024, k = ⟨1024 + j.val, by omega⟩ := by
  by_cases h : k.val < 1024
  · exact Or.inl ⟨⟨k.val, h⟩, rfl⟩
  · exact Or.inr ⟨⟨k.val - 1024, by omega⟩, Fin.ext (by simp only; omega)⟩

/-- At a row of the whole array: the gradient of both gates' arguments. -/
def g12 (T : Fin 2048) (k : Fin 2048) : EReal :=
  if h : k.val < 1024 then g12lo m c T ⟨k.val, h⟩ else g12hi m c T ⟨k.val - 1024, by omega⟩

/-- A column of the first gate. -/
theorem g12_lo (T : Fin 2048) (j : Fin 1024) : g12 m c T ⟨j.val, by omega⟩ = g12lo m c T j := by
  rw [g12, dif_pos (show (⟨j.val, by omega⟩ : Fin 2048).val < 1024 from j.isLt)]

/-- A column of the second gate. -/
theorem g12_hi (T : Fin 2048) (j : Fin 1024) : g12 m c T ⟨1024 + j.val, by omega⟩ = g12hi m c T j := by
  rw [g12, dif_neg (show ¬ (⟨1024 + j.val, by omega⟩ : Fin 2048).val < 1024 by simp only; omega)]
  congr 1
  exact Fin.ext (by simp only; omega)

/-- A point's block of the gradient of the gates' arguments. -/
theorem outs12 (t : Fin cfg0.N) (r : Fin 512) (k : Fin 2048) : (outsAt0 m c t.val t.isLt).1 (ix2 r k) = g12 m c (rowOf t r) k := by
  rcases half k with ⟨j, rfl⟩ | ⟨j, rfl⟩
  · rw [g12_lo]; exact outs12lo m c t r j
  · rw [g12_hi]; exact outs12hi m c t r j

/-- The sum of the gradient of the gates' arguments, as an array. -/
def a18G : Vec 𝕀 S1x2048 .f32 := fun i => ∑ T : Fin 2048, g12 m c T (i 1)

/-- The kernel leaves the sum of the gradient of the gates' arguments. -/
theorem arr18 : (dats m 0 c).arrAt 18 cfg0.N = a18G m c := by
  refine (dats m 0 c).arrAt_eq_of_after_last 18 t0_3 (by decide +kernel) _ fun j => ?_
  blk_simp
  rw [after0_18]
  obtain ⟨p, q, rfl⟩ : ∃ (p : Fin 1) (q : Fin 2048), j = ix2 p q := ⟨j 0, j 1, eq_ix2 j⟩
  obtain rfl : p = 0 := Subsingleton.elim _ _
  have e : (outsAt0 m c t0_3.val t0_3.isLt).2.2.2.2.2.2.1 (ix2 0 q) = ∑ T : Fin 2048, g12 m c T q := by
    rcases half q with ⟨j, rfl⟩ | ⟨j, rfl⟩
    · simp only [g12_lo]; exact outs18lo m c j
    · simp only [g12_hi]; exact outs18hi m c j
  refine Eq.trans ?_ (e.trans ?_)
  · congr 1
  · congr 1

end Cert.Kernel5Ideal.Mb
-- ==== Proof.MbTail.lean ====
/- The merge's backward kernel: the gates' gradient, which fills a part of its array, and how every run ends. -/
module

public import proofs.«01_k».proof.Proof.MbArr
public import Idealize.ShloMosaic.Lib.StableHlo.RunClose
public import Idealize.ShloMosaic.Lib.Claim

@[expose] public section
set_option maxRecDepth 16384
noncomputable section
namespace Cert.Kernel5Ideal.Mb
open Idealize.ShloMosaic Idealize.ShloMosaic.TcCoe Idealize.ShloMosaic.Tactic Gen Cert.Alg Cert.Alg.Merge

local notation "𝕀" => Idealize.ShloMosaic.Ideal

variable (m : ∀ l : Loc nD τ sig, Buf (Elt 𝕀) l) (c : Dev nD)

/-- Each point writes its block of the gates' gradient back. -/
theorem flush12 : ∀ t : Fin cfg0.N, (cfg0.win 12).flush t = true := by decide +kernel

/-- The gates' gradient over the whole array, as far as it is written. -/
def g12W (T : Fin 2048) (k : Fin 5760) : EReal := if h : k.val < 2048 then g12 m c T ⟨k.val, h⟩ else 0

/-- No point's block is cut. -/
theorem xsize12 : ∀ t : Fin cfg0.N, ∀ a, (cfg0.win 12).xsize (cfg0.grid.coords t) a = (cfg0.win 12).size a := by decide +kernel

/-- A point's block by its rows and columns. -/
def at12 (t : Fin cfg0.N) (p : Fin 512) (q : Fin 2048) : ((cfg0.win 12).xblock (cfg0.grid.coords t)).Idx :=
  fun a => ⟨(ix2 p q a).val, by
    have h := (ix2 p q a).isLt
    have e := xsize12 t a
    exact lt_of_lt_of_eq h e.symm⟩

/-- Every entry of a point's block has a row and a column. -/
theorem at12_of (t : Fin cfg0.N) (y : ((cfg0.win 12).xblock (cfg0.grid.coords t)).Idx) : ∃ p q, y = at12 t p q := by
  have h0 : (y 0).val < 512 := lt_of_lt_of_eq (y 0).isLt (xsize12 t 0)
  have h1 : (y 1).val < 2048 := lt_of_lt_of_eq (y 1).isLt (xsize12 t 1)
  refine ⟨⟨(y 0).val, h0⟩, ⟨(y 1).val, h1⟩, ?_⟩
  funext a
  fin_cases a <;> rfl

/-- Where an entry of a point's block lies in the array. -/
theorem emb12 (t : Fin cfg0.N) (p : Fin 512) (q : Fin 2048) :
    ((cfg0.win 12).blk t).view.emb (at12 t p q) = (ix2 (rowOf t p) ⟨q.val, by omega⟩ : S2048x5760.Idx) := by
  unfold rowOf at12
  blk_ext [idx12 t]

/-- The kernel leaves the gates' gradient in the first columns. -/
theorem arr12 (T k : Fin 2048) :
    ((dats m 0 c).arrAt 12 cfg0.N : Vec 𝕀 S2048x5760 .bf16) (ix2 T ⟨k.val, by omega⟩) = g12 m c T k := by
  have hT : T.val / 512 < cfg0.N := lt_of_lt_of_eq (by omega) N_0.symm
  have hrow : rowOf ⟨T.val / 512, hT⟩ ⟨T.val % 512, by omega⟩ = T := Fin.ext (by simp only [rowOf]; omega)
  refine (dats m 0 c).arrAt_forall_of_flushed 12
    (fun i v => ∀ T k : Fin 2048, i = (ix2 T ⟨k.val, by omega⟩ : S2048x5760.Idx) → v = g12 m c T k)
    (fun t hf y => ?_) cfg0.N ⟨T.val / 512, hT⟩ _ hT (flush12 _) ?_ T k rfl
  · obtain ⟨p, q, rfl⟩ := at12_of t y
    intro T k h
    have h' := (emb12 t p q).symm.trans h
    have hp : rowOf t p = T := congrFun h' 0
    have hv : q.val = k.val := congrArg (fun x : Fin 5760 => x.val) (congrFun h' 1)
    have hq : q = k := Fin.ext hv
    subst hp hq
    refine Eq.trans ?_ (outs12 m c t p q)
    show (dats m 0 c).after 12 t _ = _
    rw [after0_12]
    congr 1
  · have h := emb12 ⟨T.val / 512, hT⟩ ⟨T.val % 512, by omega⟩ k
    rw [hrow] at h
    rw [← h]
    exact View.emb_mem_set _ _

/-- The gates' gradient, as an array. -/
def a12G : Vec 𝕀 S2048x2048 .bf16 := fun i => g12 m c (i 0) (i 1)

/-- Only the three readings of the projected input share an array. -/
theorem shared : ∀ w w' : Fin cfg0.W, w ≠ w' → Pipeline.arrRef spec0 w = Pipeline.arrRef spec0 w' → w = 1 ∨ w = 2 ∨ w = 3 := by
  decide +kernel

/-- After the region the host keeps the written columns. -/
theorem tail12 : (Pipeline.afterTail₀ cfgs (dats m) 0 (V0 m) [hostOps1] c main_v38 : Vec 𝕀 S2048x2048 .bf16) = a12G m c := by
  unfold Pipeline.afterTail₀
  show StableHlo.after hostOps1 _ (Proc.devRef .tc main_v38) = _
  after_results
  have hw := Pipeline.withArrays_arr_shared spec0 c (V0 m c) (fun w => (dats m 0 c).arrAt w cfg0.N) ?_ 12
  · funext i
    obtain ⟨p, q, rfl⟩ : ∃ (p q : Fin 2048), i = ix2 p q := ⟨i 0, i 1, eq_ix2 i⟩
    refine Eq.trans ?_ (arr12 m c p q)
    rw [← hw]
    pointwise
  · intro w w' hne e
    rcases shared w w' hne e with rfl | rfl | rfl
    · exact ((dats m 0 c).arrAt_in 1 rfl _).trans (A_eq m c 1)
    · exact ((dats m 0 c).arrAt_in 2 rfl _).trans (A_eq m c 2)
    · exact ((dats m 0 c).arrAt_in 3 rfl _).trans (A_eq m c 3)

set_option maxHeartbeats 2000000 in
/-- How every run ends. -/
theorem run (ρ : Dev nD → PrngReg) : θ_run defs (onTc (τ := τ) (main (F := 𝕀))) ⟨m, fun _ => 0, ρ⟩ (fun r => ∀ c : Dev nD,
    r.2.mem ((c.tc : Thread nD τ).loc main_v38) = a12G m c
    ∧ r.2.mem ((c.tc : Thread nD τ).loc main_v37_1) = a13G m c
    ∧ r.2.mem ((c.tc : Thread nD τ).loc main_v37_2) = a14G m c
    ∧ r.2.mem ((c.tc : Thread nD τ).loc main_v37_3) = a15G m c
    ∧ r.2.mem ((c.tc : Thread nD τ).loc main_v37_4) = a16G m c
    ∧ r.2.mem ((c.tc : Thread nD τ).loc main_v37_5) = a17G m c
    ∧ r.2.mem ((c.tc : Thread nD τ).loc main_v37_6) = a18G m c
    ∧ r.2.mem ((c.tc : Thread nD τ).loc main_v37_7) = a19G m c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)) :=
  (θ_run defs _ _).mono (fun _ h c => ⟨((h c).2 main_v38 (Pipeline.mem_restRefs_of main_v38 (by decide) (by decide))).trans (tail12 m c),
      ((h c).1 13).trans (arr13 m c), ((h c).1 14).trans (arr14 m c), ((h c).1 15).trans (arr15 m c), ((h c).1 16).trans (arr16 m c),
      ((h c).1 17).trans (arr17 m c), ((h c).1 18).trans (arr18 m c), ((h c).1 19).trans (arr19 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).1 7).trans (((dats m 0 c).arrAt_in 7 rfl _).trans ((A_eq m c 7).trans (V_main_arg4 m c))),
      ((h c).1 8).trans (((dats m 0 c).arrAt_in 8 rfl _).trans ((A_eq m c 8).trans (V_main_arg5 m c))),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c)⟩) (run_main m ρ)

end Cert.Kernel5Ideal.Mb
-- ==== Proof.MbRef.lean ====
/- The reference's gradients of the merge read at an index. -/
module

public import proofs.«01_k».proof.Proof.Gen.Reference5Ideal.Read
public import proofs.«01_k».proof.Proof.MbAlg
public import Idealize.ShloMosaic.Lib.Pipeline.ValueKit

@[expose] public section
set_option maxRecDepth 16384
noncomputable section
namespace Cert.Reference5Ideal.Mb
open Idealize.ShloMosaic Idealize.ShloMosaic.TcCoe Idealize.ShloMosaic.Tactic Read Cert.Alg Cert.Alg.Merge

local notation "𝕀" => Idealize.ShloMosaic.Ideal

variable (x0 : Vec 𝕀 S2048x1024 .f32) (x1 : Vec 𝕀 S2048x5648 .f32) (x2 : Vec 𝕀 S2048x512 .f32) (x3 : Vec 𝕀 S2048x1024 .f32)
  (x4 : Vec 𝕀 S1x2048 .f32) (x5 : Vec 𝕀 S1x256 .f32) (x6 : Vec 𝕀 S512x1024 .f32) (x7 x8 : Vec 𝕀 S1024x1024 .f32)
  (T : Fin 2048) (j : Fin 1024)

/-- The merged gradient along a row. -/
def mixR (T : Fin 2048) : Fin 1024 → EReal := rowProd (fun k => x0 (ix2 T k)) (fun j k => x8 (ix2 j k))

/-- The first gate's argument along a row. -/
def z0R (T : Fin 2048) (j : Fin 1024) : EReal := x1 (ix2 T ⟨3600 + j.val, by omega⟩)

/-- The second gate's argument along a row. -/
def z1R (T : Fin 2048) (j : Fin 1024) : EReal := x1 (ix2 T ⟨4624 + j.val, by omega⟩)

/-- The output activation's argument along a row. -/
def zoR (T : Fin 2048) (j : Fin 1024) : EReal := x1 (ix2 T ⟨2560 + j.val, by omega⟩)

/-- The first gate's offsets. -/
def b0R (j : Fin 1024) : EReal := x4 (ix2 0 ⟨j.val, by omega⟩)

/-- The second gate's offsets. -/
def b1R (j : Fin 1024) : EReal := x4 (ix2 0 ⟨1024 + j.val, by omega⟩)

/-- The gate. -/
theorem gate_eq (k : Fin 2048) : val_main_v31 (F := 𝕀) x1 x4 (ix2 T k) = sg (x1 (ix2 T ⟨3600 + k.val, by omega⟩) + x4 (ix2 0 k)) := by
  pointwise [val_main_v31, val_main_v30, val_main_v29, val_main_v28, val_main_v27, val_main_v26, val_main_v25, val_main_v24, val_main_v1, val_main_cst_3, val_main_cst_4]
  rw [sg, zero_sub]

/-- The first gate. -/
theorem gate0_eq : val_main_v37 (F := 𝕀) x1 x4 (ix2 T j) = sg (z0R x1 T j + b0R x4 j) := by
  pointwise [val_main_v37, val_main_v36, val_main_v35]
  rw [gate_eq]
  rfl

/-- The second gate. -/
theorem gate1_eq : val_main_v40 (F := 𝕀) x1 x4 (ix2 T j) = sg (z1R x1 T j + b1R x4 j) := by
  pointwise [val_main_v40, val_main_v39, val_main_v35]
  have e : (⟨4624 + j.val, by omega⟩ : Fin 5648) = ⟨3600 + (1024 + j.val), by omega⟩ := Fin.ext (by simp only; omega)
  rw [gate_eq, z1R, b1R, e]

/-- The merged gradient. -/
theorem mix_eq : val_main_v44 (F := 𝕀) x0 x8 (ix2 T j) = mixR x0 x8 T j := by
  pointwise [val_main_v44]
  rfl

/-- The gradient of the first branch. -/
theorem dyp_eq : val_main_v49 (F := 𝕀) x0 x1 x4 x8 (ix2 T j) = branch (mixR x0 x8 T) (z0R x1 T) (b0R x4) j := by
  pointwise [val_main_v49]
  rw [gate0_eq, mix_eq, mul_comm]
  rfl

/-- The gradient of the second branch. -/
theorem dyg_eq : val_main_v45 (F := 𝕀) x0 x1 x4 x8 (ix2 T j) = branch (mixR x0 x8 T) (z1R x1 T) (b1R x4) j := by
  pointwise [val_main_v45]
  rw [gate1_eq, mix_eq, mul_comm]
  rfl

/-- The first branch's value along a row. -/
def ypR (T : Fin 2048) (j : Fin 1024) : EReal := val_main_v2 (F := 𝕀) x2 x6 (ix2 T j)

/-- The second branch's value along a row. -/
def ygR (T : Fin 2048) (j : Fin 1024) : EReal := val_main_v23 (F := 𝕀) x1 x3 x5 x7 (ix2 T j)

/-- The gate times one minus the gate. -/
theorem slope_eq (k : Fin 2048) : val_main_v34 (F := 𝕀) x1 x4 (ix2 T k)
    = sg (x1 (ix2 T ⟨3600 + k.val, by omega⟩) + x4 (ix2 0 k)) * (1 - sg (x1 (ix2 T ⟨3600 + k.val, by omega⟩) + x4 (ix2 0 k))) := by
  pointwise [val_main_v34, val_main_v33, val_main_v32, val_main_cst_5]
  rw [gate_eq]

/-- The two gradients side by side, before the gates' derivative: the first half. -/
theorem halves0_eq (k : Fin 2048) (hk : k.val = j.val) : val_main_v54 (F := 𝕀) x0 x1 x2 x3 x5 x6 x7 x8 (ix2 T k)
    = mixR x0 x8 T j * ypR x2 x6 T j := by
  pointwise [val_main_v54, val_main_v53, val_main_v52, val_main_v51, val_main_v50, val_main_v48, val_main_v47, val_main_v46, val_main_cst_6, val_main_cst_7]
  rw [dif_neg (by omega), dif_pos ⟨by omega, by omega⟩, zero_add]
  have e : (⟨k.val % 1024, by omega⟩ : Fin 1024) = j := Fin.ext (by simp only; omega)
  rw [e, mix_eq, ypR]

/-- The two gradients side by side, before the gates' derivative: the second half. -/
theorem halves1_eq (k : Fin 2048) (hk : k.val = 1024 + j.val) : val_main_v54 (F := 𝕀) x0 x1 x2 x3 x5 x6 x7 x8 (ix2 T k)
    = mixR x0 x8 T j * ygR x1 x3 x5 x7 T j := by
  pointwise [val_main_v54, val_main_v53, val_main_v52, val_main_v51, val_main_v50, val_main_v48, val_main_v47, val_main_v46, val_main_cst_6, val_main_cst_7]
  have h1 : (1 ≤ k.val / 1024 ∧ k.val / 1024 - 1 < 1) ∧ k.val % 1024 < 1024 := ⟨⟨by omega, by omega⟩, by omega⟩
  have h2 : ¬ k.val / 1024 < 1 := by omega
  simp only [h1, h2, dif_pos, dif_neg, and_self, false_and, not_false_eq_true, add_zero]
  have e : (⟨k.val % 1024, by omega⟩ : Fin 1024) = j := Fin.ext (by simp only; omega)
  simp only [e, mix_eq]
  rfl

/-- The gradient of the gates' argument: the first half. -/
theorem dz0_eq (k : Fin 2048) (hk : k.val = j.val) : val_main_v55 (F := 𝕀) x0 x1 x2 x3 x4 x5 x6 x7 x8 (ix2 T k)
    = gateGrad (mixR x0 x8 T) (ypR x2 x6 T) (z0R x1 T) (b0R x4) j := by
  have e : k = ⟨j.val, by omega⟩ := Fin.ext hk
  pointwise [val_main_v55]
  rw [halves0_eq x0 x1 x2 x3 x5 x6 x7 x8 T j k hk, slope_eq, ← mul_assoc, e]; rfl

/-- The gradient of the gates' argument: the second half. -/
theorem dz1_eq (k : Fin 2048) (hk : k.val = 1024 + j.val) : val_main_v55 (F := 𝕀) x0 x1 x2 x3 x4 x5 x6 x7 x8 (ix2 T k)
    = gateGrad (mixR x0 x8 T) (ygR x1 x3 x5 x7 T) (z1R x1 T) (b1R x4) j := by
  have e : k = ⟨1024 + j.val, by omega⟩ := Fin.ext hk
  have e' : (⟨4624 + j.val, by omega⟩ : Fin 5648) = ⟨3600 + (1024 + j.val), by omega⟩ := Fin.ext (by simp only; omega)
  pointwise [val_main_v55]
  rw [halves1_eq x0 x1 x2 x3 x5 x6 x7 x8 T j k hk, slope_eq, ← mul_assoc, e, gateGrad, z1R, b1R, e']

/-- The gradient of the gates' offsets: the sum over the rows. -/
theorem dbg_eq (k : Fin 2048) : val_main_v57 (F := 𝕀) x0 x1 x2 x3 x4 x5 x6 x7 x8 (ix2 0 k)
    = ∑ T : Fin 2048, val_main_v55 (F := 𝕀) x0 x1 x2 x3 x4 x5 x6 x7 x8 (ix2 T k) := by
  pointwise [val_main_v57, val_main_v56, val_main_cst_8]

/-- The gradient of the pooled values. -/
theorem dpp_eq (n : Fin 512) : val_main_v58 (F := 𝕀) x0 x1 x4 x6 x8 (ix2 T n)
    = rowProd (branch (mixR x0 x8 T) (z0R x1 T) (b0R x4)) (fun n j => x6 (ix2 n j)) n := by
  pointwise [val_main_v58]
  exact Finset.sum_congr rfl fun k _ => by rw [dyp_eq]

/-- The gradient of the gated linear attention's gated output along a row. -/
def dogR (T : Fin 2048) : Fin 1024 → EReal := rowProd (branch (mixR x0 x8 T) (z1R x1 T) (b1R x4)) (fun j k => x7 (ix2 j k))

/-- The gradient of the gated output. -/
theorem dog_eq : val_main_v59 (F := 𝕀) x0 x1 x4 x7 x8 (ix2 T j) = dogR x0 x1 x4 x7 x8 T j := by
  pointwise [val_main_v59]
  unfold dogR rowProd
  exact Finset.sum_congr rfl fun k _ => by rw [dyg_eq]

/-- A head's column by its number. -/
theorem hcol_mk (h : Fin 4) (q : Fin 256) : (⟨h.val * 256 + q.val, by omega⟩ : Fin 1024) = hcol h q := Fin.ext (hcol_val h q).symm

/-- A head's column lies in that head. -/
theorem hcol_div (h : Fin 4) (q : Fin 256) : (⟨(hcol h q).val / 256, by omega⟩ : Fin 4) = h := headOf_hcol h q

/-- A head's column has that place. -/
theorem hcol_mod (h : Fin 4) (q : Fin 256) : (⟨(hcol h q).val % 256, by omega⟩ : Fin 256) = q := placeOf_hcol h q

/-- The factor of the normalisation. -/
theorem nrm_eq (h : Fin 4) : val_main_v11 (F := 𝕀) x3 (ix3 T h 0) = nrm (head h fun j => x3 (ix2 T j)) := by
  pointwise [val_main_v11, val_main_v10, val_main_v9, val_main_v8, val_main_v7, val_main_v6, val_main_v5, val_main_v4, val_main_v3, val_main_cst, val_main_cst_0, val_main_cst_1]
  simp only [hcol_mk]
  rfl

/-- The mean square of a head. -/
theorem msq_eq (h : Fin 4) : val_main_v10 (F := 𝕀) x3 (ix3 T h 0) = msqW 1132462080#32 (head h fun j => x3 (ix2 T j)) := by
  pointwise [val_main_v10, val_main_v9, val_main_v8, val_main_v7, val_main_v6, val_main_v5, val_main_v4, val_main_v3, val_main_cst, val_main_cst_0, val_main_cst_1]
  simp only [hcol_mk]
  rfl

/-- The normalised heads. -/
theorem normed_eq (h : Fin 4) (q : Fin 256) : val_main_v16 (F := 𝕀) x3 (ix3 T h q)
    = x3 (ix2 T (hcol h q)) * nrm (head h fun j => x3 (ix2 T j)) := by
  pointwise [val_main_v16, val_main_v15, val_main_v3]
  rw [nrm_eq, hcol_mk]

/-- The normalised and scaled heads. -/
theorem scaled_eq (h : Fin 4) (q : Fin 256) : val_main_v20 (F := 𝕀) x3 x5 (ix2 T (hcol h q))
    = x3 (ix2 T (hcol h q)) * nrm (head h fun j => x3 (ix2 T j)) * x5 (ix2 0 q) := by
  pointwise [val_main_v20, val_main_v19, val_main_v18, val_main_v17]
  rw [hcol_div, hcol_mod, normed_eq]

/-- The logistic function of the output activation. -/
theorem sig_eq : val_main_v21_2 (F := 𝕀) x1 (ix2 T j) = sg (zoR x1 T j) := by
  pointwise [val_main_v21_2, val_main_call0_v4, val_main_call0_v3, val_main_call0_v2, val_main_call0_v1, val_main_call0_v0, val_main_v0,
    val_main_call0_cst, val_main_call0_cst_0]
  rw [sg, zero_sub]
  rfl

/-- The output activation. -/
theorem silu_eq : val_main_v21_0 (F := 𝕀) x1 (ix2 T j) = zoR x1 T j * sg (zoR x1 T j) := by
  pointwise [val_main_v21_0, val_main_v0]
  rw [sig_eq]
  rfl

/-- The derivative of the logistic function. -/
theorem sigslope_eq : val_main_v21_1 (F := 𝕀) x1 (ix2 T j) = sg (zoR x1 T j) * (1 - sg (zoR x1 T j)) := by
  pointwise [val_main_v21_1, val_main_call0_v7, val_main_call0_v6, val_main_call0_cst_1]
  rw [sig_eq]

/-- The gradient of the normalised and scaled heads. -/
theorem don_eq (h : Fin 4) (q : Fin 256) : val_main_v63 (F := 𝕀) x0 x1 x4 x7 x8 (ix3 T h q)
    = don (head h (dogR x0 x1 x4 x7 x8 T)) (head h (zoR x1 T)) q := by
  pointwise [val_main_v63, val_main_v61]
  rw [hcol_mk, dog_eq, silu_eq, ← mul_assoc]
  rfl

/-- The gradient of the output activation's argument. -/
theorem dzog_eq (h : Fin 4) (q : Fin 256) (hd : IsReal (dogR x0 x1 x4 x7 x8 T (hcol h q))) (hz : IsReal (zoR x1 T (hcol h q)))
    (ho : ∀ q, IsReal (x3 (ix2 T (hcol h q)))) (hg : IsReal (x5 (ix2 0 q))) :
    val_main_v62 (F := 𝕀) x0 x1 x3 x4 x5 x7 x8 (ix2 T (hcol h q))
      = dzogRow (dogR x0 x1 x4 x7 x8 T) (zoR x1 T) (fun j => x3 (ix2 T j)) (fun q => x5 (ix2 0 q)) (hcol h q) := by
  pointwise [val_main_v62, val_main_call1_v2, val_main_call1_v1, val_main_call1_v0, val_main_v60]
  rw [scaled_eq, dog_eq, sig_eq, sigslope_eq, dzogRow_at]
  have hn := isReal_nrm (o := head h fun j => x3 (ix2 T j)) ho
  have hp := ((ho q).mul hn).mul hg
  rw [dzog]
  have e := silu_factor (hd.mul hp) hz (isReal_sg hz)
  have ez : val_main_v0 (F := 𝕀) x1 (ix2 T (hcol h q)) = zoR x1 T (hcol h q) := by
    pointwise [val_main_v0]
    rfl
  rw [ez, mul_comm _ (dogR x0 x1 x4 x7 x8 T (hcol h q)), ← e]
  simp only [head, mul_assoc]

/-- A host sum over the first two of three axes. -/
theorem reduce_first_two {n0 n1 n2 : ℕ} (h : (⟨3, ![n0, n1, n2]⟩ : Shape).ReducesTo [0, 1] ⟨1, ![n2]⟩) (v : (⟨3, ![n0, n1, n2]⟩ : Shape).Idx → EReal)
    (z : EReal) (q : Fin n2) : Ideal.hostReduceAdd h v z (ix1 q) = z + ∑ a : Fin n0, ∑ b : Fin n1, v (ix3 a b q) := by
  have e : ∀ a b c, h.drop (ix3 a b c) = ix1 c := fun a b c => by funext k; fin_cases k; rfl
  have e' : ∀ c c' : Fin n2, (ix1 c : (⟨1, ![n2]⟩ : Shape).Idx) = ix1 c' ↔ c = c' := fun c c' => ⟨fun w => congrFun w 0, fun w => by rw [w]⟩
  unfold Ideal.hostReduceAdd
  rw [Finset.sum_filter, sum_idx3]
  refine congrArg (z + ·) (Finset.sum_congr rfl fun a _ => Finset.sum_congr rfl fun b _ => ?_)
  simp only [e, e', Finset.sum_ite_eq', Finset.mem_univ, if_true]

/-- The gradient of the scales: the sum over the rows and the heads. -/
theorem dgh_eq (q : Fin 256) : val_main_v70 (F := 𝕀) x0 x1 x3 x4 x7 x8 (ix2 0 q)
    = ∑ T : Fin 2048, ∑ h : Fin 4, dgh (head h (dogR x0 x1 x4 x7 x8 T)) (head h (zoR x1 T)) (head h fun j => x3 (ix2 T j)) q := by
  pointwise [val_main_v70]
  unfold val_main_v69
  show Ideal.hostReduceAdd _ _ _ _ = _
  refine (reduce_first_two _ _ _ _).trans ?_
  pointwise [val_main_v66]
  unfold val_main_v65
  have e : (Host.reduceAdd (F := 𝕀) (φ := .f32) (val_main_v64 (F := 𝕀) x0 x1 x3 x4 x7 x8) (val_main_cst_9 (F := 𝕀)) Gen.reducesTo_S2048x4x256_S256_d0_1 Gen.h_S_ : FVec 𝕀 S256 .f32) (ix1 q)
      = val_main_cst_9 (F := 𝕀) (Shape.Idx.first Gen.h_S_) + ∑ T : Fin 2048, ∑ h : Fin 4, val_main_v64 (F := 𝕀) x0 x1 x3 x4 x7 x8 (ix3 T h q) :=
    @reduce_first_two 2048 4 256 Gen.reducesTo_S2048x4x256_S256_d0_1 (val_main_v64 (F := 𝕀) x0 x1 x3 x4 x7 x8) _ q
  rw [e]
  pointwise [val_main_v64, val_main_cst_9, val_main_cst_10]
  simp only [normed_eq, don_eq, mul_comm (x3 _ * _), Finset.univ_unique, Finset.sum_singleton]
  rfl

/-- The gradient of the gated linear attention's output. -/
theorem do_eq (h : Fin 4) (q : Fin 256) (hd : ∀ q, IsReal (dogR x0 x1 x4 x7 x8 T (hcol h q))) (hz : ∀ q, IsReal (zoR x1 T (hcol h q)))
    (ho : ∀ q, IsReal (x3 (ix2 T (hcol h q)))) (hg : ∀ q, IsReal (x5 (ix2 0 q))) :
    val_main_v85 (F := 𝕀) x0 x1 x3 x4 x5 x7 x8 (ix2 T (hcol h q))
      = doRow (dogR x0 x1 x4 x7 x8 T) (zoR x1 T) (fun j => x3 (ix2 T j)) (fun q => x5 (ix2 0 q)) (hcol h q) := by
  rw [doRow_at, dohRow, bwdRow_eq (by norm_num) word_256 (d := fun k => don (head h (dogR x0 x1 x4 x7 x8 T)) (head h (zoR x1 T)) k * x5 (ix2 0 k)) (x := head h fun j => x3 (ix2 T j))
    (fun k => (((hd k).mul (hz k)).mul (isReal_sg (hz k))).mul (hg k)) ho]
  pointwise [val_main_v85]
  rw [hcol_div, hcol_mod]
  pointwise [val_main_v84, val_main_v83, val_main_v82, val_main_v81, val_main_v80, val_main_v79, val_main_v78, val_main_v77, val_main_v76, val_main_v75, val_main_v74, val_main_v73, val_main_v72, val_main_v71, val_main_v68, val_main_v67, val_main_v3, val_main_v14, val_main_v13, val_main_v12]
  pointwise [val_main_cst_13, val_main_cst_11, val_main_cst_2, val_main_cst_12, val_main_v17]
  simp only [hcol_mk, don_eq, nrm_eq, Finset.univ_unique, Finset.sum_singleton]
  rw [show (default : Fin 1) = 0 from rfl, nrm_eq, msq_eq]
  rfl

end Cert.Reference5Ideal.Mb
-- ==== Proof.MbEntry.lean ====
/- The merge's backward kernel: the arrays that it reads are the arguments, cast, put in another order, or multiplied by the weights. -/
module

public import proofs.«01_k».proof.Proof.MbArr
public import proofs.«01_k».proof.Proof.MbRef
public import proofs.«01_k».proof.Proof.Perm
public import Idealize.ShloMosaic.Lib.StableHlo.RunClose

@[expose] public section
set_option maxRecDepth 16384
noncomputable section
namespace Cert.Kernel5Ideal.Mb
open Idealize.ShloMosaic Idealize.ShloMosaic.TcCoe Idealize.ShloMosaic.Tactic Gen Cert.Alg Cert.Alg.Merge

local notation "𝕀" => Idealize.ShloMosaic.Ideal

variable (m : ∀ l : Loc nD τ sig, Buf (Elt 𝕀) l) (c : Dev nD)

/-- The gradient of the merged output, argument 0. -/
abbrev a0 : Vec 𝕀 S2048x1024 .f32 := m ((c : Thread nD τ).loc main_arg0)
/-- The projected input, argument 1. -/
abbrev a1 : Vec 𝕀 S2048x5648 .f32 := m ((c : Thread nD τ).loc main_arg1)
/-- The pooled values, argument 2. -/
abbrev a2 : Vec 𝕀 S2048x512 .f32 := m ((c : Thread nD τ).loc main_arg2)
/-- The gated linear attention's output, argument 3. -/
abbrev a3 : Vec 𝕀 S2048x1024 .f32 := m ((c : Thread nD τ).loc main_arg3)
/-- The gates' offsets, argument 4. -/
abbrev a4 : Vec 𝕀 S1x2048 .f32 := m ((c : Thread nD τ).loc main_arg4)
/-- The scales of the heads, argument 5. -/
abbrev a5 : Vec 𝕀 S1x256 .f32 := m ((c : Thread nD τ).loc main_arg5)
/-- The pooling's projection, argument 6. -/
abbrev a6 : Vec 𝕀 S512x1024 .f32 := m ((c : Thread nD τ).loc main_arg6)
/-- The attention's projection, argument 7. -/
abbrev a7 : Vec 𝕀 S1024x1024 .f32 := m ((c : Thread nD τ).loc main_arg7)
/-- The output projection, argument 8. -/
abbrev a8 : Vec 𝕀 S1024x1024 .f32 := m ((c : Thread nD τ).loc main_arg8)

/-- The projected input with its columns in the kept order. -/
def zKept (X : Vec 𝕀 S2048x5648 .f32) : Vec 𝕀 S2048x5760 .bf16 :=
  concatenate S2048x5760 1
    [⟨S2048x2048, (extractStridedSlice S2048x2048 ![0, 3600] X slices_S2048x5648_S2048x2048_0_3600 : Vec 𝕀 S2048x2048 .bf16)⟩,
     ⟨S2048x2048, (extractStridedSlice S2048x2048 ![0, 1536] X slices_S2048x5648_S2048x2048_0_1536 : Vec 𝕀 S2048x2048 .bf16)⟩,
     ⟨S2048x1536, (extractStridedSlice S2048x1536 ![0, 0] X slices_S2048x5648_S2048x1536_0_0 : Vec 𝕀 S2048x1536 .bf16)⟩,
     ⟨S2048x16, (extractStridedSlice S2048x16 ![0, 3584] X slices_S2048x5648_S2048x16_0_3584 : Vec 𝕀 S2048x16 .bf16)⟩,
     ⟨S2048x112, (broadcastInDim S2048x112 ![] bcast_S_S2048x112 (constant (F := 𝕀) S_ .bf16 0x0000#16) : Vec 𝕀 S2048x112 .bf16)⟩]
    concatenates_S2048x2048_S2048x2048_S2048x1536_S2048x16_S2048x112_S2048x5760_d1

/-- Arrays put together from equal pieces are equal. -/
theorem zKept_congr (p0 q0 : Vec 𝕀 S2048x2048 .bf16) (p1 q1 : Vec 𝕀 S2048x2048 .bf16) (p2 q2 : Vec 𝕀 S2048x1536 .bf16) (p3 q3 : Vec 𝕀 S2048x16 .bf16) (p4 q4 : Vec 𝕀 S2048x112 .bf16) (h0 : p0 = q0) (h1 : p1 = q1) (h2 : p2 = q2) (h3 : p3 = q3) (h4 : p4 = q4) :
    (concatenate S2048x5760 1 [⟨S2048x2048, p0⟩, ⟨S2048x2048, p1⟩, ⟨S2048x1536, p2⟩, ⟨S2048x16, p3⟩, ⟨S2048x112, p4⟩] concatenates_S2048x2048_S2048x2048_S2048x1536_S2048x16_S2048x112_S2048x5760_d1 : Vec 𝕀 S2048x5760 .bf16)
      = concatenate S2048x5760 1 [⟨S2048x2048, q0⟩, ⟨S2048x2048, q1⟩, ⟨S2048x1536, q2⟩, ⟨S2048x16, q3⟩, ⟨S2048x112, q4⟩] concatenates_S2048x2048_S2048x2048_S2048x1536_S2048x16_S2048x112_S2048x5760_d1 := by
  subst h0 h1 h2 h3 h4; rfl

set_option maxRecDepth 65536 in
set_option maxHeartbeats 2000000 in
/-- The array as the kernel reads it. -/
theorem entry_z : (V m c main_v26 : Vec 𝕀 S2048x5760 .bf16) = zKept (a1 m c) := by
  show StableHlo.after [hostOps0, hostOps0_1, hostOps0_2].flatten _ (Proc.devRef .tc main_v26) = _
  simp only [List.flatten_cons, List.flatten_nil, List.append_nil, List.cons_append, List.nil_append]
  after_results
  exact zKept_congr _ _ _ _ _ _ _ _ _ _ (by dsimp only [Matrix.cons_val]; after_results_simp_entrywise; first | done | rfl) (by dsimp only [Matrix.cons_val]; after_results_simp_entrywise; first | done | rfl)
    (by dsimp only [Matrix.cons_val]; after_results_simp_entrywise; first | done | rfl) (by dsimp only [Matrix.cons_val]; after_results_simp_entrywise; first | done | rfl)
    (by dsimp only [Matrix.cons_val]; after_results_simp_entrywise; first | done | rfl)

/-- A row of the projected input in the kept order. -/
theorem zKept_apply (X : Vec 𝕀 S2048x5648 .f32) (T : Fin 2048) (k : Fin 5760) : zKept X (ix2 T k) = kept (fun r => X (ix2 T r)) k := by
  unfold zKept kept
  pointwise

/-- The merged gradient as the kernel reads it. -/
theorem entry_ct (i : S2048x1024.Idx) : (V m c main_v31 : Vec 𝕀 S2048x1024 .bf16) i = a0 m c i := by entry_read; rfl
/-- The first branch as the kernel reads it. -/
theorem entry_yp (i : S2048x1024.Idx) : (V m c main_v32 : Vec 𝕀 S2048x1024 .bf16) i = Cert.Reference5Ideal.Read.val_main_v2 (F := 𝕀) (a2 m c) (a6 m c) i := by entry_read; rfl
/-- The second branch as the kernel reads it. -/
theorem entry_yg (i : S2048x1024.Idx) : (V m c main_v33 : Vec 𝕀 S2048x1024 .bf16) i = Cert.Reference5Ideal.Read.val_main_v23 (F := 𝕀) (a1 m c) (a3 m c) (a5 m c) (a7 m c) i := by entry_read; rfl
/-- The attention's output as the kernel reads it. -/
theorem entry_o (i : S2048x1024.Idx) : (V m c main_v34 : Vec 𝕀 S2048x1024 .bf16) i = a3 m c i := by entry_read; rfl
/-- The attention's projection as the kernel reads it. -/
theorem entry_wg (i : S1024x1024.Idx) : (V m c main_v35 : Vec 𝕀 S1024x1024 .bf16) i = a7 m c i := by entry_read; rfl
/-- The output projection as the kernel reads it. -/
theorem entry_wo (i : S1024x1024.Idx) : (V m c main_v36 : Vec 𝕀 S1024x1024 .bf16) i = a8 m c i := by entry_read; rfl
set_option maxRecDepth 65536 in
set_option maxHeartbeats 2000000 in
/-- The pooling's projection as the kernel reads it: in four column quarters. -/
theorem entry_wp (n : Fin 512) (j : Fin 1024) : quart (V m c main_v29) n j = a6 m c (ix2 n j) := by
  unfold quart
  show StableHlo.after [hostOps0, hostOps0_1, hostOps0_2].flatten _ (Proc.devRef .tc main_v29) _ = _
  simp only [List.flatten_cons, List.flatten_nil, List.append_nil, List.cons_append, List.nil_append]
  after_results
  pointwise
  have e := hcol_val (headOf j) (placeOf j)
  rw [hcol_of] at e
  exact congrArg (fun k => a6 m c (ix2 n k)) (Fin.ext (by first | exact e.symm | omega))

/-- The merged gradient's rows are the reference's. -/
theorem mixG_eq (T : Fin 2048) : mixG m c T = Cert.Reference5Ideal.Mb.mixR (a0 m c) (a8 m c) T := by
  funext j
  unfold mixG Cert.Reference5Ideal.Mb.mixR rowProd rowG mat
  exact Finset.sum_congr rfl fun k _ => congrArg₂ (· * ·) (entry_ct m c _) (entry_wo m c _)

/-- The first gate's argument is the reference's. -/
theorem z0G_eq (T : Fin 2048) : z0G m c T = Cert.Reference5Ideal.Mb.z0R (a1 m c) T := by
  funext j
  rw [z0G, entry_z, zKept_apply, kept, dif_pos (show (⟨j.val, by omega⟩ : Fin 5760).val < 2048 by simp only; omega)]
  rfl

/-- The second gate's argument is the reference's. -/
theorem z1G_eq (T : Fin 2048) : z1G m c T = Cert.Reference5Ideal.Mb.z1R (a1 m c) T := by
  funext j
  rw [z1G, entry_z, zKept_apply, kept, dif_pos (show (⟨1024 + j.val, by omega⟩ : Fin 5760).val < 2048 by simp only; omega), Cert.Reference5Ideal.Mb.z1R]
  exact congrArg (fun k => a1 m c (ix2 T k)) (Fin.ext (by simp only; omega))

/-- The output activation's argument is the reference's. -/
theorem zoG_eq (T : Fin 2048) : zoG m c T = Cert.Reference5Ideal.Mb.zoR (a1 m c) T := by
  funext j
  rw [zoG, entry_z, zKept_apply, kept, dif_neg (show ¬ (⟨3072 + j.val, by omega⟩ : Fin 5760).val < 2048 by simp only; omega),
    dif_pos (show (⟨3072 + j.val, by omega⟩ : Fin 5760).val - 2048 < 2048 by simp only; omega), Cert.Reference5Ideal.Mb.zoR]
  exact congrArg (fun k => a1 m c (ix2 T k)) (Fin.ext (by simp only; omega))

/-- The first gate's offsets are the reference's. -/
theorem lo_eq : lo (V m c main_arg4) = Cert.Reference5Ideal.Mb.b0R (a4 m c) := by
  funext j
  rw [show (V m c main_arg4 : Vec 𝕀 S1x2048 .f32) = a4 m c from V_main_arg4 m c]; rfl

/-- The second gate's offsets are the reference's. -/
theorem hi_eq : hi (V m c main_arg4) = Cert.Reference5Ideal.Mb.b1R (a4 m c) := by
  funext j
  rw [show (V m c main_arg4 : Vec 𝕀 S1x2048 .f32) = a4 m c from V_main_arg4 m c]; rfl

/-- The scales are the reference's. -/
theorem scales_eq : scales (V m c main_arg5) = fun q => a5 m c (ix2 0 q) := by
  funext q
  rw [show (V m c main_arg5 : Vec 𝕀 S1x256 .f32) = a5 m c from V_main_arg5 m c]; rfl

/-- The gated output's gradient is the reference's. -/
theorem dogG_eq (T : Fin 2048) : dogG m c T = Cert.Reference5Ideal.Mb.dogR (a0 m c) (a1 m c) (a4 m c) (a7 m c) (a8 m c) T := by
  rw [dogG, mixG_eq, z1G_eq, hi_eq, Cert.Reference5Ideal.Mb.dogR]
  congr 1

/-- The first branch's rows are the reference's. -/
theorem ypG_eq (T : Fin 2048) : rowG (V m c main_v32) T = Cert.Reference5Ideal.Mb.ypR (a2 m c) (a6 m c) T := funext fun _ => entry_yp m c _

/-- The second branch's rows are the reference's. -/
theorem ygG_eq (T : Fin 2048) : rowG (V m c main_v33) T = Cert.Reference5Ideal.Mb.ygR (a1 m c) (a3 m c) (a5 m c) (a7 m c) T := funext fun _ => entry_yg m c _

/-- The attention's output's rows are the reference's. -/
theorem oG_eq (T : Fin 2048) : rowG (V m c main_v34) T = fun j => a3 m c (ix2 T j) := funext fun _ => entry_o m c _

/-- The pooling's projection is the reference's. -/
theorem wp_eq : quart (V m c main_v29) = fun n j => a6 m c (ix2 n j) := by
  funext n j
  exact entry_wp m c n j

end Cert.Kernel5Ideal.Mb
-- ==== Proof.MbClaim.lean ====
/- The merge's backward kernel and the reference end with equal results over the reals. -/
module

public import proofs.«01_k».proof.Defs
public import proofs.«01_k».proof.Proof.MbTail
public import proofs.«01_k».proof.Proof.MbEntry
public import proofs.«01_k».proof.Proof.Gen.Reference5Ideal.Run
public import proofs.«01_k».proof.Proof.Gen.Pre_finite5
public import Idealize.ShloMosaic.Lib.Claim
public import Idealize.ShloMosaic.Lib.Quiescent

@[expose] public section
set_option maxRecDepth 16384
noncomputable section
namespace Cert.Mb
open Idealize.ShloMosaic Idealize.ShloMosaic.TcCoe Idealize.ShloMosaic.Tactic Cert.Alg Cert.Alg.Merge
open Cert.Kernel5Ideal Cert.Kernel5Ideal.Gen Cert.Kernel5Ideal.Mb Cert.Reference5Ideal.Read Cert.Reference5Ideal.Mb

local notation "𝕀" => Idealize.ShloMosaic.Ideal

variable (m : ∀ l : Loc nD τ sig, Buf (Elt 𝕀) l) (c : Dev nD)

/-- Every argument is real. -/
structure Finite : Prop where
  h0 : ∀ i, IsReal (a0 m c i)
  h1 : ∀ i, IsReal (a1 m c i)
  h2 : ∀ i, IsReal (a2 m c i)
  h3 : ∀ i, IsReal (a3 m c i)
  h4 : ∀ i, IsReal (a4 m c i)
  h5 : ∀ i, IsReal (a5 m c i)
  h6 : ∀ i, IsReal (a6 m c i)
  h7 : ∀ i, IsReal (a7 m c i)
  h8 : ∀ i, IsReal (a8 m c i)

/-- The precondition says that every argument is real. -/
theorem finite_of_pre (h : Cert.Pre_Kernel5Ideal_finite5 (hPre_finite5 := Cert.Pre_finite5.Gen.facts) m) : Finite m c := by
  obtain ⟨e0, e1, e2, e3, e4, e5, e6, e7, e8⟩ := h c
  constructor
  · intro i
    have e := congrFun e0 i
    simp only [Cert.Pre_finite5.fn] at e
    pointwise at e
    exact isReal_of_test e
  · intro i
    have e := congrFun e1 i
    simp only [Cert.Pre_finite5.fn] at e
    pointwise at e
    exact isReal_of_test e
  · intro i
    have e := congrFun e2 i
    simp only [Cert.Pre_finite5.fn] at e
    pointwise at e
    exact isReal_of_test e
  · intro i
    have e := congrFun e3 i
    simp only [Cert.Pre_finite5.fn] at e
    pointwise at e
    exact isReal_of_test e
  · intro i
    have e := congrFun e4 i
    simp only [Cert.Pre_finite5.fn] at e
    pointwise at e
    exact isReal_of_test e
  · intro i
    have e := congrFun e5 i
    simp only [Cert.Pre_finite5.fn] at e
    pointwise at e
    exact isReal_of_test e
  · intro i
    have e := congrFun e6 i
    simp only [Cert.Pre_finite5.fn] at e
    pointwise at e
    exact isReal_of_test e
  · intro i
    have e := congrFun e7 i
    simp only [Cert.Pre_finite5.fn] at e
    pointwise at e
    exact isReal_of_test e
  · intro i
    have e := congrFun e8 i
    simp only [Cert.Pre_finite5.fn] at e
    pointwise at e
    exact isReal_of_test e

/-- A gate's gradient at the first gate's columns is the reference's. -/
theorem g12lo_eq (T : Fin 2048) (j : Fin 1024) (k : Fin 2048) (hk : k.val = j.val) :
    g12lo m c T j = val_main_v55 (F := 𝕀) (a0 m c) (a1 m c) (a2 m c) (a3 m c) (a4 m c) (a5 m c) (a6 m c) (a7 m c) (a8 m c) (ix2 T k) := by
  rw [dz0_eq _ _ _ _ _ _ _ _ _ T j k hk, g12lo, mixG_eq, ypG_eq, z0G_eq, lo_eq]

/-- A gate's gradient at the second gate's columns is the reference's. -/
theorem g12hi_eq (T : Fin 2048) (j : Fin 1024) (k : Fin 2048) (hk : k.val = 1024 + j.val) :
    g12hi m c T j = val_main_v55 (F := 𝕀) (a0 m c) (a1 m c) (a2 m c) (a3 m c) (a4 m c) (a5 m c) (a6 m c) (a7 m c) (a8 m c) (ix2 T k) := by
  rw [dz1_eq _ _ _ _ _ _ _ _ _ T j k hk, g12hi, mixG_eq, ygG_eq, z1G_eq, hi_eq]

/-- The gates' gradient is the reference's. -/
theorem g12_eq (T k : Fin 2048) : g12 m c T k = val_main_v55 (F := 𝕀) (a0 m c) (a1 m c) (a2 m c) (a3 m c) (a4 m c) (a5 m c) (a6 m c) (a7 m c) (a8 m c) (ix2 T k) := by
  rcases half k with ⟨j, rfl⟩ | ⟨j, rfl⟩
  · rw [g12_lo]; exact g12lo_eq m c T j _ rfl
  · rw [g12_hi]; exact g12hi_eq m c T j _ rfl

/-- The first result is the reference's, without any precondition. -/
theorem res12 : a12G m c = val_main_v86 (F := 𝕀) (a0 m c) (a1 m c) (a2 m c) (a3 m c) (a4 m c) (a5 m c) (a6 m c) (a7 m c) (a8 m c) := by
  funext i
  obtain ⟨p, q, rfl⟩ : ∃ (p q : Fin 2048), i = ix2 p q := ⟨i 0, i 1, eq_ix2 i⟩
  exact g12_eq m c p q

/-- The second result is the reference's, without any precondition. -/
theorem res13 : a13G m c = val_main_v87 (F := 𝕀) (a0 m c) (a1 m c) (a4 m c) (a8 m c) := by
  funext i
  obtain ⟨p, q, rfl⟩ : ∃ (p : Fin 2048) (q : Fin 1024), i = ix2 p q := ⟨i 0, i 1, eq_ix2 i⟩
  refine Eq.trans ?_ (dyp_eq _ _ _ _ p q).symm
  show g13 m c p q = _
  rw [g13, mixG_eq, z0G_eq, lo_eq]

/-- The third result is the reference's, without any precondition. -/
theorem res14 : a14G m c = val_main_v88 (F := 𝕀) (a0 m c) (a1 m c) (a4 m c) (a8 m c) := by
  funext i
  obtain ⟨p, q, rfl⟩ : ∃ (p : Fin 2048) (q : Fin 1024), i = ix2 p q := ⟨i 0, i 1, eq_ix2 i⟩
  refine Eq.trans ?_ (dyg_eq _ _ _ _ p q).symm
  show g14 m c p q = _
  rw [g14, mixG_eq, z1G_eq, hi_eq]

/-- The fourth result is the reference's, without any precondition. -/
theorem res15 : a15G m c = val_main_v89 (F := 𝕀) (a0 m c) (a1 m c) (a4 m c) (a6 m c) (a8 m c) := by
  funext i
  obtain ⟨p, q, rfl⟩ : ∃ (p : Fin 2048) (q : Fin 512), i = ix2 p q := ⟨i 0, i 1, eq_ix2 i⟩
  refine Eq.trans ?_ (dpp_eq _ _ _ _ _ p q).symm
  show g15 m c p q = _
  rw [g15, mixG_eq, z0G_eq, lo_eq, wp_eq]

/-- The seventh result is the reference's, without any precondition. -/
theorem res18 : a18G m c = val_main_v57 (F := 𝕀) (a0 m c) (a1 m c) (a2 m c) (a3 m c) (a4 m c) (a5 m c) (a6 m c) (a7 m c) (a8 m c) := by
  funext i
  obtain ⟨p, q, rfl⟩ : ∃ (p : Fin 1) (q : Fin 2048), i = ix2 p q := ⟨i 0, i 1, eq_ix2 i⟩
  obtain rfl : p = 0 := Subsingleton.elim _ _
  rw [dbg_eq]
  exact Finset.sum_congr rfl fun T _ => g12_eq m c T q

/-- The last result is the reference's, without any precondition. -/
theorem res19 : a19G m c = val_main_v70 (F := 𝕀) (a0 m c) (a1 m c) (a3 m c) (a4 m c) (a7 m c) (a8 m c) := by
  funext i
  obtain ⟨p, q, rfl⟩ : ∃ (p : Fin 1) (q : Fin 256), i = ix2 p q := ⟨i 0, i 1, eq_ix2 i⟩
  obtain rfl : p = 0 := Subsingleton.elim _ _
  rw [dgh_eq]
  refine Finset.sum_congr rfl fun T _ => Finset.sum_congr rfl fun h _ => ?_
  show g19 m c T q h = _
  rw [g19, dogG_eq, zoG_eq, oG_eq]

section
variable {m c} (hf : Finite m c)
include hf

/-- The gated output's gradient is real. -/
theorem real_dog (T : Fin 2048) (j : Fin 1024) : IsReal (dogR (a0 m c) (a1 m c) (a4 m c) (a7 m c) (a8 m c) T j) := by
  unfold dogR rowProd
  refine isReal_sum _ _ fun k => IsReal.mul ?_ (hf.h7 _)
  unfold branch mixR rowProd
  exact IsReal.mul (isReal_sum _ _ fun i => (hf.h0 _).mul (hf.h8 _)) (isReal_sg ((hf.h1 _).add (hf.h4 _)))

/-- The fifth result is the reference's. -/
theorem res16 : a16G m c = val_main_v90 (F := 𝕀) (a0 m c) (a1 m c) (a3 m c) (a4 m c) (a5 m c) (a7 m c) (a8 m c) := by
  funext i
  obtain ⟨p, q, rfl⟩ : ∃ (p : Fin 2048) (q : Fin 1024), i = ix2 p q := ⟨i 0, i 1, eq_ix2 i⟩
  rw [← hcol_of q]
  refine Eq.trans ?_ (do_eq _ _ _ _ _ _ _ p (headOf q) (placeOf q) (fun _ => real_dog hf p _) (fun _ => hf.h1 _) (fun _ => hf.h3 _) fun _ => hf.h5 _).symm
  rw [hcol_of]
  show g16 m c p q = _
  rw [g16, dogG_eq, zoG_eq, oG_eq, scales_eq]

/-- The sixth result is the reference's. -/
theorem res17 : a17G m c = val_main_v91 (F := 𝕀) (a0 m c) (a1 m c) (a3 m c) (a4 m c) (a5 m c) (a7 m c) (a8 m c) := by
  funext i
  obtain ⟨p, q, rfl⟩ : ∃ (p : Fin 2048) (q : Fin 1024), i = ix2 p q := ⟨i 0, i 1, eq_ix2 i⟩
  rw [← hcol_of q]
  refine Eq.trans ?_ (dzog_eq _ _ _ _ _ _ _ p (headOf q) (placeOf q) (real_dog hf p _) (hf.h1 _) (fun _ => hf.h3 _) (hf.h5 _)).symm
  rw [hcol_of]
  show g17 m c p q = _
  rw [g17, dogG_eq, zoG_eq, oG_eq, scales_eq]

end

set_option maxHeartbeats 2000000 in
/-- From equal real arguments the kernel and the reference end with equal results. -/
theorem algebraic : Cert.algebraic_Kernel5Ideal_Reference5Ideal_pre_finite5 (hKernel5Ideal := Cert.Kernel5Ideal.Gen.facts)
    (hReference5Ideal := Cert.Reference5Ideal.Gen.facts) (hPre_finite5 := Cert.Pre_finite5.Gen.facts) := by
  intro m g m' g' hpre hargs
  refine ⟨fun c => val_main_v86 (F := 𝕀) (a0 m c) (a1 m c) (a2 m c) (a3 m c) (a4 m c) (a5 m c) (a6 m c) (a7 m c) (a8 m c),
    fun c => val_main_v87 (F := 𝕀) (a0 m c) (a1 m c) (a4 m c) (a8 m c),
    fun c => val_main_v88 (F := 𝕀) (a0 m c) (a1 m c) (a4 m c) (a8 m c),
    fun c => val_main_v89 (F := 𝕀) (a0 m c) (a1 m c) (a4 m c) (a6 m c) (a8 m c),
    fun c => val_main_v90 (F := 𝕀) (a0 m c) (a1 m c) (a3 m c) (a4 m c) (a5 m c) (a7 m c) (a8 m c),
    fun c => val_main_v91 (F := 𝕀) (a0 m c) (a1 m c) (a3 m c) (a4 m c) (a5 m c) (a7 m c) (a8 m c),
    fun c => val_main_v57 (F := 𝕀) (a0 m c) (a1 m c) (a2 m c) (a3 m c) (a4 m c) (a5 m c) (a6 m c) (a7 m c) (a8 m c),
    fun c => val_main_v70 (F := 𝕀) (a0 m c) (a1 m c) (a3 m c) (a4 m c) (a7 m c) (a8 m c), ?_, ?_⟩
  · refine (θ_run _ _ _).mono (fun r h c => ?_) (Cert.Kernel5Ideal.Mb.run m g)
    obtain ⟨h0, h1, h2, h3, h4, h5, h6, h7, hk⟩ := h c
    have hf := finite_of_pre m c hpre
    exact ⟨h0.trans (res12 m c), h1.trans (res13 m c), h2.trans (res14 m c), h3.trans (res15 m c), h4.trans (res16 hf), h5.trans (res17 hf),
      h6.trans (res18 m c), h7.trans (res19 m c), hk⟩
  · refine (θ_run _ _ _).mono (fun r h c => ?_) (Cert.Reference5Ideal.Value.run (F := 𝕀) m' g')
    obtain ⟨h0, h1, h2, h3, h4, h5, h6, h7, hk⟩ := h c
    obtain ⟨e0, e1, e2, e3, e4, e5, e6, e7, e8⟩ := hargs c
    refine ⟨h0.trans ?_, h1.trans ?_, h2.trans ?_, h3.trans ?_, h4.trans ?_, h5.trans ?_, h6.trans ?_, h7.trans ?_, hk⟩
    · rw [val_main_v86_eq, e0, e1, e2, e3, e4, e5, e6, e7, e8]
    · rw [val_main_v87_eq, e0, e1, e4, e8]
    · rw [val_main_v88_eq, e0, e1, e4, e8]
    · rw [val_main_v89_eq, e0, e1, e4, e6, e8]
    · rw [val_main_v90_eq, e0, e1, e3, e4, e5, e7, e8]
    · rw [val_main_v91_eq, e0, e1, e3, e4, e5, e7, e8]
    · rw [val_main_v57_eq, e0, e1, e2, e3, e4, e5, e6, e7, e8]
    · rw [val_main_v70_eq, e0, e1, e3, e4, e7, e8]

/-- Every run of the reference ends with its arguments as they were and with every counter at zero. -/
theorem frame_r : Cert.quiescent_Reference5Ideal (hReference5Ideal := Cert.Reference5Ideal.Gen.facts) := by
  intro m ρ _
  exact (θ_run Cert.Reference5Ideal.defs _ _).mono
    (fun r h => ⟨fun c => (h c).2.2.2.2.2.2.2.2, sem_eq_zero_of_no_sems (by decide) r.2⟩)
    (Cert.Reference5Ideal.Value.run (F := 𝕀) m ρ)

end Cert.Mb
-- ==== Proof.UpClaim.lean ====
/- The feed-forward's up-projection, resident in four column quarters: its product and the reference's are equal over the reals. -/
module

public import proofs.«01_k».proof.Defs
public import proofs.«01_k».proof.Proof.Gen.Kernel6Ideal.Value
public import proofs.«01_k».proof.Proof.Gen.Reference6Ideal.Run
public import proofs.«01_k».proof.Proof.Gen.Reference6Ideal.Read
public import Idealize.ShloMosaic.Lib.Pointwise
public import Idealize.ShloMosaic.Lib.Pipeline.ValueKit
public import Idealize.ShloMosaic.Lib.Pipeline.ReadBack
public import Idealize.ShloMosaic.Lib.StableHlo.RunClose
public import Idealize.ShloMosaic.Lib.Claim
public import Idealize.ShloMosaic.Lib.Quiescent

@[expose] public section
set_option maxRecDepth 16384
noncomputable section
namespace Cert.Up
open Idealize.ShloMosaic Idealize.ShloMosaic.TcCoe Idealize.ShloMosaic.Tactic
open Cert.Kernel6Ideal Cert.Kernel6Ideal.Gen Cert.Reference6Ideal.Read

local notation "𝕀" => Idealize.ShloMosaic.Ideal

/-! ## One point -/

section
variable (c : Dev nD) (i : grid0.Coords) (arg1 : Memref sig .tc .vmem S2048x1024 .bf16) (harg1 : arg1.IsWhole)
  (arg2 : Memref sig .tc .vmem S1x1024x1408 .bf16) (harg2 : arg2.IsWhole) (arg4 : Memref sig .tc .vmem S2048x1408 .bf16) (harg4 : arg4.IsWhole)
  (x0 : Vec 𝕀 S2048x1024 .bf16) (x1 : Vec 𝕀 S1x1024x1408 .bf16)

/-- A point leaves the product of all the rows with the quarter's columns: its four chunks of rows fill the block. -/
theorem out_pt (r : Fin 2048) (q : Fin 1408) :
    out0_A_2 c i arg1 harg1 arg2 harg2 arg4 harg4 x0 x1 (ix2 r q) = ∑ k : Fin 1024, x0 (ix2 r k) * x1 (ix3 0 k q) := by
  frame_out
  canon_tiles x h
  all_goals
    obtain ⟨p, s, rfl⟩ : ∃ p s, x = ix2 p s := ⟨x 0, x 1, eq_ix2 x⟩
    obtain rfl : q = s := Fin.ext h1
  on_goal 1 => obtain rfl : r = ⟨1536 + p.val, Nat.lt_of_lt_of_le (Nat.add_lt_add_left p.isLt 1536) (by decide)⟩ := Fin.ext (by simpa using h0)
  on_goal 2 => obtain rfl : r = ⟨1024 + p.val, Nat.lt_of_lt_of_le (Nat.add_lt_add_left p.isLt 1024) (by decide)⟩ := Fin.ext (by simpa using h0)
  on_goal 3 => obtain rfl : r = ⟨512 + p.val, Nat.lt_of_lt_of_le (Nat.add_lt_add_left p.isLt 512) (by decide)⟩ := Fin.ext (by simpa using h0)
  on_goal 4 => obtain rfl : r = ⟨p.val, Nat.lt_of_lt_of_le p.isLt (by decide)⟩ := Fin.ext (by simpa using h0)
  all_goals
    unfold_payloads
    pointwise [dot_S512x1024_S1024x1408_S512x1408_1_0_0_1_n_n]

end

/-! ## The whole grid -/

/-- Every point takes all the rows. -/
theorem idx0 : ∀ t : Fin cfg0.N, win0_0.index t = ![0, 0] := (by decide +kernel : ∀ t : Fin grid0.N, win0_0.index t = ![0, 0])
/-- Each point takes one quarter of the weights. -/
theorem idx1 : ∀ t : Fin cfg0.N, win0_1.index t = ![t.val, 0, 0] := (by decide +kernel : ∀ t : Fin grid0.N, win0_1.index t = ![t.val, 0, 0])
/-- Each point writes one quarter of the columns. -/
theorem idx2 : ∀ t : Fin cfg0.N, win0_2.index t = ![0, t.val] := (by decide +kernel : ∀ t : Fin grid0.N, win0_2.index t = ![0, t.val])

variable (m : ∀ l : Loc nD τ sig, Buf (Elt 𝕀) l) (c : Dev nD)

/-- The normalised rows, argument 0. -/
abbrev a0 : Vec 𝕀 S2048x1024 .f32 := m ((c : Thread nD τ).loc main_arg0)
/-- The up-projection's weights, argument 1. -/
abbrev a1 : Vec 𝕀 S1024x5632 .f32 := m ((c : Thread nD τ).loc main_arg1)

/-- There are four points. -/
theorem lt4 (t : Fin cfg0.N) : t.val < 4 := N_0 ▸ t.isLt

/-- Column `q` of quarter `t`. -/
def colOf (t : Fin 4) (q : Fin 1408) : Fin 5632 := ⟨t.val * 1408 + q.val, by omega⟩

/-- A point's rows are the array's. -/
theorem blk0 (t : Fin cfg0.N) (r : Fin 2048) (k : Fin 1024) :
    (iblk m c 0 t : Vec 𝕀 S2048x1024 .bf16) (ix2 r k) = (V m c main_v4 : Vec 𝕀 S2048x1024 .bf16) (ix2 r k) := by
  blk_ext [iblk, idx0 t]

/-- A point's weights are the quarter of the array. -/
theorem blk1 (t : Fin cfg0.N) (k : Fin 1024) (q : Fin 1408) :
    (iblk m c 1 t : Vec 𝕀 S1x1024x1408 .bf16) (ix3 0 k q) = (V m c main_v2 : Vec 𝕀 S4x1024x1408 .bf16) (ix3 ⟨t.val, lt4 t⟩ k q) := by
  blk_ext [iblk, idx1 t]

/-- The rows as the kernel reads them are the argument. -/
theorem entry_h (i : S2048x1024.Idx) : (V m c main_v4 : Vec 𝕀 S2048x1024 .bf16) i = a0 m c i := by entry_read; rfl

/-- The quarters as the kernel reads them are the argument's columns. -/
theorem entry_w (t : Fin 4) (k : Fin 1024) (q : Fin 1408) :
    (V m c main_v2 : Vec 𝕀 S4x1024x1408 .bf16) (ix3 t k q) = a1 m c (ix2 k (colOf t q)) := by
  entry_read
  unfold colOf
  pointwise

/-- The product's array in closed form. -/
def prod : Vec 𝕀 S2048x5632 .bf16 := fun i => ∑ k : Fin 1024, a0 m c (ix2 (i 0) k) * a1 m c (ix2 k (i 1))

/-- After all points the output array is the product. -/
theorem arr : (dats m 0 c).arrAt 2 cfg0.N = prod m c := by
  refine (dats m 0 c).arrAt_eq_of_covers 2 _ (by decide +kernel) fun t hf y => ?_
  blk_simp
  rw [after0_2]
  obtain ⟨r, q, rfl⟩ : ∃ (r : Fin 2048) (q : Fin 1408), y = ix2 r q := ⟨y 0, y 1, eq_ix2 y⟩
  have e : (win0_2.blk t).view.emb (ix2 r q) = ix2 r (colOf ⟨t.val, lt4 t⟩ q) := by
    unfold colOf
    blk_ext [idx2 t]
  rw [e]
  unfold outsAt0
  refine (out_pt _ _ _ _ _ _ _ _ _ _ r q).trans ?_
  refine Finset.sum_congr rfl fun k _ => ?_
  rw [blk0, blk1, entry_h, entry_w]
  rfl

/-- The reference's product in the same form. -/
theorem ref_prod (x0 : Vec 𝕀 S2048x1024 .f32) (x1 : Vec 𝕀 S1024x5632 .f32) (p : Fin 2048) (j : Fin 5632) :
    (val_main_v1 (F := 𝕀) x0 x1 : Vec 𝕀 S2048x5632 .bf16) (ix2 p j) = ∑ k : Fin 1024, x0 (ix2 p k) * x1 (ix2 k j) := by
  pointwise [val_main_v0, val_main_v1, Cert.Reference6Ideal.dot_S2048x1024_S1024x5632_S2048x5632_1_0_0_1_n_n]

/-- From any equal arguments the kernel's product is the reference's. -/
theorem algebraic : Cert.algebraic_Kernel6Ideal_Reference6Ideal (hKernel6Ideal := Cert.Kernel6Ideal.Gen.facts)
    (hReference6Ideal := Cert.Reference6Ideal.Gen.facts) := by
  intro m g m' g' _ hargs
  refine ⟨fun c => val_main_v1 (F := 𝕀) (a0 m c) (a1 m c), ?_, ?_⟩
  · refine (θ_run _ _ _).mono (fun r h c => ?_) (Cert.Kernel6Ideal.Value.run_blocks (F := 𝕀) m g)
    obtain ⟨h0, hk⟩ := h c
    refine ⟨(h0.trans (arr m c)).trans ?_, hk⟩
    funext i
    rw [eq_ix2 i]
    exact (ref_prod (a0 m c) (a1 m c) (i 0) (i 1)).symm
  · refine (θ_run _ _ _).mono (fun r h c => ?_) (Cert.Reference6Ideal.Value.run (F := 𝕀) m' g')
    obtain ⟨h0, hk⟩ := h c
    obtain ⟨e0, e1⟩ := hargs c
    refine ⟨h0.trans ?_, hk⟩
    rw [val_main_v1_eq, e0, e1]

/-- Every run of the reference ends with its arguments as they were and with every counter at zero. -/
theorem frame_r : Cert.quiescent_Reference6Ideal (hReference6Ideal := Cert.Reference6Ideal.Gen.facts) := by
  intro m ρ _
  exact (θ_run Cert.Reference6Ideal.defs _ _).mono
    (fun r h => ⟨fun c => (h c).2, sem_eq_zero_of_no_sems (by decide) r.2⟩)
    (Cert.Reference6Ideal.Value.run (F := 𝕀) m ρ)

end Cert.Up
-- ==== Proof.MfAlg.lean ====
/- The gated merge's forward pass at one row: the gates, the gated sum, the residual stream and its norm. -/
module

public import proofs.«01_k».proof.Proof.MbAlg

@[expose] public section
noncomputable section
namespace Cert.Alg.Fwd
open Idealize.ShloMosaic Cert.Alg Cert.Alg.Merge

/-- A row against the columns of a matrix. -/
def colProd {n k : ℕ} (d : Fin k → EReal) (W : Fin k → Fin n → EReal) (j : Fin n) : EReal := ∑ i : Fin k, d i * W i j

/-- The gated sum of the two branches. -/
def mixF (yp yg z0 z1 b0 b1 : Fin 1024 → EReal) (j : Fin 1024) : EReal := sg (z0 j + b0 j) * yp j + sg (z1 j + b1 j) * yg j

/-- The residual stream: the input with the projected merge added. -/
def x1F (x mixed : Fin 1024 → EReal) (W : Fin 1024 → Fin 1024 → EReal) (j : Fin 1024) : EReal := x j + colProd mixed W j

/-- The normalised and scaled residual stream. -/
def h2F (x g : Fin 1024 → EReal) (j : Fin 1024) : EReal := x j * nrmW 1149239296#32 x * g j

end Cert.Alg.Fwd
-- ==== Proof.MfPoint.lean ====
/- One point of the gated merge's forward kernel: what it leaves in its five output blocks. -/
module

public import proofs.«01_k».proof.Proof.Gen.Kernel7Ideal.Frame
public import proofs.«01_k».proof.Proof.MfAlg
public import Idealize.ShloMosaic.Lib.Pointwise
public import Idealize.ShloMosaic.Lib.Pipeline.ValueKit
public import Idealize.ShloMosaic.Lib.Pipeline.ReadBack

@[expose] public section
set_option maxRecDepth 16384
noncomputable section
namespace Cert.Kernel7Ideal.Mf
open Idealize.ShloMosaic Idealize.ShloMosaic.TcCoe Idealize.ShloMosaic.Tactic Gen Cert.Alg.Merge Cert.Alg.Fwd

local notation "𝕀" => Idealize.ShloMosaic.Ideal

variable (x0 : Vec 𝕀 S512x1024 .f32) (x1 x2 : Vec 𝕀 S512x1024 .bf16) (x3 : Vec 𝕀 S512x512 .bf16) (x4 : Vec 𝕀 S512x1024 .bf16) (x5 : Vec 𝕀 S1x2048 .f32)
  (x6 : Vec 𝕀 S4x512x256 .bf16) (x7 x8 : Vec 𝕀 S1024x1024 .bf16) (x9 : Vec 𝕀 S1x1024 .f32) (c : Dev nD) (i : grid0.Coords)
  (arg1 : Memref sig .tc .vmem S512x1024 .f32) (harg1 : arg1.IsWhole) (arg2 : Memref sig .tc .vmem S512x1024 .bf16) (harg2 : arg2.IsWhole)
  (arg3 : Memref sig .tc .vmem S512x1024 .bf16) (harg3 : arg3.IsWhole) (arg4 : Memref sig .tc .vmem S512x512 .bf16) (harg4 : arg4.IsWhole)
  (arg5 : Memref sig .tc .vmem S512x1024 .bf16) (harg5 : arg5.IsWhole) (arg6 : Memref sig .tc .vmem S1x2048 .f32) (harg6 : arg6.IsWhole)
  (arg7 : Memref sig .tc .vmem S4x512x256 .bf16) (harg7 : arg7.IsWhole) (arg8 : Memref sig .tc .vmem S1024x1024 .bf16) (harg8 : arg8.IsWhole)
  (arg9 : Memref sig .tc .vmem S1024x1024 .bf16) (harg9 : arg9.IsWhole) (arg10 : Memref sig .tc .vmem S1x1024 .f32) (harg10 : arg10.IsWhole)
  (arg12 : Memref sig .tc .vmem S512x1024 .f32) (harg12 : arg12.IsWhole) (arg13 : Memref sig .tc .vmem S512x1024 .bf16) (harg13 : arg13.IsWhole)
  (arg14 : Memref sig .tc .vmem S512x1024 .bf16) (harg14 : arg14.IsWhole) (arg15 : Memref sig .tc .vmem S512x1024 .bf16) (harg15 : arg15.IsWhole)
  (arg16 : Memref sig .tc .vmem S512x1024 .bf16) (harg16 : arg16.IsWhole)

/-- A row of a block. -/
def row (x : Vec 𝕀 S512x1024 .bf16) (r : Fin 512) (j : Fin 1024) : EReal := x (ix2 r j)

/-- A row of the residual stream's block. -/
def rowX (x : Vec 𝕀 S512x1024 .f32) (r : Fin 512) (j : Fin 1024) : EReal := x (ix2 r j)

/-- A row of the pooled values' block. -/
def rowP (x : Vec 𝕀 S512x512 .bf16) (r : Fin 512) (j : Fin 512) : EReal := x (ix2 r j)

/-- A square matrix. -/
def mat (w : Vec 𝕀 S1024x1024 .bf16) (k j : Fin 1024) : EReal := w (ix2 k j)

/-- The first half of the gates' offsets. -/
def lo (b : Vec 𝕀 S1x2048 .f32) (j : Fin 1024) : EReal := b (ix2 0 ⟨j.val, by omega⟩)

/-- The second half of the gates' offsets. -/
def hi (b : Vec 𝕀 S1x2048 .f32) (j : Fin 1024) : EReal := b (ix2 0 ⟨1024 + j.val, by omega⟩)

/-- The pooling's projection, stored in four column quarters. -/
def quart (w : Vec 𝕀 S4x512x256 .bf16) (n : Fin 512) (j : Fin 1024) : EReal := w (ix3 (headOf j) n (placeOf j))

/-- The scales of the normalisation. -/
def scales (g : Vec 𝕀 S1x1024 .f32) (j : Fin 1024) : EReal := g (ix2 0 j)

/-- The first branch along a row: the pooled values against the projection. -/
def ypB (r : Fin 512) : Fin 1024 → EReal := colProd (rowP x3 r) (quart x6)

/-- The second branch along a row. -/
def ygB (r : Fin 512) : Fin 1024 → EReal := colProd (row x4 r) (mat x7)

/-- The gated sum along a row. -/
def mixB (r : Fin 512) : Fin 1024 → EReal := mixF (ypB x3 x6 r) (ygB x4 x7 r) (row x1 r) (row x2 r) (lo x5) (hi x5)

/-- The residual stream along a row. -/
def x1B (r : Fin 512) : Fin 1024 → EReal := x1F (rowX x0 r) (mixB x1 x2 x3 x4 x5 x6 x7 r) (mat x8)

/-- A column of a quarter is a column of the projection. -/
theorem quart_of (n : Fin 512) (j : Fin 1024) (h : Fin 4) (q : ℕ) (hq : q < 256) (e : j.val = h.val * 256 + q) :
    x6 (ix3 h n ⟨q, hq⟩) = quart x6 n j := by
  obtain rfl : j = hcol h ⟨q, hq⟩ := Fin.ext (by rw [hcol_val]; exact e)
  rw [quart, headOf_hcol, placeOf_hcol]

/-- The first branch as the kernel computes it: four products side by side. -/
theorem yp_pay (r : Fin 512) (j : Fin 1024) :
    (k0_pay2 (F := 𝕀) x3 (View.ld x6 (Rect.unit ![0, 0, 0] ![1, 512, 256] inb_S4x512x256_S1x512x256_0_0_0))
      (View.ld x6 (Rect.unit ![1, 0, 0] ![1, 512, 256] inb_S4x512x256_S1x512x256_1_0_0))
      (View.ld x6 (Rect.unit ![2, 0, 0] ![1, 512, 256] inb_S4x512x256_S1x512x256_2_0_0))
      (View.ld x6 (Rect.unit ![3, 0, 0] ![1, 512, 256] inb_S4x512x256_S1x512x256_3_0_0))) (ix2 r j) = ypB x3 x6 r j := by
  unfold_payloads
  pointwise [dot_S512x512_S512x256_S512x256_1_0_0_1_n_n]
  by_cases h0 : j.val < 256
  · rw [dif_pos h0]
    exact Finset.sum_congr rfl fun n _ => congrArg (x3 (ix2 r n) * ·) (quart_of x6 n j 0 _ _ (by show j.val = 0 * 256 + j.val; omega))
  rw [dif_neg h0]
  by_cases h1 : j.val - 256 < 256
  · rw [dif_pos h1]
    exact Finset.sum_congr rfl fun n _ => congrArg (x3 (ix2 r n) * ·) (quart_of x6 n j 1 _ _ (by show j.val = 1 * 256 + (j.val - 256); omega))
  rw [dif_neg h1]
  by_cases h2 : j.val - 256 - 256 < 256
  · rw [dif_pos h2]
    exact Finset.sum_congr rfl fun n _ => congrArg (x3 (ix2 r n) * ·) (quart_of x6 n j 2 _ _ (by show j.val = 2 * 256 + (j.val - 256 - 256); omega))
  · rw [dif_neg h2]
    exact Finset.sum_congr rfl fun n _ => congrArg (x3 (ix2 r n) * ·) (quart_of x6 n j 3 _ _ (by show j.val = 3 * 256 + (j.val - 256 - 256 - 256); omega))

/-- The second branch as the kernel computes it. -/
theorem yg_pay (r : Fin 512) (j : Fin 1024) : k0_pay3 (F := 𝕀) x4 x7 (ix2 r j) = ygB x4 x7 r j := by
  unfold_payloads
  pointwise [dot_S512x1024_S1024x1024_S512x1024_1_0_0_1_n_n]
  rfl

/-- The first output block: the residual stream. -/
theorem out10 (r : Fin 512) (j : Fin 1024) : out0_A_10 c i arg1 harg1 arg2 harg2 arg3 harg3 arg4 harg4 arg5 harg5 arg6 harg6 arg7 harg7 arg8 harg8 arg9 harg9 arg10 harg10 arg12 harg12 arg13 harg13 arg14 harg14 arg15 harg15 arg16 harg16 x0 x1 x2 x3 x4 x5 x6 x7 x8 x9 (ix2 r j) = x1B x0 x1 x2 x3 x4 x5 x6 x7 x8 r j := by
  have hP := yp_pay x3 x6
  have hG := yg_pay x4 x7
  frame_out
  generalize (k0_pay2 (F := 𝕀) x3 (View.ld x6 (Rect.unit ![0, 0, 0] ![1, 512, 256] inb_S4x512x256_S1x512x256_0_0_0))
      (View.ld x6 (Rect.unit ![1, 0, 0] ![1, 512, 256] inb_S4x512x256_S1x512x256_1_0_0))
      (View.ld x6 (Rect.unit ![2, 0, 0] ![1, 512, 256] inb_S4x512x256_S1x512x256_2_0_0))
      (View.ld x6 (Rect.unit ![3, 0, 0] ![1, 512, 256] inb_S4x512x256_S1x512x256_3_0_0))) = P at hP ⊢
  generalize k0_pay3 (F := 𝕀) x4 x7 = G at hG ⊢
  unfold_payloads
  pointwise [dot_S512x1024_S1024x1024_S512x1024_1_0_0_1_n_n]
  simp only [hP, hG]
  rfl

/-- The second output block: the gated sum. -/
theorem out11 (r : Fin 512) (j : Fin 1024) : out0_A_11 c i arg1 harg1 arg2 harg2 arg3 harg3 arg4 harg4 arg5 harg5 arg6 harg6 arg7 harg7 arg8 harg8 arg9 harg9 arg10 harg10 arg12 harg12 arg13 harg13 arg14 harg14 arg15 harg15 arg16 harg16 x0 x1 x2 x3 x4 x5 x6 x7 x8 x9 (ix2 r j) = mixB x1 x2 x3 x4 x5 x6 x7 r j := by
  have hP := yp_pay x3 x6
  have hG := yg_pay x4 x7
  frame_out
  generalize (k0_pay2 (F := 𝕀) x3 (View.ld x6 (Rect.unit ![0, 0, 0] ![1, 512, 256] inb_S4x512x256_S1x512x256_0_0_0))
      (View.ld x6 (Rect.unit ![1, 0, 0] ![1, 512, 256] inb_S4x512x256_S1x512x256_1_0_0))
      (View.ld x6 (Rect.unit ![2, 0, 0] ![1, 512, 256] inb_S4x512x256_S1x512x256_2_0_0))
      (View.ld x6 (Rect.unit ![3, 0, 0] ![1, 512, 256] inb_S4x512x256_S1x512x256_3_0_0))) = P at hP ⊢
  generalize k0_pay3 (F := 𝕀) x4 x7 = G at hG ⊢
  unfold_payloads
  pointwise
  simp only [hP, hG]
  rfl

/-- The third output block: the first branch. -/
theorem out12 (r : Fin 512) (j : Fin 1024) : out0_A_12 c i arg1 harg1 arg2 harg2 arg3 harg3 arg4 harg4 arg5 harg5 arg6 harg6 arg7 harg7 arg8 harg8 arg9 harg9 arg10 harg10 arg12 harg12 arg13 harg13 arg14 harg14 arg15 harg15 arg16 harg16 x0 x1 x2 x3 x4 x5 x6 x7 x8 x9 (ix2 r j) = ypB x3 x6 r j := by
  frame_out
  exact yp_pay x3 x6 r j

/-- The fourth output block: the second branch. -/
theorem out13 (r : Fin 512) (j : Fin 1024) : out0_A_13 c i arg1 harg1 arg2 harg2 arg3 harg3 arg4 harg4 arg5 harg5 arg6 harg6 arg7 harg7 arg8 harg8 arg9 harg9 arg10 harg10 arg12 harg12 arg13 harg13 arg14 harg14 arg15 harg15 arg16 harg16 x0 x1 x2 x3 x4 x5 x6 x7 x8 x9 (ix2 r j) = ygB x4 x7 r j := by
  frame_out
  exact yg_pay x4 x7 r j

/-- The fifth output block: the normalised residual stream. -/
theorem out14 (r : Fin 512) (j : Fin 1024) : out0_A_14 c i arg1 harg1 arg2 harg2 arg3 harg3 arg4 harg4 arg5 harg5 arg6 harg6 arg7 harg7 arg8 harg8 arg9 harg9 arg10 harg10 arg12 harg12 arg13 harg13 arg14 harg14 arg15 harg15 arg16 harg16 x0 x1 x2 x3 x4 x5 x6 x7 x8 x9 (ix2 r j) = h2F (x1B x0 x1 x2 x3 x4 x5 x6 x7 x8 r) (scales x9) j := by
  have hP := yp_pay x3 x6
  have hG := yg_pay x4 x7
  frame_out
  generalize (k0_pay2 (F := 𝕀) x3 (View.ld x6 (Rect.unit ![0, 0, 0] ![1, 512, 256] inb_S4x512x256_S1x512x256_0_0_0))
      (View.ld x6 (Rect.unit ![1, 0, 0] ![1, 512, 256] inb_S4x512x256_S1x512x256_1_0_0))
      (View.ld x6 (Rect.unit ![2, 0, 0] ![1, 512, 256] inb_S4x512x256_S1x512x256_2_0_0))
      (View.ld x6 (Rect.unit ![3, 0, 0] ![1, 512, 256] inb_S4x512x256_S1x512x256_3_0_0))) = P at hP ⊢
  generalize k0_pay3 (F := 𝕀) x4 x7 = G at hG ⊢
  unfold_payloads
  pointwise [dot_S512x1024_S1024x1024_S512x1024_1_0_0_1_n_n]
  simp only [hP, hG]
  rfl

end Cert.Kernel7Ideal.Mf
-- ==== Proof.MfArr.lean ====
/- The gated merge's forward kernel over its whole grid: each output array in closed form over the arrays that the kernel reads. -/
module

public import proofs.«01_k».proof.Proof.MfPoint

@[expose] public section
set_option maxRecDepth 16384
noncomputable section
namespace Cert.Kernel7Ideal.Mf
open Idealize.ShloMosaic Idealize.ShloMosaic.TcCoe Idealize.ShloMosaic.Tactic Gen Cert.Alg Cert.Alg.Merge Cert.Alg.Fwd

local notation "𝕀" => Idealize.ShloMosaic.Ideal

/-- Which block each point takes of that window. -/
theorem idx0 : ∀ t : Fin cfg0.N, win0_0.index t = ![t.val, 0] := (by decide +kernel : ∀ t : Fin grid0.N, win0_0.index t = ![t.val, 0])
/-- Which block each point takes of that window. -/
theorem idx1 : ∀ t : Fin cfg0.N, win0_1.index t = ![t.val, 0] := (by decide +kernel : ∀ t : Fin grid0.N, win0_1.index t = ![t.val, 0])
/-- Which block each point takes of that window. -/
theorem idx2 : ∀ t : Fin cfg0.N, win0_2.index t = ![t.val, 1] := (by decide +kernel : ∀ t : Fin grid0.N, win0_2.index t = ![t.val, 1])
/-- Which block each point takes of that window. -/
theorem idx3 : ∀ t : Fin cfg0.N, win0_3.index t = ![t.val, 0] := (by decide +kernel : ∀ t : Fin grid0.N, win0_3.index t = ![t.val, 0])
/-- Which block each point takes of that window. -/
theorem idx4 : ∀ t : Fin cfg0.N, win0_4.index t = ![t.val, 0] := (by decide +kernel : ∀ t : Fin grid0.N, win0_4.index t = ![t.val, 0])
/-- Which block each point takes of that window. -/
theorem idx5 : ∀ t : Fin cfg0.N, win0_5.index t = ![0, 0] := (by decide +kernel : ∀ t : Fin grid0.N, win0_5.index t = ![0, 0])
/-- Which block each point takes of that window. -/
theorem idx6 : ∀ t : Fin cfg0.N, win0_6.index t = ![0, 0, 0] := (by decide +kernel : ∀ t : Fin grid0.N, win0_6.index t = ![0, 0, 0])
/-- Which block each point takes of that window. -/
theorem idx7 : ∀ t : Fin cfg0.N, win0_7.index t = ![0, 0] := (by decide +kernel : ∀ t : Fin grid0.N, win0_7.index t = ![0, 0])
/-- Which block each point takes of that window. -/
theorem idx8 : ∀ t : Fin cfg0.N, win0_8.index t = ![0, 0] := (by decide +kernel : ∀ t : Fin grid0.N, win0_8.index t = ![0, 0])
/-- Which block each point takes of that window. -/
theorem idx9 : ∀ t : Fin cfg0.N, win0_9.index t = ![0, 0] := (by decide +kernel : ∀ t : Fin grid0.N, win0_9.index t = ![0, 0])
/-- Which block each point takes of that window. -/
theorem idx10 : ∀ t : Fin cfg0.N, win0_10.index t = ![t.val, 0] := (by decide +kernel : ∀ t : Fin grid0.N, win0_10.index t = ![t.val, 0])
/-- Which block each point takes of that window. -/
theorem idx11 : ∀ t : Fin cfg0.N, win0_11.index t = ![t.val, 0] := (by decide +kernel : ∀ t : Fin grid0.N, win0_11.index t = ![t.val, 0])
/-- Which block each point takes of that window. -/
theorem idx12 : ∀ t : Fin cfg0.N, win0_12.index t = ![t.val, 0] := (by decide +kernel : ∀ t : Fin grid0.N, win0_12.index t = ![t.val, 0])
/-- Which block each point takes of that window. -/
theorem idx13 : ∀ t : Fin cfg0.N, win0_13.index t = ![t.val, 0] := (by decide +kernel : ∀ t : Fin grid0.N, win0_13.index t = ![t.val, 0])
/-- Which block each point takes of that window. -/
theorem idx14 : ∀ t : Fin cfg0.N, win0_14.index t = ![t.val, 0] := (by decide +kernel : ∀ t : Fin grid0.N, win0_14.index t = ![t.val, 0])

variable (m : ∀ l : Loc nD τ sig, Buf (Elt 𝕀) l) (c : Dev nD)

/-- There are four points. -/
theorem lt4 (t : Fin cfg0.N) : t.val < 4 := N_0 ▸ t.isLt

/-- The row of the whole array at which row `r` of point `t`'s block lies. -/
theorem row_lt (t : Fin cfg0.N) (r : Fin 512) : t.val * 512 + r.val < 2048 := by have := lt4 t; omega

/-- That row. -/
def rowOf (t : Fin cfg0.N) (r : Fin 512) : Fin 2048 := ⟨t.val * 512 + r.val, row_lt t r⟩

/-- A row of the residual stream. -/
def xG (T : Fin 2048) (j : Fin 1024) : EReal := (V m c main_arg0 : Vec 𝕀 S2048x1024 .f32) (ix2 T j)

/-- The first gate's argument along a row. -/
def z0G (T : Fin 2048) (j : Fin 1024) : EReal := (V m c main_v6 : Vec 𝕀 S2048x5760 .bf16) (ix2 T ⟨j.val, by omega⟩)

/-- The second gate's argument along a row. -/
def z1G (T : Fin 2048) (j : Fin 1024) : EReal := (V m c main_v6 : Vec 𝕀 S2048x5760 .bf16) (ix2 T ⟨1024 + j.val, by omega⟩)

/-- A row of the pooled values. -/
def ppG (T : Fin 2048) (j : Fin 512) : EReal := (V m c main_v11 : Vec 𝕀 S2048x512 .bf16) (ix2 T j)

/-- A row of the attention's gated output. -/
def ogG (T : Fin 2048) (j : Fin 1024) : EReal := (V m c main_v12 : Vec 𝕀 S2048x1024 .bf16) (ix2 T j)

/-- The first branch along a row. -/
def ypG (T : Fin 2048) : Fin 1024 → EReal := colProd (ppG m c T) (quart (V m c main_v9))

/-- The second branch along a row. -/
def ygG (T : Fin 2048) : Fin 1024 → EReal := colProd (ogG m c T) (mat (V m c main_v13))

/-- The gated sum along a row. -/
def mixG (T : Fin 2048) : Fin 1024 → EReal :=
  mixF (ypG m c T) (ygG m c T) (z0G m c T) (z1G m c T) (lo (V m c main_arg4)) (hi (V m c main_arg4))

/-- The residual stream with the merge added along a row. -/
def x1G (T : Fin 2048) : Fin 1024 → EReal := x1F (xG m c T) (mixG m c T) (mat (V m c main_v14))

/-- The normalised residual stream along a row. -/
def h2G (T : Fin 2048) : Fin 1024 → EReal := h2F (x1G m c T) (scales (V m c main_arg8))

/-- A row of the block is a row of its array. -/
theorem blk0 (t : Fin cfg0.N) (r : Fin 512) : rowX (iblk m c 0 t) r = xG m c (rowOf t r) := by
  funext j
  unfold rowX xG rowOf
  blk_ext [iblk, idx0 t]

/-- A row of the block is a row of its array. -/
theorem blk3 (t : Fin cfg0.N) (r : Fin 512) : rowP (iblk m c 3 t) r = ppG m c (rowOf t r) := by
  funext j
  unfold rowP ppG rowOf
  blk_ext [iblk, idx3 t]

/-- A row of the block is a row of its array. -/
theorem blk4 (t : Fin cfg0.N) (r : Fin 512) : row (iblk m c 4 t) r = ogG m c (rowOf t r) := by
  funext j
  unfold row ogG rowOf
  blk_ext [iblk, idx4 t]

/-- A row of the block is a part of a row of its array. -/
theorem blk1 (t : Fin cfg0.N) (r : Fin 512) : row (X0_1 m c t) r = z0G m c (rowOf t r) := by
  funext j
  unfold row z0G rowOf X0_1 Pipeline.Window.fill
  rw [dif_pos (moved0_1 t _)]
  blk_ext [iblk, idx1 t]

/-- A row of the block is a part of a row of its array. -/
theorem blk2 (t : Fin cfg0.N) (r : Fin 512) : row (X0_2 m c t) r = z1G m c (rowOf t r) := by
  funext j
  unfold row z1G rowOf X0_2 Pipeline.Window.fill
  rw [dif_pos (moved0_2 t _)]
  blk_ext [iblk, idx2 t]

/-- The block is the whole array. -/
theorem blk5 (t : Fin cfg0.N) : iblk m c 5 t = (V m c main_arg4 : Vec 𝕀 S1x2048 .f32) := by
  funext j; blk_ext [iblk, idx5 t]

/-- The block is the whole array. -/
theorem blk6 (t : Fin cfg0.N) : iblk m c 6 t = (V m c main_v9 : Vec 𝕀 S4x512x256 .bf16) := by
  funext j; blk_ext [iblk, idx6 t]

/-- The block is the whole array. -/
theorem blk7 (t : Fin cfg0.N) : iblk m c 7 t = (V m c main_v13 : Vec 𝕀 S1024x1024 .bf16) := by
  funext j; blk_ext [iblk, idx7 t]

/-- The block is the whole array. -/
theorem blk8 (t : Fin cfg0.N) : iblk m c 8 t = (V m c main_v14 : Vec 𝕀 S1024x1024 .bf16) := by
  funext j; blk_ext [iblk, idx8 t]

/-- The block is the whole array. -/
theorem blk9 (t : Fin cfg0.N) : iblk m c 9 t = (V m c main_arg8 : Vec 𝕀 S1x1024 .f32) := by
  funext j; blk_ext [iblk, idx9 t]

/-- The first branch at a row of a point's block. -/
theorem yp_blk (t : Fin cfg0.N) (r : Fin 512) : ypB (iblk m c 3 t) (iblk m c 6 t) r = ypG m c (rowOf t r) := by
  rw [ypB, ypG, blk3, blk6]

/-- The second branch at a row of a point's block. -/
theorem yg_blk (t : Fin cfg0.N) (r : Fin 512) : ygB (iblk m c 4 t) (iblk m c 7 t) r = ygG m c (rowOf t r) := by
  rw [ygB, ygG, blk4, blk7]

/-- The gated sum at a row of a point's block. -/
theorem mix_blk (t : Fin cfg0.N) (r : Fin 512) :
    mixB (X0_1 m c t) (X0_2 m c t) (iblk m c 3 t) (iblk m c 4 t) (iblk m c 5 t) (iblk m c 6 t) (iblk m c 7 t) r = mixG m c (rowOf t r) := by
  rw [mixB, mixG, yp_blk, yg_blk, blk1, blk2, blk5]

/-- The residual stream at a row of a point's block. -/
theorem x1_blk (t : Fin cfg0.N) (r : Fin 512) :
    x1B (iblk m c 0 t) (X0_1 m c t) (X0_2 m c t) (iblk m c 3 t) (iblk m c 4 t) (iblk m c 5 t) (iblk m c 6 t) (iblk m c 7 t) (iblk m c 8 t) r
      = x1G m c (rowOf t r) := by
  rw [x1B, x1G, mix_blk, blk0, blk8]

/-- A point's block of the residual stream. -/
theorem outs10 (t : Fin cfg0.N) (r : Fin 512) (j : Fin 1024) : (outsAt0 m c t).1 (ix2 r j) = x1G m c (rowOf t r) j := by
  have e : x1B (iblk m c 0 t) (X0_1 m c t) (X0_2 m c t) (iblk m c 3 t) (iblk m c 4 t) (iblk m c 5 t) (iblk m c 6 t) (iblk m c 7 t) (iblk m c 8 t) r j = x1G m c (rowOf t r) j := by rw [x1_blk]
  simp only [outsAt0]
  refine Eq.trans ?_ e
  apply out10

/-- As an array: the residual stream. -/
def a10G : Vec 𝕀 S2048x1024 .f32 := fun i => x1G m c (i 0) (i 1)

/-- The kernel leaves the residual stream. -/
theorem arr10 : (dats m 0 c).arrAt 10 cfg0.N = a10G m c := by
  refine (dats m 0 c).arrAt_eq_of_covers 10 _ (by decide +kernel) fun t hf y => ?_
  blk_simp
  rw [after0_10]
  obtain ⟨p, q, rfl⟩ : ∃ (p : Fin 512) (q : Fin 1024), y = ix2 p q := ⟨y 0, y 1, eq_ix2 y⟩
  have e : (win0_10.blk t).view.emb (ix2 p q) = ix2 (rowOf t p) q := by
    unfold rowOf
    blk_ext [idx10 t]
  rw [e]
  exact outs10 m c t p q

/-- A point's block of the gated sum. -/
theorem outs11 (t : Fin cfg0.N) (r : Fin 512) (j : Fin 1024) : (outsAt0 m c t).2.1 (ix2 r j) = mixG m c (rowOf t r) j := by
  have e : mixB (X0_1 m c t) (X0_2 m c t) (iblk m c 3 t) (iblk m c 4 t) (iblk m c 5 t) (iblk m c 6 t) (iblk m c 7 t) r j = mixG m c (rowOf t r) j := by rw [mix_blk]
  simp only [outsAt0]
  refine Eq.trans ?_ e
  apply out11

/-- As an array: the gated sum. -/
def a11G : Vec 𝕀 S2048x1024 .bf16 := fun i => mixG m c (i 0) (i 1)

/-- The kernel leaves the gated sum. -/
theorem arr11 : (dats m 0 c).arrAt 11 cfg0.N = a11G m c := by
  refine (dats m 0 c).arrAt_eq_of_covers 11 _ (by decide +kernel) fun t hf y => ?_
  blk_simp
  rw [after0_11]
  obtain ⟨p, q, rfl⟩ : ∃ (p : Fin 512) (q : Fin 1024), y = ix2 p q := ⟨y 0, y 1, eq_ix2 y⟩
  have e : (win0_11.blk t).view.emb (ix2 p q) = ix2 (rowOf t p) q := by
    unfold rowOf
    blk_ext [idx11 t]
  rw [e]
  exact outs11 m c t p q

/-- A point's block of the first branch. -/
theorem outs12 (t : Fin cfg0.N) (r : Fin 512) (j : Fin 1024) : (outsAt0 m c t).2.2.1 (ix2 r j) = ypG m c (rowOf t r) j := by
  have e : ypB (iblk m c 3 t) (iblk m c 6 t) r j = ypG m c (rowOf t r) j := by rw [yp_blk]
  simp only [outsAt0]
  refine Eq.trans ?_ e
  apply out12

/-- As an array: the first branch. -/
def a12G : Vec 𝕀 S2048x1024 .bf16 := fun i => ypG m c (i 0) (i 1)

/-- The kernel leaves the first branch. -/
theorem arr12 : (dats m 0 c).arrAt 12 cfg0.N = a12G m c := by
  refine (dats m 0 c).arrAt_eq_of_covers 12 _ (by decide +kernel) fun t hf y => ?_
  blk_simp
  rw [after0_12]
  obtain ⟨p, q, rfl⟩ : ∃ (p : Fin 512) (q : Fin 1024), y = ix2 p q := ⟨y 0, y 1, eq_ix2 y⟩
  have e : (win0_12.blk t).view.emb (ix2 p q) = ix2 (rowOf t p) q := by
    unfold rowOf
    blk_ext [idx12 t]
  rw [e]
  exact outs12 m c t p q

/-- A point's block of the second branch. -/
theorem outs13 (t : Fin cfg0.N) (r : Fin 512) (j : Fin 1024) : (outsAt0 m c t).2.2.2.1 (ix2 r j) = ygG m c (rowOf t r) j := by
  have e : ygB (iblk m c 4 t) (iblk m c 7 t) r j = ygG m c (rowOf t r) j := by rw [yg_blk]
  simp only [outsAt0]
  refine Eq.trans ?_ e
  apply out13

/-- As an array: the second branch. -/
def a13G : Vec 𝕀 S2048x1024 .bf16 := fun i => ygG m c (i 0) (i 1)

/-- The kernel leaves the second branch. -/
theorem arr13 : (dats m 0 c).arrAt 13 cfg0.N = a13G m c := by
  refine (dats m 0 c).arrAt_eq_of_covers 13 _ (by decide +kernel) fun t hf y => ?_
  blk_simp
  rw [after0_13]
  obtain ⟨p, q, rfl⟩ : ∃ (p : Fin 512) (q : Fin 1024), y = ix2 p q := ⟨y 0, y 1, eq_ix2 y⟩
  have e : (win0_13.blk t).view.emb (ix2 p q) = ix2 (rowOf t p) q := by
    unfold rowOf
    blk_ext [idx13 t]
  rw [e]
  exact outs13 m c t p q

/-- A point's block of the normalised residual stream. -/
theorem outs14 (t : Fin cfg0.N) (r : Fin 512) (j : Fin 1024) : (outsAt0 m c t).2.2.2.2 (ix2 r j) = h2G m c (rowOf t r) j := by
  have e : h2F (x1B (iblk m c 0 t) (X0_1 m c t) (X0_2 m c t) (iblk m c 3 t) (iblk m c 4 t) (iblk m c 5 t) (iblk m c 6 t) (iblk m c 7 t) (iblk m c 8 t) r) (scales (iblk m c 9 t)) j = h2G m c (rowOf t r) j := by rw [h2G, x1_blk, blk9]
  simp only [outsAt0]
  refine Eq.trans ?_ e
  apply out14

/-- As an array: the normalised residual stream. -/
def a14G : Vec 𝕀 S2048x1024 .bf16 := fun i => h2G m c (i 0) (i 1)

/-- The kernel leaves the normalised residual stream. -/
theorem arr14 : (dats m 0 c).arrAt 14 cfg0.N = a14G m c := by
  refine (dats m 0 c).arrAt_eq_of_covers 14 _ (by decide +kernel) fun t hf y => ?_
  blk_simp
  rw [after0_14]
  obtain ⟨p, q, rfl⟩ : ∃ (p : Fin 512) (q : Fin 1024), y = ix2 p q := ⟨y 0, y 1, eq_ix2 y⟩
  have e : (win0_14.blk t).view.emb (ix2 p q) = ix2 (rowOf t p) q := by
    unfold rowOf
    blk_ext [idx14 t]
  rw [e]
  exact outs14 m c t p q

end Cert.Kernel7Ideal.Mf
-- ==== Proof.MfRef.lean ====
/- The reference's forward pass of the gated merge read at an index. -/
module

public import proofs.«01_k».proof.Proof.Gen.Reference7Ideal.Read
public import proofs.«01_k».proof.Proof.MfAlg
public import Idealize.ShloMosaic.Lib.Pipeline.ValueKit

@[expose] public section
set_option maxRecDepth 16384
noncomputable section
namespace Cert.Reference7Ideal.Mf
open Idealize.ShloMosaic Idealize.ShloMosaic.TcCoe Idealize.ShloMosaic.Tactic Read Cert.Alg Cert.Alg.Merge Cert.Alg.Fwd

local notation "𝕀" => Idealize.ShloMosaic.Ideal

variable (x0 : Vec 𝕀 S2048x1024 .f32) (x1 : Vec 𝕀 S2048x5648 .f32) (x2 : Vec 𝕀 S2048x512 .f32) (x3 : Vec 𝕀 S2048x1024 .f32)
  (x4 : Vec 𝕀 S1x2048 .f32) (x5 : Vec 𝕀 S512x1024 .f32) (x6 x7 : Vec 𝕀 S1024x1024 .f32) (x8 : Vec 𝕀 S1x1024 .f32)
  (T : Fin 2048) (j : Fin 1024)

/-- The first gate's argument along a row. -/
def z0R (T : Fin 2048) (j : Fin 1024) : EReal := x1 (ix2 T ⟨3600 + j.val, by omega⟩)

/-- The second gate's argument along a row. -/
def z1R (T : Fin 2048) (j : Fin 1024) : EReal := x1 (ix2 T ⟨4624 + j.val, by omega⟩)

/-- The first gate's offsets. -/
def b0R (j : Fin 1024) : EReal := x4 (ix2 0 ⟨j.val, by omega⟩)

/-- The second gate's offsets. -/
def b1R (j : Fin 1024) : EReal := x4 (ix2 0 ⟨1024 + j.val, by omega⟩)

/-- The first branch along a row. -/
def ypR (T : Fin 2048) : Fin 1024 → EReal := colProd (fun n => x2 (ix2 T n)) (fun n j => x5 (ix2 n j))

/-- The second branch along a row. -/
def ygR (T : Fin 2048) : Fin 1024 → EReal := colProd (fun k => x3 (ix2 T k)) (fun k j => x6 (ix2 k j))

/-- The gated sum along a row. -/
def mixR (T : Fin 2048) : Fin 1024 → EReal := mixF (ypR x2 x5 T) (ygR x3 x6 T) (z0R x1 T) (z1R x1 T) (b0R x4) (b1R x4)

/-- The residual stream along a row. -/
def x1R (T : Fin 2048) : Fin 1024 → EReal := x1F (fun j => x0 (ix2 T j)) (mixR x1 x2 x3 x4 x5 x6 T) (fun k j => x7 (ix2 k j))

/-- The first branch. -/
theorem yp_eq : val_main_v0 (F := 𝕀) x2 x5 (ix2 T j) = ypR x2 x5 T j := by
  pointwise [val_main_v0]
  rfl

/-- The second branch. -/
theorem yg_eq : val_main_v1 (F := 𝕀) x3 x6 (ix2 T j) = ygR x3 x6 T j := by
  pointwise [val_main_v1]
  rfl

/-- The gate. -/
theorem gate_eq (k : Fin 2048) : val_main_v10 (F := 𝕀) x1 x4 (ix2 T k) = sg (x1 (ix2 T ⟨3600 + k.val, by omega⟩) + x4 (ix2 0 k)) := by
  pointwise [val_main_v10, val_main_v9, val_main_v8, val_main_v7, val_main_v6, val_main_v5, val_main_v4, val_main_v3, val_main_v2, val_main_cst, val_main_cst_0]
  rw [sg, zero_sub]

/-- The first gate. -/
theorem gate0_eq : val_main_v13 (F := 𝕀) x1 x4 (ix2 T j) = sg (z0R x1 T j + b0R x4 j) := by
  pointwise [val_main_v13, val_main_v12, val_main_v11]
  rw [gate_eq]
  rfl

/-- The second gate. -/
theorem gate1_eq : val_main_v16 (F := 𝕀) x1 x4 (ix2 T j) = sg (z1R x1 T j + b1R x4 j) := by
  pointwise [val_main_v16, val_main_v15, val_main_v11]
  have e : (⟨4624 + j.val, by omega⟩ : Fin 5648) = ⟨3600 + (1024 + j.val), by omega⟩ := Fin.ext (by simp only; omega)
  rw [gate_eq, z1R, b1R, e]

/-- The gated sum. -/
theorem mix_eq : val_main_v18 (F := 𝕀) x1 x2 x3 x4 x5 x6 (ix2 T j) = mixR x1 x2 x3 x4 x5 x6 T j := by
  pointwise [val_main_v18, val_main_v17, val_main_v14]
  rw [gate0_eq, gate1_eq, yp_eq, yg_eq]
  rfl

/-- The residual stream. -/
theorem x1_eq : val_main_v20 (F := 𝕀) x0 x1 x2 x3 x4 x5 x6 x7 (ix2 T j) = x1R x0 x1 x2 x3 x4 x5 x6 x7 T j := by
  pointwise [val_main_v20, val_main_v19]
  simp only [mix_eq]
  rfl

/-- The normalised residual stream. -/
theorem h2_eq : val_main_v36 (F := 𝕀) x0 x1 x2 x3 x4 x5 x6 x7 x8 (ix2 T j)
    = h2F (x1R x0 x1 x2 x3 x4 x5 x6 x7 T) (fun j => x8 (ix2 0 j)) j := by
  pointwise [val_main_v36, val_main_v35, val_main_v34, val_main_v33, val_main_v32, val_main_v31, val_main_v30, val_main_v29, val_main_v28, val_main_v27, val_main_v26, val_main_v25, val_main_v24, val_main_cst_1, val_main_cst_2, val_main_cst_3]
  simp only [x1_eq]
  rfl

end Cert.Reference7Ideal.Mf
-- ==== Proof.MfClaim.lean ====
/- The gated merge's forward kernel and the reference end with equal results over the reals. -/
module

public import proofs.«01_k».proof.Defs
public import proofs.«01_k».proof.Proof.Gen.Kernel7Ideal.Value
public import proofs.«01_k».proof.Proof.Gen.Reference7Ideal.Run
public import proofs.«01_k».proof.Proof.MfArr
public import proofs.«01_k».proof.Proof.MfRef
public import proofs.«01_k».proof.Proof.Perm
public import Idealize.ShloMosaic.Lib.StableHlo.RunClose
public import Idealize.ShloMosaic.Lib.Claim
public import Idealize.ShloMosaic.Lib.Quiescent

@[expose] public section
set_option maxRecDepth 16384
noncomputable section
namespace Cert.Kernel7Ideal.Mf
open Idealize.ShloMosaic Idealize.ShloMosaic.TcCoe Idealize.ShloMosaic.Tactic Gen Cert.Alg Cert.Alg.Merge Cert.Alg.Fwd Cert.Reference7Ideal.Mf

local notation "𝕀" => Idealize.ShloMosaic.Ideal

variable (m : ∀ l : Loc nD τ sig, Buf (Elt 𝕀) l) (c : Dev nD)

/-- The residual stream, argument 0. -/
abbrev a0 : Vec 𝕀 S2048x1024 .f32 := m ((c : Thread nD τ).loc main_arg0)
/-- The projected input, argument 1. -/
abbrev a1 : Vec 𝕀 S2048x5648 .f32 := m ((c : Thread nD τ).loc main_arg1)
/-- The pooled values, argument 2. -/
abbrev a2 : Vec 𝕀 S2048x512 .f32 := m ((c : Thread nD τ).loc main_arg2)
/-- The attention's gated output, argument 3. -/
abbrev a3 : Vec 𝕀 S2048x1024 .f32 := m ((c : Thread nD τ).loc main_arg3)
/-- The gates' offsets, argument 4. -/
abbrev a4 : Vec 𝕀 S1x2048 .f32 := m ((c : Thread nD τ).loc main_arg4)
/-- The pooling's projection, argument 5. -/
abbrev a5 : Vec 𝕀 S512x1024 .f32 := m ((c : Thread nD τ).loc main_arg5)
/-- The attention's projection, argument 6. -/
abbrev a6 : Vec 𝕀 S1024x1024 .f32 := m ((c : Thread nD τ).loc main_arg6)
/-- The output projection, argument 7. -/
abbrev a7 : Vec 𝕀 S1024x1024 .f32 := m ((c : Thread nD τ).loc main_arg7)
/-- The scales of the normalisation, argument 8. -/
abbrev a8 : Vec 𝕀 S1x1024 .f32 := m ((c : Thread nD τ).loc main_arg8)

/-- The projected input with its columns in the kept order. -/
def zKept (X : Vec 𝕀 S2048x5648 .f32) : Vec 𝕀 S2048x5760 .bf16 :=
  concatenate S2048x5760 1
    [⟨S2048x2048, (extractStridedSlice S2048x2048 ![0, 3600] X slices_S2048x5648_S2048x2048_0_3600 : Vec 𝕀 S2048x2048 .bf16)⟩,
     ⟨S2048x2048, (extractStridedSlice S2048x2048 ![0, 1536] X slices_S2048x5648_S2048x2048_0_1536 : Vec 𝕀 S2048x2048 .bf16)⟩,
     ⟨S2048x1536, (extractStridedSlice S2048x1536 ![0, 0] X slices_S2048x5648_S2048x1536_0_0 : Vec 𝕀 S2048x1536 .bf16)⟩,
     ⟨S2048x16, (extractStridedSlice S2048x16 ![0, 3584] X slices_S2048x5648_S2048x16_0_3584 : Vec 𝕀 S2048x16 .bf16)⟩,
     ⟨S2048x112, (broadcastInDim S2048x112 ![] bcast_S_S2048x112 (constant (F := 𝕀) S_ .bf16 0x0000#16) : Vec 𝕀 S2048x112 .bf16)⟩]
    concatenates_S2048x2048_S2048x2048_S2048x1536_S2048x16_S2048x112_S2048x5760_d1

/-- Arrays put together from equal pieces are equal. -/
theorem zKept_congr (p0 q0 : Vec 𝕀 S2048x2048 .bf16) (p1 q1 : Vec 𝕀 S2048x2048 .bf16) (p2 q2 : Vec 𝕀 S2048x1536 .bf16) (p3 q3 : Vec 𝕀 S2048x16 .bf16) (p4 q4 : Vec 𝕀 S2048x112 .bf16) (h0 : p0 = q0) (h1 : p1 = q1) (h2 : p2 = q2) (h3 : p3 = q3) (h4 : p4 = q4) :
    (concatenate S2048x5760 1 [⟨S2048x2048, p0⟩, ⟨S2048x2048, p1⟩, ⟨S2048x1536, p2⟩, ⟨S2048x16, p3⟩, ⟨S2048x112, p4⟩] concatenates_S2048x2048_S2048x2048_S2048x1536_S2048x16_S2048x112_S2048x5760_d1 : Vec 𝕀 S2048x5760 .bf16)
      = concatenate S2048x5760 1 [⟨S2048x2048, q0⟩, ⟨S2048x2048, q1⟩, ⟨S2048x1536, q2⟩, ⟨S2048x16, q3⟩, ⟨S2048x112, q4⟩] concatenates_S2048x2048_S2048x2048_S2048x1536_S2048x16_S2048x112_S2048x5760_d1 := by
  subst h0 h1 h2 h3 h4; rfl

set_option maxRecDepth 65536 in
set_option maxHeartbeats 2000000 in
/-- The array as the kernel reads it. -/
theorem entry_z : (V m c main_v6 : Vec 𝕀 S2048x5760 .bf16) = zKept (a1 m c) := by
  show StableHlo.after [hostOps0].flatten _ (Proc.devRef .tc main_v6) = _
  simp only [List.flatten_cons, List.flatten_nil, List.append_nil, List.cons_append, List.nil_append]
  after_results
  exact zKept_congr _ _ _ _ _ _ _ _ _ _ (by dsimp only [Matrix.cons_val]; after_results_simp_entrywise; first | done | rfl) (by dsimp only [Matrix.cons_val]; after_results_simp_entrywise; first | done | rfl)
    (by dsimp only [Matrix.cons_val]; after_results_simp_entrywise; first | done | rfl) (by dsimp only [Matrix.cons_val]; after_results_simp_entrywise; first | done | rfl)
    (by dsimp only [Matrix.cons_val]; after_results_simp_entrywise; first | done | rfl)

/-- A row of the projected input in the kept order. -/
theorem zKept_apply (X : Vec 𝕀 S2048x5648 .f32) (T : Fin 2048) (k : Fin 5760) : zKept X (ix2 T k) = kept (fun r => X (ix2 T r)) k := by
  unfold zKept kept
  pointwise

/-- The pooled values as the kernel reads them. -/
theorem entry_pp (i : S2048x512.Idx) : (V m c main_v11 : Vec 𝕀 S2048x512 .bf16) i = a2 m c i := by entry_read; rfl
/-- The attention's gated output as the kernel reads it. -/
theorem entry_og (i : S2048x1024.Idx) : (V m c main_v12 : Vec 𝕀 S2048x1024 .bf16) i = a3 m c i := by entry_read; rfl
/-- The attention's projection as the kernel reads it. -/
theorem entry_wg (i : S1024x1024.Idx) : (V m c main_v13 : Vec 𝕀 S1024x1024 .bf16) i = a6 m c i := by entry_read; rfl
/-- The output projection as the kernel reads it. -/
theorem entry_wo (i : S1024x1024.Idx) : (V m c main_v14 : Vec 𝕀 S1024x1024 .bf16) i = a7 m c i := by entry_read; rfl

set_option maxRecDepth 65536 in
set_option maxHeartbeats 2000000 in
/-- The pooling's projection as the kernel reads it: in four column quarters. -/
theorem entry_wp (n : Fin 512) (j : Fin 1024) : quart (V m c main_v9) n j = a5 m c (ix2 n j) := by
  unfold quart
  show StableHlo.after [hostOps0].flatten _ (Proc.devRef .tc main_v9) _ = _
  simp only [List.flatten_cons, List.flatten_nil, List.append_nil, List.cons_append, List.nil_append]
  after_results
  pointwise
  have e := hcol_val (headOf j) (placeOf j)
  rw [hcol_of] at e
  exact congrArg (fun k => a5 m c (ix2 n k)) (Fin.ext (by first | exact e.symm | omega))

/-- The first gate's argument is the reference's. -/
theorem z0G_eq (T : Fin 2048) : z0G m c T = z0R (a1 m c) T := by
  funext j
  rw [z0G, entry_z, zKept_apply, kept, dif_pos (show (⟨j.val, by omega⟩ : Fin 5760).val < 2048 by simp only; omega)]
  rfl

/-- The second gate's argument is the reference's. -/
theorem z1G_eq (T : Fin 2048) : z1G m c T = z1R (a1 m c) T := by
  funext j
  rw [z1G, entry_z, zKept_apply, kept, dif_pos (show (⟨1024 + j.val, by omega⟩ : Fin 5760).val < 2048 by simp only; omega), z1R]
  exact congrArg (fun k => a1 m c (ix2 T k)) (Fin.ext (by simp only; omega))

/-- The first gate's offsets are the reference's. -/
theorem lo_eq : lo (V m c main_arg4) = b0R (a4 m c) := by
  funext j
  rw [show (V m c main_arg4 : Vec 𝕀 S1x2048 .f32) = a4 m c from V_main_arg4 m c]; rfl

/-- The second gate's offsets are the reference's. -/
theorem hi_eq : hi (V m c main_arg4) = b1R (a4 m c) := by
  funext j
  rw [show (V m c main_arg4 : Vec 𝕀 S1x2048 .f32) = a4 m c from V_main_arg4 m c]; rfl

/-- The scales are the reference's. -/
theorem scales_eq : scales (V m c main_arg8) = fun j => a8 m c (ix2 0 j) := by
  funext j
  rw [show (V m c main_arg8 : Vec 𝕀 S1x1024 .f32) = a8 m c from V_main_arg8 m c]; rfl

/-- The residual stream's rows are the reference's. -/
theorem xG_eq (T : Fin 2048) : xG m c T = fun j => a0 m c (ix2 T j) := by
  funext j
  rw [xG, show (V m c main_arg0 : Vec 𝕀 S2048x1024 .f32) = a0 m c from V_main_arg0 m c]

/-- The first branch's rows are the reference's. -/
theorem ypG_eq (T : Fin 2048) : ypG m c T = ypR (a2 m c) (a5 m c) T := by
  rw [ypG, ypR, show ppG m c T = fun n => a2 m c (ix2 T n) from funext fun _ => entry_pp m c _,
    show quart (V m c main_v9) = fun n j => a5 m c (ix2 n j) from funext fun n => funext fun j => entry_wp m c n j]

/-- The second branch's rows are the reference's. -/
theorem ygG_eq (T : Fin 2048) : ygG m c T = ygR (a3 m c) (a6 m c) T := by
  rw [ygG, ygR, show ogG m c T = fun n => a3 m c (ix2 T n) from funext fun _ => entry_og m c _,
    show mat (V m c main_v13) = fun n j => a6 m c (ix2 n j) from funext fun n => funext fun j => entry_wg m c _]

/-- The gated sum's rows are the reference's. -/
theorem mixG_eq (T : Fin 2048) : mixG m c T = mixR (a1 m c) (a2 m c) (a3 m c) (a4 m c) (a5 m c) (a6 m c) T := by
  rw [mixG, mixR, ypG_eq, ygG_eq, z0G_eq, z1G_eq, lo_eq, hi_eq]

/-- The new residual stream's rows are the reference's. -/
theorem x1G_eq (T : Fin 2048) :
    x1G m c T = x1R (a0 m c) (a1 m c) (a2 m c) (a3 m c) (a4 m c) (a5 m c) (a6 m c) (a7 m c) T := by
  rw [x1G, x1R, xG_eq, mixG_eq,
    show mat (V m c main_v14) = fun n j => a7 m c (ix2 n j) from funext fun n => funext fun j => entry_wo m c _]

end Cert.Kernel7Ideal.Mf

namespace Cert.Mf
open Idealize.ShloMosaic Idealize.ShloMosaic.TcCoe Idealize.ShloMosaic.Tactic Cert.Alg Cert.Alg.Fwd
open Cert.Kernel7Ideal Cert.Kernel7Ideal.Gen Cert.Kernel7Ideal.Mf Cert.Reference7Ideal.Read Cert.Reference7Ideal.Mf

local notation "𝕀" => Idealize.ShloMosaic.Ideal

variable (m : ∀ l : Loc nD τ sig, Buf (Elt 𝕀) l) (c : Dev nD)

/-- The first result is the reference's. -/
theorem res10 : a10G m c = val_main_v20 (F := 𝕀) (a0 m c) (a1 m c) (a2 m c) (a3 m c) (a4 m c) (a5 m c) (a6 m c) (a7 m c) := by
  funext i
  obtain ⟨p, q, rfl⟩ : ∃ (p : Fin 2048) (q : Fin 1024), i = ix2 p q := ⟨i 0, i 1, eq_ix2 i⟩
  refine Eq.trans ?_ (x1_eq _ _ _ _ _ _ _ _ p q).symm
  show x1G m c p q = _
  rw [x1G_eq]

/-- The second result is the reference's. -/
theorem res11 : a11G m c = val_main_v21 (F := 𝕀) (a1 m c) (a2 m c) (a3 m c) (a4 m c) (a5 m c) (a6 m c) := by
  funext i
  obtain ⟨p, q, rfl⟩ : ∃ (p : Fin 2048) (q : Fin 1024), i = ix2 p q := ⟨i 0, i 1, eq_ix2 i⟩
  refine Eq.trans ?_ (mix_eq _ _ _ _ _ _ p q).symm
  show mixG m c p q = _
  rw [mixG_eq]

/-- The third result is the reference's. -/
theorem res12 : a12G m c = val_main_v22 (F := 𝕀) (a2 m c) (a5 m c) := by
  funext i
  obtain ⟨p, q, rfl⟩ : ∃ (p : Fin 2048) (q : Fin 1024), i = ix2 p q := ⟨i 0, i 1, eq_ix2 i⟩
  refine Eq.trans ?_ (yp_eq _ _ p q).symm
  show ypG m c p q = _
  rw [ypG_eq]

/-- The fourth result is the reference's. -/
theorem res13 : a13G m c = val_main_v23 (F := 𝕀) (a3 m c) (a6 m c) := by
  funext i
  obtain ⟨p, q, rfl⟩ : ∃ (p : Fin 2048) (q : Fin 1024), i = ix2 p q := ⟨i 0, i 1, eq_ix2 i⟩
  refine Eq.trans ?_ (yg_eq _ _ p q).symm
  show ygG m c p q = _
  rw [ygG_eq]

/-- The fifth result is the reference's. -/
theorem res14 : a14G m c = val_main_v36 (F := 𝕀) (a0 m c) (a1 m c) (a2 m c) (a3 m c) (a4 m c) (a5 m c) (a6 m c) (a7 m c) (a8 m c) := by
  funext i
  obtain ⟨p, q, rfl⟩ : ∃ (p : Fin 2048) (q : Fin 1024), i = ix2 p q := ⟨i 0, i 1, eq_ix2 i⟩
  refine Eq.trans ?_ (h2_eq _ _ _ _ _ _ _ _ _ p q).symm
  show h2G m c p q = _
  rw [h2G, x1G_eq, scales_eq]

set_option maxHeartbeats 2000000 in
/-- From any equal arguments the kernel and the reference end with equal results. -/
theorem algebraic : Cert.algebraic_Kernel7Ideal_Reference7Ideal (hKernel7Ideal := Cert.Kernel7Ideal.Gen.facts)
    (hReference7Ideal := Cert.Reference7Ideal.Gen.facts) := by
  intro m g m' g' _ hargs
  refine ⟨fun c => val_main_v20 (F := 𝕀) (a0 m c) (a1 m c) (a2 m c) (a3 m c) (a4 m c) (a5 m c) (a6 m c) (a7 m c),
    fun c => val_main_v21 (F := 𝕀) (a1 m c) (a2 m c) (a3 m c) (a4 m c) (a5 m c) (a6 m c),
    fun c => val_main_v22 (F := 𝕀) (a2 m c) (a5 m c),
    fun c => val_main_v23 (F := 𝕀) (a3 m c) (a6 m c),
    fun c => val_main_v36 (F := 𝕀) (a0 m c) (a1 m c) (a2 m c) (a3 m c) (a4 m c) (a5 m c) (a6 m c) (a7 m c) (a8 m c), ?_, ?_⟩
  · refine (θ_run _ _ _).mono (fun r h c => ?_) (Cert.Kernel7Ideal.Value.run_blocks (F := 𝕀) m g)
    obtain ⟨h0, h1, h2, h3, h4, hk⟩ := h c
    exact ⟨(h0.trans (arr10 m c)).trans (res10 m c), (h1.trans (arr11 m c)).trans (res11 m c), (h2.trans (arr12 m c)).trans (res12 m c),
      (h3.trans (arr13 m c)).trans (res13 m c), (h4.trans (arr14 m c)).trans (res14 m c), hk⟩
  · refine (θ_run _ _ _).mono (fun r h c => ?_) (Cert.Reference7Ideal.Value.run (F := 𝕀) m' g')
    obtain ⟨h0, h1, h2, h3, h4, hk⟩ := h c
    obtain ⟨e0, e1, e2, e3, e4, e5, e6, e7, e8⟩ := hargs c
    refine ⟨h0.trans ?_, h1.trans ?_, h2.trans ?_, h3.trans ?_, h4.trans ?_, hk⟩
    · rw [val_main_v20_eq, e0, e1, e2, e3, e4, e5, e6, e7]
    · rw [val_main_v21_eq, e1, e2, e3, e4, e5, e6]
    · rw [val_main_v22_eq, e2, e5]
    · rw [val_main_v23_eq, e3, e6]
    · rw [val_main_v36_eq, e0, e1, e2, e3, e4, e5, e6, e7, e8]

/-- Every run of the reference ends with its arguments as they were and with every counter at zero. -/
theorem frame_r : Cert.quiescent_Reference7Ideal (hReference7Ideal := Cert.Reference7Ideal.Gen.facts) := by
  intro m ρ _
  exact (θ_run Cert.Reference7Ideal.defs _ _).mono
    (fun r h => ⟨fun c => (h c).2.2.2.2.2, sem_eq_zero_of_no_sems (by decide) r.2⟩)
    (Cert.Reference7Ideal.Value.run (F := 𝕀) m ρ)

end Cert.Mf
-- ==== Proof.FlAlg.lean ====
/- The loss head's rows: the error of the normalised residual stream, the loss, and the gradients of the stream and of the scales. -/
module

public import proofs.«01_k».proof.Proof.NormAlg
public import Idealize.ShloMosaic.Lib.Pipeline.ValueKit

@[expose] public section
noncomputable section
namespace Cert.Alg
open Idealize.ShloMosaic

variable (x g t : Fin 1024 → EReal)

/-- The error of the normalised and scaled row against its target. -/
def errF (j : Fin 1024) : EReal := x j * nrm x * g j - t j

/-- A row's part of the loss, but for the constant factor. -/
def lossF : EReal := ∑ j, errF x g t j * errF x g t j

/-- The loss's gradient of the normalised and scaled row: the word is the float 1/1024. -/
def dyF (j : Fin 1024) : EReal := errF x g t j * Ideal.ofBits .f32 981467136#32

/-- The loss's gradient of the row. -/
def dxF (j : Fin 1024) : EReal := bwdRow 1149239296#32 (fun k => dyF x g t k * g k) x j

/-- A row's part of the loss's gradient of the scales. -/
def dgF (j : Fin 1024) : EReal := dyF x g t j * (x j * nrm x)

/-- The loss's gradient of the normalised and scaled row as the chain rule gives it: a half of a 1024th of twice the error. -/
def dyR (j : Fin 1024) : EReal :=
  Ideal.div (Ideal.ofBits .f32 1056964608#32 * Ideal.ofBits .f32 1065353216#32) (Ideal.ofBits .f32 1149239296#32)
    * (Ideal.ofBits .f32 1073741824#32 * errF x g t j)

/-- The word of 1/1024. -/
theorem word_inv : Ideal.ofBits .f32 981467136#32 = ((1 / 1024 : ℝ) : EReal) := by
  simp [Ideal.ofBits, Ideal.ieee]
  rw [← EReal.coe_mul]; norm_num

/-- The word of 1/2048. -/
theorem word_inv2 : Ideal.ofBits .f32 973078528#32 = ((1 / 2048 : ℝ) : EReal) := by
  simp [Ideal.ofBits, Ideal.ieee]
  rw [← EReal.coe_mul]; norm_num

/-- The word of 1/2. -/
theorem word_half : Ideal.ofBits .f32 1056964608#32 = ((1 / 2 : ℝ) : EReal) := by
  simp [Ideal.ofBits, Ideal.ieee]
  rw [← EReal.coe_mul]; norm_num

/-- The word of 1. -/
theorem word_one : Ideal.ofBits .f32 1065353216#32 = ((1 : ℝ) : EReal) := by
  simp [Ideal.ofBits, Ideal.ieee]
  rw [← EReal.coe_mul]; norm_num

/-- The word of 2. -/
theorem word_two : Ideal.ofBits .f32 1073741824#32 = ((2 : ℝ) : EReal) := by
  simp [Ideal.ofBits, Ideal.ieee]
  rw [← EReal.coe_mul]; norm_num

section
variable {x g t} (hx : ∀ k, IsReal (x k)) (hg : ∀ k, IsReal (g k)) (ht : ∀ k, IsReal (t k))
include hx hg ht

/-- Over real rows the error is real. -/
theorem errF_real (j : Fin 1024) : IsReal (errF x g t j) := by
  obtain ⟨m, r, -, -, -, er⟩ := nrmW_real (by norm_num) word_1024 hx
  obtain ⟨a, ha⟩ := hx j
  obtain ⟨b, hb⟩ := hg j
  obtain ⟨c, hc⟩ := ht j
  refine ⟨a * r * b - c, ?_⟩
  rw [errF, nrm, er, ha, hb, hc, ← EReal.coe_mul, ← EReal.coe_mul, ← EReal.coe_sub]

/-- The two spellings of the gradient agree. -/
theorem dyF_eq (j : Fin 1024) : dyF x g t j = dyR x g t j := by
  obtain ⟨e, he⟩ := errF_real hx hg ht j
  rw [dyF, dyR, he, word_inv, word_half, word_one, word_two, word_1024, ← EReal.coe_mul, ← EReal.coe_mul, ← EReal.coe_mul,
    Ideal.div_coe (by norm_num), ← EReal.coe_mul, ← EReal.coe_mul]
  refine congrArg _ ?_
  ring

/-- The gradient of the row, as the chain rule gives it. -/
theorem dxF_eq (j : Fin 1024) : dxF x g t j = dyR x g t j * g j * nrm x + x j * throughMsq 1149239296#32 (fun k => dyR x g t k * g k) x
    + throughMsq 1149239296#32 (fun k => dyR x g t k * g k) x * x j := by
  have hd : (fun k => dyF x g t k * g k) = fun k => dyR x g t k * g k := by
    funext k; rw [dyF_eq hx hg ht k]
  rw [dxF, hd, bwdRow_eq (by norm_num) word_1024 (fun k => ?_) hx]
  · rfl
  · rw [← dyF_eq hx hg ht k]
    exact ((errF_real hx hg ht k).mul ⟨_, word_inv⟩).mul (hg k)

end

/-- The loss: sums over tiles of 256 rows, each scaled, or the whole sum scaled. -/
theorem loss_tiles {L : Fin 2048 → EReal} (hL : ∀ T, IsReal (L T)) :
    ∑ t : Fin 8, Ideal.ofBits .f32 973078528#32 * ∑ r : Fin 256, L ⟨t.val * 256 + r.val, by omega⟩
      = Ideal.ofBits .f32 973078528#32 * ∑ T, L T := by
  choose l hl using hL
  simp only [hl, word_inv2, ← EReal.coe_mul, coe_sum]
  refine congrArg _ ?_
  rw [← Finset.mul_sum]
  exact congrArg _ (Fin.sum_mul_add_congr (S := 8) (n := 256) (f := l) fun s k hl => rfl)

/-- The loss: per-tile sums scaled by 1/2048, or half the sum of the rows' means. -/
theorem loss_eq {L : Fin 2048 → EReal} (hL : ∀ T, IsReal (L T)) :
    Ideal.ofBits .f32 973078528#32 * ∑ T, L T
      = Ideal.ofBits .f32 1056964608#32 * ∑ T, Ideal.div (L T) (Ideal.ofBits .f32 1149239296#32) := by
  choose l hl using hL
  simp only [hl, word_inv2, word_half, word_1024, Ideal.div_coe (show (1024 : ℝ) ≠ 0 by norm_num), ← EReal.coe_mul, coe_sum]
  refine congrArg _ ?_
  rw [← Finset.sum_mul]
  ring

section
variable (U : Fin 2048 → Fin 5632 → EReal) (W : Fin 3 → Fin 5632 → EReal) (B : Fin 5632 → EReal) (X : Fin 2048 → Fin 1024 → EReal)
  (D : Fin 2816 → Fin 1024 → EReal)

/-- The convolution's input `d` rows above a row, and zero above the first row. -/
def upF (d : ℕ) (T : Fin 2048) (y : Fin 5632) : EReal := if d ≤ T.val then U ⟨T.val - d, by omega⟩ y else 0

/-- The convolution over the row and the two above it. -/
def convF (T : Fin 2048) (y : Fin 5632) : EReal := B y + W 0 y * upF U 2 T y + W 1 y * upF U 1 T y + W 2 y * U T y

/-- The gated value: the gate's half through its activation, times the other half. -/
def gateF (T : Fin 2048) (k : Fin 2816) : EReal :=
  convF U W B T ⟨k.val, by omega⟩ * Ideal.div 1 (1 + Ideal.exp (0 - convF U W B T ⟨k.val, by omega⟩)) * convF U W B T ⟨2816 + k.val, by omega⟩

/-- The residual stream with the down-projection added. -/
def downF (T : Fin 2048) (j : Fin 1024) : EReal := X T j + ∑ k : Fin 2816, gateF U W B T k * D k j

variable {U W B X D} (hU : ∀ T y, IsReal (U T y)) (hW : ∀ j y, IsReal (W j y)) (hB : ∀ y, IsReal (B y))
include hU hW hB

/-- Over real arguments the convolution is real. -/
theorem convF_real (T : Fin 2048) (y : Fin 5632) : IsReal (convF U W B T y) := by
  have h : ∀ d, IsReal (upF U d T y) := fun d => by
    unfold upF
    by_cases h : d ≤ T.val
    · rw [if_pos h]; exact hU _ _
    · rw [if_neg h]; exact isReal_zero
  exact (((hB y).add ((hW 0 y).mul (h 2))).add ((hW 1 y).mul (h 1))).add ((hW 2 y).mul (hU T y))

/-- Over real arguments the gated value is real. -/
theorem gateF_real (T : Fin 2048) (k : Fin 2816) : IsReal (gateF U W B T k) := by
  have h : ∀ y, IsReal (convF U W B T y) := convF_real hU hW hB T
  rw [gateF, zero_sub]
  exact ((h _).mul (isReal_logistic (h _))).mul (h _)

/-- Over real arguments the residual stream is real. -/
theorem downF_real (hX : ∀ T j, IsReal (X T j)) (hD : ∀ k j, IsReal (D k j)) (T : Fin 2048) (j : Fin 1024) : IsReal (downF U W B X D T j) :=
  (hX T j).add (isReal_sum _ _ fun k => (gateF_real hU hW hB T k).mul (hD k j))

end

end Cert.Alg
-- ==== Proof.FlPay.lean ====
/- What one grid point of the down-projection kernel computes with, read at an index: the convolution on each of its four column
   chunks, the gated values on their two, and the residual stream. -/
module

public import proofs.«01_k».proof.Proof.Gen.Kernel8Ideal.Skeleton
public import proofs.«01_k».proof.Proof.FlAlg
public import Idealize.ShloMosaic.Lib.Pointwise
public import Idealize.ShloMosaic.Lib.Pipeline.ValueKit

@[expose] public section
set_option maxRecDepth 16384
noncomputable section
namespace Cert.Kernel8Ideal.Fl
open Idealize.ShloMosaic Idealize.ShloMosaic.TcCoe Idealize.ShloMosaic.Tactic Gen Cert.Alg

local notation "𝕀" => Idealize.ShloMosaic.Ideal

variable (x0 : Vec 𝕀 S256x5632 .bf16) (x1 : Vec 𝕀 S16x5632 .bf16) (x2 x3 : Vec 𝕀 S256x1024 .f32) (x4 : Vec 𝕀 S3x5632 .f32)
  (x5 : Vec 𝕀 S1x5632 .f32) (x6 : Vec 𝕀 S2816x1024 .bf16) (x7 : Vec 𝕀 S1x1024 .f32) (i : grid0.Coords)

/-- The convolution's input one row above a row of the tile; above the first row, the last row of the tile before, and zero before the first tile. -/
def up1B (r : Fin 256) (y : Fin 5632) : EReal :=
  if r.val = 0 then (if (i 0).val = 0 then 0 else x1 (ix2 15 y)) else x0 (ix2 ⟨r.val - 1, by omega⟩ y)

/-- The convolution's input two rows above a row of the tile. -/
def up2B (r : Fin 256) (y : Fin 5632) : EReal :=
  if r.val = 0 then (if (i 0).val = 0 then 0 else x1 (ix2 14 y))
  else if r.val = 1 then (if (i 0).val = 0 then 0 else x1 (ix2 15 y)) else x0 (ix2 ⟨r.val - 2, by omega⟩ y)

/-- The convolution at a row of the tile. -/
def cB (r : Fin 256) (y : Fin 5632) : EReal :=
  x5 (ix2 0 y) + x4 (ix2 0 y) * up2B x0 x1 i r y + x4 (ix2 1 y) * up1B x0 x1 i r y + x4 (ix2 2 y) * x0 (ix2 r y)

/-- The first tile's test. -/
theorem first_eq : Scalar.cmpi CmpIPredicate.eq (BitVec.ofNat 32 (i 0).val) 0#32 = if (i 0).val = 0 then 1#1 else 0#1 := by
  have : ∀ a : Fin 8, Scalar.cmpi CmpIPredicate.eq (BitVec.ofNat 32 a.val) 0#32 = if a.val = 0 then 1#1 else 0#1 := by decide
  exact this (i 0)

/-- A sum with one row kept: the last. -/
theorem pick15 (f : Fin 16 → EReal) :
    ∑ k : Fin 16, Scalar.select (IntOp.cmpi CmpIPredicate.eq (BitVec.ofNat 32 k.val) 15#32) (f k) 0 = f 15 := by
  rw [Finset.sum_eq_single (15 : Fin 16) (fun k _ hk => ?_) (fun h => absurd (Finset.mem_univ _) h)]
  · rfl
  · have : ∀ a : Fin 16, a ≠ 15 → IntOp.cmpi CmpIPredicate.eq (BitVec.ofNat 32 a.val) 15#32 = 0#1 := by decide
    rw [this k hk]; rfl

/-- A sum with one row kept: the last but one. -/
theorem pick14 (f : Fin 16 → EReal) :
    ∑ k : Fin 16, Scalar.select (IntOp.cmpi CmpIPredicate.eq (BitVec.ofNat 32 k.val) 14#32) (f k) 0 = f 14 := by
  rw [Finset.sum_eq_single (14 : Fin 16) (fun k _ hk => ?_) (fun h => absurd (Finset.mem_univ _) h)]
  · rfl
  · have : ∀ a : Fin 16, a ≠ 14 → IntOp.cmpi CmpIPredicate.eq (BitVec.ofNat 32 a.val) 14#32 = 0#1 := by decide
    rw [this k hk]; rfl

/-- The kernel's choice between zero and the row before, on the first tile and on the others. -/
theorem halo_eq (z : EReal) : Scalar.select (Scalar.cmpi CmpIPredicate.eq (BitVec.ofNat 32 (i 0).val) 0#32) 0 z
    = if (i 0).val = 0 then 0 else z := by
  rw [first_eq]
  by_cases h : (i 0).val = 0
  · rw [if_pos h, if_pos h]; rfl
  · rw [if_neg h, if_neg h]; rfl

/-- A rotation down by one row, its first row replaced, at one column. -/
theorem dn1 (f : Fin 256 → EReal) (n : EReal) (r : Fin 256) :
    (if h : r.val < 8 then Scalar.select (IntOp.cmpi CmpIPredicate.eq (BitVec.ofNat 32 r.val) 0#32) n (f ⟨(r.val + 256 - 1) % 256, by omega⟩)
      else f ⟨(8 + (r.val - 8) + 256 - 1) % 256, by omega⟩) = if r.val = 0 then n else f ⟨r.val - 1, by omega⟩ := by
  by_cases h : r.val < 8
  · rw [dif_pos h]
    have e : ∀ a : Fin 8, IntOp.cmpi CmpIPredicate.eq (BitVec.ofNat 32 a.val) 0#32 = if a.val = 0 then 1#1 else 0#1 := by decide
    have e1 := e ⟨r.val, h⟩
    simp only at e1
    rw [e1]
    by_cases h0 : r.val = 0
    · rw [if_pos h0, if_pos h0]; rfl
    · rw [if_neg h0, if_neg h0]
      exact congrArg f (Fin.ext (by simp only; omega))
  · rw [dif_neg h, if_neg (by omega)]
    exact congrArg f (Fin.ext (by simp only; omega))

/-- A rotation down by two rows, its first two rows replaced, at one column. -/
theorem dn2 (f : Fin 256 → EReal) (n1 n2 : EReal) (r : Fin 256) :
    (if h : r.val < 8 then Scalar.select (IntOp.cmpi CmpIPredicate.eq (BitVec.ofNat 32 r.val) 0#32) n2
        (Scalar.select (IntOp.cmpi CmpIPredicate.eq (BitVec.ofNat 32 r.val) 1#32) n1 (f ⟨(r.val + 256 - 2) % 256, by omega⟩))
      else f ⟨(8 + (r.val - 8) + 256 - 2) % 256, by omega⟩)
      = if r.val = 0 then n2 else if r.val = 1 then n1 else f ⟨r.val - 2, by omega⟩ := by
  by_cases h : r.val < 8
  · rw [dif_pos h]
    have e : ∀ a : Fin 8, IntOp.cmpi CmpIPredicate.eq (BitVec.ofNat 32 a.val) 0#32 = (if a.val = 0 then 1#1 else 0#1)
        ∧ IntOp.cmpi CmpIPredicate.eq (BitVec.ofNat 32 a.val) 1#32 = if a.val = 1 then 1#1 else 0#1 := by decide
    obtain ⟨e1, e2⟩ := e ⟨r.val, h⟩
    simp only at e1 e2
    rw [e1, e2]
    by_cases h0 : r.val = 0
    · rw [if_pos h0, if_pos h0]; rfl
    rw [if_neg h0, if_neg h0]
    by_cases h1 : r.val = 1
    · rw [if_pos h1, if_pos h1]; rfl
    · rw [if_neg h1, if_neg h1]
      exact congrArg f (Fin.ext (by simp only; omega))
  · rw [dif_neg h, if_neg (by omega), if_neg (by omega)]
    exact congrArg f (Fin.ext (by simp only; omega))

/-- The kernel's convolution at one column, rotations and replaced rows spelled out. -/
theorem conv_eq (r : Fin 256) (y : Fin 5632) :
    ((x5 (ix2 0 y) + x4 (ix2 0 y) *
        (if h : r.val < 8 then
          Scalar.select (IntOp.cmpi CmpIPredicate.eq (BitVec.ofNat 32 r.val) 0#32)
            (Scalar.select (Scalar.cmpi CmpIPredicate.eq (BitVec.ofNat 32 (i 0).val) 0#32) 0
              (∑ k : Fin 16, Scalar.select (IntOp.cmpi CmpIPredicate.eq (BitVec.ofNat 32 k.val) 14#32) (x1 (ix2 k y)) 0))
            (Scalar.select (IntOp.cmpi CmpIPredicate.eq (BitVec.ofNat 32 r.val) 1#32)
              (Scalar.select (Scalar.cmpi CmpIPredicate.eq (BitVec.ofNat 32 (i 0).val) 0#32) 0
                (∑ k : Fin 16, Scalar.select (IntOp.cmpi CmpIPredicate.eq (BitVec.ofNat 32 k.val) 15#32) (x1 (ix2 k y)) 0))
              (x0 (ix2 ⟨(r.val + 256 - 2) % 256, by omega⟩ y)))
        else x0 (ix2 ⟨(8 + (r.val - 8) + 256 - 2) % 256, by omega⟩ y)))
      + x4 (ix2 1 y) *
        (if h : r.val < 8 then
          Scalar.select (IntOp.cmpi CmpIPredicate.eq (BitVec.ofNat 32 r.val) 0#32)
            (Scalar.select (Scalar.cmpi CmpIPredicate.eq (BitVec.ofNat 32 (i 0).val) 0#32) 0
              (∑ k : Fin 16, Scalar.select (IntOp.cmpi CmpIPredicate.eq (BitVec.ofNat 32 k.val) 15#32) (x1 (ix2 k y)) 0))
            (x0 (ix2 ⟨(r.val + 256 - 1) % 256, by omega⟩ y))
        else x0 (ix2 ⟨(8 + (r.val - 8) + 256 - 1) % 256, by omega⟩ y)))
      + x4 (ix2 2 y) * x0 (ix2 r y) = cB x0 x1 x4 x5 i r y := by
  rw [pick14 fun k => x1 (ix2 k y), pick15 fun k => x1 (ix2 k y), halo_eq, halo_eq, dn1 (fun a => x0 (ix2 a y)), dn2 (fun a => x0 (ix2 a y))]
  rfl

/-- The gated value at a row of the tile. -/
def aB (r : Fin 256) (k : Fin 2816) : EReal :=
  cB x0 x1 x4 x5 i r ⟨k.val, by omega⟩ * Ideal.div 1 (1 + Ideal.exp (0 - cB x0 x1 x4 x5 i r ⟨k.val, by omega⟩))
    * cB x0 x1 x4 x5 i r ⟨2816 + k.val, by omega⟩

/-- The residual stream with the down-projection added at a row of the tile. -/
def accB (r : Fin 256) (j : Fin 1024) : EReal := x2 (ix2 r j) + ∑ k : Fin 2816, aB x0 x1 x4 x5 i r k * x6 (ix2 k j)

section
variable (r : Fin 256) (x : Fin 1408)

/-- The kernel's convolution on columns 0 … 1407. -/
theorem conv_c0 : (k0_pay13 (F := 𝕀) (k0_pay6 (View.ld x0 (Rect.unit ![0, 0] ![256, 1408] inb_S256x5632_S256x1408_0_0))) (k0_pay8 i (View.ld x1 (Rect.unit ![0, 0] ![16, 1408] inb_S16x5632_S16x1408_0_0))) (k0_pay9 i (View.ld x1 (Rect.unit ![0, 0] ![16, 1408] inb_S16x5632_S16x1408_0_0))) (iota .tc S8x1408 32 [0] iota_S8x1408_d0_w32) (k0_pay10 (View.ld x0 (Rect.unit ![0, 0] ![256, 1408] inb_S256x5632_S256x1408_0_0))) (k0_pay11 (View.ld x0 (Rect.unit ![0, 0] ![256, 1408] inb_S256x5632_S256x1408_0_0)))
      (k0_pay12 i (View.ld x0 (Rect.unit ![0, 0] ![256, 1408] inb_S256x5632_S256x1408_0_0)) (View.ld x1 (Rect.unit ![0, 0] ![16, 1408] inb_S16x5632_S16x1408_0_0))) (View.ld x5 (Rect.unit ![0, 0] ![1, 1408] inb_S1x5632_S1x1408_0_0))
      (View.ld x4 (Rect.unit ![0, 0] ![1, 1408] inb_S3x5632_S1x1408_0_0)) (View.ld x4 (Rect.unit ![1, 0] ![1, 1408] inb_S3x5632_S1x1408_1_0)) (View.ld x4 (Rect.unit ![2, 0] ![1, 1408] inb_S3x5632_S1x1408_2_0))) (ix2 r x)
    = cB x0 x1 x4 x5 i r ⟨x.val, by omega⟩ := by
  unfold_payloads
  pointwise
  exact conv_eq x0 x1 x4 x5 i r _

/-- The kernel's convolution on columns 1408 … 2815. -/
theorem conv_c1 : (k0_pay32 (F := 𝕀) (k0_pay26 (View.ld x0 (Rect.unit ![0, 1408] ![256, 1408] inb_S256x5632_S256x1408_0_1408)))
      (k0_pay30 (Scalar.cmpi CmpIPredicate.eq (BitVec.ofNat 32 (i 0).val) 0#32) (k0_pay26 (View.ld x0 (Rect.unit ![0, 1408] ![256, 1408] inb_S256x5632_S256x1408_0_1408))) (k0_pay27 (View.ld x1 (Rect.unit ![0, 1408] ![16, 1408] inb_S16x5632_S16x1408_0_1408))) (k0_pay28 (View.ld x1 (Rect.unit ![0, 1408] ![16, 1408] inb_S16x5632_S16x1408_0_1408)))
        (View.ld x5 (Rect.unit ![0, 1408] ![1, 1408] inb_S1x5632_S1x1408_0_1408)) (View.ld x4 (Rect.unit ![0, 1408] ![1, 1408] inb_S3x5632_S1x1408_0_1408)))
      (k0_pay31 (Scalar.cmpi CmpIPredicate.eq (BitVec.ofNat 32 (i 0).val) 0#32) (k0_pay26 (View.ld x0 (Rect.unit ![0, 1408] ![256, 1408] inb_S256x5632_S256x1408_0_1408))) (k0_pay28 (View.ld x1 (Rect.unit ![0, 1408] ![16, 1408] inb_S16x5632_S16x1408_0_1408))) (View.ld x4 (Rect.unit ![1, 1408] ![1, 1408] inb_S3x5632_S1x1408_1_1408))) (View.ld x4 (Rect.unit ![2, 1408] ![1, 1408] inb_S3x5632_S1x1408_2_1408))) (ix2 r x)
    = cB x0 x1 x4 x5 i r ⟨1408 + x.val, by omega⟩ := by
  unfold_payloads
  pointwise
  exact conv_eq x0 x1 x4 x5 i r _

/-- The kernel's convolution on columns 2816 … 4223. -/
theorem conv_c2 : (k0_pay22 (F := 𝕀) (k0_pay15 (F := 𝕀) (View.ld x0 (Rect.unit ![0, 2816] ![256, 1408] inb_S256x5632_S256x1408_0_2816)))
      (k0_pay20 (Scalar.cmpi CmpIPredicate.eq (BitVec.ofNat 32 (i 0).val) 0#32) (k0_pay15 (View.ld x0 (Rect.unit ![0, 2816] ![256, 1408] inb_S256x5632_S256x1408_0_2816))) (k0_pay16 (View.ld x1 (Rect.unit ![0, 2816] ![16, 1408] inb_S16x5632_S16x1408_0_2816))) k0_pay17 k0_pay18)
      (k0_pay21 (Scalar.cmpi CmpIPredicate.eq (BitVec.ofNat 32 (i 0).val) 0#32) (k0_pay15 (View.ld x0 (Rect.unit ![0, 2816] ![256, 1408] inb_S256x5632_S256x1408_0_2816))) (k0_pay16 (View.ld x1 (Rect.unit ![0, 2816] ![16, 1408] inb_S16x5632_S16x1408_0_2816))) k0_pay17 k0_pay18
        (View.ld x5 (Rect.unit ![0, 2816] ![1, 1408] inb_S1x5632_S1x1408_0_2816)) (View.ld x4 (Rect.unit ![0, 2816] ![1, 1408] inb_S3x5632_S1x1408_0_2816))) (View.ld x4 (Rect.unit ![1, 2816] ![1, 1408] inb_S3x5632_S1x1408_1_2816)) (View.ld x4 (Rect.unit ![2, 2816] ![1, 1408] inb_S3x5632_S1x1408_2_2816))) (ix2 r x)
    = cB x0 x1 x4 x5 i r ⟨2816 + x.val, by omega⟩ := by
  unfold_payloads
  pointwise
  exact conv_eq x0 x1 x4 x5 i r _

/-- The kernel's convolution on columns 4224 … 5631. -/
theorem conv_c3 : (k0_pay41 (F := 𝕀) (k0_pay34 (F := 𝕀) (View.ld x0 (Rect.unit ![0, 4224] ![256, 1408] inb_S256x5632_S256x1408_0_4224))) (k0_pay36 (Scalar.cmpi CmpIPredicate.eq (BitVec.ofNat 32 (i 0).val) 0#32) (View.ld x1 (Rect.unit ![0, 4224] ![16, 1408] inb_S16x5632_S16x1408_0_4224))) (k0_pay37 (Scalar.cmpi CmpIPredicate.eq (BitVec.ofNat 32 (i 0).val) 0#32) (View.ld x1 (Rect.unit ![0, 4224] ![16, 1408] inb_S16x5632_S16x1408_0_4224))) (iota .tc S8x1408 32 [0] iota_S8x1408_d0_w32)
      (k0_pay38 (View.ld x0 (Rect.unit ![0, 4224] ![256, 1408] inb_S256x5632_S256x1408_0_4224))) (k0_pay39 (View.ld x0 (Rect.unit ![0, 4224] ![256, 1408] inb_S256x5632_S256x1408_0_4224))) (k0_pay40 (Scalar.cmpi CmpIPredicate.eq (BitVec.ofNat 32 (i 0).val) 0#32) (View.ld x0 (Rect.unit ![0, 4224] ![256, 1408] inb_S256x5632_S256x1408_0_4224)) (View.ld x1 (Rect.unit ![0, 4224] ![16, 1408] inb_S16x5632_S16x1408_0_4224)))
      (View.ld x5 (Rect.unit ![0, 4224] ![1, 1408] inb_S1x5632_S1x1408_0_4224)) (View.ld x4 (Rect.unit ![0, 4224] ![1, 1408] inb_S3x5632_S1x1408_0_4224)) (View.ld x4 (Rect.unit ![1, 4224] ![1, 1408] inb_S3x5632_S1x1408_1_4224)) (View.ld x4 (Rect.unit ![2, 4224] ![1, 1408] inb_S3x5632_S1x1408_2_4224))) (ix2 r x)
    = cB x0 x1 x4 x5 i r ⟨4224 + x.val, by omega⟩ := by
  unfold_payloads
  pointwise
  exact conv_eq x0 x1 x4 x5 i r _

/-- A gated value from the gate's convolution and the value's. -/
theorem gate_of0 (v66 v71 v103 v122 : FVec 𝕀 S256x1408 .f32) (v123 v127 : Vec 𝕀 S1x1408 .f32) (C V : EReal) (hc : v66 (ix2 r x) = C)
    (hv : k0_pay22 (F := 𝕀) v71 v103 v122 v123 v127 (ix2 r x) = V) :
    k0_pay24 (F := 𝕀) v66 v71 v103 v122 v123 v127 (ix2 r x) = C * Ideal.div 1 (1 + Ideal.exp (0 - C)) * V := by
  simp only [k0_pay24]
  pointwise [hc, hv]

/-- A gated value from the gate's convolution and the value's. -/
theorem gate_of1 (v209 v214 : FVec 𝕀 S256x1408 .f32) (v226 v235 : FVec 𝕀 S1x1408 .f32) (v236 : IVec S8x1408 32) (v237 v238 : FVec 𝕀 S256x1408 .f32)
    (v244 : FVec 𝕀 S8x1408 .f32) (v260 v261 v266 v270 : Vec 𝕀 S1x1408 .f32) (C V : EReal) (hc : v209 (ix2 r x) = C)
    (hv : k0_pay41 (F := 𝕀) v214 v226 v235 v236 v237 v238 v244 v260 v261 v266 v270 (ix2 r x) = V) :
    k0_pay43 (F := 𝕀) v209 v214 v226 v235 v236 v237 v238 v244 v260 v261 v266 v270 (ix2 r x) = C * Ideal.div 1 (1 + Ideal.exp (0 - C)) * V := by
  simp only [k0_pay43]
  pointwise [hc, hv]

/-- The kernel's gated values on columns 0 … 1407. -/
theorem gate_0 : (k0_pay24 (k0_pay13 (F := 𝕀) (k0_pay6 (View.ld x0 (Rect.unit ![0, 0] ![256, 1408] inb_S256x5632_S256x1408_0_0))) (k0_pay8 i (View.ld x1 (Rect.unit ![0, 0] ![16, 1408] inb_S16x5632_S16x1408_0_0))) (k0_pay9 i (View.ld x1 (Rect.unit ![0, 0] ![16, 1408] inb_S16x5632_S16x1408_0_0))) (iota .tc S8x1408 32 [0] iota_S8x1408_d0_w32) (k0_pay10 (View.ld x0 (Rect.unit ![0, 0] ![256, 1408] inb_S256x5632_S256x1408_0_0))) (k0_pay11 (View.ld x0 (Rect.unit ![0, 0] ![256, 1408] inb_S256x5632_S256x1408_0_0)))
      (k0_pay12 i (View.ld x0 (Rect.unit ![0, 0] ![256, 1408] inb_S256x5632_S256x1408_0_0)) (View.ld x1 (Rect.unit ![0, 0] ![16, 1408] inb_S16x5632_S16x1408_0_0))) (View.ld x5 (Rect.unit ![0, 0] ![1, 1408] inb_S1x5632_S1x1408_0_0))
      (View.ld x4 (Rect.unit ![0, 0] ![1, 1408] inb_S3x5632_S1x1408_0_0)) (View.ld x4 (Rect.unit ![1, 0] ![1, 1408] inb_S3x5632_S1x1408_1_0)) (View.ld x4 (Rect.unit ![2, 0] ![1, 1408] inb_S3x5632_S1x1408_2_0)))
      (k0_pay15 (F := 𝕀) (View.ld x0 (Rect.unit ![0, 2816] ![256, 1408] inb_S256x5632_S256x1408_0_2816)))
      (k0_pay20 (Scalar.cmpi CmpIPredicate.eq (BitVec.ofNat 32 (i 0).val) 0#32) (k0_pay15 (View.ld x0 (Rect.unit ![0, 2816] ![256, 1408] inb_S256x5632_S256x1408_0_2816))) (k0_pay16 (View.ld x1 (Rect.unit ![0, 2816] ![16, 1408] inb_S16x5632_S16x1408_0_2816))) k0_pay17 k0_pay18)
      (k0_pay21 (Scalar.cmpi CmpIPredicate.eq (BitVec.ofNat 32 (i 0).val) 0#32) (k0_pay15 (View.ld x0 (Rect.unit ![0, 2816] ![256, 1408] inb_S256x5632_S256x1408_0_2816))) (k0_pay16 (View.ld x1 (Rect.unit ![0, 2816] ![16, 1408] inb_S16x5632_S16x1408_0_2816))) k0_pay17 k0_pay18
        (View.ld x5 (Rect.unit ![0, 2816] ![1, 1408] inb_S1x5632_S1x1408_0_2816)) (View.ld x4 (Rect.unit ![0, 2816] ![1, 1408] inb_S3x5632_S1x1408_0_2816))) (View.ld x4 (Rect.unit ![1, 2816] ![1, 1408] inb_S3x5632_S1x1408_1_2816)) (View.ld x4 (Rect.unit ![2, 2816] ![1, 1408] inb_S3x5632_S1x1408_2_2816))) (ix2 r x)
    = aB x0 x1 x4 x5 i r ⟨x.val, by omega⟩ :=
  gate_of0 r x _ _ _ _ _ _ _ _ (conv_c0 x0 x1 x4 x5 i r x) (conv_c2 x0 x1 x4 x5 i r x)

/-- The kernel's gated values on columns 1408 … 2815. -/
theorem gate_1 : (k0_pay43 (k0_pay32 (F := 𝕀) (k0_pay26 (View.ld x0 (Rect.unit ![0, 1408] ![256, 1408] inb_S256x5632_S256x1408_0_1408)))
      (k0_pay30 (Scalar.cmpi CmpIPredicate.eq (BitVec.ofNat 32 (i 0).val) 0#32) (k0_pay26 (View.ld x0 (Rect.unit ![0, 1408] ![256, 1408] inb_S256x5632_S256x1408_0_1408))) (k0_pay27 (View.ld x1 (Rect.unit ![0, 1408] ![16, 1408] inb_S16x5632_S16x1408_0_1408))) (k0_pay28 (View.ld x1 (Rect.unit ![0, 1408] ![16, 1408] inb_S16x5632_S16x1408_0_1408)))
        (View.ld x5 (Rect.unit ![0, 1408] ![1, 1408] inb_S1x5632_S1x1408_0_1408)) (View.ld x4 (Rect.unit ![0, 1408] ![1, 1408] inb_S3x5632_S1x1408_0_1408)))
      (k0_pay31 (Scalar.cmpi CmpIPredicate.eq (BitVec.ofNat 32 (i 0).val) 0#32) (k0_pay26 (View.ld x0 (Rect.unit ![0, 1408] ![256, 1408] inb_S256x5632_S256x1408_0_1408))) (k0_pay28 (View.ld x1 (Rect.unit ![0, 1408] ![16, 1408] inb_S16x5632_S16x1408_0_1408))) (View.ld x4 (Rect.unit ![1, 1408] ![1, 1408] inb_S3x5632_S1x1408_1_1408))) (View.ld x4 (Rect.unit ![2, 1408] ![1, 1408] inb_S3x5632_S1x1408_2_1408)))
      (k0_pay34 (F := 𝕀) (View.ld x0 (Rect.unit ![0, 4224] ![256, 1408] inb_S256x5632_S256x1408_0_4224))) (k0_pay36 (Scalar.cmpi CmpIPredicate.eq (BitVec.ofNat 32 (i 0).val) 0#32) (View.ld x1 (Rect.unit ![0, 4224] ![16, 1408] inb_S16x5632_S16x1408_0_4224))) (k0_pay37 (Scalar.cmpi CmpIPredicate.eq (BitVec.ofNat 32 (i 0).val) 0#32) (View.ld x1 (Rect.unit ![0, 4224] ![16, 1408] inb_S16x5632_S16x1408_0_4224))) (iota .tc S8x1408 32 [0] iota_S8x1408_d0_w32)
      (k0_pay38 (View.ld x0 (Rect.unit ![0, 4224] ![256, 1408] inb_S256x5632_S256x1408_0_4224))) (k0_pay39 (View.ld x0 (Rect.unit ![0, 4224] ![256, 1408] inb_S256x5632_S256x1408_0_4224))) (k0_pay40 (Scalar.cmpi CmpIPredicate.eq (BitVec.ofNat 32 (i 0).val) 0#32) (View.ld x0 (Rect.unit ![0, 4224] ![256, 1408] inb_S256x5632_S256x1408_0_4224)) (View.ld x1 (Rect.unit ![0, 4224] ![16, 1408] inb_S16x5632_S16x1408_0_4224)))
      (View.ld x5 (Rect.unit ![0, 4224] ![1, 1408] inb_S1x5632_S1x1408_0_4224)) (View.ld x4 (Rect.unit ![0, 4224] ![1, 1408] inb_S3x5632_S1x1408_0_4224)) (View.ld x4 (Rect.unit ![1, 4224] ![1, 1408] inb_S3x5632_S1x1408_1_4224)) (View.ld x4 (Rect.unit ![2, 4224] ![1, 1408] inb_S3x5632_S1x1408_2_4224))) (ix2 r x)
    = aB x0 x1 x4 x5 i r ⟨1408 + x.val, by omega⟩ := by
  refine (gate_of1 r x _ _ _ _ _ _ _ _ _ _ _ _ _ _ (conv_c1 x0 x1 x4 x5 i r x) (conv_c3 x0 x1 x4 x5 i r x)).trans ?_
  rw [aB]
  have e : (⟨2816 + (1408 + x.val), by omega⟩ : Fin 5632) = ⟨4224 + x.val, by omega⟩ := Fin.ext (by simp only; omega)
  simp only [e]

end

/-- The residual stream from the two chunks' gated values. -/
theorem acc_of (r : Fin 256) (j : Fin 1024) (v4 : Vec 𝕀 S256x1024 .f32) (v66 v71 v103 v122 : FVec 𝕀 S256x1408 .f32) (v123 v127 : Vec 𝕀 S1x1408 .f32)
    (d0 d1 : Vec 𝕀 S1408x1024 .bf16) (q : FVec 𝕀 S256x1408 .bf16) :
    k0_pay44 (F := 𝕀) (k0_pay25 v4 v66 v71 v103 v122 v123 v127 d0) q d1 (ix2 r j)
      = v4 (ix2 r j) + ∑ x : Fin 1408, k0_pay24 (F := 𝕀) v66 v71 v103 v122 v123 v127 (ix2 r x) * d0 (ix2 x j)
        + ∑ x : Fin 1408, q (ix2 r x) * d1 (ix2 x j) := by
  simp only [k0_pay44, k0_pay25]
  pointwise [dot_S256x1408_S1408x1024_S256x1024_1_0_0_1_n_n]

/-- The kernel's residual stream. -/
theorem acc_pay (r : Fin 256) (j : Fin 1024) : k0_pay44 (F := 𝕀) (k0_pay25 x2 (k0_pay13 (F := 𝕀) (k0_pay6 (View.ld x0 (Rect.unit ![0, 0] ![256, 1408] inb_S256x5632_S256x1408_0_0))) (k0_pay8 i (View.ld x1 (Rect.unit ![0, 0] ![16, 1408] inb_S16x5632_S16x1408_0_0))) (k0_pay9 i (View.ld x1 (Rect.unit ![0, 0] ![16, 1408] inb_S16x5632_S16x1408_0_0))) (iota .tc S8x1408 32 [0] iota_S8x1408_d0_w32) (k0_pay10 (View.ld x0 (Rect.unit ![0, 0] ![256, 1408] inb_S256x5632_S256x1408_0_0))) (k0_pay11 (View.ld x0 (Rect.unit ![0, 0] ![256, 1408] inb_S256x5632_S256x1408_0_0)))
      (k0_pay12 i (View.ld x0 (Rect.unit ![0, 0] ![256, 1408] inb_S256x5632_S256x1408_0_0)) (View.ld x1 (Rect.unit ![0, 0] ![16, 1408] inb_S16x5632_S16x1408_0_0))) (View.ld x5 (Rect.unit ![0, 0] ![1, 1408] inb_S1x5632_S1x1408_0_0))
      (View.ld x4 (Rect.unit ![0, 0] ![1, 1408] inb_S3x5632_S1x1408_0_0)) (View.ld x4 (Rect.unit ![1, 0] ![1, 1408] inb_S3x5632_S1x1408_1_0)) (View.ld x4 (Rect.unit ![2, 0] ![1, 1408] inb_S3x5632_S1x1408_2_0)))
      (k0_pay15 (F := 𝕀) (View.ld x0 (Rect.unit ![0, 2816] ![256, 1408] inb_S256x5632_S256x1408_0_2816)))
      (k0_pay20 (Scalar.cmpi CmpIPredicate.eq (BitVec.ofNat 32 (i 0).val) 0#32) (k0_pay15 (View.ld x0 (Rect.unit ![0, 2816] ![256, 1408] inb_S256x5632_S256x1408_0_2816))) (k0_pay16 (View.ld x1 (Rect.unit ![0, 2816] ![16, 1408] inb_S16x5632_S16x1408_0_2816))) k0_pay17 k0_pay18)
      (k0_pay21 (Scalar.cmpi CmpIPredicate.eq (BitVec.ofNat 32 (i 0).val) 0#32) (k0_pay15 (View.ld x0 (Rect.unit ![0, 2816] ![256, 1408] inb_S256x5632_S256x1408_0_2816))) (k0_pay16 (View.ld x1 (Rect.unit ![0, 2816] ![16, 1408] inb_S16x5632_S16x1408_0_2816))) k0_pay17 k0_pay18
        (View.ld x5 (Rect.unit ![0, 2816] ![1, 1408] inb_S1x5632_S1x1408_0_2816)) (View.ld x4 (Rect.unit ![0, 2816] ![1, 1408] inb_S3x5632_S1x1408_0_2816))) (View.ld x4 (Rect.unit ![1, 2816] ![1, 1408] inb_S3x5632_S1x1408_1_2816)) (View.ld x4 (Rect.unit ![2, 2816] ![1, 1408] inb_S3x5632_S1x1408_2_2816)) (View.ld x6 (Rect.unit ![0, 0] ![1408, 1024] inb_S2816x1024_S1408x1024_0_0)))
      (k0_pay43 (k0_pay32 (F := 𝕀) (k0_pay26 (View.ld x0 (Rect.unit ![0, 1408] ![256, 1408] inb_S256x5632_S256x1408_0_1408)))
      (k0_pay30 (Scalar.cmpi CmpIPredicate.eq (BitVec.ofNat 32 (i 0).val) 0#32) (k0_pay26 (View.ld x0 (Rect.unit ![0, 1408] ![256, 1408] inb_S256x5632_S256x1408_0_1408))) (k0_pay27 (View.ld x1 (Rect.unit ![0, 1408] ![16, 1408] inb_S16x5632_S16x1408_0_1408))) (k0_pay28 (View.ld x1 (Rect.unit ![0, 1408] ![16, 1408] inb_S16x5632_S16x1408_0_1408)))
        (View.ld x5 (Rect.unit ![0, 1408] ![1, 1408] inb_S1x5632_S1x1408_0_1408)) (View.ld x4 (Rect.unit ![0, 1408] ![1, 1408] inb_S3x5632_S1x1408_0_1408)))
      (k0_pay31 (Scalar.cmpi CmpIPredicate.eq (BitVec.ofNat 32 (i 0).val) 0#32) (k0_pay26 (View.ld x0 (Rect.unit ![0, 1408] ![256, 1408] inb_S256x5632_S256x1408_0_1408))) (k0_pay28 (View.ld x1 (Rect.unit ![0, 1408] ![16, 1408] inb_S16x5632_S16x1408_0_1408))) (View.ld x4 (Rect.unit ![1, 1408] ![1, 1408] inb_S3x5632_S1x1408_1_1408))) (View.ld x4 (Rect.unit ![2, 1408] ![1, 1408] inb_S3x5632_S1x1408_2_1408)))
      (k0_pay34 (F := 𝕀) (View.ld x0 (Rect.unit ![0, 4224] ![256, 1408] inb_S256x5632_S256x1408_0_4224))) (k0_pay36 (Scalar.cmpi CmpIPredicate.eq (BitVec.ofNat 32 (i 0).val) 0#32) (View.ld x1 (Rect.unit ![0, 4224] ![16, 1408] inb_S16x5632_S16x1408_0_4224))) (k0_pay37 (Scalar.cmpi CmpIPredicate.eq (BitVec.ofNat 32 (i 0).val) 0#32) (View.ld x1 (Rect.unit ![0, 4224] ![16, 1408] inb_S16x5632_S16x1408_0_4224))) (iota .tc S8x1408 32 [0] iota_S8x1408_d0_w32)
      (k0_pay38 (View.ld x0 (Rect.unit ![0, 4224] ![256, 1408] inb_S256x5632_S256x1408_0_4224))) (k0_pay39 (View.ld x0 (Rect.unit ![0, 4224] ![256, 1408] inb_S256x5632_S256x1408_0_4224))) (k0_pay40 (Scalar.cmpi CmpIPredicate.eq (BitVec.ofNat 32 (i 0).val) 0#32) (View.ld x0 (Rect.unit ![0, 4224] ![256, 1408] inb_S256x5632_S256x1408_0_4224)) (View.ld x1 (Rect.unit ![0, 4224] ![16, 1408] inb_S16x5632_S16x1408_0_4224)))
      (View.ld x5 (Rect.unit ![0, 4224] ![1, 1408] inb_S1x5632_S1x1408_0_4224)) (View.ld x4 (Rect.unit ![0, 4224] ![1, 1408] inb_S3x5632_S1x1408_0_4224)) (View.ld x4 (Rect.unit ![1, 4224] ![1, 1408] inb_S3x5632_S1x1408_1_4224)) (View.ld x4 (Rect.unit ![2, 4224] ![1, 1408] inb_S3x5632_S1x1408_2_4224)))
      (View.ld x6 (Rect.unit ![1408, 0] ![1408, 1024] inb_S2816x1024_S1408x1024_1408_0)) (ix2 r j) = accB x0 x1 x2 x4 x5 x6 i r j := by
  refine (acc_of r j _ _ _ _ _ _ _ _ _ _).trans ?_
  rw [accB, add_assoc, Fin.sum_univ_add (a := 1408) (b := 1408) fun k : Fin 2816 => aB x0 x1 x4 x5 i r k * x6 (ix2 k j)]
  refine congrArg (_ + ·) (congrArg₂ (· + ·) (Finset.sum_congr rfl fun x _ => ?_) (Finset.sum_congr rfl fun x _ => ?_))
  · refine congrArg₂ (· * ·) (gate_0 x0 x1 x4 x5 i r x) ?_
    pointwise
    rfl
  · refine congrArg₂ (· * ·) (gate_1 x0 x1 x4 x5 i r x) ?_
    pointwise
    rfl

variable (P : FVec 𝕀 S256x1024 .f32) (Q : FVec 𝕀 S256x1408 .bf16) (D : Vec 𝕀 S1408x1024 .bf16) (X : Fin 256 → Fin 1024 → EReal)
  (H : ∀ r j, k0_pay44 (F := 𝕀) P Q D (ix2 r j) = X r j)
include H

/-- The kernel's gradient of the residual stream. -/
theorem dx_pay (r : Fin 256) (j : Fin 1024) :
    k0_pay2 (F := 𝕀) (k0_pay45 P Q D) (k0_pay46 P Q D) x7 (k0_pay49 P Q D x7 x3) (ix2 r j)
      = dxF (X r) (fun k => x7 (ix2 0 k)) (fun k => x3 (ix2 r k)) j := by
  simp only [k0_pay2, k0_pay45, k0_pay46, k0_pay47, k0_pay49]
  pointwise [H]
  rfl

/-- The kernel's part of the loss. -/
theorem loss_pay (v : Vec 𝕀 S1x128 .f32) (j : Fin 128) :
    k0_pay48 (F := 𝕀) P Q D x7 x3 v (ix2 0 j)
      = v (ix2 0 j) + Ideal.ofBits .f32 973078528#32 * ∑ r : Fin 256, lossF (X r) (fun k => x7 (ix2 0 k)) (fun k => x3 (ix2 r k)) := by
  simp only [k0_pay48, k0_pay45, k0_pay46, k0_pay47, k0_pay49]
  pointwise [H]
  rfl

/-- The kernel's part of the gradient of the scales. -/
theorem dg_pay (v : Vec 𝕀 S1x1024 .f32) (j : Fin 1024) :
    k0_pay1 (F := 𝕀) (k0_pay50 v) (k0_pay51 P Q D x7 x3) (ix2 0 j)
      = v (ix2 0 j) + ∑ r : Fin 256, dgF (X r) (fun k => x7 (ix2 0 k)) (fun k => x3 (ix2 r k)) j := by
  simp only [k0_pay1, k0_pay50, k0_pay51, k0_pay45, k0_pay46, k0_pay47, k0_pay49]
  pointwise [H]
  rfl

end Cert.Kernel8Ideal.Fl
-- ==== Proof.FlPoint.lean ====
/- What each case of the down-projection kernel leaves in its outputs at one grid point. -/
module

public import proofs.«01_k».proof.Proof.Gen.Kernel8Ideal.Frame
public import proofs.«01_k».proof.Proof.FlPay
public import proofs.«01_k».proof.Proof.TakePieces
public import Idealize.ShloMosaic.Lib.Pipeline.ReadBack

@[expose] public section
set_option maxRecDepth 16384
noncomputable section
namespace Cert.Kernel8Ideal.Fl
open Idealize.ShloMosaic Idealize.ShloMosaic.TcCoe Idealize.ShloMosaic.Tactic Gen Cert.Alg Cert.Take

local notation "𝕀" => Idealize.ShloMosaic.Ideal

variable (x0 : Vec 𝕀 S256x5632 .bf16) (x1 : Vec 𝕀 S16x5632 .bf16) (x2 x3 : Vec 𝕀 S256x1024 .f32) (x4 : Vec 𝕀 S3x5632 .f32)
  (x5 : Vec 𝕀 S1x5632 .f32) (x6 : Vec 𝕀 S2816x1024 .bf16) (x7 : Vec 𝕀 S1x1024 .f32) (xo12 : Vec 𝕀 S1x128 .f32) (xo13 : Vec 𝕀 S1x1024 .f32)
  (c : Dev nD) (i : grid0.Coords)
  (arg1 : Memref sig .tc .vmem S256x5632 .bf16) (harg1 : arg1.IsWhole) (arg2 : Memref sig .tc .vmem S16x5632 .bf16) (harg2 : arg2.IsWhole)
  (arg3 : Memref sig .tc .vmem S256x1024 .f32) (harg3 : arg3.IsWhole) (arg4 : Memref sig .tc .vmem S256x1024 .f32) (harg4 : arg4.IsWhole)
  (arg5 : Memref sig .tc .vmem S3x5632 .f32) (harg5 : arg5.IsWhole) (arg6 : Memref sig .tc .vmem S1x5632 .f32) (harg6 : arg6.IsWhole)
  (arg7 : Memref sig .tc .vmem S2816x1024 .bf16) (harg7 : arg7.IsWhole) (arg8 : Memref sig .tc .vmem S1x1024 .f32) (harg8 : arg8.IsWhole)
  (arg9 : Memref sig .tc .vmem S256x2816 .bf16) (harg9 : arg9.IsWhole) (arg10 : Memref sig .tc .vmem S256x5632 .bf16) (harg10 : arg10.IsWhole)
  (arg11 : Memref sig .tc .vmem S256x1024 .f32) (harg11 : arg11.IsWhole) (arg12 : Memref sig .tc .vmem S256x1024 .bf16) (harg12 : arg12.IsWhole)
  (arg13 : Memref sig .tc .vmem S1x128 .f32) (harg13 : arg13.IsWhole) (arg14 : Memref sig .tc .vmem S1x1024 .f32) (harg14 : arg14.IsWhole)

/-- The block of the gated values after a later point. -/
theorem out8_B (hc0 : ¬cond0_0 i) (r : Fin 256) (y : Fin 2816) :
    out0_B_8 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xo12 xo13 (ix2 r y)
      = aB x0 x1 x4 x5 i r y := by
  frame_out
  canon_tiles x h
  all_goals obtain rfl : r = x 0 := Fin.ext h0
  all_goals (obtain ⟨y, hy⟩ := y; obtain rfl : y = _ := h1)
  all_goals (obtain ⟨p, q, rfl⟩ : ∃ (p : Fin 256) (q : Fin 1408), x = ix2 p q := ⟨x 0, x 1, eq_ix2 x⟩)
  · exact gate_1 x0 x1 x4 x5 i p q
  · refine (gate_0 x0 x1 x4 x5 i p q).trans ?_
    simp only [Nat.zero_add]
    rfl

/-- The block of the convolution after a later point. -/
theorem out9_B (hc0 : ¬cond0_0 i) (r : Fin 256) (y : Fin 5632) :
    out0_B_9 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xo12 xo13 (ix2 r y)
      = cB x0 x1 x4 x5 i r y := by
  frame_out
  canon_tiles x h
  all_goals obtain rfl : r = x 0 := Fin.ext h0
  all_goals (obtain ⟨y, hy⟩ := y; obtain rfl : y = _ := h1)
  all_goals (obtain ⟨p, q, rfl⟩ : ∃ (p : Fin 256) (q : Fin 1408), x = ix2 p q := ⟨x 0, x 1, eq_ix2 x⟩)
  · exact conv_c3 x0 x1 x4 x5 i p q
  · exact conv_c1 x0 x1 x4 x5 i p q
  · exact conv_c2 x0 x1 x4 x5 i p q
  · refine (conv_c0 x0 x1 x4 x5 i p q).trans ?_
    simp only [Nat.zero_add]
    rfl

/-- The block of the gradient of the residual stream after a later point. -/
theorem out10_B (hc0 : ¬cond0_0 i) (r : Fin 256) (j : Fin 1024) :
    out0_B_10 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xo12 xo13 (ix2 r j)
      = dxF (accB x0 x1 x2 x4 x5 x6 i r) (fun k => x7 (ix2 0 k)) (fun k => x3 (ix2 r k)) j := by
  frame_out
  exact dx_pay x3 x7 _ _ _ _ (fun r j => acc_pay x0 x1 x2 x4 x5 x6 i r j) r j

/-- The block of the rounded gradient of the residual stream after a later point. -/
theorem out11_B (hc0 : ¬cond0_0 i) (r : Fin 256) (j : Fin 1024) :
    out0_B_11 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xo12 xo13 (ix2 r j)
      = dxF (accB x0 x1 x2 x4 x5 x6 i r) (fun k => x7 (ix2 0 k)) (fun k => x3 (ix2 r k)) j := by
  frame_out
  exact dx_pay x3 x7 _ _ _ _ (fun r j => acc_pay x0 x1 x2 x4 x5 x6 i r j) r j

/-- The tiles' losses added up after a later point. -/
theorem out12_B (hc0 : ¬cond0_0 i) (j : Fin 128) :
    out0_B_12 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xo12 xo13 (ix2 0 j)
      = xo12 (ix2 0 j) + Ideal.ofBits .f32 973078528#32 * ∑ r : Fin 256, lossF (accB x0 x1 x2 x4 x5 x6 i r) (fun k => x7 (ix2 0 k)) (fun k => x3 (ix2 r k)) := by
  frame_out
  exact loss_pay x3 x7 _ _ _ _ (fun r j => acc_pay x0 x1 x2 x4 x5 x6 i r j) _ j

/-- The scales' gradient added up after a later point. -/
theorem out13_B (hc0 : ¬cond0_0 i) (j : Fin 1024) :
    out0_B_13 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xo12 xo13 (ix2 0 j)
      = xo13 (ix2 0 j) + ∑ r : Fin 256, dgF (accB x0 x1 x2 x4 x5 x6 i r) (fun k => x7 (ix2 0 k)) (fun k => x3 (ix2 r k)) j := by
  frame_out
  exact dg_pay x3 x7 _ _ _ _ (fun r j => acc_pay x0 x1 x2 x4 x5 x6 i r j) _ j

/-- The block of the gated values after the first point. -/
theorem out8_A (hc0 : cond0_0 i) (r : Fin 256) (y : Fin 2816) :
    out0_A_8 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 (ix2 r y)
      = aB x0 x1 x4 x5 i r y := by
  frame_out
  canon_tiles x h
  all_goals obtain rfl : r = x 0 := Fin.ext h0
  all_goals (obtain ⟨y, hy⟩ := y; obtain rfl : y = _ := h1)
  all_goals (obtain ⟨p, q, rfl⟩ : ∃ (p : Fin 256) (q : Fin 1408), x = ix2 p q := ⟨x 0, x 1, eq_ix2 x⟩)
  · exact gate_1 x0 x1 x4 x5 i p q
  · refine (gate_0 x0 x1 x4 x5 i p q).trans ?_
    simp only [Nat.zero_add]
    rfl

/-- The block of the convolution after the first point. -/
theorem out9_A (hc0 : cond0_0 i) (r : Fin 256) (y : Fin 5632) :
    out0_A_9 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 (ix2 r y)
      = cB x0 x1 x4 x5 i r y := by
  frame_out
  canon_tiles x h
  all_goals obtain rfl : r = x 0 := Fin.ext h0
  all_goals (obtain ⟨y, hy⟩ := y; obtain rfl : y = _ := h1)
  all_goals (obtain ⟨p, q, rfl⟩ : ∃ (p : Fin 256) (q : Fin 1408), x = ix2 p q := ⟨x 0, x 1, eq_ix2 x⟩)
  · exact conv_c3 x0 x1 x4 x5 i p q
  · exact conv_c1 x0 x1 x4 x5 i p q
  · exact conv_c2 x0 x1 x4 x5 i p q
  · refine (conv_c0 x0 x1 x4 x5 i p q).trans ?_
    simp only [Nat.zero_add]
    rfl

/-- The block of the gradient of the residual stream after the first point. -/
theorem out10_A (hc0 : cond0_0 i) (r : Fin 256) (j : Fin 1024) :
    out0_A_10 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 (ix2 r j)
      = dxF (accB x0 x1 x2 x4 x5 x6 i r) (fun k => x7 (ix2 0 k)) (fun k => x3 (ix2 r k)) j := by
  frame_out
  exact dx_pay x3 x7 _ _ _ _ (fun r j => acc_pay x0 x1 x2 x4 x5 x6 i r j) r j

/-- The block of the rounded gradient of the residual stream after the first point. -/
theorem out11_A (hc0 : cond0_0 i) (r : Fin 256) (j : Fin 1024) :
    out0_A_11 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 (ix2 r j)
      = dxF (accB x0 x1 x2 x4 x5 x6 i r) (fun k => x7 (ix2 0 k)) (fun k => x3 (ix2 r k)) j := by
  frame_out
  exact dx_pay x3 x7 _ _ _ _ (fun r j => acc_pay x0 x1 x2 x4 x5 x6 i r j) r j

/-- The tiles' losses added up after the first point. -/
theorem out12_A (hc0 : cond0_0 i) (j : Fin 128) :
    out0_A_12 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 (ix2 0 j)
      = 0 + Ideal.ofBits .f32 973078528#32 * ∑ r : Fin 256, lossF (accB x0 x1 x2 x4 x5 x6 i r) (fun k => x7 (ix2 0 k)) (fun k => x3 (ix2 r k)) := by
  frame_out
  refine (loss_pay x3 x7 _ _ _ _ (fun r j => acc_pay x0 x1 x2 x4 x5 x6 i r j) _ j).trans (congrArg (· + _) ?_)
  unfold_payloads
  pointwise

/-- The scales' gradient added up after the first point. -/
theorem out13_A (hc0 : cond0_0 i) (j : Fin 1024) :
    out0_A_13 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 (ix2 0 j)
      = 0 + ∑ r : Fin 256, dgF (accB x0 x1 x2 x4 x5 x6 i r) (fun k => x7 (ix2 0 k)) (fun k => x3 (ix2 r k)) j := by
  frame_out
  refine (dg_pay x3 x7 _ _ _ _ (fun r j => acc_pay x0 x1 x2 x4 x5 x6 i r j) _ j).trans (congrArg (· + _) ?_)
  unfold_payloads
  pointwise

end Cert.Kernel8Ideal.Fl
-- ==== Proof.FlArr.lean ====
/- The down-projection kernel over its whole grid: each output array in closed form over the arrays that the kernel reads. -/
module

public import proofs.«01_k».proof.Proof.Gen.Kernel8Ideal.Value
public import proofs.«01_k».proof.Proof.FlPoint

@[expose] public section
set_option maxRecDepth 16384
noncomputable section
namespace Cert.Kernel8Ideal.Fl
open Idealize.ShloMosaic Idealize.ShloMosaic.TcCoe Idealize.ShloMosaic.Tactic Gen Cert.Alg

local notation "𝕀" => Idealize.ShloMosaic.Ideal

/-- Which block each point takes of that window. -/
theorem idx0 : ∀ t : Fin cfg0.N, win0_0.index t = ![t.val, 0] := (by decide +kernel : ∀ t : Fin grid0.N, win0_0.index t = ![t.val, 0])
/-- Which block each point takes of that window. -/
theorem idx1 : ∀ t : Fin cfg0.N, win0_1.index t = ![t.val * 16 - 1, 0] := (by decide +kernel : ∀ t : Fin grid0.N, win0_1.index t = ![t.val * 16 - 1, 0])
/-- Which block each point takes of that window. -/
theorem idx2 : ∀ t : Fin cfg0.N, win0_2.index t = ![t.val, 0] := (by decide +kernel : ∀ t : Fin grid0.N, win0_2.index t = ![t.val, 0])
/-- Which block each point takes of that window. -/
theorem idx3 : ∀ t : Fin cfg0.N, win0_3.index t = ![t.val, 0] := (by decide +kernel : ∀ t : Fin grid0.N, win0_3.index t = ![t.val, 0])
/-- Which block each point takes of that window. -/
theorem idx4 : ∀ t : Fin cfg0.N, win0_4.index t = ![0, 0] := (by decide +kernel : ∀ t : Fin grid0.N, win0_4.index t = ![0, 0])
/-- Which block each point takes of that window. -/
theorem idx5 : ∀ t : Fin cfg0.N, win0_5.index t = ![0, 0] := (by decide +kernel : ∀ t : Fin grid0.N, win0_5.index t = ![0, 0])
/-- Which block each point takes of that window. -/
theorem idx6 : ∀ t : Fin cfg0.N, win0_6.index t = ![0, 0] := (by decide +kernel : ∀ t : Fin grid0.N, win0_6.index t = ![0, 0])
/-- Which block each point takes of that window. -/
theorem idx7 : ∀ t : Fin cfg0.N, win0_7.index t = ![0, 0] := (by decide +kernel : ∀ t : Fin grid0.N, win0_7.index t = ![0, 0])
/-- Which block each point takes of that window. -/
theorem idx8 : ∀ t : Fin cfg0.N, win0_8.index t = ![t.val, 0] := (by decide +kernel : ∀ t : Fin grid0.N, win0_8.index t = ![t.val, 0])
/-- Which block each point takes of that window. -/
theorem idx9 : ∀ t : Fin cfg0.N, win0_9.index t = ![t.val, 0] := (by decide +kernel : ∀ t : Fin grid0.N, win0_9.index t = ![t.val, 0])
/-- Which block each point takes of that window. -/
theorem idx10 : ∀ t : Fin cfg0.N, win0_10.index t = ![t.val, 0] := (by decide +kernel : ∀ t : Fin grid0.N, win0_10.index t = ![t.val, 0])
/-- Which block each point takes of that window. -/
theorem idx11 : ∀ t : Fin cfg0.N, win0_11.index t = ![t.val, 0] := (by decide +kernel : ∀ t : Fin grid0.N, win0_11.index t = ![t.val, 0])

/-- A point's coordinate is its number. -/
theorem coord : ∀ t : Fin cfg0.N, (grid0.coords t 0).val = t.val := (by decide +kernel : ∀ t : Fin grid0.N, (grid0.coords t 0).val = t.val)

variable (m : ∀ l : Loc nD τ sig, Buf (Elt 𝕀) l) (c : Dev nD)

/-- There are eight points. -/
theorem lt8 (t : Fin cfg0.N) : t.val < 8 := N_0 ▸ t.isLt

/-- The row of the whole array at which row `r` of point `t`'s block lies. -/
theorem row_lt (t : Fin cfg0.N) (r : Fin 256) : t.val * 256 + r.val < 2048 := by have := lt8 t; omega

/-- That row. -/
def rowOf (t : Fin cfg0.N) (r : Fin 256) : Fin 2048 := ⟨t.val * 256 + r.val, row_lt t r⟩

/-- The convolution's input. -/
def uG (T : Fin 2048) (y : Fin 5632) : EReal := (V m c main_v0 : Vec 𝕀 S2048x5632 .bf16) (ix2 T y)
/-- The residual stream before. -/
def xG (T : Fin 2048) (j : Fin 1024) : EReal := (V m c main_arg1 : Vec 𝕀 S2048x1024 .f32) (ix2 T j)
/-- The targets. -/
def tG (T : Fin 2048) (j : Fin 1024) : EReal := (V m c main_arg2 : Vec 𝕀 S2048x1024 .f32) (ix2 T j)
/-- The convolution's taps. -/
def wG (j : Fin 3) (y : Fin 5632) : EReal := (V m c main_arg3 : Vec 𝕀 S3x5632 .f32) (ix2 j y)
/-- The convolution's offsets. -/
def bG (y : Fin 5632) : EReal := (V m c main_arg4 : Vec 𝕀 S1x5632 .f32) (ix2 0 y)
/-- The down-projection. -/
def dG (k : Fin 2816) (j : Fin 1024) : EReal := (V m c main_v1 : Vec 𝕀 S2816x1024 .bf16) (ix2 k j)
/-- The scales. -/
def gG (j : Fin 1024) : EReal := (V m c main_arg6 : Vec 𝕀 S1x1024 .f32) (ix2 0 j)

/-- The convolution. -/
abbrev cG : Fin 2048 → Fin 5632 → EReal := convF (uG m c) (wG m c) (bG m c)
/-- The gated values. -/
abbrev aG : Fin 2048 → Fin 2816 → EReal := gateF (uG m c) (wG m c) (bG m c)
/-- The residual stream. -/
abbrev accG : Fin 2048 → Fin 1024 → EReal := downF (uG m c) (wG m c) (bG m c) (xG m c) (dG m c)

/-- A row of the block is a row of its array. -/
theorem blk0 (t : Fin cfg0.N) (r : Fin 256) (y : Fin 5632) : iblk m c 0 t (ix2 r y) = uG m c (rowOf t r) y := by
  unfold uG rowOf
  blk_ext [iblk, idx0 t]

/-- A row of the sixteen before the block, after the first point. -/
theorem blk1 (t : Fin cfg0.N) (h : t.val ≠ 0) (r : Fin 16) (y : Fin 5632) :
    iblk m c 1 t (ix2 r y) = uG m c ⟨t.val * 256 + r.val - 16, by have := lt8 t; omega⟩ y := by
  unfold uG
  have e : (t.val * 16 - 1) * 16 + r.val = t.val * 256 + r.val - 16 := by omega
  blk_ext [iblk, idx1 t]

/-- A row of the block is a row of its array. -/
theorem blk2 (t : Fin cfg0.N) (r : Fin 256) (j : Fin 1024) : iblk m c 2 t (ix2 r j) = xG m c (rowOf t r) j := by
  unfold xG rowOf
  blk_ext [iblk, idx2 t]

/-- A row of the block is a row of its array. -/
theorem blk3 (t : Fin cfg0.N) (r : Fin 256) : (fun k : Fin 1024 => iblk m c 3 t (ix2 r k)) = tG m c (rowOf t r) := by
  funext j
  unfold tG rowOf
  blk_ext [iblk, idx3 t]

/-- The block is the whole array. -/
theorem blk4 (t : Fin cfg0.N) (j : Fin 3) (y : Fin 5632) : iblk m c 4 t (ix2 j y) = wG m c j y := by
  unfold wG
  blk_ext [iblk, idx4 t]

/-- The block is the whole array. -/
theorem blk5 (t : Fin cfg0.N) (y : Fin 5632) : iblk m c 5 t (ix2 0 y) = bG m c y := by
  unfold bG
  blk_ext [iblk, idx5 t]

/-- The block is the whole array. -/
theorem blk6 (t : Fin cfg0.N) (k : Fin 2816) (j : Fin 1024) : iblk m c 6 t (ix2 k j) = dG m c k j := by
  unfold dG
  blk_ext [iblk, idx6 t]

/-- The block is the whole array. -/
theorem blk7 (t : Fin cfg0.N) : (fun k : Fin 1024 => iblk m c 7 t (ix2 0 k)) = gG m c := by
  funext j
  unfold gG
  blk_ext [iblk, idx7 t]

/-- The row above, at a row of a point's blocks. -/
theorem up1_blk (t : Fin cfg0.N) (r : Fin 256) (y : Fin 5632) :
    up1B (iblk m c 0 t) (iblk m c 1 t) (grid0.coords t) r y = upF (uG m c) 1 (rowOf t r) y := by
  unfold up1B upF
  rw [coord]
  by_cases hr : r.val = 0
  · rw [if_pos hr]
    by_cases ht : t.val = 0
    · rw [if_pos ht, if_neg (show ¬ 1 ≤ (rowOf t r).val by simp only [rowOf]; omega)]
    · rw [if_neg ht, if_pos (show 1 ≤ (rowOf t r).val by simp only [rowOf]; omega), blk1 m c t ht]
      exact congrArg (fun T => uG m c T y) (Fin.ext (by simp only [rowOf]; omega))
  · rw [if_neg hr, if_pos (show 1 ≤ (rowOf t r).val by simp only [rowOf]; omega), blk0]
    exact congrArg (fun T => uG m c T y) (Fin.ext (by simp only [rowOf]; omega))

/-- The row two above, at a row of a point's blocks. -/
theorem up2_blk (t : Fin cfg0.N) (r : Fin 256) (y : Fin 5632) :
    up2B (iblk m c 0 t) (iblk m c 1 t) (grid0.coords t) r y = upF (uG m c) 2 (rowOf t r) y := by
  unfold up2B upF
  rw [coord]
  by_cases hr : r.val = 0
  · rw [if_pos hr]
    by_cases ht : t.val = 0
    · rw [if_pos ht, if_neg (show ¬ 2 ≤ (rowOf t r).val by simp only [rowOf]; omega)]
    · rw [if_neg ht, if_pos (show 2 ≤ (rowOf t r).val by simp only [rowOf]; omega), blk1 m c t ht]
      exact congrArg (fun T => uG m c T y) (Fin.ext (by simp only [rowOf]; omega))
  rw [if_neg hr]
  by_cases hr1 : r.val = 1
  · rw [if_pos hr1]
    by_cases ht : t.val = 0
    · rw [if_pos ht, if_neg (show ¬ 2 ≤ (rowOf t r).val by simp only [rowOf]; omega)]
    · rw [if_neg ht, if_pos (show 2 ≤ (rowOf t r).val by simp only [rowOf]; omega), blk1 m c t ht]
      exact congrArg (fun T => uG m c T y) (Fin.ext (by simp only [rowOf]; omega))
  · rw [if_neg hr1, if_pos (show 2 ≤ (rowOf t r).val by simp only [rowOf]; omega), blk0]
    exact congrArg (fun T => uG m c T y) (Fin.ext (by simp only [rowOf]; omega))

/-- The convolution at a row of a point's block. -/
theorem c_blk (t : Fin cfg0.N) (r : Fin 256) (y : Fin 5632) :
    cB (iblk m c 0 t) (iblk m c 1 t) (iblk m c 4 t) (iblk m c 5 t) (grid0.coords t) r y = cG m c (rowOf t r) y := by
  rw [cB, up1_blk, up2_blk, blk0, blk4, blk4, blk4, blk5]
  rfl

/-- The gated value at a row of a point's block. -/
theorem a_blk (t : Fin cfg0.N) (r : Fin 256) (k : Fin 2816) :
    aB (iblk m c 0 t) (iblk m c 1 t) (iblk m c 4 t) (iblk m c 5 t) (grid0.coords t) r k = aG m c (rowOf t r) k := by
  rw [aB, c_blk, c_blk]
  rfl

/-- The residual stream at a row of a point's block. -/
theorem acc_blk (t : Fin cfg0.N) (r : Fin 256) :
    accB (iblk m c 0 t) (iblk m c 1 t) (iblk m c 2 t) (iblk m c 4 t) (iblk m c 5 t) (iblk m c 6 t) (grid0.coords t) r = accG m c (rowOf t r) := by
  funext j
  rw [accB, blk2]
  simp only [a_blk, blk6]
  rfl

/-- The gradient of the residual stream along a row. -/
def dxG (T : Fin 2048) : Fin 1024 → EReal := dxF (accG m c T) (gG m c) (tG m c T)
/-- A row's part of the loss. -/
def lossG (T : Fin 2048) : EReal := lossF (accG m c T) (gG m c) (tG m c T)
/-- A row's part of the gradient of the scales. -/
def dgG (T : Fin 2048) : Fin 1024 → EReal := dgF (accG m c T) (gG m c) (tG m c T)

/-- The gradient of the residual stream at a row of a point's block. -/
theorem dx_blk (t : Fin cfg0.N) (r : Fin 256) (j : Fin 1024) :
    dxF (accB (iblk m c 0 t) (iblk m c 1 t) (iblk m c 2 t) (iblk m c 4 t) (iblk m c 5 t) (iblk m c 6 t) (grid0.coords t) r)
      (fun k => iblk m c 7 t (ix2 0 k)) (fun k => iblk m c 3 t (ix2 r k)) j = dxG m c (rowOf t r) j := by
  rw [acc_blk, blk7, blk3]; rfl

/-- A point's part of the loss. -/
theorem loss_blk (t : Fin cfg0.N) :
    ∑ r : Fin 256, lossF (accB (iblk m c 0 t) (iblk m c 1 t) (iblk m c 2 t) (iblk m c 4 t) (iblk m c 5 t) (iblk m c 6 t) (grid0.coords t) r)
      (fun k => iblk m c 7 t (ix2 0 k)) (fun k => iblk m c 3 t (ix2 r k)) = ∑ r : Fin 256, lossG m c (rowOf t r) :=
  Finset.sum_congr rfl fun r _ => by rw [acc_blk, blk7, blk3]; rfl

/-- A point's part of the gradient of the scales. -/
theorem dg_blk (t : Fin cfg0.N) (j : Fin 1024) :
    ∑ r : Fin 256, dgF (accB (iblk m c 0 t) (iblk m c 1 t) (iblk m c 2 t) (iblk m c 4 t) (iblk m c 5 t) (iblk m c 6 t) (grid0.coords t) r)
      (fun k => iblk m c 7 t (ix2 0 k)) (fun k => iblk m c 3 t (ix2 r k)) j = ∑ r : Fin 256, dgG m c (rowOf t r) j :=
  Finset.sum_congr rfl fun r _ => by rw [acc_blk, blk7, blk3]; rfl

/-- A point's block of the gated values. -/
theorem outs8 (t : Fin cfg0.N) (r : Fin 256) (j : Fin 2816) : (outsAt0 m c t.val t.isLt).1 (ix2 r j) = aG m c (rowOf t r) j := by
  by_cases h0 : t.val % 8 = 0
  · simp only [outsAt0_A m c t h0]
    refine Eq.trans ?_ (a_blk m c t r j)
    apply out8_A
  · simp only [outsAt0_B m c t h0]
    refine Eq.trans ?_ (a_blk m c t r j)
    apply out8_B

/-- As an array: the gated values. -/
def a8G : Vec 𝕀 S2048x2816 .bf16 := fun i => aG m c (i 0) (i 1)

/-- The kernel leaves the gated values. -/
theorem arr8 : (dats m 0 c).arrAt 8 cfg0.N = a8G m c := by
  refine (dats m 0 c).arrAt_eq_of_covers 8 _ (by decide +kernel) fun t hf y => ?_
  blk_simp
  rw [after0_8]
  obtain ⟨p, q, rfl⟩ : ∃ (p : Fin 256) (q : Fin 2816), y = ix2 p q := ⟨y 0, y 1, eq_ix2 y⟩
  have e : (win0_8.blk t).view.emb (ix2 p q) = ix2 (rowOf t p) q := by
    unfold rowOf
    blk_ext [idx8 t]
  rw [e]
  exact outs8 m c t p q

/-- A point's block of the convolution. -/
theorem outs9 (t : Fin cfg0.N) (r : Fin 256) (j : Fin 5632) : (outsAt0 m c t.val t.isLt).2.1 (ix2 r j) = cG m c (rowOf t r) j := by
  by_cases h0 : t.val % 8 = 0
  · simp only [outsAt0_A m c t h0]
    refine Eq.trans ?_ (c_blk m c t r j)
    apply out9_A
  · simp only [outsAt0_B m c t h0]
    refine Eq.trans ?_ (c_blk m c t r j)
    apply out9_B

/-- As an array: the convolution. -/
def a9G : Vec 𝕀 S2048x5632 .bf16 := fun i => cG m c (i 0) (i 1)

/-- The kernel leaves the convolution. -/
theorem arr9 : (dats m 0 c).arrAt 9 cfg0.N = a9G m c := by
  refine (dats m 0 c).arrAt_eq_of_covers 9 _ (by decide +kernel) fun t hf y => ?_
  blk_simp
  rw [after0_9]
  obtain ⟨p, q, rfl⟩ : ∃ (p : Fin 256) (q : Fin 5632), y = ix2 p q := ⟨y 0, y 1, eq_ix2 y⟩
  have e : (win0_9.blk t).view.emb (ix2 p q) = ix2 (rowOf t p) q := by
    unfold rowOf
    blk_ext [idx9 t]
  rw [e]
  exact outs9 m c t p q

/-- A point's block of the gradient of the residual stream. -/
theorem outs10 (t : Fin cfg0.N) (r : Fin 256) (j : Fin 1024) : (outsAt0 m c t.val t.isLt).2.2.1 (ix2 r j) = dxG m c (rowOf t r) j := by
  by_cases h0 : t.val % 8 = 0
  · simp only [outsAt0_A m c t h0]
    refine Eq.trans ?_ (dx_blk m c t r j)
    apply out10_A
  · simp only [outsAt0_B m c t h0]
    refine Eq.trans ?_ (dx_blk m c t r j)
    apply out10_B

/-- As an array: the gradient of the residual stream. -/
def a10G : Vec 𝕀 S2048x1024 .f32 := fun i => dxG m c (i 0) (i 1)

/-- The kernel leaves the gradient of the residual stream. -/
theorem arr10 : (dats m 0 c).arrAt 10 cfg0.N = a10G m c := by
  refine (dats m 0 c).arrAt_eq_of_covers 10 _ (by decide +kernel) fun t hf y => ?_
  blk_simp
  rw [after0_10]
  obtain ⟨p, q, rfl⟩ : ∃ (p : Fin 256) (q : Fin 1024), y = ix2 p q := ⟨y 0, y 1, eq_ix2 y⟩
  have e : (win0_10.blk t).view.emb (ix2 p q) = ix2 (rowOf t p) q := by
    unfold rowOf
    blk_ext [idx10 t]
  rw [e]
  exact outs10 m c t p q

/-- A point's block of the rounded gradient of the residual stream. -/
theorem outs11 (t : Fin cfg0.N) (r : Fin 256) (j : Fin 1024) : (outsAt0 m c t.val t.isLt).2.2.2.1 (ix2 r j) = dxG m c (rowOf t r) j := by
  by_cases h0 : t.val % 8 = 0
  · simp only [outsAt0_A m c t h0]
    refine Eq.trans ?_ (dx_blk m c t r j)
    apply out11_A
  · simp only [outsAt0_B m c t h0]
    refine Eq.trans ?_ (dx_blk m c t r j)
    apply out11_B

/-- As an array: the rounded gradient of the residual stream. -/
def a11G : Vec 𝕀 S2048x1024 .bf16 := fun i => dxG m c (i 0) (i 1)

/-- The kernel leaves the rounded gradient of the residual stream. -/
theorem arr11 : (dats m 0 c).arrAt 11 cfg0.N = a11G m c := by
  refine (dats m 0 c).arrAt_eq_of_covers 11 _ (by decide +kernel) fun t hf y => ?_
  blk_simp
  rw [after0_11]
  obtain ⟨p, q, rfl⟩ : ∃ (p : Fin 256) (q : Fin 1024), y = ix2 p q := ⟨y 0, y 1, eq_ix2 y⟩
  have e : (win0_11.blk t).view.emb (ix2 p q) = ix2 (rowOf t p) q := by
    unfold rowOf
    blk_ext [idx11 t]
  rw [e]
  exact outs11 m c t p q

/-- After the last point the loss is complete. -/
theorem outs12 (j : Fin 128) : (outsAt0 m c t0_7.val t0_7.isLt).2.2.2.2.1 (ix2 0 j)
    = ∑ t : Fin cfg0.N, Ideal.ofBits .f32 973078528#32 * ∑ r : Fin 256, lossG m c (rowOf t r) := by
  refine (Pipeline.eq_sum_fin_of_reset_step_apply_last (fun n h (j : Fin 128) => (outsAt0 m c n h).2.2.2.2.1 (ix2 0 j)) 8 (fun _ => 0)
    (fun t j => Ideal.ofBits .f32 973078528#32 * ∑ r : Fin 256, lossG m c (rowOf t r))
    (fun t h0 j => ?_) (fun t h0 j => ?_) (le_of_eq N_0) t0_7 (by decide +kernel) j).trans ?_
  · simp only [outsAt0_A m c t h0]
    rw [← loss_blk m c t]
    apply out12_A
  · simp only [outsAt0_B m c t h0]
    rw [← loss_blk m c t]
    apply out12_B
  · rw [zero_add]

/-- The loss, added up tile by tile, in 128 equal entries. -/
def a12G : Vec 𝕀 S1x128 .f32 := fun _ => ∑ t : Fin cfg0.N, Ideal.ofBits .f32 973078528#32 * ∑ r : Fin 256, lossG m c (rowOf t r)

/-- The kernel leaves the loss. -/
theorem arr12 : (dats m 0 c).arrAt 12 cfg0.N = a12G m c := by
  refine (dats m 0 c).arrAt_eq_of_after_last 12 t0_7 (by decide +kernel) _ fun j => ?_
  blk_simp
  rw [after0_12]
  obtain ⟨p, q, rfl⟩ : ∃ (p : Fin 1) (q : Fin 128), j = ix2 p q := ⟨j 0, j 1, eq_ix2 j⟩
  obtain rfl : p = 0 := Subsingleton.elim _ _
  exact outs12 m c q

/-- Sums over the points, each over its block's rows, are sums over the whole array's rows. -/
theorem sum_rows (f : Fin 2048 → EReal) : ∑ t : Fin cfg0.N, ∑ r : Fin 256, f (rowOf t r) = ∑ T : Fin 2048, f T := by
  show ∑ t : Fin 8, ∑ r : Fin 256, f (rowOf t r) = _
  exact Fin.sum_mul_add_congr (S := 8) (n := 256) (f := f) fun s k hl => rfl

/-- After the last point the gradient of the scales is complete. -/
theorem outs13 (j : Fin 1024) : (outsAt0 m c t0_7.val t0_7.isLt).2.2.2.2.2 (ix2 0 j) = ∑ T : Fin 2048, dgG m c T j := by
  refine (Pipeline.eq_sum_fin_of_reset_step_apply_last (fun n h (j : Fin 1024) => (outsAt0 m c n h).2.2.2.2.2 (ix2 0 j)) 8 (fun _ => 0)
    (fun t j => ∑ r : Fin 256, dgG m c (rowOf t r) j)
    (fun t h0 j => ?_) (fun t h0 j => ?_) (le_of_eq N_0) t0_7 (by decide +kernel) j).trans ?_
  · simp only [outsAt0_A m c t h0]
    rw [← dg_blk m c t j]
    apply out13_A
  · simp only [outsAt0_B m c t h0]
    rw [← dg_blk m c t j]
    apply out13_B
  · rw [zero_add]
    exact sum_rows fun T => dgG m c T j

/-- As an array: the gradient of the scales. -/
def a13G : Vec 𝕀 S1x1024 .f32 := fun i => ∑ T : Fin 2048, dgG m c T (i 1)

/-- The kernel leaves the gradient of the scales. -/
theorem arr13 : (dats m 0 c).arrAt 13 cfg0.N = a13G m c := by
  refine (dats m 0 c).arrAt_eq_of_after_last 13 t0_7 (by decide +kernel) _ fun j => ?_
  blk_simp
  rw [after0_13]
  obtain ⟨p, q, rfl⟩ : ∃ (p : Fin 1) (q : Fin 1024), j = ix2 p q := ⟨j 0, j 1, eq_ix2 j⟩
  obtain rfl : p = 0 := Subsingleton.elim _ _
  refine Eq.trans ?_ ((outs13 m c q).trans ?_)
  · congr 1
  · congr 1

end Cert.Kernel8Ideal.Fl
-- ==== Proof.FlRef.lean ====
/- The reference's down-projection, loss head and gradients read at an index. -/
module

public import proofs.«01_k».proof.Proof.Gen.Reference8Ideal.Read
public import proofs.«01_k».proof.Proof.FlAlg
public import Idealize.ShloMosaic.Lib.Pipeline.ValueKit

@[expose] public section
set_option maxRecDepth 16384
noncomputable section
namespace Cert.Reference8Ideal.Fl
open Idealize.ShloMosaic Idealize.ShloMosaic.TcCoe Idealize.ShloMosaic.Tactic Read Cert.Alg

local notation "𝕀" => Idealize.ShloMosaic.Ideal

variable (x0 : Vec 𝕀 S2048x5632 .f32) (x1 x2 : Vec 𝕀 S2048x1024 .f32) (x3 : Vec 𝕀 S3x5632 .f32) (x4 : Vec 𝕀 S1x5632 .f32)
  (x5 : Vec 𝕀 S2816x1024 .f32) (x6 : Vec 𝕀 S1x1024 .f32) (T : Fin 2048)

/-- The convolution. -/
abbrev cR : Fin 2048 → Fin 5632 → EReal := convF (fun T y => x0 (ix2 T y)) (fun j y => x3 (ix2 j y)) (fun y => x4 (ix2 0 y))
/-- The gated values. -/
abbrev aR : Fin 2048 → Fin 2816 → EReal := gateF (fun T y => x0 (ix2 T y)) (fun j y => x3 (ix2 j y)) (fun y => x4 (ix2 0 y))
/-- The residual stream. -/
abbrev accR : Fin 2048 → Fin 1024 → EReal :=
  downF (fun T y => x0 (ix2 T y)) (fun j y => x3 (ix2 j y)) (fun y => x4 (ix2 0 y)) (fun T j => x1 (ix2 T j)) (fun k j => x5 (ix2 k j))

/-- The input below two rows of zeros, read at a row. -/
theorem pad_eq (R : Fin 2050) (y : Fin 5632) : val_main_v1 (F := 𝕀) x0 (ix2 R y)
    = if h : 2 ≤ R.val then x0 (ix2 ⟨R.val - 2, by omega⟩ y) else 0 := by
  pointwise [val_main_v1, val_main_v0, val_main_cst]
  by_cases h : 2 ≤ R.val
  · rw [dif_pos h, dif_neg (by omega)]
  · rw [dif_neg h, dif_pos (by omega)]

/-- A row of the padded input is a row above, or zero. -/
theorem tap_eq (R : Fin 2050) (d : ℕ) (h : R.val + d = T.val + 2) (y : Fin 5632) :
    val_main_v1 (F := 𝕀) x0 (ix2 R y) = upF (fun T y => x0 (ix2 T y)) d T y := by
  rw [pad_eq, upF]
  by_cases hd : d ≤ T.val
  · rw [if_pos hd, dif_pos (by omega)]
    exact congrArg (fun k => x0 (ix2 k y)) (Fin.ext (by simp only; omega))
  · rw [if_neg hd, dif_neg (by omega)]

/-- The convolution. -/
theorem c_eq (y : Fin 5632) : val_main_v25 (F := 𝕀) x0 x3 x4 (ix2 T y) = cR x0 x3 x4 T y := by
  pointwise [val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_cst_0]
  rw [tap_eq x0 T ⟨T.val, by omega⟩ 2 rfl, tap_eq x0 T ⟨1 + T.val, by omega⟩ 1 (by simp only; omega), tap_eq x0 T ⟨2 + T.val, by omega⟩ 0 (by simp only; omega)]
  rw [cR, convF, show upF (fun T y => x0 (ix2 T y)) 0 T y = x0 (ix2 T y) by rw [upF, if_pos (Nat.zero_le _)]; rfl]
  simp only [mul_comm, add_assoc]

/-- The gated values. -/
theorem a_eq (k : Fin 2816) : val_main_v29 (F := 𝕀) x0 x3 x4 (ix2 T k) = aR x0 x3 x4 T k := by
  pointwise [val_main_v29, val_main_v28, val_main_v27, val_main_v26, val_main_call0_v0, val_main_call0_v1, val_main_call0_v2, val_main_call0_v3, val_main_call0_v4, val_main_call0_v5, val_main_call0_cst, val_main_call0_cst_0]
  rw [c_eq, c_eq, aR, gateF, zero_sub]

/-- The residual stream. -/
theorem acc_eq (j : Fin 1024) : val_main_v31 (F := 𝕀) x0 x1 x3 x4 x5 (ix2 T j) = accR x0 x1 x3 x4 x5 T j := by
  pointwise [val_main_v31, val_main_v30]
  simp only [a_eq]
  rfl

/-- The mean square with the small constant. -/
theorem msq_eq : val_main_v38 (F := 𝕀) x0 x1 x3 x4 x5 (ix2 T 0) = msq (accR x0 x1 x3 x4 x5 T) := by
  pointwise [val_main_v38, val_main_v37, val_main_v36, val_main_v35, val_main_v34, val_main_v33, val_main_v32, val_main_cst_1, val_main_cst_2, val_main_cst_3]
  simp only [acc_eq]
  rfl

/-- The factor of the normalisation. -/
theorem nrm_eq : val_main_v39 (F := 𝕀) x0 x1 x3 x4 x5 (ix2 T 0) = nrm (accR x0 x1 x3 x4 x5 T) := by
  pointwise [val_main_v39]
  rw [msq_eq]
  rfl

/-- The derivative of the factor by the mean square. -/
theorem fac_eq : val_main_v42 (F := 𝕀) x0 x1 x3 x4 x5 (ix2 T 0)
    = Ideal.ofBits .f32 3204448256#32 * Ideal.div (nrm (accR x0 x1 x3 x4 x5 T)) (msq (accR x0 x1 x3 x4 x5 T)) := by
  pointwise [val_main_v42, val_main_v41, val_main_v40, val_main_cst_4]
  rw [msq_eq, nrm_eq]

/-- The error against the targets. -/
theorem err_eq (j : Fin 1024) : val_main_v47 (F := 𝕀) x0 x1 x2 x3 x4 x5 x6 (ix2 T j)
    = errF (accR x0 x1 x3 x4 x5 T) (fun k => x6 (ix2 0 k)) (fun k => x2 (ix2 T k)) j := by
  pointwise [val_main_v47, val_main_v46, val_main_v45, val_main_v44, val_main_v43]
  rw [nrm_eq, acc_eq]
  rfl

/-- The loss's gradient of the normalised and scaled rows. -/
theorem dy_eq (j : Fin 1024) : val_main_v61 (F := 𝕀) x0 x1 x2 x3 x4 x5 x6 (ix2 T j)
    = dyR (accR x0 x1 x3 x4 x5 T) (fun k => x6 (ix2 0 k)) (fun k => x2 (ix2 T k)) j := by
  pointwise [val_main_v61, val_main_v60, val_main_v59, val_main_v58, val_main_v57, val_main_v56, val_main_v50, val_main_v49, val_main_cst_5, val_main_cst_10, val_main_cst_11, val_main_cst_12]
  rw [err_eq, dyR, word_one, EReal.coe_one, mul_one]

/-- The gradient of the residual stream as the chain rule gives it. -/
theorem dx_eq (j : Fin 1024) : val_main_v80 (F := 𝕀) x0 x1 x2 x3 x4 x5 x6 (ix2 T j)
    = dyR (accR x0 x1 x3 x4 x5 T) (fun k => x6 (ix2 0 k)) (fun k => x2 (ix2 T k)) j * x6 (ix2 0 j) * nrm (accR x0 x1 x3 x4 x5 T)
      + accR x0 x1 x3 x4 x5 T j * throughMsq 1149239296#32 (fun k => dyR (accR x0 x1 x3 x4 x5 T) (fun k => x6 (ix2 0 k)) (fun k => x2 (ix2 T k)) k * x6 (ix2 0 k)) (accR x0 x1 x3 x4 x5 T)
      + throughMsq 1149239296#32 (fun k => dyR (accR x0 x1 x3 x4 x5 T) (fun k => x6 (ix2 0 k)) (fun k => x2 (ix2 T k)) k * x6 (ix2 0 k)) (accR x0 x1 x3 x4 x5 T) * accR x0 x1 x3 x4 x5 T j := by
  have z14 : val_main_cst_14 (F := 𝕀) (Shape.Idx.first Gen.h_S_) = (0 : EReal) := by pointwise [val_main_cst_14]
  have z16 : val_main_cst_16 (F := 𝕀) (Shape.Idx.first Gen.h_S_) = (0 : EReal) := by pointwise [val_main_cst_16]
  have z15 : val_main_cst_15 (F := 𝕀) ix0 = Ideal.ofBits .f32 1149239296#32 := by pointwise [val_main_cst_15]
  pointwise [val_main_v80, val_main_v79, val_main_v78, val_main_v77, val_main_v76, val_main_v75, val_main_v74, val_main_v73, val_main_v72, val_main_v71, val_main_v70, val_main_v69, val_main_v68, val_main_v67, val_main_v66, val_main_v65]
  rw [z14, z15, z16]
  simp only [Fin.sum_univ_one, zero_add, acc_eq, dy_eq, nrm_eq, fac_eq]
  rfl

/-- The loss. -/
theorem loss_ref (j : Fin 128) : val_main_v84 (F := 𝕀) x0 x1 x2 x3 x4 x5 x6 (ix2 0 j)
    = Ideal.ofBits .f32 1056964608#32 * ∑ T, Ideal.div (lossF (accR x0 x1 x3 x4 x5 T) (fun k => x6 (ix2 0 k)) (fun k => x2 (ix2 T k)))
        (Ideal.ofBits .f32 1149239296#32) := by
  have z6 : val_main_cst_6 (F := 𝕀) (Shape.Idx.first Gen.h_S_) = (0 : EReal) := by pointwise [val_main_cst_6]
  have z8 : val_main_cst_8 (F := 𝕀) (Shape.Idx.first Gen.h_S_) = (0 : EReal) := by pointwise [val_main_cst_8]
  pointwise [val_main_v84, val_main_v55, val_main_v54, val_main_v53, val_main_v52, val_main_v51, val_main_v48, val_main_cst_7, val_main_cst_9]
  rw [z6, z8]
  simp only [zero_add, err_eq]
  rfl

/-- The gradient of the scales. -/
theorem dg_eq (j : Fin 1024) : val_main_v64 (F := 𝕀) x0 x1 x2 x3 x4 x5 x6 (ix2 0 j)
    = ∑ T, dyR (accR x0 x1 x3 x4 x5 T) (fun k => x6 (ix2 0 k)) (fun k => x2 (ix2 T k)) j * (accR x0 x1 x3 x4 x5 T j * nrm (accR x0 x1 x3 x4 x5 T)) := by
  have z13 : val_main_cst_13 (F := 𝕀) (Shape.Idx.first Gen.h_S_) = (0 : EReal) := by pointwise [val_main_cst_13]
  pointwise [val_main_v64, val_main_v63, val_main_v62, val_main_v44, val_main_v43]
  rw [z13, zero_add]
  refine Finset.sum_congr rfl fun T _ => ?_
  rw [dy_eq, nrm_eq, acc_eq, mul_comm]

end Cert.Reference8Ideal.Fl
-- ==== Proof.FlClaim.lean ====
/- The down-projection kernel with the loss head and the reference end with equal results over the reals. -/
module

public import proofs.«01_k».proof.Defs
public import proofs.«01_k».proof.Proof.FlArr
public import proofs.«01_k».proof.Proof.FlRef
public import proofs.«01_k».proof.Proof.Gen.Reference8Ideal.Run
public import proofs.«01_k».proof.Proof.Gen.Pre_finite8
public import Idealize.ShloMosaic.Lib.StableHlo.RunClose
public import Idealize.ShloMosaic.Lib.Claim
public import Idealize.ShloMosaic.Lib.Quiescent

@[expose] public section
set_option maxRecDepth 16384
noncomputable section
namespace Cert.Fl
open Idealize.ShloMosaic Idealize.ShloMosaic.TcCoe Idealize.ShloMosaic.Tactic Cert.Alg
open Cert.Kernel8Ideal Cert.Kernel8Ideal.Gen Cert.Kernel8Ideal.Fl Cert.Reference8Ideal.Read Cert.Reference8Ideal.Fl

local notation "𝕀" => Idealize.ShloMosaic.Ideal

variable (m : ∀ l : Loc nD τ sig, Buf (Elt 𝕀) l) (c : Dev nD)

/-- The convolution's input, argument 0. -/
abbrev a0 : Vec 𝕀 S2048x5632 .f32 := m ((c : Thread nD τ).loc main_arg0)
/-- The residual stream, argument 1. -/
abbrev a1 : Vec 𝕀 S2048x1024 .f32 := m ((c : Thread nD τ).loc main_arg1)
/-- The targets, argument 2. -/
abbrev a2 : Vec 𝕀 S2048x1024 .f32 := m ((c : Thread nD τ).loc main_arg2)
/-- The convolution's taps, argument 3. -/
abbrev a3 : Vec 𝕀 S3x5632 .f32 := m ((c : Thread nD τ).loc main_arg3)
/-- The convolution's offsets, argument 4. -/
abbrev a4 : Vec 𝕀 S1x5632 .f32 := m ((c : Thread nD τ).loc main_arg4)
/-- The down-projection, argument 5. -/
abbrev a5 : Vec 𝕀 S2816x1024 .f32 := m ((c : Thread nD τ).loc main_arg5)
/-- The scales of the normalisation, argument 6. -/
abbrev a6 : Vec 𝕀 S1x1024 .f32 := m ((c : Thread nD τ).loc main_arg6)

/-- The convolution's input as the kernel reads it. -/
theorem entry_u (i : S2048x5632.Idx) : (V m c main_v0 : Vec 𝕀 S2048x5632 .bf16) i = a0 m c i := by entry_read; rfl
/-- The down-projection as the kernel reads it. -/
theorem entry_d (i : S2816x1024.Idx) : (V m c main_v1 : Vec 𝕀 S2816x1024 .bf16) i = a5 m c i := by entry_read; rfl

/-- The convolution's input is the reference's. -/
theorem u_eq : uG m c = fun T y => a0 m c (ix2 T y) := by
  funext T y
  exact entry_u m c _
/-- The residual stream before is the reference's. -/
theorem x_eq : xG m c = fun T j => a1 m c (ix2 T j) := by
  funext T j
  rw [xG, show (V m c main_arg1 : Vec 𝕀 S2048x1024 .f32) = a1 m c from V_main_arg1 m c]
/-- The targets are the reference's. -/
theorem t_eq : tG m c = fun T j => a2 m c (ix2 T j) := by
  funext T j
  rw [tG, show (V m c main_arg2 : Vec 𝕀 S2048x1024 .f32) = a2 m c from V_main_arg2 m c]
/-- The taps are the reference's. -/
theorem w_eq : wG m c = fun j y => a3 m c (ix2 j y) := by
  funext j y
  rw [wG, show (V m c main_arg3 : Vec 𝕀 S3x5632 .f32) = a3 m c from V_main_arg3 m c]
/-- The offsets are the reference's. -/
theorem b_eq : bG m c = fun y => a4 m c (ix2 0 y) := by
  funext y
  rw [bG, show (V m c main_arg4 : Vec 𝕀 S1x5632 .f32) = a4 m c from V_main_arg4 m c]
/-- The down-projection is the reference's. -/
theorem d_eq : dG m c = fun k j => a5 m c (ix2 k j) := by
  funext k j
  exact entry_d m c _
/-- The scales are the reference's. -/
theorem g_eq : gG m c = fun j => a6 m c (ix2 0 j) := by
  funext j
  rw [gG, show (V m c main_arg6 : Vec 𝕀 S1x1024 .f32) = a6 m c from V_main_arg6 m c]

/-- The residual stream is the reference's. -/
theorem accG_eq : accG m c = accR (a0 m c) (a1 m c) (a3 m c) (a4 m c) (a5 m c) := by
  rw [accG, u_eq, x_eq, w_eq, b_eq, d_eq]

/-- The first result is the reference's, without any precondition. -/
theorem res8 : a8G m c = val_main_v81 (F := 𝕀) (a0 m c) (a3 m c) (a4 m c) := by
  funext i
  obtain ⟨p, q, rfl⟩ : ∃ (p : Fin 2048) (q : Fin 2816), i = ix2 p q := ⟨i 0, i 1, eq_ix2 i⟩
  refine Eq.trans ?_ (a_eq _ _ _ p q).symm
  show aG m c p q = _
  rw [aG, u_eq, w_eq, b_eq]

/-- The second result is the reference's, without any precondition. -/
theorem res9 : a9G m c = val_main_v82 (F := 𝕀) (a0 m c) (a3 m c) (a4 m c) := by
  funext i
  obtain ⟨p, q, rfl⟩ : ∃ (p : Fin 2048) (q : Fin 5632), i = ix2 p q := ⟨i 0, i 1, eq_ix2 i⟩
  refine Eq.trans ?_ (c_eq _ _ _ p q).symm
  show cG m c p q = _
  rw [cG, u_eq, w_eq, b_eq]

/-- Every argument is real. -/
structure Finite : Prop where
  h0 : ∀ i, IsReal (a0 m c i)
  h1 : ∀ i, IsReal (a1 m c i)
  h2 : ∀ i, IsReal (a2 m c i)
  h3 : ∀ i, IsReal (a3 m c i)
  h4 : ∀ i, IsReal (a4 m c i)
  h5 : ∀ i, IsReal (a5 m c i)
  h6 : ∀ i, IsReal (a6 m c i)

/-- The precondition says that every argument is real. -/
theorem finite_of_pre (h : Cert.Pre_Kernel8Ideal_finite8 (hPre_finite8 := Cert.Pre_finite8.Gen.facts) m) : Finite m c := by
  obtain ⟨e0, e1, e2, e3, e4, e5, e6⟩ := h c
  constructor
  · intro i
    have e := congrFun e0 i
    simp only [Cert.Pre_finite8.fn] at e
    pointwise at e
    exact isReal_of_test e
  · intro i
    have e := congrFun e1 i
    simp only [Cert.Pre_finite8.fn] at e
    pointwise at e
    exact isReal_of_test e
  · intro i
    have e := congrFun e2 i
    simp only [Cert.Pre_finite8.fn] at e
    pointwise at e
    exact isReal_of_test e
  · intro i
    have e := congrFun e3 i
    simp only [Cert.Pre_finite8.fn] at e
    pointwise at e
    exact isReal_of_test e
  · intro i
    have e := congrFun e4 i
    simp only [Cert.Pre_finite8.fn] at e
    pointwise at e
    exact isReal_of_test e
  · intro i
    have e := congrFun e5 i
    simp only [Cert.Pre_finite8.fn] at e
    pointwise at e
    exact isReal_of_test e
  · intro i
    have e := congrFun e6 i
    simp only [Cert.Pre_finite8.fn] at e
    pointwise at e
    exact isReal_of_test e

section
variable {m c} (hf : Finite m c)
include hf

/-- The residual stream is real. -/
theorem acc_real (T : Fin 2048) (j : Fin 1024) : IsReal (accR (a0 m c) (a1 m c) (a3 m c) (a4 m c) (a5 m c) T j) :=
  downF_real (fun _ _ => hf.h0 _) (fun _ _ => hf.h3 _) (fun _ => hf.h4 _) (fun _ _ => hf.h1 _) (fun _ _ => hf.h5 _) T j

/-- The third result is the reference's. -/
theorem res10 : a10G m c = val_main_v80 (F := 𝕀) (a0 m c) (a1 m c) (a2 m c) (a3 m c) (a4 m c) (a5 m c) (a6 m c) := by
  funext i
  obtain ⟨p, q, rfl⟩ : ∃ (p : Fin 2048) (q : Fin 1024), i = ix2 p q := ⟨i 0, i 1, eq_ix2 i⟩
  refine Eq.trans ?_ (dx_eq _ _ _ _ _ _ _ p q).symm
  show dxG m c p q = _
  rw [dxG, accG_eq, g_eq, t_eq]
  exact dxF_eq (fun k => acc_real hf p k) (fun k => hf.h6 _) (fun k => hf.h2 _) q

/-- The fourth result is the reference's. -/
theorem res11 : a11G m c = val_main_v83 (F := 𝕀) (a0 m c) (a1 m c) (a2 m c) (a3 m c) (a4 m c) (a5 m c) (a6 m c) :=
  res10 hf

/-- The fifth result is the reference's. -/
theorem res12 : a12G m c = val_main_v84 (F := 𝕀) (a0 m c) (a1 m c) (a2 m c) (a3 m c) (a4 m c) (a5 m c) (a6 m c) := by
  funext i
  obtain ⟨p, q, rfl⟩ : ∃ (p : Fin 1) (q : Fin 128), i = ix2 p q := ⟨i 0, i 1, eq_ix2 i⟩
  obtain rfl : p = 0 := Subsingleton.elim _ _
  refine Eq.trans ?_ (loss_ref _ _ _ _ _ _ _ q).symm
  have hL : ∀ T, IsReal (lossG m c T) := fun T => by
    rw [lossG, accG_eq, g_eq, t_eq]
    refine isReal_sum _ _ fun j => ?_
    have e := errF_real (fun k => acc_real hf T k) (fun k => hf.h6 (ix2 0 k)) (fun k => hf.h2 (ix2 T k)) j
    exact e.mul e
  refine ((loss_tiles hL).trans (loss_eq hL)).trans ?_
  simp only [lossG, accG_eq, g_eq, t_eq]

/-- The sixth result is the reference's. -/
theorem res13 : a13G m c = val_main_v64 (F := 𝕀) (a0 m c) (a1 m c) (a2 m c) (a3 m c) (a4 m c) (a5 m c) (a6 m c) := by
  funext i
  obtain ⟨p, q, rfl⟩ : ∃ (p : Fin 1) (q : Fin 1024), i = ix2 p q := ⟨i 0, i 1, eq_ix2 i⟩
  obtain rfl : p = 0 := Subsingleton.elim _ _
  refine Eq.trans ?_ (dg_eq _ _ _ _ _ _ _ q).symm
  show ∑ T : Fin 2048, dgG m c T q = _
  refine Finset.sum_congr rfl fun T _ => ?_
  rw [dgG, accG_eq, g_eq, t_eq, dgF, dyF_eq (fun k => acc_real hf T k) (fun k => hf.h6 (ix2 0 k)) (fun k => hf.h2 (ix2 T k)) q]

end

set_option maxHeartbeats 2000000 in
/-- From equal real arguments the kernel and the reference end with equal results. -/
theorem algebraic : Cert.algebraic_Kernel8Ideal_Reference8Ideal_pre_finite8 (hKernel8Ideal := Cert.Kernel8Ideal.Gen.facts)
    (hReference8Ideal := Cert.Reference8Ideal.Gen.facts) (hPre_finite8 := Cert.Pre_finite8.Gen.facts) := by
  intro m g m' g' hpre hargs
  refine ⟨fun c => val_main_v81 (F := 𝕀) (a0 m c) (a3 m c) (a4 m c),
    fun c => val_main_v82 (F := 𝕀) (a0 m c) (a3 m c) (a4 m c),
    fun c => val_main_v80 (F := 𝕀) (a0 m c) (a1 m c) (a2 m c) (a3 m c) (a4 m c) (a5 m c) (a6 m c),
    fun c => val_main_v83 (F := 𝕀) (a0 m c) (a1 m c) (a2 m c) (a3 m c) (a4 m c) (a5 m c) (a6 m c),
    fun c => val_main_v84 (F := 𝕀) (a0 m c) (a1 m c) (a2 m c) (a3 m c) (a4 m c) (a5 m c) (a6 m c),
    fun c => val_main_v64 (F := 𝕀) (a0 m c) (a1 m c) (a2 m c) (a3 m c) (a4 m c) (a5 m c) (a6 m c), ?_, ?_⟩
  · refine (θ_run _ _ _).mono (fun r h c => ?_) (Cert.Kernel8Ideal.Value.run_blocks (F := 𝕀) m g)
    obtain ⟨h0, h1, h2, h3, h4, h5, hk⟩ := h c
    have hf := finite_of_pre m c hpre
    exact ⟨(h0.trans (arr8 m c)).trans (res8 m c), (h1.trans (arr9 m c)).trans (res9 m c), (h2.trans (arr10 m c)).trans (res10 hf),
      (h3.trans (arr11 m c)).trans (res11 hf), (h4.trans (arr12 m c)).trans (res12 hf), (h5.trans (arr13 m c)).trans (res13 hf), hk⟩
  · refine (θ_run _ _ _).mono (fun r h c => ?_) (Cert.Reference8Ideal.Value.run (F := 𝕀) m' g')
    obtain ⟨h0, h1, h2, h3, h4, h5, hk⟩ := h c
    obtain ⟨f0, f1, f2, f3, f4, f5, f6⟩ := hargs c
    have e0 : StableHlo.launchContents m' c (Proc.tc.devRef Cert.Reference8Ideal.main_arg0) = a0 m c := f0
    have e1 : StableHlo.launchContents m' c (Proc.tc.devRef Cert.Reference8Ideal.main_arg1) = a1 m c := f1
    have e2 : StableHlo.launchContents m' c (Proc.tc.devRef Cert.Reference8Ideal.main_arg2) = a2 m c := f2
    have e3 : StableHlo.launchContents m' c (Proc.tc.devRef Cert.Reference8Ideal.main_arg3) = a3 m c := f3
    have e4 : StableHlo.launchContents m' c (Proc.tc.devRef Cert.Reference8Ideal.main_arg4) = a4 m c := f4
    have e5 : StableHlo.launchContents m' c (Proc.tc.devRef Cert.Reference8Ideal.main_arg5) = a5 m c := f5
    have e6 : StableHlo.launchContents m' c (Proc.tc.devRef Cert.Reference8Ideal.main_arg6) = a6 m c := f6
    refine ⟨h0.trans ?_, h1.trans ?_, h2.trans ?_, h3.trans ?_, h4.trans ?_, h5.trans ?_, hk⟩
    · rw [val_main_v81_eq, e0, e3, e4]
    · rw [val_main_v82_eq, e0, e3, e4]
    · rw [val_main_v80_eq, e0, e1, e2, e3, e4, e5, e6]
    · rw [val_main_v83_eq, e0, e1, e2, e3, e4, e5, e6]
    · rw [val_main_v84_eq, e0, e1, e2, e3, e4, e5, e6]
    · rw [val_main_v64_eq, e0, e1, e2, e3, e4, e5, e6]

/-- Every run of the reference ends with its arguments as they were and with every counter at zero. -/
theorem frame_r : Cert.quiescent_Reference8Ideal (hReference8Ideal := Cert.Reference8Ideal.Gen.facts) := by
  intro m ρ _
  exact (θ_run Cert.Reference8Ideal.defs _ _).mono
    (fun r h => ⟨fun c => (h c).2.2.2.2.2.2, sem_eq_zero_of_no_sems (by decide) r.2⟩)
    (Cert.Reference8Ideal.Value.run (F := 𝕀) m ρ)

end Cert.Fl
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.FfnClaim
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Reference4Ideal.Read
public import proofs.«01_k».proof.Proof.DwClaim
public import proofs.«01_k».proof.Proof.Gen.Kernel2
public import proofs.«01_k».proof.Proof.Gen.Kernel2Ideal
public import proofs.«01_k».proof.Proof.Gen.Reference2Ideal
public import proofs.«01_k».proof.Proof.Gen.Reference2Ideal.Run
public import proofs.«01_k».proof.Proof.Gen.Reference2Ideal.Read
public import proofs.«01_k».proof.Proof.Gen.Pre_finite2
public import proofs.«01_k».proof.Proof.NbFloat
public import proofs.«01_k».proof.Proof.NbClaim
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Pre_finite3
public import proofs.«01_k».proof.Proof.InpClaim
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Reference5Ideal.Read
public import proofs.«01_k».proof.Proof.Gen.Pre_finite5
public import proofs.«01_k».proof.Proof.MbClaim
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.UpClaim
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.MfClaim
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Pre_finite8
public import proofs.«01_k».proof.Proof.FlClaim
public import Idealize.ShloMosaic.Lib.Quiescent
public import Idealize.ShloMosaic.Adequacy
public import Idealize.ShloMosaic.Init

@[expose] public section

noncomputable section

namespace Cert.Proof

open Idealize.ShloMosaic Idealize.SL.Sem

/-- Every run of the reference ends with its arguments as they were and with every counter at zero. -/
theorem frame_r : Cert.quiescent_ReferenceIdeal (hReferenceIdeal := Cert.ReferenceIdeal.Gen.facts) := by
  intro m ρ _
  exact (θ_run Cert.ReferenceIdeal.defs _ _).mono
    (fun r h => ⟨fun c => (h c).2.2.2, Idealize.ShloMosaic.sem_eq_zero_of_no_sems (by decide) r.2⟩)
    (Cert.ReferenceIdeal.Value.run (F := Ideal) m ρ)

/-- All the claims of the certificate. -/
theorem claim : Cert.Claim :=
  ⟨Cert.Kernel.Gen.facts, Cert.KernelIdeal.Gen.facts, Cert.ReferenceIdeal.Gen.facts,
    Cert.Kernel4.Gen.facts, Cert.Kernel4Ideal.Gen.facts, Cert.Reference4Ideal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Pre_finite.Gen.facts, Cert.Pre_finite2.Gen.facts, Cert.Pre_finite3.Gen.facts, Cert.Pre_finite5.Gen.facts,
    Cert.Pre_finite8.Gen.facts,
    fun m ρ _ => Cert.Kernel.Gen.frame m ρ, fun m ρ _ => Cert.KernelIdeal.Gen.frame m ρ,
    fun m ρ _ => Cert.KernelIdeal.Gen.frame m ρ, frame_r, fun m ρ _ => frame_r m ρ trivial,
    fun m ρ _ => Cert.Kernel4.Gen.frame m ρ, fun m ρ _ => Cert.Kernel4Ideal.Gen.frame m ρ, Cert.Dw.frame_r,
    Cert.Nb.frame_k, fun m ρ _ => Cert.Kernel2Ideal.Nb.frame m ρ, fun m ρ _ => Cert.Kernel2Ideal.Nb.frame m ρ, Cert.Nb.frame_r,
    fun m ρ _ => Cert.Nb.frame_r m ρ trivial,
    fun m ρ _ => Cert.Kernel3.Gen.frame m ρ, fun m ρ _ => Cert.Kernel3Ideal.Gen.frame m ρ, fun m ρ _ => Cert.Kernel3Ideal.Gen.frame m ρ,
    Cert.Inp.frame_r, fun m ρ _ => Cert.Inp.frame_r m ρ trivial,
    fun m ρ _ => Cert.Kernel5.Gen.frame m ρ, fun m ρ _ => Cert.Kernel5Ideal.Gen.frame m ρ, fun m ρ _ => Cert.Kernel5Ideal.Gen.frame m ρ,
    Cert.Mb.frame_r, fun m ρ _ => Cert.Mb.frame_r m ρ trivial,
    fun m ρ _ => Cert.Kernel6.Gen.frame m ρ, fun m ρ _ => Cert.Kernel6Ideal.Gen.frame m ρ, Cert.Up.frame_r,
    fun m ρ _ => Cert.Kernel7.Gen.frame m ρ, fun m ρ _ => Cert.Kernel7Ideal.Gen.frame m ρ, Cert.Mf.frame_r,
    fun m ρ _ => Cert.Kernel8.Gen.frame m ρ, fun m ρ _ => Cert.Kernel8Ideal.Gen.frame m ρ, fun m ρ _ => Cert.Kernel8Ideal.Gen.frame m ρ,
    Cert.Fl.frame_r, fun m ρ _ => Cert.Fl.frame_r m ρ trivial,
    trivial, Cert.Ffn.algebraic, trivial, Cert.Dw.algebraic, trivial, Cert.Nb.algebraic, trivial, Cert.Inp.algebraic,
    trivial, Cert.Mb.algebraic, trivial, Cert.Up.algebraic, trivial, Cert.Mf.algebraic, trivial, Cert.Fl.algebraic⟩

end Cert.Proof

end
